-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite [hPre_finite : Cert.Pre_finite.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite [hPre_finite : Cert.Pre_finite.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite [hKernel21Ideal : Cert.Kernel21Ideal.Facts] [hPre_finite : Cert.Pre_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite [hReference21Ideal : Cert.Reference21Ideal.Facts] [hPre_finite : Cert.Pre_finite.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  IdealRules.named_const.Statement Cert.KernelIdeal.κ "scale_log2_e" .f32 0x3E0293EE#32 (((Real.sqrt 128)⁻¹ * (Real.log 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "scale_log2_e" .f32 0x3E0293EE#32 (((Real.sqrt 128)⁻¹ * (Real.log 2)⁻¹ : ℝ) : EReal)
  ∧ IdealRules.named_const.Statement Cert.Kernel21Ideal.κ "log2_e" .f32 0x3FB8AA3B#32 (((Real.log 2)⁻¹ : ℝ) : EReal)

def algebraic_Kernel21Ideal_Reference21Ideal_pre_finite [hKernel21Ideal : Cert.Kernel21Ideal.Facts] [hReference21Ideal : Cert.Reference21Ideal.Facts] [hPre_finite : Cert.Pre_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v40) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_all_finite : Cert.Pre_all_finite.Facts) (hPre_finite : Cert.Pre_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite (hKernel21Ideal := hKernel21Ideal) (hPre_finite := hPre_finite)
    ∧ quiescent_Reference21Ideal (hReference21Ideal := hReference21Ideal)
    ∧ quiescent_Reference21Ideal_pre_finite (hReference21Ideal := hReference21Ideal) (hPre_finite := hPre_finite)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite (hKernel21Ideal := hKernel21Ideal) (hReference21Ideal := hReference21Ideal) (hPre_finite := hPre_finite)
-- ==== Pre_all_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_arg4 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .bf16) (main_arg1 : FVec F S4096x2048 .bf16) (main_arg2 : FVec F S4096x2048 .bf16) (main_arg3 : FVec F S4096x2048 .f32) (main_arg4 : FVec F S4096x2048 .f32) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Pre_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .bf16) (main_arg1 : FVec F S4096x2048 .bf16) (main_arg2 : FVec F S4096x2048 .bf16) (main_arg3 : FVec F S4096x2048 .f32) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .bf16 := Host.absf main_arg1
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .bf16 := Host.absf main_arg2
  let main_cst_2 : FVec F S_ .bf16 := constant S_ .bf16 0x7F80#16
  let main_v10 : FVec F S4096x2048 .bf16 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Kernel.lean ====
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096 : Shape := ⟨2, ![16, 4096]⟩
abbrev S4096x16 : Shape := ⟨2, ![4096, 16]⟩
abbrev S4096x16x1 : Shape := ⟨3, ![4096, 16, 1]⟩
abbrev S512x128 : Shape := ⟨2, ![512, 128]⟩
abbrev S4096x128 : Shape := ⟨2, ![4096, 128]⟩
abbrev S8x128x512 : Shape := ⟨3, ![8, 128, 512]⟩
abbrev S128x512 : Shape := ⟨2, ![128, 512]⟩
abbrev S128x128 : Shape := ⟨2, ![128, 128]⟩
abbrev S256x128 : Shape := ⟨2, ![256, 128]⟩
abbrev S512x1 : Shape := ⟨2, ![512, 1]⟩
abbrev S512x512 : Shape := ⟨2, ![512, 512]⟩
abbrev S512x256 : Shape := ⟨2, ![512, 256]⟩
abbrev S2048x256 : Shape := ⟨2, ![2048, 256]⟩
abbrev S2048x128 : Shape := ⟨2, ![2048, 128]⟩
abbrev S512 : Shape := ⟨1, ![512]⟩
abbrev S1x128x512 : Shape := ⟨3, ![1, 128, 512]⟩
abbrev S384x128 : Shape := ⟨2, ![384, 128]⟩
abbrev S384x512 : Shape := ⟨2, ![384, 512]⟩
abbrev S256x512 : Shape := ⟨2, ![256, 512]⟩
abbrev S384x256 : Shape := ⟨2, ![384, 256]⟩
abbrev S256x256 : Shape := ⟨2, ![256, 256]⟩
abbrev S128x256 : Shape := ⟨2, ![128, 256]⟩
abbrev S1280x256 : Shape := ⟨2, ![1280, 256]⟩
abbrev S1280x128 : Shape := ⟨2, ![1280, 128]⟩
abbrev S384x1 : Shape := ⟨2, ![384, 1]⟩
abbrev S384 : Shape := ⟨1, ![384]⟩
abbrev S128x1 : Shape := ⟨2, ![128, 1]⟩
abbrev S256x1 : Shape := ⟨2, ![256, 1]⟩
abbrev S256 : Shape := ⟨1, ![256]⟩

abbrev nBuf : Space → Nat
  | .hbm => 88
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S4096x2048, .f32⟩
  | .hbm, ⟨8, _⟩ => ⟨S4096x16x128, .f32⟩
  | .hbm, ⟨9, _⟩ => ⟨S4096x2048, .f32⟩
  | .hbm, ⟨10, _⟩ => ⟨S4096x16x128, .f32⟩
  | .hbm, ⟨11, _⟩ => ⟨S16x4096x4096, .f32⟩
  | .hbm, ⟨12, _⟩ => ⟨S_, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S_, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .i1⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S_, .f32⟩
  | .hbm, ⟨66, _⟩ => ⟨S_, .f32⟩
  | .hbm, ⟨67, _⟩ => ⟨S16x4096x4096, .i1⟩
  | .hbm, ⟨68, _⟩ => ⟨S16x4096x4096, .f32⟩
  | .hbm, ⟨69, _⟩ => ⟨S16x4096x4096, .f32⟩
  | .hbm, ⟨70, _⟩ => ⟨S16x128x4096, .f32⟩
  | .hbm, ⟨71, _⟩ => ⟨S4096x16x128, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S_, .f32⟩
  | .hbm, ⟨76, _⟩ => ⟨S_, .f32⟩
  | .hbm, ⟨77, _⟩ => ⟨S16x4096, .f32⟩
  | .hbm, ⟨78, _⟩ => ⟨S16x4096, .f32⟩
  | .hbm, ⟨79, _⟩ => ⟨S4096x16, .f32⟩
  | .hbm, ⟨80, _⟩ => ⟨S4096x16x1, .f32⟩
  | .hbm, ⟨81, _⟩ => ⟨S4096x16x128, .f32⟩
  | .hbm, ⟨82, _⟩ => ⟨S4096x2048, .f32⟩
  | .hbm, ⟨83, _⟩ => ⟨S4096x2048, .f32⟩
  | .hbm, ⟨84, _⟩ => ⟨S4096x2048, .bf16⟩
  | .hbm, ⟨85, _⟩ => ⟨S4096x2048, .bf16⟩
  | .hbm, ⟨86, _⟩ => ⟨S4096x2048, .bf16⟩
  | .hbm, ⟨87, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S512x128, .bf16⟩
  | .local _ .vmem, ⟨21, _⟩ => ⟨S512x128, .bf16⟩
  | .local _ .vmem, ⟨22, _⟩ => ⟨S8x128x512, .f32⟩
  | .local _ .vmem, ⟨23, _⟩ => ⟨S8x128x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_2 : Ref sig .tc := ⟨.hbm, 73, rfl⟩
abbrev main_v29 : Ref sig .tc := ⟨.hbm, 74, rfl⟩
abbrev main_cst_3 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38_0 : Ref sig .tc := ⟨.hbm, 84, rfl⟩
abbrev main_v38_1 : Ref sig .tc := ⟨.hbm, 85, rfl⟩
abbrev main_v38_2 : Ref sig .tc := ⟨.hbm, 86, rfl⟩
abbrev main_v38_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_23 : BitVec 32 := 0#32
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v66 : BitVec 32 := Scalar.subi v63 c0_i32_23
  let c1_i32_24 : BitVec 32 := 1#32
  let v68 : BitVec 32 := Scalar.divsi v66 c1_i32_24
  let v69 : BitVec 32 := Scalar.muli v68 c1_i32_24
  let v70 : BitVec 32 := Scalar.addi c0_i32_23 v69
  let c1_i32_25 : BitVec 32 := 1#32
  ⟨c0_i32_23, v70, c1_i32_25⟩
def k0_mult1 (i : grid0.Coords) (k0_t1 : Fin (k0_t1_loop i).trips) : BitVec 32 :=
  let c0_i32_23 : BitVec 32 := 0#32
  let c1_i32_25 : BitVec 32 := 1#32
  let arg15 : BitVec 32 := Scf.iv c0_i32_23 c1_i32_25 k0_t1
  let c512_i32_100 : BitVec 32 := 512#32
  let v394 : BitVec 32 := Scalar.muli arg15 c512_i32_100
  v394
def k0_off1 (i : grid0.Coords) (k0_t1 : Fin (k0_t1_loop i).trips) : Fin 2 → Nat :=
  let c0_i32_23 : BitVec 32 := 0#32
  let c1_i32_25 : BitVec 32 := 1#32
  let arg15 : BitVec 32 := Scf.iv c0_i32_23 c1_i32_25 k0_t1
  let c512_i32_100 : BitVec 32 := 512#32
  let v394 : BitVec 32 := Scalar.muli arg15 c512_i32_100
  let v395 : BitVec 32 := v394
  let v396 : Index := Scalar.indexCast v395
  let c0_101 : Index := 0#32
  ![v396.toNat, 0]
def k0_off2 (i : grid0.Coords) (k0_t1 : Fin (k0_t1_loop i).trips) : Fin 3 → Nat :=
  let c0_i32_23 : BitVec 32 := 0#32
  let c1_i32_25 : BitVec 32 := 1#32
  let arg15 : BitVec 32 := Scf.iv c0_i32_23 c1_i32_25 k0_t1
  let v600 : Index := Scalar.indexCast arg15
  let c0_134 : Index := 0#32
  let c0_135 : Index := 0#32
  ![v600.toNat, 0, 0]
@[reducible] def k0_t2_loop (i : grid0.Coords) : Scf.Loop 32 :=
  let c0_i32_23 : BitVec 32 := 0#32
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v66 : BitVec 32 := Scalar.subi v63 c0_i32_23
  let c1_i32_24 : BitVec 32 := 1#32
  let v68 : BitVec 32 := Scalar.divsi v66 c1_i32_24
  let v69 : BitVec 32 := Scalar.muli v68 c1_i32_24
  let v70 : BitVec 32 := Scalar.addi c0_i32_23 v69
  let v67 : BitVec 32 := Scalar.addi c0_i32_23 v66
  let c1_i32_26 : BitVec 32 := 1#32
  ⟨v70, v67, c1_i32_26⟩
def k0_mult2 (i : grid0.Coords) (k0_t2 : Fin (k0_t2_loop i).trips) : BitVec 32 :=
  let c0_i32_23 : BitVec 32 := 0#32
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v66 : BitVec 32 := Scalar.subi v63 c0_i32_23
  let c1_i32_24 : BitVec 32 := 1#32
  let v68 : BitVec 32 := Scalar.divsi v66 c1_i32_24
  let v69 : BitVec 32 := Scalar.muli v68 c1_i32_24
  let v70 : BitVec 32 := Scalar.addi c0_i32_23 v69
  let c1_i32_26 : BitVec 32 := 1#32
  let arg15 : BitVec 32 := Scf.iv v70 c1_i32_26 k0_t2
  let c512_i32_100 : BitVec 32 := 512#32
  let v394 : BitVec 32 := Scalar.muli arg15 c512_i32_100
  v394
def k0_off3 (i : grid0.Coords) (k0_t2 : Fin (k0_t2_loop i).trips) : Fin 2 → Nat :=
  let c0_i32_23 : BitVec 32 := 0#32
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v66 : BitVec 32 := Scalar.subi v63 c0_i32_23
  let c1_i32_24 : BitVec 32 := 1#32
  let v68 : BitVec 32 := Scalar.divsi v66 c1_i32_24
  let v69 : BitVec 32 := Scalar.muli v68 c1_i32_24
  let v70 : BitVec 32 := Scalar.addi c0_i32_23 v69
  let c1_i32_26 : BitVec 32 := 1#32
  let arg15 : BitVec 32 := Scf.iv v70 c1_i32_26 k0_t2
  let c512_i32_100 : BitVec 32 := 512#32
  let v394 : BitVec 32 := Scalar.muli arg15 c512_i32_100
  let v395 : BitVec 32 := v394
  let v396 : Index := Scalar.indexCast v395
  let c0_101 : Index := 0#32
  ![v396.toNat, 0]
def k0_off4 (i : grid0.Coords) (k0_t2 : Fin (k0_t2_loop i).trips) : Fin 3 → Nat :=
  let c0_i32_23 : BitVec 32 := 0#32
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v66 : BitVec 32 := Scalar.subi v63 c0_i32_23
  let c1_i32_24 : BitVec 32 := 1#32
  let v68 : BitVec 32 := Scalar.divsi v66 c1_i32_24
  let v69 : BitVec 32 := Scalar.muli v68 c1_i32_24
  let v70 : BitVec 32 := Scalar.addi c0_i32_23 v69
  let c1_i32_26 : BitVec 32 := 1#32
  let arg15 : BitVec 32 := Scf.iv v70 c1_i32_26 k0_t2
  let v600 : Index := Scalar.indexCast arg15
  let c0_134 : Index := 0#32
  let c0_135 : Index := 0#32
  ![v600.toNat, 0, 0]
def k0_mult3 (i : grid0.Coords) : BitVec 32 :=
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let c512_i32_27 : BitVec 32 := 512#32
  let v73 : BitVec 32 := Scalar.muli v63 c512_i32_27
  v73
def k0_off5 (i : grid0.Coords) : Fin 2 → Nat :=
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let c512_i32_27 : BitVec 32 := 512#32
  let v73 : BitVec 32 := Scalar.muli v63 c512_i32_27
  let v74 : BitVec 32 := v73
  let v75 : Index := Scalar.indexCast v74
  let c0_28 : Index := 0#32
  ![v75.toNat, 0]
def k0_off6 (i : grid0.Coords) : Fin 3 → Nat :=
  let arg1 : BitVec 32 := BitVec.ofNat 32 (i 1).val
  let c512_i32 : BitVec 32 := 512#32
  let v44 : BitVec 32 := Scalar.muli arg1 c512_i32
  let c512_i32_13 : BitVec 32 := 512#32
  let v45 : BitVec 32 := Scalar.addi v44 c512_i32_13
  let c1_i32 : BitVec 32 := 1#32
  let v46 : BitVec 32 := Scalar.subi v45 c1_i32
  let c0_i32_15 : BitVec 32 := 0#32
  let v48 : BitVec 1 := Scalar.cmpi .sgt v46 c0_i32_15
  let v49 : BitVec 32 := Scalar.extui v48
  let c0_i32_16 : BitVec 32 := 0#32
  let v50 : BitVec 1 := Scalar.cmpi .slt v46 c0_i32_16
  let v51 : BitVec 32 := Scalar.extui v50
  let v52 : BitVec 32 := Scalar.subi v49 v51
  let c512_i32_14 : BitVec 32 := 512#32
  let c0_i32_17 : BitVec 32 := 0#32
  let v53 : BitVec 1 := Scalar.cmpi .sgt c512_i32_14 c0_i32_17
  let v54 : BitVec 32 := Scalar.extui v53
  let c0_i32_18 : BitVec 32 := 0#32
  let v55 : BitVec 1 := Scalar.cmpi .slt c512_i32_14 c0_i32_18
  let v56 : BitVec 32 := Scalar.extui v55
  let v57 : BitVec 32 := Scalar.subi v54 v56
  let v58 : BitVec 1 := Scalar.cmpi .ne v52 v57
  let v59 : BitVec 32 := Scalar.remsi v46 c512_i32_14
  let c0_i32_19 : BitVec 32 := 0#32
  let v60 : BitVec 1 := Scalar.cmpi .ne v59 c0_i32_19
  let v61 : BitVec 1 := Scalar.andi v58 v60
  let v47 : BitVec 32 := Scalar.divsi v46 c512_i32_14
  let c1_i32_20 : BitVec 32 := 1#32
  let v62 : BitVec 32 := Scalar.subi v47 c1_i32_20
  let v63 : BitVec 32 := Scalar.select v61 v62 v47
  let v368 : Index := Scalar.indexCast v63
  let c0_86 : Index := 0#32
  let c0_87 : Index := 0#32
  ![v368.toNat, 0, 0]
def k0_cond2 (i : grid0.Coords) : BitVec 1 :=
  let arg1 : BitVec 32 := BitVec.ofNat 32 (i 1).val
  let c7_i32 : BitVec 32 := 7#32
  let v391 : BitVec 1 := Scalar.cmpi .eq arg1 c7_i32
  let v392 : BitVec 32 := Scalar.extui v391
  let c0_i32_99 : BitVec 32 := 0#32
  let v393 : BitVec 1 := Scalar.cmpi .ne v392 c0_i32_99
  v393

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2_e" => some (((Real.log 2)⁻¹ : ℝ) : EReal)
  | "scale" => some (((Real.sqrt 128)⁻¹ : ℝ) : EReal)
  | "scale_log2_e" => some (((Real.sqrt 128)⁻¹ * (Real.log 2)⁻¹ : ℝ) : EReal)
  | _ => none
-- ==== ReferenceIdeal.lean ====
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096 : Shape := ⟨2, ![16, 4096]⟩
abbrev S16x4096x128 : Shape := ⟨3, ![16, 4096, 128]⟩

abbrev nBuf : Space → Nat
  | .hbm => 200
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x2048, .bf16⟩
  | 3 => ⟨S4096x2048, .f32⟩
  | 4 => ⟨S4096x2048, .f32⟩
  | 5 => ⟨S4096x2048, .f32⟩
  | 6 => ⟨S4096x2048, .f32⟩
  | 7 => ⟨S4096x2048, .f32⟩
  | 8 => ⟨S4096x16x128, .f32⟩
  | 9 => ⟨S4096x16x128, .f32⟩
  | 10 => ⟨S4096x16x128, .f32⟩
  | 11 => ⟨S16x4096x4096, .f32⟩
  | 12 => ⟨S_, .f32⟩
  | 13 => ⟨S_, .f32⟩
  | 14 => ⟨S16x4096x4096, .f32⟩
  | 15 => ⟨S16x4096x4096, .f32⟩
  | 16 => ⟨S4096, .i32⟩
  | 17 => ⟨S1x4096, .i32⟩
  | 18 => ⟨S4096, .i32⟩
  | 19 => ⟨S4096x1, .i32⟩
  | 20 => ⟨S4096x4096, .i32⟩
  | 21 => ⟨S4096x4096, .i32⟩
  | 22 => ⟨S4096x4096, .i1⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S_, .f32⟩
  | 78 => ⟨S_, .f32⟩
  | 79 => ⟨S16x4096x4096, .f32⟩
  | 80 => ⟨S16x4096x4096, .f32⟩
  | 81 => ⟨S16x4096x4096, .f32⟩
  | 82 => ⟨S_, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .i1⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S_, .f32⟩
  | 97 => ⟨S16x4096x4096, .f32⟩
  | 98 => ⟨S16x4096x4096, .i1⟩
  | 99 => ⟨S_, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .i1⟩
  | 105 => ⟨S_, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x4096x4096, .f32⟩
  | 118 => ⟨S16x4096x4096, .i1⟩
  | 119 => ⟨S_, .f32⟩
  | 120 => ⟨S16x4096x4096, .f32⟩
  | 121 => ⟨S16x4096x4096, .f32⟩
  | 122 => ⟨S16x4096x4096, .f32⟩
  | 123 => ⟨S16x4096x4096, .f32⟩
  | 124 => ⟨S16x4096x4096, .f32⟩
  | 125 => ⟨S_, .f32⟩
  | 126 => ⟨S16x4096x4096, .f32⟩
  | 127 => ⟨S16x4096x4096, .f32⟩
  | _ => ⟨S4096x2048, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S_, .f32⟩
  | 4 => ⟨S_, .f32⟩
  | 5 => ⟨S16x4096x4096, .i1⟩
  | 6 => ⟨S16x4096x4096, .f32⟩
  | 7 => ⟨S16x4096x4096, .f32⟩
  | 8 => ⟨S_, .f32⟩
  | 9 => ⟨S16x4096x4096, .f32⟩
  | 10 => ⟨S16x128x4096, .f32⟩
  | 11 => ⟨S4096x16x128, .f32⟩
  | 12 => ⟨S16x4096x4096, .f32⟩
  | 13 => ⟨S_, .f32⟩
  | 14 => ⟨S16x4096, .f32⟩
  | 15 => ⟨S4096x2048, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x16x128, .f32⟩
  | 37 => ⟨S16x128x4096, .f32⟩
  | 38 => ⟨S16x4096x4096, .f32⟩
  | 39 => ⟨S16x128x4096, .f32⟩
  | 40 => ⟨S4096x16x128, .f32⟩
  | 41 => ⟨S_, .f32⟩
  | 42 => ⟨S16x4096x4096, .f32⟩
  | 43 => ⟨S16x4096x4096, .f32⟩
  | 44 => ⟨S16x4096x4096, .f32⟩
  | 45 => ⟨S16x4096x4096, .f32⟩
  | 46 => ⟨S16x4096x4096, .f32⟩
  | 47 => ⟨S16x4096x4096, .f32⟩
  | 48 => ⟨S16x4096x4096, .f32⟩
  | 49 => ⟨S_, .f32⟩
  | 50 => ⟨S_, .f32⟩
  | 51 => ⟨S16x4096x4096, .f32⟩
  | 52 => ⟨S16x4096x4096, .f32⟩
  | 53 => ⟨S_, .f32⟩
  | 54 => ⟨S16x4096x4096, .f32⟩
  | 55 => ⟨S16x4096x4096, .f32⟩
  | 56 => ⟨S16x4096x4096, .f32⟩
  | 57 => ⟨S16x4096x4096, .f32⟩
  | 58 => ⟨S16x4096x4096, .f32⟩
  | 59 => ⟨S16x4096x4096, .f32⟩
  | 60 => ⟨S16x4096x4096, .f32⟩
  | 61 => ⟨S16x4096x128, .f32⟩
  | 62 => ⟨S4096x16x128, .f32⟩
  | 63 => ⟨S16x4096x128, .f32⟩
  | 64 => ⟨S4096x16x128, .f32⟩
  | 65 => ⟨S4096x2048, .f32⟩
  | 66 => ⟨S4096x2048, .f32⟩
  | 67 => ⟨S4096x2048, .f32⟩
  | 68 => ⟨S4096x2048, .bf16⟩
  | 69 => ⟨S4096x2048, .bf16⟩
  | 70 => ⟨S4096x2048, .bf16⟩
  | 71 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v17_0 : Ref sig .tc := ⟨.hbm, 36, rfl⟩
abbrev main_call0_cst_0 : Ref sig .tc := ⟨.hbm, 37, rfl⟩
abbrev main_call0_v13 : Ref sig .tc := ⟨.hbm, 38, rfl⟩
abbrev main_call0_v14 : Ref sig .tc := ⟨.hbm, 39, rfl⟩
abbrev main_call0_cst_1 : Ref sig .tc := ⟨.hbm, 40, rfl⟩
abbrev main_call0_v15 : Ref sig .tc := ⟨.hbm, 41, rfl⟩
abbrev main_call0_v16 : Ref sig .tc := ⟨.hbm, 42, rfl⟩
abbrev main_call0_cst_2 : Ref sig .tc := ⟨.hbm, 43, rfl⟩
abbrev main_call0_v17 : Ref sig .tc := ⟨.hbm, 44, rfl⟩
abbrev main_call0_v18 : Ref sig .tc := ⟨.hbm, 45, rfl⟩
abbrev main_call0_cst_3 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_v17_1 : Ref sig .tc := ⟨.hbm, 50, rfl⟩
abbrev main_call0_cst_4 : Ref sig .tc := ⟨.hbm, 51, rfl⟩
abbrev main_call0_cst_5 : Ref sig .tc := ⟨.hbm, 52, rfl⟩
abbrev main_call0_v23 : Ref sig .tc := ⟨.hbm, 53, rfl⟩
abbrev main_call0_cst_6 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_v26 : Ref sig .tc := ⟨.hbm, 59, rfl⟩
abbrev main_call0_cst_9 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_10 : Ref sig .tc := ⟨.hbm, 66, rfl⟩
abbrev main_call0_v32 : Ref sig .tc := ⟨.hbm, 67, rfl⟩
abbrev main_v17_2 : Ref sig .tc := ⟨.hbm, 68, rfl⟩
abbrev main_v18 : Ref sig .tc := ⟨.hbm, 69, rfl⟩
abbrev main_cst_0 : Ref sig .tc := ⟨.hbm, 70, rfl⟩
abbrev main_call1_v0 : Ref sig .tc := ⟨.hbm, 71, rfl⟩
abbrev main_v19_1 : Ref sig .tc := ⟨.hbm, 72, rfl⟩
abbrev main_call1_v2 : Ref sig .tc := ⟨.hbm, 73, rfl⟩
abbrev main_v19_0 : Ref sig .tc := ⟨.hbm, 74, rfl⟩
abbrev main_call1_cst : Ref sig .tc := ⟨.hbm, 75, rfl⟩
abbrev main_v19_2 : Ref sig .tc := ⟨.hbm, 76, rfl⟩
abbrev main_call2_cst : Ref sig .tc := ⟨.hbm, 77, rfl⟩
abbrev main_call2_v0 : Ref sig .tc := ⟨.hbm, 78, rfl⟩
abbrev main_v20 : Ref sig .tc := ⟨.hbm, 79, rfl⟩
abbrev main_v21 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v22_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v22_2 : Ref sig .tc := ⟨.hbm, 127, rfl⟩
abbrev main_v22_0 : Ref sig .tc := ⟨.hbm, 128, rfl⟩
abbrev main_v23 : Ref sig .tc := ⟨.hbm, 129, rfl⟩
abbrev main_v24 : Ref sig .tc := ⟨.hbm, 130, rfl⟩
abbrev main_cst_1 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_cst_2 : Ref sig .tc := ⟨.hbm, 141, rfl⟩
abbrev main_v29 : Ref sig .tc := ⟨.hbm, 142, rfl⟩
abbrev main_v30 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_v31_2 : Ref sig .tc := ⟨.hbm, 151, rfl⟩
abbrev main_call5_cst_1 : Ref sig .tc := ⟨.hbm, 152, rfl⟩
abbrev main_call5_v6 : Ref sig .tc := ⟨.hbm, 153, rfl⟩
abbrev main_call5_v7 : Ref sig .tc := ⟨.hbm, 154, rfl⟩
abbrev main_v31_1 : Ref sig .tc := ⟨.hbm, 155, rfl⟩
abbrev main_v31_0 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_v35 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_call7_cst : Ref sig .tc := ⟨.hbm, 169, rfl⟩
abbrev main_call7_v0 : Ref sig .tc := ⟨.hbm, 170, rfl⟩
abbrev main_v41 : Ref sig .tc := ⟨.hbm, 171, rfl⟩
abbrev main_v42 : Ref sig .tc := ⟨.hbm, 172, rfl⟩
abbrev main_call8_v0 : Ref sig .tc := ⟨.hbm, 173, rfl⟩
abbrev main_call8_v1 : Ref sig .tc := ⟨.hbm, 174, rfl⟩
abbrev main_v43 : Ref sig .tc := ⟨.hbm, 175, rfl⟩
abbrev main_v44 : Ref sig .tc := ⟨.hbm, 176, rfl⟩
abbrev main_call9_cst : Ref sig .tc := ⟨.hbm, 177, rfl⟩
abbrev main_call9_v0 : Ref sig .tc := ⟨.hbm, 178, rfl⟩
abbrev main_v45 : Ref sig .tc := ⟨.hbm, 179, rfl⟩
abbrev main_v46 : Ref sig .tc := ⟨.hbm, 180, rfl⟩
abbrev main_call10_cst : Ref sig .tc := ⟨.hbm, 181, rfl⟩
abbrev main_call10_v0 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_v62 : Ref sig .tc := ⟨.hbm, 198, rfl⟩
abbrev main_v63 : Ref sig .tc := ⟨.hbm, 199, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel4Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .f32⟩
  | .hbm, ⟨2, _⟩ => ⟨S2048x3072, .bf16⟩
  | .hbm, ⟨3, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .f32⟩
  | .hbm, ⟨2, _⟩ => ⟨S2048x3072, .bf16⟩
  | .hbm, ⟨3, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .f32⟩
  | .hbm, ⟨2, _⟩ => ⟨S4096x2048, .f32⟩
  | .hbm, ⟨3, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S4096x2048 : Shape := ⟨2, ![4096, 2048]⟩
abbrev S4096x3072 : Shape := ⟨2, ![4096, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4096x2048 : Shape := ⟨2, ![4096, 2048]⟩
abbrev S4096x3072 : Shape := ⟨2, ![4096, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x3072 : Shape := ⟨2, ![4096, 3072]⟩
abbrev S3072x2048 : Shape := ⟨2, ![3072, 2048]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x2048, .f32⟩
  | .hbm, ⟨3, _⟩ => ⟨S4096x3072, .f32⟩
  | .hbm, ⟨4, _⟩ => ⟨S3072x2048, .f32⟩
  | .hbm, ⟨5, _⟩ => ⟨S2048x3072, .f32⟩
  | .hbm, ⟨6, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x3072 : Shape := ⟨2, ![4096, 3072]⟩
abbrev S2048x3072 : Shape := ⟨2, ![2048, 3072]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .f32⟩
  | .hbm, ⟨2, _⟩ => ⟨S4096x2048, .f32⟩
  | .hbm, ⟨3, _⟩ => ⟨S2048x3072, .bf16⟩
  | .hbm, ⟨4, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel11Ideal.lean ====
abbrev S4096x3072 : Shape := ⟨2, ![4096, 3072]⟩
abbrev S2048x3072 : Shape := ⟨2, ![2048, 3072]⟩
abbrev S4096x2048 : Shape := ⟨2, ![4096, 2048]⟩
abbrev S1024x1536 : Shape := ⟨2, ![1024, 1536]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .f32⟩
  | .hbm, ⟨2, _⟩ => ⟨S4096x2048, .f32⟩
  | .hbm, ⟨3, _⟩ => ⟨S2048x3072, .bf16⟩
  | .hbm, ⟨4, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x3072 : Shape := ⟨2, ![4096, 3072]⟩
abbrev S2048x3072 : Shape := ⟨2, ![2048, 3072]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .f32⟩
  | .hbm, ⟨2, _⟩ => ⟨S4096x2048, .f32⟩
  | .hbm, ⟨3, _⟩ => ⟨S4096x3072, .f32⟩
  | .hbm, ⟨4, _⟩ => ⟨S4096x2048, .f32⟩
  | .hbm, ⟨5, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .f32⟩
  | .hbm, ⟨2, _⟩ => ⟨S2048x128, .bf16⟩
  | .hbm, ⟨3, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .f32⟩
  | .hbm, ⟨2, _⟩ => ⟨S4096x2048, .f32⟩
  | .hbm, ⟨3, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4096x2048 : Shape := ⟨2, ![4096, 2048]⟩
abbrev S4096x128 : Shape := ⟨2, ![4096, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x128 : Shape := ⟨2, ![4096, 128]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S4096x2048, .f32⟩
  | .hbm, ⟨3, _⟩ => ⟨S4096x128, .f32⟩
  | .hbm, ⟨4, _⟩ => ⟨S128x2048, .f32⟩
  | .hbm, ⟨5, _⟩ => ⟨S2048x128, .f32⟩
  | .hbm, ⟨6, _⟩ => ⟨S2048x128, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S2048x128, .f32⟩
  | .hbm, ⟨2, _⟩ => ⟨S4096x2048, .f32⟩
  | .hbm, ⟨3, _⟩ => ⟨S2048x128, .bf16⟩
  | .hbm, ⟨4, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x128 : Shape := ⟨2, ![4096, 128]⟩
abbrev S2048x128 : Shape := ⟨2, ![2048, 128]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .f32⟩
  | .hbm, ⟨2, _⟩ => ⟨S4096x2048, .f32⟩
  | .hbm, ⟨3, _⟩ => ⟨S4096x128, .f32⟩
  | .hbm, ⟨4, _⟩ => ⟨S4096x2048, .f32⟩
  | .hbm, ⟨5, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S2x2048x1412 : Shape := ⟨3, ![2, 2048, 1412]⟩
abbrev S1x256x1412 : Shape := ⟨3, ![1, 256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1412, .f32⟩
  | .hbm, ⟨1, _⟩ => ⟨S2x2048x1412, .f32⟩
  | .hbm, ⟨2, _⟩ => ⟨S2x2048x1412, .f32⟩
  | .hbm, ⟨3, _⟩ => ⟨S2x2048x1412, .f32⟩
  | .hbm, ⟨4, _⟩ => ⟨S2x2048x1412, .f32⟩
  | .hbm, ⟨5, _⟩ => ⟨S2x2048x1412, .f32⟩
  | .hbm, ⟨6, _⟩ => ⟨S2x2048x1412, .f32⟩
  | .local _ .vmem, ⟨0, _⟩ => ⟨S1x256x1412, .f32⟩
  | .local _ .vmem, ⟨1, _⟩ => ⟨S1x256x1412, .f32⟩
  | .local _ .vmem, ⟨2, _⟩ => ⟨S1x256x1412, .f32⟩
  | .local _ .vmem, ⟨3, _⟩ => ⟨S1x256x1412, .f32⟩
  | .local _ .vmem, ⟨4, _⟩ => ⟨S1x256x1412, .f32⟩
  | .local _ .vmem, ⟨5, _⟩ => ⟨S1x256x1412, .f32⟩
  | .local _ .vmem, ⟨6, _⟩ => ⟨S1x256x1412, .f32⟩
  | .local _ .vmem, ⟨7, _⟩ => ⟨S1x256x1412, .f32⟩
  | .local _ .vmem, ⟨8, _⟩ => ⟨S1x256x1412, .f32⟩
  | .local _ .vmem, ⟨9, _⟩ => ⟨S1x256x1412, .f32⟩
  | .local _ .vmem, ⟨10, _⟩ => ⟨S1x256x1412, .f32⟩
  | .local _ .vmem, ⟨11, _⟩ => ⟨S1x256x1412, .f32⟩
  | .local _ .vmem, ⟨12, _⟩ => ⟨S1x256x1412, .f32⟩
  | .local _ .vmem, ⟨13, _⟩ => ⟨S1x256x1412, .f32⟩
  | _, _ => ⟨S2x2048x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel15Ideal.lean ====
abbrev S2x2048x1412 : Shape := ⟨3, ![2, 2048, 1412]⟩
abbrev S1x256x1412 : Shape := ⟨3, ![1, 256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1412, .f32⟩
  | .hbm, ⟨1, _⟩ => ⟨S2x2048x1412, .f32⟩
  | .hbm, ⟨2, _⟩ => ⟨S2x2048x1412, .f32⟩
  | .hbm, ⟨3, _⟩ => ⟨S2x2048x1412, .f32⟩
  | .hbm, ⟨4, _⟩ => ⟨S2x2048x1412, .f32⟩
  | .hbm, ⟨5, _⟩ => ⟨S2x2048x1412, .f32⟩
  | .hbm, ⟨6, _⟩ => ⟨S2x2048x1412, .f32⟩
  | .local _ .vmem, ⟨0, _⟩ => ⟨S1x256x1412, .f32⟩
  | .local _ .vmem, ⟨1, _⟩ => ⟨S1x256x1412, .f32⟩
  | .local _ .vmem, ⟨2, _⟩ => ⟨S1x256x1412, .f32⟩
  | .local _ .vmem, ⟨3, _⟩ => ⟨S1x256x1412, .f32⟩
  | .local _ .vmem, ⟨4, _⟩ => ⟨S1x256x1412, .f32⟩
  | .local _ .vmem, ⟨5, _⟩ => ⟨S1x256x1412, .f32⟩
  | .local _ .vmem, ⟨6, _⟩ => ⟨S1x256x1412, .f32⟩
  | .local _ .vmem, ⟨7, _⟩ => ⟨S1x256x1412, .f32⟩
  | .local _ .vmem, ⟨8, _⟩ => ⟨S1x256x1412, .f32⟩
  | .local _ .vmem, ⟨9, _⟩ => ⟨S1x256x1412, .f32⟩
  | .local _ .vmem, ⟨10, _⟩ => ⟨S1x256x1412, .f32⟩
  | .local _ .vmem, ⟨11, _⟩ => ⟨S1x256x1412, .f32⟩
  | .local _ .vmem, ⟨12, _⟩ => ⟨S1x256x1412, .f32⟩
  | .local _ .vmem, ⟨13, _⟩ => ⟨S1x256x1412, .f32⟩
  | _, _ => ⟨S2x2048x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x2048x1412 : Shape := ⟨3, ![2, 2048, 1412]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1412, .f32⟩
  | .hbm, ⟨1, _⟩ => ⟨S2x2048x1412, .f32⟩
  | .hbm, ⟨2, _⟩ => ⟨S2x2048x1412, .f32⟩
  | .hbm, ⟨3, _⟩ => ⟨S2x2048x1412, .f32⟩
  | .hbm, ⟨4, _⟩ => ⟨S_, .f32⟩
  | .hbm, ⟨5, _⟩ => ⟨S2x2048x1412, .f32⟩
  | .hbm, ⟨6, _⟩ => ⟨S2x2048x1412, .f32⟩
  | .hbm, ⟨7, _⟩ => ⟨S_, .f32⟩
  | .hbm, ⟨8, _⟩ => ⟨S2x2048x1412, .f32⟩
  | .hbm, ⟨9, _⟩ => ⟨S2x2048x1412, .f32⟩
  | .hbm, ⟨10, _⟩ => ⟨S2x2048x1412, .f32⟩
  | .hbm, ⟨11, _⟩ => ⟨S_, .f32⟩
  | .hbm, ⟨12, _⟩ => ⟨S2x2048x1412, .f32⟩
  | .hbm, ⟨13, _⟩ => ⟨S2x2048x1412, .f32⟩
  | .hbm, ⟨14, _⟩ => ⟨S2x2048x1412, .f32⟩
  | .hbm, ⟨15, _⟩ => ⟨S_, .f32⟩
  | .hbm, ⟨16, _⟩ => ⟨S2x2048x1412, .f32⟩
  | .hbm, ⟨17, _⟩ => ⟨S2x2048x1412, .f32⟩
  | .hbm, ⟨18, _⟩ => ⟨S2x2048x1412, .f32⟩
  | .hbm, ⟨19, _⟩ => ⟨S_, .f32⟩
  | .hbm, ⟨20, _⟩ => ⟨S2x2048x1412, .f32⟩
  | .hbm, ⟨21, _⟩ => ⟨S2x2048x1412, .f32⟩
  | .hbm, ⟨22, _⟩ => ⟨S_, .f32⟩
  | .hbm, ⟨23, _⟩ => ⟨S2x2048x1412, .f32⟩
  | .hbm, ⟨24, _⟩ => ⟨S2x2048x1412, .f32⟩
  | .hbm, ⟨25, _⟩ => ⟨S2x2048x1412, .f32⟩
  | .hbm, ⟨26, _⟩ => ⟨S_, .f32⟩
  | .hbm, ⟨27, _⟩ => ⟨S2x2048x1412, .f32⟩
  | .hbm, ⟨28, _⟩ => ⟨S2x2048x1412, .f32⟩
  | .hbm, ⟨29, _⟩ => ⟨S2x2048x1412, .f32⟩
  | .hbm, ⟨30, _⟩ => ⟨S_, .f32⟩
  | .hbm, ⟨31, _⟩ => ⟨S2x2048x1412, .f32⟩
  | .hbm, ⟨32, _⟩ => ⟨S2x2048x1412, .f32⟩
  | .hbm, ⟨33, _⟩ => ⟨S2x2048x1412, .f32⟩
  | .hbm, ⟨34, _⟩ => ⟨S_, .f32⟩
  | .hbm, ⟨35, _⟩ => ⟨S2x2048x1412, .f32⟩
  | .hbm, ⟨36, _⟩ => ⟨S2x2048x1412, .f32⟩
  | _, _ => ⟨S2x2048x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x512x2048 : Shape := ⟨3, ![2, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel16Ideal.lean ====
abbrev S2x512x2048 : Shape := ⟨3, ![2, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x2048x1024 : Shape := ⟨3, ![2, 2048, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel17Ideal.lean ====
abbrev S2x2048x1024 : Shape := ⟨3, ![2, 2048, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x2048x1024 : Shape := ⟨3, ![2, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x2048x1024, .f32⟩
  | .hbm, ⟨36, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x256x2048 : Shape := ⟨3, ![2, 256, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel18Ideal.lean ====
abbrev S2x256x2048 : Shape := ⟨3, ![2, 256, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2x256x2048 : Shape := ⟨3, ![2, 256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S_, .f32⟩
  | .hbm, ⟨5, _⟩ => ⟨S2x256x2048, .f32⟩
  | .hbm, ⟨6, _⟩ => ⟨S2x256x2048, .f32⟩
  | .hbm, ⟨7, _⟩ => ⟨S_, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S_, .f32⟩
  | .hbm, ⟨12, _⟩ => ⟨S2x256x2048, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S_, .f32⟩
  | .hbm, ⟨23, _⟩ => ⟨S2x256x2048, .f32⟩
  | .hbm, ⟨24, _⟩ => ⟨S2x256x2048, .f32⟩
  | .hbm, ⟨25, _⟩ => ⟨S2x256x2048, .f32⟩
  | .hbm, ⟨26, _⟩ => ⟨S_, .f32⟩
  | .hbm, ⟨27, _⟩ => ⟨S2x256x2048, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x4x384 : Shape := ⟨3, ![2, 4, 384]⟩
abbrev S1x4x384 : Shape := ⟨3, ![1, 4, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x4x384 : Shape := ⟨3, ![2, 4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x4608x128 : Shape := ⟨3, ![1, 4608, 128]⟩
abbrev S1x768x128 : Shape := ⟨3, ![1, 768, 128]⟩

abbrev nBuf : Space → Nat
  | .hbm => 7
  | .vmem => 14
  | .smem => 0
  | _ => 0

abbrev bufTy : (tb : Table) → Fin (tcTables nBuf tb) → BufTy
  | .hbm, ⟨0, _⟩ => ⟨S1x4608x128, .f32⟩
  | .hbm, ⟨1, _⟩ => ⟨S1x4608x128, .f32⟩
  | .hbm, ⟨2, _⟩ => ⟨S1x4608x128, .f32⟩
  | .hbm, ⟨3, _⟩ => ⟨S1x4608x128, .f32⟩
  | .hbm, ⟨4, _⟩ => ⟨S1x4608x128, .f32⟩
  | .hbm, ⟨5, _⟩ => ⟨S1x4608x128, .f32⟩
  | .hbm, ⟨6, _⟩ => ⟨S1x4608x128, .f32⟩
  | .local _ .vmem, ⟨0, _⟩ => ⟨S1x768x128, .f32⟩
  | .local _ .vmem, ⟨1, _⟩ => ⟨S1x768x128, .f32⟩
  | .local _ .vmem, ⟨2, _⟩ => ⟨S1x768x128, .f32⟩
  | .local _ .vmem, ⟨3, _⟩ => ⟨S1x768x128, .f32⟩
  | .local _ .vmem, ⟨4, _⟩ => ⟨S1x768x128, .f32⟩
  | .local _ .vmem, ⟨5, _⟩ => ⟨S1x768x128, .f32⟩
  | .local _ .vmem, ⟨6, _⟩ => ⟨S1x768x128, .f32⟩
  | .local _ .vmem, ⟨7, _⟩ => ⟨S1x768x128, .f32⟩
  | .local _ .vmem, ⟨8, _⟩ => ⟨S1x768x128, .f32⟩
  | .local _ .vmem, ⟨9, _⟩ => ⟨S1x768x128, .f32⟩
  | .local _ .vmem, ⟨10, _⟩ => ⟨S1x768x128, .f32⟩
  | .local _ .vmem, ⟨11, _⟩ => ⟨S1x768x128, .f32⟩
  | .local _ .vmem, ⟨12, _⟩ => ⟨S1x768x128, .f32⟩
  | .local _ .vmem, ⟨13, _⟩ => ⟨S1x768x128, .f32⟩
  | _, _ => ⟨S1x4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S1x4608x128 : Shape := ⟨3, ![1, 4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4608x128, .f32⟩
  | .hbm, ⟨1, _⟩ => ⟨S1x4608x128, .f32⟩
  | .hbm, ⟨2, _⟩ => ⟨S1x4608x128, .f32⟩
  | .hbm, ⟨3, _⟩ => ⟨S1x4608x128, .f32⟩
  | .hbm, ⟨4, _⟩ => ⟨S_, .f32⟩
  | .hbm, ⟨5, _⟩ => ⟨S1x4608x128, .f32⟩
  | .hbm, ⟨6, _⟩ => ⟨S1x4608x128, .f32⟩
  | .hbm, ⟨7, _⟩ => ⟨S_, .f32⟩
  | .hbm, ⟨8, _⟩ => ⟨S1x4608x128, .f32⟩
  | .hbm, ⟨9, _⟩ => ⟨S1x4608x128, .f32⟩
  | .hbm, ⟨10, _⟩ => ⟨S1x4608x128, .f32⟩
  | .hbm, ⟨11, _⟩ => ⟨S_, .f32⟩
  | .hbm, ⟨12, _⟩ => ⟨S1x4608x128, .f32⟩
  | .hbm, ⟨13, _⟩ => ⟨S1x4608x128, .f32⟩
  | .hbm, ⟨14, _⟩ => ⟨S1x4608x128, .f32⟩
  | .hbm, ⟨15, _⟩ => ⟨S_, .f32⟩
  | .hbm, ⟨16, _⟩ => ⟨S1x4608x128, .f32⟩
  | .hbm, ⟨17, _⟩ => ⟨S1x4608x128, .f32⟩
  | .hbm, ⟨18, _⟩ => ⟨S1x4608x128, .f32⟩
  | .hbm, ⟨19, _⟩ => ⟨S_, .f32⟩
  | .hbm, ⟨20, _⟩ => ⟨S1x4608x128, .f32⟩
  | .hbm, ⟨21, _⟩ => ⟨S1x4608x128, .f32⟩
  | .hbm, ⟨22, _⟩ => ⟨S_, .f32⟩
  | .hbm, ⟨23, _⟩ => ⟨S1x4608x128, .f32⟩
  | .hbm, ⟨24, _⟩ => ⟨S1x4608x128, .f32⟩
  | .hbm, ⟨25, _⟩ => ⟨S1x4608x128, .f32⟩
  | .hbm, ⟨26, _⟩ => ⟨S_, .f32⟩
  | .hbm, ⟨27, _⟩ => ⟨S1x4608x128, .f32⟩
  | .hbm, ⟨28, _⟩ => ⟨S1x4608x128, .f32⟩
  | .hbm, ⟨29, _⟩ => ⟨S1x4608x128, .f32⟩
  | .hbm, ⟨30, _⟩ => ⟨S_, .f32⟩
  | .hbm, ⟨31, _⟩ => ⟨S1x4608x128, .f32⟩
  | .hbm, ⟨32, _⟩ => ⟨S1x4608x128, .f32⟩
  | .hbm, ⟨33, _⟩ => ⟨S1x4608x128, .f32⟩
  | .hbm, ⟨34, _⟩ => ⟨S_, .f32⟩
  | .hbm, ⟨35, _⟩ => ⟨S1x4608x128, .f32⟩
  | .hbm, ⟨36, _⟩ => ⟨S1x4608x128, .f32⟩
  | _, _ => ⟨S1x4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x2048 : Shape := ⟨2, ![4096, 2048]⟩
abbrev S512x128 : Shape := ⟨2, ![512, 128]⟩
abbrev S4096x128 : Shape := ⟨2, ![4096, 128]⟩
abbrev S128x128 : Shape := ⟨2, ![128, 128]⟩
abbrev S256x128 : Shape := ⟨2, ![256, 128]⟩
abbrev S512x1 : Shape := ⟨2, ![512, 1]⟩
abbrev S512x512 : Shape := ⟨2, ![512, 512]⟩
abbrev S512x256 : Shape := ⟨2, ![512, 256]⟩
abbrev S2048x256 : Shape := ⟨2, ![2048, 256]⟩
abbrev S2048x128 : Shape := ⟨2, ![2048, 128]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c512_i32_9 : BitVec 32 := 512#32
  let v30 : BitVec 32 := Scalar.muli v27 c512_i32_9
  v30
def k0_off1 (i : grid0.Coords) : Fin 2 → Nat :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c512_i32_9 : BitVec 32 := 512#32
  let v30 : BitVec 32 := Scalar.muli v27 c512_i32_9
  let v31 : BitVec 32 := v30
  let v32 : Index := Scalar.indexCast v31
  let c0_10 : Index := 0#32
  ![v32.toNat, 0]
@[reducible] def k0_t1_loop (i : grid0.Coords) : Scf.Loop 32 :=
  let c0_i32_50 : BitVec 32 := 0#32
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let v209 : BitVec 32 := Scalar.subi v27 c0_i32_50
  let c1_i32_51 : BitVec 32 := 1#32
  let v211 : BitVec 32 := Scalar.divsi v209 c1_i32_51
  let v212 : BitVec 32 := Scalar.muli v211 c1_i32_51
  let v213 : BitVec 32 := Scalar.addi c0_i32_50 v212
  let c1_i32_52 : BitVec 32 := 1#32
  ⟨c0_i32_50, v213, c1_i32_52⟩
def k0_mult2 (i : grid0.Coords) (k0_t1 : Fin (k0_t1_loop i).trips) : BitVec 32 :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c1_i32_62 : BitVec 32 := 1#32
  let v226 : BitVec 32 := Scalar.subi v27 c1_i32_62
  let c0_i32_50 : BitVec 32 := 0#32
  let c1_i32_52 : BitVec 32 := 1#32
  let arg9 : BitVec 32 := Scf.iv c0_i32_50 c1_i32_52 k0_t1
  let v227 : BitVec 32 := Scalar.subi v226 arg9
  let c512_i32_63 : BitVec 32 := 512#32
  let v228 : BitVec 32 := Scalar.muli v227 c512_i32_63
  v228
def k0_off2 (i : grid0.Coords) (k0_t1 : Fin (k0_t1_loop i).trips) : Fin 2 → Nat :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c1_i32_62 : BitVec 32 := 1#32
  let v226 : BitVec 32 := Scalar.subi v27 c1_i32_62
  let c0_i32_50 : BitVec 32 := 0#32
  let c1_i32_52 : BitVec 32 := 1#32
  let arg9 : BitVec 32 := Scf.iv c0_i32_50 c1_i32_52 k0_t1
  let v227 : BitVec 32 := Scalar.subi v226 arg9
  let c512_i32_63 : BitVec 32 := 512#32
  let v228 : BitVec 32 := Scalar.muli v227 c512_i32_63
  let v229 : BitVec 32 := v228
  let v230 : Index := Scalar.indexCast v229
  let c0_64 : Index := 0#32
  ![v230.toNat, 0]
@[reducible] def k0_t2_loop (i : grid0.Coords) : Scf.Loop 32 :=
  let c0_i32_50 : BitVec 32 := 0#32
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let v209 : BitVec 32 := Scalar.subi v27 c0_i32_50
  let c1_i32_51 : BitVec 32 := 1#32
  let v211 : BitVec 32 := Scalar.divsi v209 c1_i32_51
  let v212 : BitVec 32 := Scalar.muli v211 c1_i32_51
  let v213 : BitVec 32 := Scalar.addi c0_i32_50 v212
  let v210 : BitVec 32 := Scalar.addi c0_i32_50 v209
  let c1_i32_53 : BitVec 32 := 1#32
  ⟨v213, v210, c1_i32_53⟩
def k0_mult3 (i : grid0.Coords) (k0_t2 : Fin (k0_t2_loop i).trips) : BitVec 32 :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c1_i32_62 : BitVec 32 := 1#32
  let v226 : BitVec 32 := Scalar.subi v27 c1_i32_62
  let c0_i32_50 : BitVec 32 := 0#32
  let v209 : BitVec 32 := Scalar.subi v27 c0_i32_50
  let c1_i32_51 : BitVec 32 := 1#32
  let v211 : BitVec 32 := Scalar.divsi v209 c1_i32_51
  let v212 : BitVec 32 := Scalar.muli v211 c1_i32_51
  let v213 : BitVec 32 := Scalar.addi c0_i32_50 v212
  let c1_i32_53 : BitVec 32 := 1#32
  let arg9 : BitVec 32 := Scf.iv v213 c1_i32_53 k0_t2
  let v227 : BitVec 32 := Scalar.subi v226 arg9
  let c512_i32_63 : BitVec 32 := 512#32
  let v228 : BitVec 32 := Scalar.muli v227 c512_i32_63
  v228
def k0_off3 (i : grid0.Coords) (k0_t2 : Fin (k0_t2_loop i).trips) : Fin 2 → Nat :=
  let arg1 : BitVec 32 := BitVec.ofNat 32 (i 1).val
  let c512_i32 : BitVec 32 := 512#32
  let v8 : BitVec 32 := Scalar.muli arg1 c512_i32
  let c512_i32_1 : BitVec 32 := 512#32
  let v9 : BitVec 32 := Scalar.addi v8 c512_i32_1
  let c1_i32 : BitVec 32 := 1#32
  let v10 : BitVec 32 := Scalar.subi v9 c1_i32
  let c0_i32 : BitVec 32 := 0#32
  let v12 : BitVec 1 := Scalar.cmpi .sgt v10 c0_i32
  let v13 : BitVec 32 := Scalar.extui v12
  let c0_i32_3 : BitVec 32 := 0#32
  let v14 : BitVec 1 := Scalar.cmpi .slt v10 c0_i32_3
  let v15 : BitVec 32 := Scalar.extui v14
  let v16 : BitVec 32 := Scalar.subi v13 v15
  let c512_i32_2 : BitVec 32 := 512#32
  let c0_i32_4 : BitVec 32 := 0#32
  let v17 : BitVec 1 := Scalar.cmpi .sgt c512_i32_2 c0_i32_4
  let v18 : BitVec 32 := Scalar.extui v17
  let c0_i32_5 : BitVec 32 := 0#32
  let v19 : BitVec 1 := Scalar.cmpi .slt c512_i32_2 c0_i32_5
  let v20 : BitVec 32 := Scalar.extui v19
  let v21 : BitVec 32 := Scalar.subi v18 v20
  let v22 : BitVec 1 := Scalar.cmpi .ne v16 v21
  let v23 : BitVec 32 := Scalar.remsi v10 c512_i32_2
  let c0_i32_6 : BitVec 32 := 0#32
  let v24 : BitVec 1 := Scalar.cmpi .ne v23 c0_i32_6
  let v25 : BitVec 1 := Scalar.andi v22 v24
  let v11 : BitVec 32 := Scalar.divsi v10 c512_i32_2
  let c1_i32_7 : BitVec 32 := 1#32
  let v26 : BitVec 32 := Scalar.subi v11 c1_i32_7
  let v27 : BitVec 32 := Scalar.select v25 v26 v11
  let c1_i32_62 : BitVec 32 := 1#32
  let v226 : BitVec 32 := Scalar.subi v27 c1_i32_62
  let c0_i32_50 : BitVec 32 := 0#32
  let v209 : BitVec 32 := Scalar.subi v27 c0_i32_50
  let c1_i32_51 : BitVec 32 := 1#32
  let v211 : BitVec 32 := Scalar.divsi v209 c1_i32_51
  let v212 : BitVec 32 := Scalar.muli v211 c1_i32_51
  let v213 : BitVec 32 := Scalar.addi c0_i32_50 v212
  let c1_i32_53 : BitVec 32 := 1#32
  let arg9 : BitVec 32 := Scf.iv v213 c1_i32_53 k0_t2
  let v227 : BitVec 32 := Scalar.subi v226 arg9
  let c512_i32_63 : BitVec 32 := 512#32
  let v228 : BitVec 32 := Scalar.muli v227 c512_i32_63
  let v229 : BitVec 32 := v228
  let v230 : Index := Scalar.indexCast v229
  let c0_64 : Index := 0#32
  ![v230.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
variable {F : FTy → Type} [FloatOps F] [Named F]
def κ : String → Option EReal := fun
  | "log2_e" => some (((Real.log 2)⁻¹ : ℝ) : EReal)
  | "scale_log2_e" => some (((Real.sqrt 128)⁻¹ * (Real.log 2)⁻¹ : ℝ) : EReal)
  | _ => none
-- ==== Reference21Ideal.lean ====
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096 : Shape := ⟨2, ![16, 4096]⟩
abbrev S4096x16 : Shape := ⟨2, ![4096, 16]⟩
abbrev S4096x16x1 : Shape := ⟨3, ![4096, 16, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x16x128, .f32⟩
  | .hbm, ⟨6, _⟩ => ⟨S4096x2048, .f32⟩
  | .hbm, ⟨7, _⟩ => ⟨S4096x16x128, .f32⟩
  | .hbm, ⟨8, _⟩ => ⟨S4096x2048, .f32⟩
  | .hbm, ⟨9, _⟩ => ⟨S4096x16x128, .f32⟩
  | .hbm, ⟨10, _⟩ => ⟨S16x4096x4096, .f32⟩
  | .hbm, ⟨11, _⟩ => ⟨S_, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S_, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .i1⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S_, .f32⟩
  | .hbm, ⟨66, _⟩ => ⟨S16x4096x4096, .i1⟩
  | .hbm, ⟨67, _⟩ => ⟨S16x4096x4096, .f32⟩
  | .hbm, ⟨68, _⟩ => ⟨S16x4096x4096, .f32⟩
  | .hbm, ⟨69, _⟩ => ⟨S16x128x4096, .f32⟩
  | .hbm, ⟨70, _⟩ => ⟨S4096x16x128, .f32⟩
  | .hbm, ⟨71, _⟩ => ⟨S16x4096x4096, .f32⟩
  | .hbm, ⟨72, _⟩ => ⟨S_, .f32⟩
  | .hbm, ⟨73, _⟩ => ⟨S16x4096, .f32⟩
  | .hbm, ⟨74, _⟩ => ⟨S_, .f32⟩
  | .hbm, ⟨75, _⟩ => ⟨S_, .f32⟩
  | .hbm, ⟨76, _⟩ => ⟨S16x4096, .f32⟩
  | .hbm, ⟨77, _⟩ => ⟨S16x4096, .f32⟩
  | .hbm, ⟨78, _⟩ => ⟨S4096x16, .f32⟩
  | .hbm, ⟨79, _⟩ => ⟨S4096x16x1, .f32⟩
  | .hbm, ⟨80, _⟩ => ⟨S4096x16x128, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S_, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_2 : Ref sig .tc := ⟨.hbm, 72, rfl⟩
abbrev main_v29 : Ref sig .tc := ⟨.hbm, 73, rfl⟩
abbrev main_cst_3 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_call5_v0 : Ref sig .tc := ⟨.hbm, 83, rfl⟩
abbrev main_call5_v1 : Ref sig .tc := ⟨.hbm, 84, rfl⟩
abbrev main_call5_cst : Ref sig .tc := ⟨.hbm, 85, rfl⟩
abbrev main_call5_v2 : Ref sig .tc := ⟨.hbm, 86, rfl⟩
abbrev main_call5_v3 : Ref sig .tc := ⟨.hbm, 87, rfl⟩
abbrev main_call5_cst_0 : Ref sig .tc := ⟨.hbm, 88, rfl⟩
abbrev main_call5_v4 : Ref sig .tc := ⟨.hbm, 89, rfl⟩
abbrev main_call5_v5 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩

abbrev nD : Nat := 1
abbrev τ : Topo := Topo.v7x

variable {F : FTy → Type} [FloatOps F]
-- ==== Proof.Frames.lean ====
/- The frames of the three programs and the ledger of the named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

open Idealize.ShloMosaic Idealize.SL.Sem

namespace Cert.Frames

/-- The kernel as printed: it runs and leaves its arguments as they were. -/
theorem kernel : Cert.quiescent_Kernel (hKernel := Cert.Kernel.Gen.facts) := fun m ρ _ =>
  Cert.Kernel.Gen.frame m ρ

/-- The same over the reals. -/
theorem kernelIdeal : Cert.quiescent_KernelIdeal (hKernelIdeal := Cert.KernelIdeal.Gen.facts) := fun m ρ _ =>
  Cert.KernelIdeal.Gen.frame m ρ

/-- The reference has no semaphores and keeps its arguments. -/
theorem referenceIdeal : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Every named constant stands for the real it is rounded from. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Frames

end
-- ==== Proof.Mat.lean ====
module

public import proofs.«01_k».proof.KernelIdeal
public import Idealize.ShloMosaic.Lib.Pipeline.ValueKit

@[expose] public section

set_option maxRecDepth 16384

noncomputable section

namespace Cert.Mat

open Idealize.ShloMosaic Idealize.ShloMosaic.TcCoe
open Cert.KernelIdeal Finset

/-- A real matrix as an ideal vector of `a` rows and `b` columns, whatever its format. -/
def mat {φ : FTy} (a b : ℕ) (f : ℕ → ℕ → ℝ) : FVec Ideal ⟨2, ![a, b]⟩ φ :=
  fun ix => ((f (ix 0).val (ix 1).val : ℝ) : EReal)

variable {φ ψ : FTy} {a b : ℕ}

theorem mat_congr {f g : ℕ → ℕ → ℝ} (h : ∀ r < a, ∀ c < b, f r c = g r c) :
    mat (φ := φ) a b f = mat a b g := by
  funext ix
  exact congrArg _ (h _ (ix 0).isLt _ (ix 1).isLt)

theorem mat_apply (f : ℕ → ℕ → ℝ) (ix : Shape.Idx ⟨2, ![a, b]⟩) :
    mat (φ := φ) a b f ix = ((f (ix 0).val (ix 1).val : ℝ) : EReal) := rfl

theorem mat_add (f g : ℕ → ℕ → ℝ) :
    addf (F := Ideal) (mat (φ := φ) a b f) (mat a b g) = mat a b (fun r c => f r c + g r c) := by
  funext ix; exact (EReal.coe_add _ _).symm

theorem mat_sub (f g : ℕ → ℕ → ℝ) :
    subf (F := Ideal) (mat (φ := φ) a b f) (mat a b g) = mat a b (fun r c => f r c - g r c) := by
  funext ix; exact (EReal.coe_sub _ _).symm

theorem mat_mul (f g : ℕ → ℕ → ℝ) :
    mulf (F := Ideal) (mat (φ := φ) a b f) (mat a b g) = mat a b (fun r c => f r c * g r c) := by
  funext ix; exact (EReal.coe_mul _ _).symm

theorem mat_exp2 (f : ℕ → ℕ → ℝ) :
    exp2 (F := Ideal) (mat (φ := φ) a b f) = mat a b (fun r c => (2 : ℝ) ^ f r c) := by
  funext ix; exact rfl

theorem mat_logistic (f : ℕ → ℕ → ℝ) :
    logistic (F := Ideal) (mat (φ := φ) a b f) = mat a b (fun r c => (1 + Real.exp (-f r c))⁻¹) := by
  funext ix; exact Ideal.logistic_coe _

theorem mat_truncf (f : ℕ → ℕ → ℝ) (h : ψ.bits < φ.bits) :
    truncf (F := Ideal) ψ (mat (φ := φ) a b f) h = mat a b f := rfl

theorem mat_extf (f : ℕ → ℕ → ℝ) (h : φ.bits < ψ.bits) :
    extf (F := Ideal) ψ (mat (φ := φ) a b f) h = mat a b f := rfl

theorem mat_transpose (f : ℕ → ℕ → ℝ) (h : Shape.Transposes ⟨2, ![a, b]⟩ [1, 0] ⟨2, ![b, a]⟩) :
    transpose ⟨2, ![b, a]⟩ [1, 0] (mat (φ := φ) a b f) h = mat (φ := φ) b a (fun r c => f c r) := rfl

theorem mat_slice {m n x y : ℕ} (f : ℕ → ℕ → ℝ) (h : Shape.Slices ⟨2, ![a, b]⟩ ![x, y] ⟨2, ![m, n]⟩) :
    extractStridedSlice ⟨2, ![m, n]⟩ ![x, y] (mat (φ := φ) a b f) h
      = mat (φ := φ) m n (fun r c => f (x + r) (y + c)) := rfl

theorem mat_const_zero : constant (F := Ideal) ⟨2, ![a, b]⟩ .f32 0x00000000#32 = mat a b (fun _ _ => 0) := by
  funext ix; exact Ideal.ofBits_zero .f32

theorem mat_zero : broadcast ⟨2, ![a, b]⟩ (Scalar.ofBits (F := Ideal) .f32 0x00000000#32)
    = mat (φ := .f32) a b (fun _ _ => 0) := by
  funext ix; exact Ideal.ofBits_zero .f32

theorem mat_zero_half : broadcast ⟨2, ![a, b]⟩ (Scalar.ofBits (F := Ideal) .bf16 0x0000#16)
    = mat (φ := .bf16) a b (fun _ _ => 0) := by
  funext ix; exact Ideal.ofBits_zero .bf16

theorem mat_one : broadcast ⟨2, ![a, b]⟩ (Scalar.ofBits (F := Ideal) .f32 0x3F800000#32)
    = mat (φ := .f32) a b (fun _ _ => 1) := by
  funext ix
  show Ideal.ofBits .f32 0x3F800000#32 = ((1 : ℝ) : EReal)
  simp [Ideal.ofBits, Ideal.ieee, -EReal.coe_mul]; norm_num

theorem mat_scale : broadcast ⟨2, ![a, b]⟩ (Named.named (F := Ideal) κ "scale" (φ := .f32) 0x3DB504F3#32)
    = mat (φ := .f32) a b (fun _ _ => (Real.sqrt 128)⁻¹) := by
  funext ix; exact rfl

theorem mat_log2_e : broadcast ⟨2, ![a, b]⟩ (Named.named (F := Ideal) κ "log2_e" (φ := .f32) 0x3FB8AA3B#32)
    = mat (φ := .f32) a b (fun _ _ => (Real.log 2)⁻¹) := by
  funext ix; exact rfl

theorem mat_scale_log2_e : broadcast ⟨2, ![a, b]⟩ (Named.named (F := Ideal) κ "scale_log2_e" (φ := .f32) 0x3E0293EE#32)
    = mat (φ := .f32) a b (fun _ _ => (Real.sqrt 128)⁻¹ * (Real.log 2)⁻¹) := by
  funext ix; exact rfl

/-- The softplus in base two: the logarithm of one plus two to the `x`. -/
def sp2 (x : ℝ) : ℝ := max x 0 + Real.log (1 + (2 : ℝ) ^ (0 - |x|)) * (Real.log 2)⁻¹

theorem mat_sp2 (f : ℕ → ℕ → ℝ) :
    addf (F := Ideal) (maximumf (mat (φ := .f32) a b f) (mat a b (fun _ _ => 0)))
      (mulf (log (addf (mat a b (fun _ _ => 1)) (exp2 (subf (mat a b (fun _ _ => 0)) (absf (mat a b f))))))
        (mat a b (fun _ _ => (Real.log 2)⁻¹))) = mat a b (fun r c => sp2 (f r c)) := by
  have habs : absf (F := Ideal) (mat (φ := .f32) a b f) = mat a b (fun r c => |f r c|) := by
    funext ix
    show max (f (ix 0).val (ix 1).val : EReal) (-(f (ix 0).val (ix 1).val : EReal)) = _
    rw [mat_apply, abs, ← EReal.coe_neg]
    exact (EReal.coe_strictMono.monotone.map_max).symm
  have hmax : maximumf (F := Ideal) (mat (φ := .f32) a b f) (mat a b (fun _ _ => 0)) = mat a b (fun r c => max (f r c) 0) := by
    funext ix
    exact (EReal.coe_strictMono.monotone.map_max).symm
  have hlog : ∀ g : ℕ → ℕ → ℝ, (∀ r c, 0 < g r c) →
      log (F := Ideal) (mat (φ := .f32) a b g) = mat a b (fun r c => Real.log (g r c)) := by
    intro g hg
    funext ix
    exact (Ideal.log_coe _).trans (if_neg (not_le.2 (hg _ _)))
  rw [habs, hmax, mat_sub, mat_exp2, mat_add, hlog _ (fun r c => by positivity), mat_mul, mat_add]
  rfl

theorem mat_broadcast_col (f : ℕ → ℕ → ℝ) (h : Shape.Broadcasts ⟨2, ![a, 1]⟩ ⟨2, ![a, b]⟩) :
    broadcastTo ⟨2, ![a, b]⟩ (mat (φ := φ) a 1 f) h = mat (φ := φ) a b (fun r _ => f r 0) := by
  funext ix
  simp only [broadcastTo, mat]
  congr 2
  show (if h : a = 1 then (⟨0, _⟩ : Fin a) else ⟨(ix 0).val, _⟩).val = (ix 0).val
  split_ifs with h1
  · have := (ix 0).isLt
    exact (Nat.lt_one_iff.1 (h1 ▸ this)).symm
  · rfl

theorem sum_fin (n : ℕ) (f : ℕ → ℝ) : ∑ k : Fin n, ((f k.val : ℝ) : EReal) = ((∑ d ∈ range n, f d : ℝ) : EReal) := by
  rw [← Fin.sum_univ_eq_sum_range f n]
  exact (map_sum (⟨⟨Real.toEReal, rfl⟩, EReal.coe_add⟩ : ℝ →+ EReal) (fun k : Fin n => f k.val) univ).symm

theorem coe_add_sum (x : ℝ) (n : ℕ) (f g : ℕ → ℝ) :
    (x : EReal) + ∑ k : Fin n, ((f k.val : ℝ) : EReal) * ((g k.val : ℝ) : EReal)
      = ((x + ∑ d ∈ range n, f d * g d : ℝ) : EReal) := by
  rw [EReal.coe_add, ← sum_fin n (fun d => f d * g d)]
  simp only [EReal.coe_mul]

theorem mat_rowsum_512 (f : ℕ → ℕ → ℝ) (h : S512x128.Reduces [1] S512) (h' : S512.ShapeCasts S512x1) (hφ) (ha) :
    shapeCast S512x1 (multiReduction (F := Ideal) (φ := .f32) .add [1] S512 (mat (φ := .f32) 512 128 f) 0x00000000#32 h hφ ha) h'
      = mat (φ := .f32) 512 1 (fun r _ => ∑ d ∈ range 128, f r d) := by
  funext ix
  pointwise [mat]
  exact sum_fin 128 _

theorem mat_rowsum_384 (f : ℕ → ℕ → ℝ) (h : S384x128.Reduces [1] S384) (h' : S384.ShapeCasts S384x1) (hφ) (ha) :
    shapeCast S384x1 (multiReduction (F := Ideal) (φ := .f32) .add [1] S384 (mat (φ := .f32) 384 128 f) 0x00000000#32 h hφ ha) h'
      = mat (φ := .f32) 384 1 (fun r _ => ∑ d ∈ range 128, f r d) := by
  funext ix
  pointwise [mat]
  exact sum_fin 128 _

theorem mat_rowsum_256 (f : ℕ → ℕ → ℝ) (h : S256x128.Reduces [1] S256) (h' : S256.ShapeCasts S256x1) (hφ) (ha) :
    shapeCast S256x1 (multiReduction (F := Ideal) (φ := .f32) .add [1] S256 (mat (φ := .f32) 256 128 f) 0x00000000#32 h hφ ha) h'
      = mat (φ := .f32) 256 1 (fun r _ => ∑ d ∈ range 128, f r d) := by
  funext ix
  pointwise [mat]
  exact sum_fin 128 _

section dots
variable [Facts₀]

theorem dot_nt (f g h : ℕ → ℕ → ℝ) (p) :
    matmul (F := Ideal) dot_S512x128_S512x128_S512x512_1_1_0_0_n_n p (mat (φ := φ) 512 128 f) (mat (φ := ψ) 512 128 g) (mat (φ := .f32) 512 512 h)
      = mat 512 512 (fun r c => h r c + ∑ d ∈ range 128, f r d * g c d) := by
  funext ix
  pointwise [mat]
  exact coe_add_sum _ 128 (fun d => f (ix 0).val d) (fun d => g (ix 1).val d)

theorem dot_2048 (f g h : ℕ → ℕ → ℝ) (p) :
    matmul (F := Ideal) dot_S2048x256_S256x128_S2048x128_1_0_0_1_n_n p (mat (φ := φ) 2048 256 f) (mat (φ := ψ) 256 128 g) (mat (φ := .f32) 2048 128 h)
      = mat 2048 128 (fun r c => h r c + ∑ d ∈ range 256, f r d * g d c) := by
  funext ix
  pointwise [mat]
  exact coe_add_sum _ 256 (fun d => f (ix 0).val d) (fun d => g d (ix 1).val)

theorem dot_1280 (f g h : ℕ → ℕ → ℝ) (p) :
    matmul (F := Ideal) dot_S1280x256_S256x128_S1280x128_1_0_0_1_n_n p (mat (φ := φ) 1280 256 f) (mat (φ := ψ) 256 128 g) (mat (φ := .f32) 1280 128 h)
      = mat 1280 128 (fun r c => h r c + ∑ d ∈ range 256, f r d * g d c) := by
  funext ix
  pointwise [mat]
  exact coe_add_sum _ 256 (fun d => f (ix 0).val d) (fun d => g d (ix 1).val)

theorem dot_dq (f g h : ℕ → ℕ → ℝ) (p) :
    matmul (F := Ideal) dot_S512x512_S512x128_S512x128_1_0_0_1_n_n p (mat (φ := φ) 512 512 f) (mat (φ := ψ) 512 128 g) (mat (φ := .f32) 512 128 h)
      = mat 512 128 (fun r c => h r c + ∑ d ∈ range 512, f r d * g d c) := by
  funext ix
  pointwise [mat]
  exact coe_add_sum _ 512 (fun d => f (ix 0).val d) (fun d => g d (ix 1).val)

theorem dot_acc (f g h : ℕ → ℕ → ℝ) (p) :
    matmul (F := Ideal) dot_S128x512_S512x512_S128x512_1_0_0_1_n_n p (mat (φ := φ) 128 512 f) (mat (φ := ψ) 512 512 g) (mat (φ := .f32) 128 512 h)
      = mat 128 512 (fun r c => h r c + ∑ d ∈ range 512, f r d * g d c) := by
  funext ix
  pointwise [mat]
  exact coe_add_sum _ 512 (fun d => f (ix 0).val d) (fun d => g d (ix 1).val)

end dots

theorem cat_rows_128_128 (f0 f1 G : ℕ → ℕ → ℝ) (h : Shape.Concatenates [S128x128, S128x128] S256x128 0)
    (h0 : ∀ r < 128, ∀ c < 128, G (0 + r) c = f0 r c) (h1 : ∀ r < 128, ∀ c < 128, G (128 + r) c = f1 r c) :
    concatenate (α := EReal) S256x128 0 [⟨S128x128, mat (φ := φ) 128 128 f0⟩, ⟨S128x128, mat (φ := φ) 128 128 f1⟩] h = mat (φ := φ) 256 128 G := by
  funext ix
  have hr : (ix 0).val < 256 := (ix 0).isLt
  have hc : (ix 1).val < 128 := (ix 1).isLt
  pointwise [mat]
  split_ifs <;> (refine congrArg _ (Eq.symm ?_)) <;>
    first
    | (rw [← h0 _ (by omega) _ hc]; congr 1; omega)
    | (rw [← h1 _ (by omega) _ hc]; congr 1; omega)

theorem cat_rows_128_384 (f0 f1 G : ℕ → ℕ → ℝ) (h : Shape.Concatenates [S128x128, S384x128] S512x128 0)
    (h0 : ∀ r < 128, ∀ c < 128, G (0 + r) c = f0 r c) (h1 : ∀ r < 384, ∀ c < 128, G (128 + r) c = f1 r c) :
    concatenate (α := EReal) S512x128 0 [⟨S128x128, mat (φ := φ) 128 128 f0⟩, ⟨S384x128, mat (φ := φ) 384 128 f1⟩] h = mat (φ := φ) 512 128 G := by
  funext ix
  have hr : (ix 0).val < 512 := (ix 0).isLt
  have hc : (ix 1).val < 128 := (ix 1).isLt
  pointwise [mat]
  split_ifs <;> (refine congrArg _ (Eq.symm ?_)) <;>
    first
    | (rw [← h0 _ (by omega) _ hc]; congr 1; omega)
    | (rw [← h1 _ (by omega) _ hc]; congr 1; omega)

theorem cat_rows_256_256 (f0 f1 G : ℕ → ℕ → ℝ) (h : Shape.Concatenates [S256x128, S256x128] S512x128 0)
    (h0 : ∀ r < 256, ∀ c < 128, G (0 + r) c = f0 r c) (h1 : ∀ r < 256, ∀ c < 128, G (256 + r) c = f1 r c) :
    concatenate (α := EReal) S512x128 0 [⟨S256x128, mat (φ := φ) 256 128 f0⟩, ⟨S256x128, mat (φ := φ) 256 128 f1⟩] h = mat (φ := φ) 512 128 G := by
  funext ix
  have hr : (ix 0).val < 512 := (ix 0).isLt
  have hc : (ix 1).val < 128 := (ix 1).isLt
  pointwise [mat]
  split_ifs <;> (refine congrArg _ (Eq.symm ?_)) <;>
    first
    | (rw [← h0 _ (by omega) _ hc]; congr 1; omega)
    | (rw [← h1 _ (by omega) _ hc]; congr 1; omega)

theorem cat_rows_384_128 (f0 f1 G : ℕ → ℕ → ℝ) (h : Shape.Concatenates [S384x128, S128x128] S512x128 0)
    (h0 : ∀ r < 384, ∀ c < 128, G (0 + r) c = f0 r c) (h1 : ∀ r < 128, ∀ c < 128, G (384 + r) c = f1 r c) :
    concatenate (α := EReal) S512x128 0 [⟨S384x128, mat (φ := φ) 384 128 f0⟩, ⟨S128x128, mat (φ := φ) 128 128 f1⟩] h = mat (φ := φ) 512 128 G := by
  funext ix
  have hr : (ix 0).val < 512 := (ix 0).isLt
  have hc : (ix 1).val < 128 := (ix 1).isLt
  pointwise [mat]
  split_ifs <;> (refine congrArg _ (Eq.symm ?_)) <;>
    first
    | (rw [← h0 _ (by omega) _ hc]; congr 1; omega)
    | (rw [← h1 _ (by omega) _ hc]; congr 1; omega)

theorem cat_rows_128_384_1 (f0 f1 G : ℕ → ℕ → ℝ) (h : Shape.Concatenates [S128x1, S384x1] S512x1 0)
    (h0 : ∀ r < 128, ∀ c < 1, G (0 + r) c = f0 r c) (h1 : ∀ r < 384, ∀ c < 1, G (128 + r) c = f1 r c) :
    concatenate (α := EReal) S512x1 0 [⟨S128x1, mat (φ := φ) 128 1 f0⟩, ⟨S384x1, mat (φ := φ) 384 1 f1⟩] h = mat (φ := φ) 512 1 G := by
  funext ix
  have hr : (ix 0).val < 512 := (ix 0).isLt
  have hc : (ix 1).val < 1 := (ix 1).isLt
  pointwise [mat]
  split_ifs <;> (refine congrArg _ (Eq.symm ?_)) <;>
    first
    | (rw [← h0 _ (by omega) 0 Nat.one_pos]; congr 1; omega)
    | (rw [← h1 _ (by omega) 0 Nat.one_pos]; congr 1; omega)

theorem cat_rows_256_256_1 (f0 f1 G : ℕ → ℕ → ℝ) (h : Shape.Concatenates [S256x1, S256x1] S512x1 0)
    (h0 : ∀ r < 256, ∀ c < 1, G (0 + r) c = f0 r c) (h1 : ∀ r < 256, ∀ c < 1, G (256 + r) c = f1 r c) :
    concatenate (α := EReal) S512x1 0 [⟨S256x1, mat (φ := φ) 256 1 f0⟩, ⟨S256x1, mat (φ := φ) 256 1 f1⟩] h = mat (φ := φ) 512 1 G := by
  funext ix
  have hr : (ix 0).val < 512 := (ix 0).isLt
  have hc : (ix 1).val < 1 := (ix 1).isLt
  pointwise [mat]
  split_ifs <;> (refine congrArg _ (Eq.symm ?_)) <;>
    first
    | (rw [← h0 _ (by omega) 0 Nat.one_pos]; congr 1; omega)
    | (rw [← h1 _ (by omega) 0 Nat.one_pos]; congr 1; omega)

theorem cat_rows_512_512_512_512_256 (f0 f1 f2 f3 G : ℕ → ℕ → ℝ) (h : Shape.Concatenates [S512x256, S512x256, S512x256, S512x256] S2048x256 0)
    (h0 : ∀ r < 512, ∀ c < 256, G (0 + r) c = f0 r c) (h1 : ∀ r < 512, ∀ c < 256, G (512 + r) c = f1 r c) (h2 : ∀ r < 512, ∀ c < 256, G (1024 + r) c = f2 r c) (h3 : ∀ r < 512, ∀ c < 256, G (1536 + r) c = f3 r c) :
    concatenate (α := EReal) S2048x256 0 [⟨S512x256, mat (φ := φ) 512 256 f0⟩, ⟨S512x256, mat (φ := φ) 512 256 f1⟩, ⟨S512x256, mat (φ := φ) 512 256 f2⟩, ⟨S512x256, mat (φ := φ) 512 256 f3⟩] h = mat (φ := φ) 2048 256 G := by
  funext ix
  have hr : (ix 0).val < 2048 := (ix 0).isLt
  have hc : (ix 1).val < 256 := (ix 1).isLt
  pointwise [mat]
  split_ifs <;> (refine congrArg _ (Eq.symm ?_)) <;>
    first
    | (rw [← h0 _ (by omega) _ hc]; congr 1; omega)
    | (rw [← h1 _ (by omega) _ hc]; congr 1; omega)
    | (rw [← h2 _ (by omega) _ hc]; congr 1; omega)
    | (rw [← h3 _ (by omega) _ hc]; congr 1; omega)

theorem cat_rows_512_384_256_128_256 (f0 f1 f2 f3 G : ℕ → ℕ → ℝ) (h : Shape.Concatenates [S512x256, S384x256, S256x256, S128x256] S1280x256 0)
    (h0 : ∀ r < 512, ∀ c < 256, G (0 + r) c = f0 r c) (h1 : ∀ r < 384, ∀ c < 256, G (512 + r) c = f1 r c) (h2 : ∀ r < 256, ∀ c < 256, G (896 + r) c = f2 r c) (h3 : ∀ r < 128, ∀ c < 256, G (1152 + r) c = f3 r c) :
    concatenate (α := EReal) S1280x256 0 [⟨S512x256, mat (φ := φ) 512 256 f0⟩, ⟨S384x256, mat (φ := φ) 384 256 f1⟩, ⟨S256x256, mat (φ := φ) 256 256 f2⟩, ⟨S128x256, mat (φ := φ) 128 256 f3⟩] h = mat (φ := φ) 1280 256 G := by
  funext ix
  have hr : (ix 0).val < 1280 := (ix 0).isLt
  have hc : (ix 1).val < 256 := (ix 1).isLt
  pointwise [mat]
  split_ifs <;> (refine congrArg _ (Eq.symm ?_)) <;>
    first
    | (rw [← h0 _ (by omega) _ hc]; congr 1; omega)
    | (rw [← h1 _ (by omega) _ hc]; congr 1; omega)
    | (rw [← h2 _ (by omega) _ hc]; congr 1; omega)
    | (rw [← h3 _ (by omega) _ hc]; congr 1; omega)

theorem cat_cols_128_128_512 (f0 f1 G : ℕ → ℕ → ℝ) (h : Shape.Concatenates [S512x128, S512x128] S512x256 1)
    (h0 : ∀ r < 512, ∀ c < 128, G r (0 + c) = f0 r c) (h1 : ∀ r < 512, ∀ c < 128, G r (128 + c) = f1 r c) :
    concatenate (α := EReal) S512x256 1 [⟨S512x128, mat (φ := φ) 512 128 f0⟩, ⟨S512x128, mat (φ := φ) 512 128 f1⟩] h = mat (φ := φ) 512 256 G := by
  funext ix
  have hr : (ix 0).val < 512 := (ix 0).isLt
  have hc : (ix 1).val < 256 := (ix 1).isLt
  pointwise [mat]
  split_ifs <;> (refine congrArg _ (Eq.symm ?_)) <;>
    first
    | (rw [← h0 _ hr _ (by omega)]; congr 1; omega)
    | (rw [← h1 _ hr _ (by omega)]; congr 1; omega)

theorem cat_cols_128_128_384 (f0 f1 G : ℕ → ℕ → ℝ) (h : Shape.Concatenates [S384x128, S384x128] S384x256 1)
    (h0 : ∀ r < 384, ∀ c < 128, G r (0 + c) = f0 r c) (h1 : ∀ r < 384, ∀ c < 128, G r (128 + c) = f1 r c) :
    concatenate (α := EReal) S384x256 1 [⟨S384x128, mat (φ := φ) 384 128 f0⟩, ⟨S384x128, mat (φ := φ) 384 128 f1⟩] h = mat (φ := φ) 384 256 G := by
  funext ix
  have hr : (ix 0).val < 384 := (ix 0).isLt
  have hc : (ix 1).val < 256 := (ix 1).isLt
  pointwise [mat]
  split_ifs <;> (refine congrArg _ (Eq.symm ?_)) <;>
    first
    | (rw [← h0 _ hr _ (by omega)]; congr 1; omega)
    | (rw [← h1 _ hr _ (by omega)]; congr 1; omega)

theorem cat_cols_128_128_256 (f0 f1 G : ℕ → ℕ → ℝ) (h : Shape.Concatenates [S256x128, S256x128] S256x256 1)
    (h0 : ∀ r < 256, ∀ c < 128, G r (0 + c) = f0 r c) (h1 : ∀ r < 256, ∀ c < 128, G r (128 + c) = f1 r c) :
    concatenate (α := EReal) S256x256 1 [⟨S256x128, mat (φ := φ) 256 128 f0⟩, ⟨S256x128, mat (φ := φ) 256 128 f1⟩] h = mat (φ := φ) 256 256 G := by
  funext ix
  have hr : (ix 0).val < 256 := (ix 0).isLt
  have hc : (ix 1).val < 256 := (ix 1).isLt
  pointwise [mat]
  split_ifs <;> (refine congrArg _ (Eq.symm ?_)) <;>
    first
    | (rw [← h0 _ hr _ (by omega)]; congr 1; omega)
    | (rw [← h1 _ hr _ (by omega)]; congr 1; omega)

theorem cat_cols_128_128_128 (f0 f1 G : ℕ → ℕ → ℝ) (h : Shape.Concatenates [S128x128, S128x128] S128x256 1)
    (h0 : ∀ r < 128, ∀ c < 128, G r (0 + c) = f0 r c) (h1 : ∀ r < 128, ∀ c < 128, G r (128 + c) = f1 r c) :
    concatenate (α := EReal) S128x256 1 [⟨S128x128, mat (φ := φ) 128 128 f0⟩, ⟨S128x128, mat (φ := φ) 128 128 f1⟩] h = mat (φ := φ) 128 256 G := by
  funext ix
  have hr : (ix 0).val < 128 := (ix 0).isLt
  have hc : (ix 1).val < 256 := (ix 1).isLt
  pointwise [mat]
  split_ifs <;> (refine congrArg _ (Eq.symm ?_)) <;>
    first
    | (rw [← h0 _ hr _ (by omega)]; congr 1; omega)
    | (rw [← h1 _ hr _ (by omega)]; congr 1; omega)

theorem cat_cols_128_128_128_128_512 (f0 f1 f2 f3 G : ℕ → ℕ → ℝ) (h : Shape.Concatenates [S512x128, S512x128, S512x128, S512x128] S512x512 1)
    (h0 : ∀ r < 512, ∀ c < 128, G r (0 + c) = f0 r c) (h1 : ∀ r < 512, ∀ c < 128, G r (128 + c) = f1 r c) (h2 : ∀ r < 512, ∀ c < 128, G r (256 + c) = f2 r c) (h3 : ∀ r < 512, ∀ c < 128, G r (384 + c) = f3 r c) :
    concatenate (α := EReal) S512x512 1 [⟨S512x128, mat (φ := φ) 512 128 f0⟩, ⟨S512x128, mat (φ := φ) 512 128 f1⟩, ⟨S512x128, mat (φ := φ) 512 128 f2⟩, ⟨S512x128, mat (φ := φ) 512 128 f3⟩] h = mat (φ := φ) 512 512 G := by
  funext ix
  have hr : (ix 0).val < 512 := (ix 0).isLt
  have hc : (ix 1).val < 512 := (ix 1).isLt
  pointwise [mat]
  split_ifs <;> (refine congrArg _ (Eq.symm ?_)) <;>
    first
    | (rw [← h0 _ hr _ (by omega)]; congr 1; omega)
    | (rw [← h1 _ hr _ (by omega)]; congr 1; omega)
    | (rw [← h2 _ hr _ (by omega)]; congr 1; omega)
    | (rw [← h3 _ hr _ (by omega)]; congr 1; omega)

theorem word_slt {m n : ℕ} (hm : m < 2 ^ 31) (hn : n < 2 ^ 31) :
    IntOp.cmpi .slt (BitVec.ofNat 32 m) (BitVec.ofNat 32 n) = BitVec.ofBool (decide (m < n)) := by
  have e : ∀ k : ℕ, k < 2 ^ 31 → (BitVec.ofNat 32 k).toInt = (k : ℤ) := fun k hk => by
    rw [BitVec.toInt_eq_toNat_of_lt (by rw [BitVec.toNat_ofNat]; omega), BitVec.toNat_ofNat, Nat.mod_eq_of_lt (by omega)]
  show BitVec.ofBool ((BitVec.ofNat 32 m).slt (BitVec.ofNat 32 n)) = _
  rw [BitVec.slt_eq_decide, e m hm, e n hn]
  simp only [Nat.cast_lt]

theorem word_sle {m n : ℕ} (hm : m < 2 ^ 31) (hn : n < 2 ^ 31) :
    IntOp.cmpi .sle (BitVec.ofNat 32 m) (BitVec.ofNat 32 n) = BitVec.ofBool (decide (m ≤ n)) := by
  have e : ∀ k : ℕ, k < 2 ^ 31 → (BitVec.ofNat 32 k).toInt = (k : ℤ) := fun k hk => by
    rw [BitVec.toInt_eq_toNat_of_lt (by rw [BitVec.toNat_ofNat]; omega), BitVec.toNat_ofNat, Nat.mod_eq_of_lt (by omega)]
  show BitVec.ofBool ((BitVec.ofNat 32 m).sle (BitVec.ofNat 32 n)) = _
  rw [BitVec.sle_eq_decide, e m hm, e n hn]
  simp only [Nat.cast_le]

theorem flag_real (p : Bool) :
    FloatOps.sitofp (F := Ideal) .f32 (BitVec.setWidth 32 (BitVec.ofBool p)) = (((if p then 1 else 0 : ℝ)) : EReal) := by
  show (((BitVec.setWidth 32 (BitVec.ofBool p)).toInt : ℝ) : EReal) = _
  cases p <;> simp

/-- The matrix of ones on and above the diagonal, as the kernel writes it. -/
theorem mask_le (h0 : S128x128.Iotas .tc 32 [0]) (h1 : S128x128.Iotas .tc 32 [1]) (hb : 1 < 32) (hf : FTy.bits .bf16 < FTy.bits .f32) :
    truncf (F := Ideal) .bf16 (sitofp .f32 (extui 32 (cmpi .sle (iota .tc S128x128 32 [0] h0) (iota .tc S128x128 32 [1] h1)) hb)) hf
      = mat (φ := .bf16) 128 128 (fun r c => if r ≤ c then 1 else 0) := by
  funext ix
  have hr : (ix 0).val < 128 := (ix 0).isLt
  have hc : (ix 1).val < 128 := (ix 1).isLt
  pointwise [mat]
  rw [word_sle (by omega) (by omega), flag_real]
  simp only [decide_eq_true_eq]

/-- The matrix of ones above the diagonal, as the kernel writes it. -/
theorem mask_lt (h0 : S128x128.Iotas .tc 32 [0]) (h1 : S128x128.Iotas .tc 32 [1]) (hb : 1 < 32) (hf : FTy.bits .bf16 < FTy.bits .f32) :
    truncf (F := Ideal) .bf16 (sitofp .f32 (extui 32 (cmpi .slt (iota .tc S128x128 32 [0] h0) (iota .tc S128x128 32 [1] h1)) hb)) hf
      = mat (φ := .bf16) 128 128 (fun r c => if r < c then 1 else 0) := by
  funext ix
  have hr : (ix 0).val < 128 := (ix 0).isLt
  have hc : (ix 1).val < 128 := (ix 1).isLt
  pointwise [mat]
  rw [word_slt (by omega) (by omega), flag_real]
  simp only [decide_eq_true_eq]

theorem mask_rows_512 (n m : BitVec 32) (x y : ℕ) (hx : n = BitVec.ofNat 32 x) (hy : m = BitVec.ofNat 32 y) (hx' : x < 2 ^ 20) (hy' : y < 2 ^ 20)
    (f : ℕ → ℕ → ℝ) (h0 : S512x128.Iotas .tc 32 [0]) (h1 : S512x128.Iotas .tc 32 [1]) :
    select (α := EReal) (cmpi .slt (addi (iota .tc S512x128 32 [1] h1) (broadcast S512x128 n)) (addi (iota .tc S512x128 32 [0] h0) (broadcast S512x128 m)))
      (mat (φ := .f32) 512 128 f) (mat (φ := .f32) 512 128 (fun _ _ => 0))
      = mat (φ := .f32) 512 128 (fun r c => if x + c < y + r then f r c else 0) := by
  funext ix
  have hr : (ix 0).val < 512 := (ix 0).isLt
  have hc : (ix 1).val < 128 := (ix 1).isLt
  subst hx hy
  pointwise [mat]
  have ea : ∀ u v : ℕ, IntOp.addi (BitVec.ofNat 32 u) (BitVec.ofNat 32 v) = BitVec.ofNat 32 (v + u) := fun u v => by
    rw [Nat.add_comm]; exact (BitVec.ofNat_add u v).symm
  rw [ea, ea, word_slt (by omega) (by omega)]
  by_cases hlt : x + (ix 1).val < y + (ix 0).val
  · rw [if_pos hlt, decide_eq_true hlt]; rfl
  · rw [if_neg hlt, decide_eq_false hlt]; rfl

theorem mask_rows_384 (n m : BitVec 32) (x y : ℕ) (hx : n = BitVec.ofNat 32 x) (hy : m = BitVec.ofNat 32 y) (hx' : x < 2 ^ 20) (hy' : y < 2 ^ 20)
    (f : ℕ → ℕ → ℝ) (h0 : S384x128.Iotas .tc 32 [0]) (h1 : S384x128.Iotas .tc 32 [1]) :
    select (α := EReal) (cmpi .slt (addi (iota .tc S384x128 32 [1] h1) (broadcast S384x128 n)) (addi (iota .tc S384x128 32 [0] h0) (broadcast S384x128 m)))
      (mat (φ := .f32) 384 128 f) (mat (φ := .f32) 384 128 (fun _ _ => 0))
      = mat (φ := .f32) 384 128 (fun r c => if x + c < y + r then f r c else 0) := by
  funext ix
  have hr : (ix 0).val < 384 := (ix 0).isLt
  have hc : (ix 1).val < 128 := (ix 1).isLt
  subst hx hy
  pointwise [mat]
  have ea : ∀ u v : ℕ, IntOp.addi (BitVec.ofNat 32 u) (BitVec.ofNat 32 v) = BitVec.ofNat 32 (v + u) := fun u v => by
    rw [Nat.add_comm]; exact (BitVec.ofNat_add u v).symm
  rw [ea, ea, word_slt (by omega) (by omega)]
  by_cases hlt : x + (ix 1).val < y + (ix 0).val
  · rw [if_pos hlt, decide_eq_true hlt]; rfl
  · rw [if_neg hlt, decide_eq_false hlt]; rfl

theorem mask_rows_256 (n m : BitVec 32) (x y : ℕ) (hx : n = BitVec.ofNat 32 x) (hy : m = BitVec.ofNat 32 y) (hx' : x < 2 ^ 20) (hy' : y < 2 ^ 20)
    (f : ℕ → ℕ → ℝ) (h0 : S256x128.Iotas .tc 32 [0]) (h1 : S256x128.Iotas .tc 32 [1]) :
    select (α := EReal) (cmpi .slt (addi (iota .tc S256x128 32 [1] h1) (broadcast S256x128 n)) (addi (iota .tc S256x128 32 [0] h0) (broadcast S256x128 m)))
      (mat (φ := .f32) 256 128 f) (mat (φ := .f32) 256 128 (fun _ _ => 0))
      = mat (φ := .f32) 256 128 (fun r c => if x + c < y + r then f r c else 0) := by
  funext ix
  have hr : (ix 0).val < 256 := (ix 0).isLt
  have hc : (ix 1).val < 128 := (ix 1).isLt
  subst hx hy
  pointwise [mat]
  have ea : ∀ u v : ℕ, IntOp.addi (BitVec.ofNat 32 u) (BitVec.ofNat 32 v) = BitVec.ofNat 32 (v + u) := fun u v => by
    rw [Nat.add_comm]; exact (BitVec.ofNat_add u v).symm
  rw [ea, ea, word_slt (by omega) (by omega)]
  by_cases hlt : x + (ix 1).val < y + (ix 0).val
  · rw [if_pos hlt, decide_eq_true hlt]; rfl
  · rw [if_neg hlt, decide_eq_false hlt]; rfl

theorem mask_rows_128 (n m : BitVec 32) (x y : ℕ) (hx : n = BitVec.ofNat 32 x) (hy : m = BitVec.ofNat 32 y) (hx' : x < 2 ^ 20) (hy' : y < 2 ^ 20)
    (f : ℕ → ℕ → ℝ) (h0 : S128x128.Iotas .tc 32 [0]) (h1 : S128x128.Iotas .tc 32 [1]) :
    select (α := EReal) (cmpi .slt (addi (iota .tc S128x128 32 [1] h1) (broadcast S128x128 n)) (addi (iota .tc S128x128 32 [0] h0) (broadcast S128x128 m)))
      (mat (φ := .f32) 128 128 f) (mat (φ := .f32) 128 128 (fun _ _ => 0))
      = mat (φ := .f32) 128 128 (fun r c => if x + c < y + r then f r c else 0) := by
  funext ix
  have hr : (ix 0).val < 128 := (ix 0).isLt
  have hc : (ix 1).val < 128 := (ix 1).isLt
  subst hx hy
  pointwise [mat]
  have ea : ∀ u v : ℕ, IntOp.addi (BitVec.ofNat 32 u) (BitVec.ofNat 32 v) = BitVec.ofNat 32 (v + u) := fun u v => by
    rw [Nat.add_comm]; exact (BitVec.ofNat_add u v).symm
  rw [ea, ea, word_slt (by omega) (by omega)]
  by_cases hlt : x + (ix 1).val < y + (ix 0).val
  · rw [if_pos hlt, decide_eq_true hlt]; rfl
  · rw [if_neg hlt, decide_eq_false hlt]; rfl

end Cert.Mat
-- ==== Proof.Head.lean ====
module

public import proofs.«01_k».proof.Proof.Mat

@[expose] public section

set_option maxRecDepth 16384

noncomputable section

namespace Cert.Mat

open Idealize.ShloMosaic Idealize.ShloMosaic.TcCoe
open Cert.KernelIdeal Finset

/-! ## One head of the attention over the reals -/

/-- What one head of the backward pass reads: the queries, keys and values, the gradient of the head's
    output, and per row the sum of the softplus over all earlier keys, in base two. -/
structure Head where
  q : ℕ → ℕ → ℝ
  k : ℕ → ℕ → ℝ
  v : ℕ → ℕ → ℝ
  dy : ℕ → ℕ → ℝ
  tot : ℕ → ℝ

namespace Head

variable (H : Head)

/-- The logit in base two. -/
def z (t s : ℕ) : ℝ := (∑ d ∈ range 128, H.q t d * H.k s d) * ((Real.sqrt 128)⁻¹ * (Real.log 2)⁻¹)

/-- The softplus of the logit at the earlier keys. -/
def keep (t s : ℕ) : ℝ := if s < t then sp2 (H.z t s) else 0

/-- The logarithm of the gate. -/
def ls (t s : ℕ) : ℝ := H.z t s - sp2 (H.z t s)

/-- The softplus summed over the first `n` keys. -/
def seen (t n : ℕ) : ℝ := ∑ s ∈ range n, H.keep t s

/-- The weight of a key. -/
def w (t s : ℕ) : ℝ := if s < t then (2 : ℝ) ^ (H.ls t s - (H.tot t - H.seen t (s + 1))) else 0

/-- The gradient of the weight. -/
def dw (t s : ℕ) : ℝ := ∑ d ∈ range 128, H.dy t d * H.v s d

/-- The gradient of the weight's logarithm. -/
def e (t s : ℕ) : ℝ := H.dw t s * H.w t s

/-- That gradient summed over the first `n` keys. -/
def eseen (t n : ℕ) : ℝ := ∑ s ∈ range n, H.e t s

/-- The gradient of the logit. -/
def dz (t s : ℕ) : ℝ := if s < t then H.e t s - (H.e t s + H.eseen t s) * (2 : ℝ) ^ H.ls t s else 0

theorem seen_zero (t : ℕ) : H.seen t 0 = 0 := rfl

theorem eseen_zero (t : ℕ) : H.eseen t 0 = 0 := rfl

theorem seen_add (t n m : ℕ) : H.seen t (n + m) = H.seen t n + ∑ d ∈ range m, H.keep t (n + d) :=
  sum_range_add _ _ _

theorem eseen_add (t n m : ℕ) : H.eseen t (n + m) = H.eseen t n + ∑ d ∈ range m, H.e t (n + d) :=
  sum_range_add _ _ _

theorem keep_of_le {t s : ℕ} (h : t ≤ s) : H.keep t s = 0 := if_neg (not_lt.2 h)

theorem w_of_le {t s : ℕ} (h : t ≤ s) : H.w t s = 0 := if_neg (not_lt.2 h)

theorem dz_of_le {t s : ℕ} (h : t ≤ s) : H.dz t s = 0 := if_neg (not_lt.2 h)

theorem e_of_le {t s : ℕ} (h : t ≤ s) : H.e t s = 0 := by rw [e, H.w_of_le h, mul_zero]

theorem keep_of_lt {t s : ℕ} (h : s < t) : H.keep t s = sp2 (H.z t s) := if_pos h

/-- The weight as the kernel computes it, within a block of keys that begins at `S`. -/
theorem w_block {t S c : ℕ} :
    (if S + c < t then (2 : ℝ) ^ (H.ls t (S + c) - (H.tot t - ∑ d ∈ range (c + 1), H.keep t (S + d) - H.seen t S)) else 0)
      = H.w t (S + c) := by
  rw [w, Nat.add_assoc, H.seen_add]
  congr 3
  ring

/-- The gradient of the logit as the kernel computes it, within a block of keys that begins at `S`. -/
theorem dz_block {t S c : ℕ} :
    (if S + c < t then H.e t (S + c) - (H.e t (S + c) + (H.eseen t S + ∑ d ∈ range c, H.e t (S + d)))
      * (2 : ℝ) ^ H.ls t (S + c) else 0) = H.dz t (S + c) := by
  rw [dz, H.eseen_add]

end Head

/-! ## Sums along a row by a triangular matrix -/

/-- The entries of a matrix from row `x` and column `y` on. -/
def at2 (f : ℕ → ℕ → ℝ) (x y : ℕ) : ℕ → ℕ → ℝ := fun r c => f (x + r) (y + c)

/-- A row and the row's rounding error, which is zero over the reals, side by side. -/
def half (f : ℕ → ℕ → ℝ) : ℕ → ℕ → ℝ := fun r c => if c < 128 then f r c else f r (c - 128) - f r (c - 128)

theorem half_dot (f : ℕ → ℕ → ℝ) (r : ℕ) (p : ℕ → Prop) [DecidablePred p] :
    ∑ d ∈ range 256, half f r d * (if p (d % 128) then 1 else 0) = ∑ d ∈ range 128, if p d then f r d else 0 := by
  rw [show (256 : ℕ) = 128 + 128 from rfl, sum_range_add]
  rw [sum_eq_zero (s := range 128) (f := fun x => half f r (128 + x) * _) (fun x hx => ?_), add_zero]
  · refine sum_congr rfl fun d hd => ?_
    have := mem_range.1 hd
    rw [half, if_pos this, Nat.mod_eq_of_lt this]
    split_ifs <;> simp
  · rw [half, if_neg (by omega), sub_self, zero_mul]

theorem half_dot_le (f : ℕ → ℕ → ℝ) (r : ℕ) {c : ℕ} (hc : c < 128) :
    ∑ d ∈ range 256, half f r d * (if d % 128 ≤ c then 1 else 0) = ∑ d ∈ range (c + 1), f r d := by
  rw [half_dot f r (fun d => d ≤ c), ← sum_filter]
  refine sum_congr ?_ fun _ _ => rfl
  ext d
  simp only [mem_filter, mem_range]
  omega

theorem half_dot_lt (f : ℕ → ℕ → ℝ) (r : ℕ) {c : ℕ} (hc : c < 128) :
    ∑ d ∈ range 256, half f r d * (if d % 128 < c then 1 else 0) = ∑ d ∈ range c, f r d := by
  rw [half_dot f r (fun d => d < c), ← sum_filter]
  refine sum_congr ?_ fun _ _ => rfl
  ext d
  simp only [mem_filter, mem_range]
  omega

/-- Four blocks of rows, one above the other. -/
def rows4 (x y z : ℕ) (f0 f1 f2 f3 : ℕ → ℕ → ℝ) : ℕ → ℕ → ℝ := fun r c =>
  if r < x then f0 r c else if r < y then f1 (r - x) c else if r < z then f2 (r - y) c else f3 (r - z) c

theorem split_512 (f : ℕ → ℕ → ℝ) (hb : FTy.bits .bf16 < FTy.bits .f32) (h : Shape.Concatenates [S512x128, S512x128] S512x256 1) :
    concatenate (α := EReal) S512x256 1 [⟨S512x128, truncf (F := Ideal) .bf16 (mat (φ := .f32) 512 128 f) hb⟩,
      ⟨S512x128, truncf (F := Ideal) .bf16 (subf (mat (φ := .f32) 512 128 f) (extf .f32 (truncf .bf16 (mat (φ := .f32) 512 128 f) hb) hb)) hb⟩] h
      = mat (φ := .bf16) 512 256 (half f) := by
  rw [mat_truncf, mat_extf, mat_sub, mat_truncf]
  refine cat_cols_128_128_512 f _ (half f) h (fun r _ c hc => ?_) (fun r _ c hc => ?_)
  · rw [half, if_pos (by omega), Nat.zero_add]
  · rw [half, if_neg (by omega), Nat.add_sub_cancel_left]

theorem split_384 (f : ℕ → ℕ → ℝ) (hb : FTy.bits .bf16 < FTy.bits .f32) (h : Shape.Concatenates [S384x128, S384x128] S384x256 1) :
    concatenate (α := EReal) S384x256 1 [⟨S384x128, truncf (F := Ideal) .bf16 (mat (φ := .f32) 384 128 f) hb⟩,
      ⟨S384x128, truncf (F := Ideal) .bf16 (subf (mat (φ := .f32) 384 128 f) (extf .f32 (truncf .bf16 (mat (φ := .f32) 384 128 f) hb) hb)) hb⟩] h
      = mat (φ := .bf16) 384 256 (half f) := by
  rw [mat_truncf, mat_extf, mat_sub, mat_truncf]
  refine cat_cols_128_128_384 f _ (half f) h (fun r _ c hc => ?_) (fun r _ c hc => ?_)
  · rw [half, if_pos (by omega), Nat.zero_add]
  · rw [half, if_neg (by omega), Nat.add_sub_cancel_left]

theorem split_256 (f : ℕ → ℕ → ℝ) (hb : FTy.bits .bf16 < FTy.bits .f32) (h : Shape.Concatenates [S256x128, S256x128] S256x256 1) :
    concatenate (α := EReal) S256x256 1 [⟨S256x128, truncf (F := Ideal) .bf16 (mat (φ := .f32) 256 128 f) hb⟩,
      ⟨S256x128, truncf (F := Ideal) .bf16 (subf (mat (φ := .f32) 256 128 f) (extf .f32 (truncf .bf16 (mat (φ := .f32) 256 128 f) hb) hb)) hb⟩] h
      = mat (φ := .bf16) 256 256 (half f) := by
  rw [mat_truncf, mat_extf, mat_sub, mat_truncf]
  refine cat_cols_128_128_256 f _ (half f) h (fun r _ c hc => ?_) (fun r _ c hc => ?_)
  · rw [half, if_pos (by omega), Nat.zero_add]
  · rw [half, if_neg (by omega), Nat.add_sub_cancel_left]

theorem split_128 (f : ℕ → ℕ → ℝ) (hb : FTy.bits .bf16 < FTy.bits .f32) (h : Shape.Concatenates [S128x128, S128x128] S128x256 1) :
    concatenate (α := EReal) S128x256 1 [⟨S128x128, truncf (F := Ideal) .bf16 (mat (φ := .f32) 128 128 f) hb⟩,
      ⟨S128x128, truncf (F := Ideal) .bf16 (subf (mat (φ := .f32) 128 128 f) (extf .f32 (truncf .bf16 (mat (φ := .f32) 128 128 f) hb) hb)) hb⟩] h
      = mat (φ := .bf16) 128 256 (half f) := by
  rw [mat_truncf, mat_extf, mat_sub, mat_truncf]
  refine cat_cols_128_128_128 f _ (half f) h (fun r _ c hc => ?_) (fun r _ c hc => ?_)
  · rw [half, if_pos (by omega), Nat.zero_add]
  · rw [half, if_neg (by omega), Nat.add_sub_cancel_left]

section rows
variable (f0 f1 f2 f3 : ℕ → ℕ → ℝ)

theorem rows_2048 (h : Shape.Concatenates [S512x256, S512x256, S512x256, S512x256] S2048x256 0) :
    concatenate (α := EReal) S2048x256 0 [⟨S512x256, mat (φ := .bf16) 512 256 (half f0)⟩, ⟨S512x256, mat (φ := .bf16) 512 256 (half f1)⟩,
      ⟨S512x256, mat (φ := .bf16) 512 256 (half f2)⟩, ⟨S512x256, mat (φ := .bf16) 512 256 (half f3)⟩] h
      = mat (φ := .bf16) 2048 256 (half (rows4 512 1024 1536 f0 f1 f2 f3)) := by
  refine cat_rows_512_512_512_512_256 _ _ _ _ _ h (fun r hr c _ => ?_) (fun r hr c _ => ?_) (fun r hr c _ => ?_) (fun r hr c _ => ?_) <;>
    simp only [half, rows4]
  · rw [if_pos (show 0 + r < 512 by omega), if_pos (show 0 + r < 512 by omega), Nat.zero_add]
  · simp only [if_neg (show ¬512 + r < 512 by omega), if_pos (show 512 + r < 1024 by omega), Nat.add_sub_cancel_left]
  · simp only [if_neg (show ¬1024 + r < 512 by omega), if_neg (show ¬1024 + r < 1024 by omega), if_pos (show 1024 + r < 1536 by omega), Nat.add_sub_cancel_left]
  · simp only [if_neg (show ¬1536 + r < 512 by omega), if_neg (show ¬1536 + r < 1024 by omega), if_neg (show ¬1536 + r < 1536 by omega), Nat.add_sub_cancel_left]

theorem rows_1280 (h : Shape.Concatenates [S512x256, S384x256, S256x256, S128x256] S1280x256 0) :
    concatenate (α := EReal) S1280x256 0 [⟨S512x256, mat (φ := .bf16) 512 256 (half f0)⟩, ⟨S384x256, mat (φ := .bf16) 384 256 (half f1)⟩,
      ⟨S256x256, mat (φ := .bf16) 256 256 (half f2)⟩, ⟨S128x256, mat (φ := .bf16) 128 256 (half f3)⟩] h
      = mat (φ := .bf16) 1280 256 (half (rows4 512 896 1152 f0 f1 f2 f3)) := by
  refine cat_rows_512_384_256_128_256 _ _ _ _ _ h (fun r hr c _ => ?_) (fun r hr c _ => ?_) (fun r hr c _ => ?_) (fun r hr c _ => ?_) <;>
    simp only [half, rows4]
  · rw [if_pos (show 0 + r < 512 by omega), if_pos (show 0 + r < 512 by omega), Nat.zero_add]
  · simp only [if_neg (show ¬512 + r < 512 by omega), if_pos (show 512 + r < 896 by omega), Nat.add_sub_cancel_left]
  · simp only [if_neg (show ¬896 + r < 512 by omega), if_neg (show ¬896 + r < 896 by omega), if_pos (show 896 + r < 1152 by omega), Nat.add_sub_cancel_left]
  · simp only [if_neg (show ¬1152 + r < 512 by omega), if_neg (show ¬1152 + r < 896 by omega), if_neg (show ¬1152 + r < 1152 by omega), Nat.add_sub_cancel_left]

/-- The rows of the four blocks, read back. -/
theorem rows4_0 {x y z r : ℕ} (h : r < x) (c : ℕ) : rows4 x y z f0 f1 f2 f3 (0 + r) c = f0 r c := by
  simp only [rows4, Nat.zero_add, if_pos h]

theorem rows4_1 {x y z r : ℕ} (h : x + r < y) (c : ℕ) : rows4 x y z f0 f1 f2 f3 (x + r) c = f1 r c := by
  simp only [rows4, if_neg (show ¬x + r < x by omega), if_pos h, Nat.add_sub_cancel_left]

theorem rows4_2 {x y z r : ℕ} (hx : x ≤ y) (h : y + r < z) (c : ℕ) : rows4 x y z f0 f1 f2 f3 (y + r) c = f2 r c := by
  simp only [rows4, if_neg (show ¬y + r < x by omega), if_neg (show ¬y + r < y by omega), if_pos h, Nat.add_sub_cancel_left]

theorem rows4_3 {x y z r : ℕ} (hx : x ≤ y) (hy : y ≤ z) (c : ℕ) : rows4 x y z f0 f1 f2 f3 (z + r) c = f3 r c := by
  simp only [rows4, if_neg (show ¬z + r < x by omega), if_neg (show ¬z + r < y by omega), if_neg (show ¬z + r < z by omega), Nat.add_sub_cancel_left]

end rows

section dots
variable [Facts₀] (f : ℕ → ℕ → ℝ) (p : Option ContractPrecision)

theorem tri_2048_le :
    matmul (F := Ideal) dot_S2048x256_S256x128_S2048x128_1_0_0_1_n_n p (mat (φ := .bf16) 2048 256 (half f))
      (mat (φ := .bf16) 256 128 (fun r c => if r % 128 ≤ c then 1 else 0)) (constant (F := Ideal) S2048x128 .f32 0x00000000#32)
      = mat (φ := .f32) 2048 128 (fun r c => ∑ d ∈ range (c + 1), f r d) := by
  rw [mat_const_zero, dot_2048]
  refine mat_congr fun r _ c hc => ?_
  rw [zero_add, half_dot_le f r hc]

theorem tri_2048_lt :
    matmul (F := Ideal) dot_S2048x256_S256x128_S2048x128_1_0_0_1_n_n p (mat (φ := .bf16) 2048 256 (half f))
      (mat (φ := .bf16) 256 128 (fun r c => if r % 128 < c then 1 else 0)) (constant (F := Ideal) S2048x128 .f32 0x00000000#32)
      = mat (φ := .f32) 2048 128 (fun r c => ∑ d ∈ range c, f r d) := by
  rw [mat_const_zero, dot_2048]
  refine mat_congr fun r _ c hc => ?_
  rw [zero_add, half_dot_lt f r hc]

theorem tri_1280_le :
    matmul (F := Ideal) dot_S1280x256_S256x128_S1280x128_1_0_0_1_n_n p (mat (φ := .bf16) 1280 256 (half f))
      (mat (φ := .bf16) 256 128 (fun r c => if r % 128 ≤ c then 1 else 0)) (constant (F := Ideal) S1280x128 .f32 0x00000000#32)
      = mat (φ := .f32) 1280 128 (fun r c => ∑ d ∈ range (c + 1), f r d) := by
  rw [mat_const_zero, dot_1280]
  refine mat_congr fun r _ c hc => ?_
  rw [zero_add, half_dot_le f r hc]

theorem tri_1280_lt :
    matmul (F := Ideal) dot_S1280x256_S256x128_S1280x128_1_0_0_1_n_n p (mat (φ := .bf16) 1280 256 (half f))
      (mat (φ := .bf16) 256 128 (fun r c => if r % 128 < c then 1 else 0)) (constant (F := Ideal) S1280x128 .f32 0x00000000#32)
      = mat (φ := .f32) 1280 128 (fun r c => ∑ d ∈ range c, f r d) := by
  rw [mat_const_zero, dot_1280]
  refine mat_congr fun r _ c hc => ?_
  rw [zero_add, half_dot_lt f r hc]

end dots

/-! ## A row of the accumulators -/

/-- A real matrix as one slab of an accumulator. -/
def slab (f : ℕ → ℕ → ℝ) : FVec Ideal S1x128x512 .f32 := fun ix => ((f (ix 1).val (ix 2).val : ℝ) : EReal)

theorem slab_flat (f : ℕ → ℕ → ℝ) (h : S1x128x512.ShapeCasts S128x512) :
    shapeCast S128x512 (slab f) h = mat (φ := .f32) 128 512 f := by
  funext ix
  pointwise [slab, mat]

theorem flat_slab (f : ℕ → ℕ → ℝ) (h : S128x512.ShapeCasts S1x128x512) :
    shapeCast S1x128x512 (mat (φ := .f32) 128 512 f) h = slab f := by
  funext ix
  pointwise [slab, mat]

theorem cast_512_128 (x : FVec Ideal S512x128 .f32) (h : S512x128.ShapeCasts S512x128) : shapeCast S512x128 x h = x := by
  funext ix
  pointwise []

end Cert.Mat
-- ==== Proof.Ten.lean ====
module

public import proofs.«01_k».proof.Proof.Head
public import Idealize.ShloMosaic.Lib.Pipeline.ValueKit

@[expose] public section

set_option maxRecDepth 16384

noncomputable section

namespace Cert.Mat

open Idealize.ShloMosaic Idealize.ShloMosaic.TcCoe
open Finset

/-! ## Real arrays of three axes and the host's operations on them -/

/-- A real array of three axes as an ideal array, whatever its format. -/
def ten {φ : FTy} (a b c : ℕ) (f : ℕ → ℕ → ℕ → ℝ) : FVec Ideal ⟨3, ![a, b, c]⟩ φ :=
  fun ix => ((f (ix 0).val (ix 1).val (ix 2).val : ℝ) : EReal)

variable {φ ψ : FTy} {a b c : ℕ}

theorem ten_congr {f g : ℕ → ℕ → ℕ → ℝ} (h : ∀ x < a, ∀ y < b, ∀ z < c, f x y z = g x y z) :
    ten (φ := φ) a b c f = ten a b c g := by
  funext ix
  exact congrArg _ (h _ (ix 0).isLt _ (ix 1).isLt _ (ix 2).isLt)

theorem ten_add (f g : ℕ → ℕ → ℕ → ℝ) :
    addf (F := Ideal) (ten (φ := φ) a b c f) (ten a b c g) = ten a b c (fun x y z => f x y z + g x y z) := by
  funext ix; exact (EReal.coe_add _ _).symm

theorem ten_sub (f g : ℕ → ℕ → ℕ → ℝ) :
    subf (F := Ideal) (ten (φ := φ) a b c f) (ten a b c g) = ten a b c (fun x y z => f x y z - g x y z) := by
  funext ix; exact (EReal.coe_sub _ _).symm

theorem ten_mul (f g : ℕ → ℕ → ℕ → ℝ) :
    mulf (F := Ideal) (ten (φ := φ) a b c f) (ten a b c g) = ten a b c (fun x y z => f x y z * g x y z) := by
  funext ix; exact (EReal.coe_mul _ _).symm

theorem ten_neg (f : ℕ → ℕ → ℕ → ℝ) :
    Host.negf (F := Ideal) (ten (φ := φ) a b c f) = ten a b c (fun x y z => -f x y z) := by
  funext ix; exact (EReal.coe_neg _).symm

theorem ten_exp (f : ℕ → ℕ → ℕ → ℝ) :
    Host.exp (F := Ideal) (ten (φ := φ) a b c f) = ten a b c (fun x y z => Real.exp (f x y z)) := rfl

theorem ten_abs (f : ℕ → ℕ → ℕ → ℝ) :
    Host.absf (F := Ideal) (ten (φ := φ) a b c f) = ten a b c (fun x y z => |f x y z|) := by
  funext ix
  show max (f (ix 0).val (ix 1).val (ix 2).val : EReal) (-(f (ix 0).val (ix 1).val (ix 2).val : EReal)) = _
  rw [← EReal.coe_neg]
  exact (EReal.coe_strictMono.monotone.map_max).symm

theorem ten_max (f g : ℕ → ℕ → ℕ → ℝ) :
    maximumf (F := Ideal) (ten (φ := φ) a b c f) (ten a b c g) = ten a b c (fun x y z => max (f x y z) (g x y z)) := by
  funext ix
  exact (EReal.coe_strictMono.monotone.map_max).symm

theorem ten_log1p (f : ℕ → ℕ → ℕ → ℝ) (h : ∀ x y z, 0 < 1 + f x y z) :
    Host.log1p (F := Ideal) (ten (φ := φ) a b c f) = ten a b c (fun x y z => Real.log (1 + f x y z)) := by
  funext ix
  show Ideal.log (((1 : ℝ) : EReal) + (f (ix 0).val (ix 1).val (ix 2).val : EReal)) = _
  rw [← EReal.coe_add]
  exact (Ideal.log_coe _).trans (if_neg (not_le.2 (h _ _ _)))

theorem ten_div (f : ℕ → ℕ → ℕ → ℝ) (r : ℝ) (hr : r ≠ 0) :
    Host.divf (F := Ideal) (ten (φ := φ) a b c f) (ten a b c (fun _ _ _ => r)) = ten a b c (fun x y z => f x y z * r⁻¹) := by
  funext ix
  show Ideal.div (f (ix 0).val (ix 1).val (ix 2).val : EReal) (r : EReal) = _
  rw [Ideal.div_coe hr, one_div]
  exact (EReal.coe_mul _ _).symm

theorem select_self_une (f : ℕ → ℕ → ℕ → ℝ) (x y : FVec Ideal ⟨3, ![a, b, c]⟩ φ) :
    select (cmpf (F := Ideal) .une (ten (φ := φ) a b c f) (ten a b c f)) x y = y := by
  funext ix
  show Scalar.select (Ideal.cmp .une (f (ix 0).val (ix 1).val (ix 2).val : EReal) (f (ix 0).val (ix 1).val (ix 2).val : EReal)) _ _ = _
  simp [Ideal.cmp, Scalar.select]

theorem select_top (f : ℕ → ℕ → ℕ → ℝ) (t x y : FVec Ideal ⟨3, ![a, b, c]⟩ φ) (ht : ∀ ix, t ix = (⊤ : EReal)) :
    select (cmpf (F := Ideal) .oeq (ten (φ := φ) a b c f) t) x y = y := by
  funext ix
  show Scalar.select (Ideal.cmp .oeq (f (ix 0).val (ix 1).val (ix 2).val : EReal) (t ix)) _ _ = _
  rw [ht]
  simp [Ideal.cmp, Scalar.select]

theorem ten_where (M : IVec ⟨3, ![a, b, c]⟩ 1) (p : ℕ → ℕ → ℕ → Prop) [∀ x y z, Decidable (p x y z)]
    (hM : ∀ ix, M ix = BitVec.ofBool (decide (p (ix 0).val (ix 1).val (ix 2).val))) (f g : ℕ → ℕ → ℕ → ℝ) :
    select M (ten (φ := φ) a b c f) (ten a b c g) = ten a b c (fun x y z => if p x y z then f x y z else g x y z) := by
  funext ix
  show Scalar.select (M ix) (f (ix 0).val (ix 1).val (ix 2).val : EReal) (g (ix 0).val (ix 1).val (ix 2).val : EReal)
    = ((if p (ix 0).val (ix 1).val (ix 2).val then _ else _ : ℝ) : EReal)
  rw [hM]
  by_cases h : p (ix 0).val (ix 1).val (ix 2).val <;> simp [h, Scalar.select]

/-- A sum of products of reals over a closed range. -/
theorem sum_mul_fin (n : ℕ) (f g : ℕ → ℝ) :
    ∑ k : Fin n, ((f k.val : ℝ) : EReal) * ((g k.val : ℝ) : EReal) = ((∑ d ∈ range n, f d * g d : ℝ) : EReal) := by
  rw [← sum_fin n (fun d => f d * g d)]
  simp only [EReal.coe_mul]

/-! ### The softplus -/

/-- The softplus: the logarithm of one plus the exponential. -/
def sp (x : ℝ) : ℝ := max x 0 + Real.log (1 + Real.exp (-|x|))

theorem ten_sp (f : ℕ → ℕ → ℕ → ℝ) (o : FVec Ideal ⟨3, ![a, b, c]⟩ φ) (ho : o = ten a b c (fun _ _ _ => 0)) :
    select (cmpf (F := Ideal) .une (subf (ten (φ := φ) a b c f) o) (subf (ten a b c f) o)) (addf (ten a b c f) o)
      (addf (maximumf (ten a b c f) o) (Host.log1p (Host.exp (Host.negf (Host.absf (subf (ten a b c f) o))))))
      = ten a b c (fun x y z => sp (f x y z)) := by
  subst ho
  rw [ten_sub, select_self_une, ten_abs, ten_neg, ten_exp, ten_log1p _ (fun _ _ _ => by positivity), ten_max, ten_add]
  simp only [sub_zero]
  rfl

theorem log_two_pos : 0 < Real.log 2 := Real.log_pos one_lt_two

/-- The softplus is the base two one rescaled. -/
theorem sp_base (x : ℝ) : sp2 (x * (Real.log 2)⁻¹) = sp x * (Real.log 2)⁻¹ := by
  have h2 := log_two_pos
  have h2' : 0 < (Real.log 2)⁻¹ := inv_pos.2 h2
  have e : (2 : ℝ) ^ (0 - |x * (Real.log 2)⁻¹|) = Real.exp (-|x|) := by
    rw [Real.rpow_def_of_pos two_pos, abs_mul, abs_of_pos h2', zero_sub]
    congr 1
    field_simp
  rw [sp2, sp, e, add_mul, max_mul_of_nonneg _ _ h2'.le, zero_mul]

theorem sp_neg (x : ℝ) : sp (-x) = sp x - x := by
  rw [sp, sp, abs_neg]
  rcases le_total x 0 with h | h
  · rw [max_eq_left (by linarith), max_eq_right h]; ring
  · rw [max_eq_right (by linarith), max_eq_left h]; ring

theorem exp_sp (x : ℝ) : Real.exp (sp x) = 1 + Real.exp x := by
  have hp : ∀ y : ℝ, 0 < 1 + Real.exp y := fun y => by positivity
  rw [sp, Real.exp_add, Real.exp_log (hp _)]
  rcases le_total x 0 with h | h
  · rw [max_eq_right h, abs_of_nonpos h, Real.exp_zero, one_mul, neg_neg]
  · rw [max_eq_left h, abs_of_nonneg h, mul_add, mul_one, ← Real.exp_add, add_neg_cancel, Real.exp_zero, add_comm]

/-- The softplus' two slopes add up to one. -/
theorem exp_slopes (x : ℝ) : Real.exp (-x - sp (-x)) = 1 - Real.exp (x - sp x) := by
  have hp : (0 : ℝ) < 1 + Real.exp x := by positivity
  rw [sp_neg, show -x - (sp x - x) = -sp x by ring, Real.exp_neg, Real.exp_sub, exp_sp]
  field_simp
  ring

theorem pow_base (x : ℝ) : (2 : ℝ) ^ (x * (Real.log 2)⁻¹) = Real.exp x := by
  rw [Real.rpow_def_of_pos two_pos]
  congr 1
  have := log_two_pos.ne'
  field_simp

end Cert.Mat
-- ==== Proof.Cum.lean ====
module

public import proofs.«01_k».proof.Proof.Ten
public import proofs.«01_k».proof.ReferenceIdeal

@[expose] public section

set_option maxRecDepth 16384

noncomputable section

namespace Cert.Mat

open Idealize.ShloMosaic Idealize.ShloMosaic.TcCoe
open Cert.ReferenceIdeal Finset

/-! ## Running sums along the last axis -/

theorem foldl_add_sum {α : Type} (l : List α) (g : α → EReal) (v : EReal) :
    l.foldl (fun r n => r + g n) v = v + (l.map g).sum := by
  induction l generalizing v with
  | nil => simp
  | cons x l ih => rw [List.foldl_cons, ih, List.map_cons, List.sum_cons, add_assoc]

/-- The window's positions: one lane of the last axis each. -/
def lane : Shape.Idx ⟨3, ![1, 1, 4096]⟩ ≃ Fin 4096 where
  toFun i := i 2
  invFun k := fun a => match a with
    | ⟨0, _⟩ => (0 : Fin 1)
    | ⟨1, _⟩ => (0 : Fin 1)
    | ⟨2, _⟩ => k
  left_inv i := funext fun a => match a with
    | ⟨0, _⟩ => (Subsingleton.elim (α := Fin 1) _ _)
    | ⟨1, _⟩ => (Subsingleton.elim (α := Fin 1) _ _)
    | ⟨2, _⟩ => rfl
  right_inv k := rfl

theorem window_sum (x : Shape.Idx ⟨3, ![16, 4096, 4096]⟩ → EReal) (lo hi : Fin 3 → ℕ)
    (h : Shape.ReduceWindows ⟨3, ![16, 4096, 4096]⟩ ![1, 1, 4096] ![1, 1, 1] lo hi ⟨3, ![16, 4096, 4096]⟩)
    (j : Shape.Idx ⟨3, ![16, 4096, 4096]⟩) (f : Fin 4096 → EReal)
    (hf : ∀ k : Fin 4096, (if hin : ∀ a : Fin 3, lo a ≤ (j a).val * (![1, 1, 1] : Fin 3 → ℕ) a + (lane.symm k a).val ∧ (j a).val * (![1, 1, 1] : Fin 3 → ℕ) a + (lane.symm k a).val - lo a < (![16, 4096, 4096] : Fin 3 → ℕ) a
      then x (fun a => ⟨(j a).val * (![1, 1, 1] : Fin 3 → ℕ) a + (lane.symm k a).val - lo a, (hin a).2⟩) else 0) = f k) :
    Ideal.hostReduceWindowAdd (s := ⟨3, ![16, 4096, 4096]⟩) ![1, 1, 4096] ![1, 1, 1] lo hi h x 0 j = ∑ k : Fin 4096, f k := by
  show List.foldl _ _ _ = _
  rw [foldl_add_sum (List.finRange _) _ (0 : EReal), zero_add, ← Fin.sum_univ_def]
  rw [← Equiv.sum_comp (Shape.rowMajor ⟨3, ![1, 1, 4096]⟩), ← Equiv.sum_comp lane.symm]
  refine sum_congr rfl fun k _ => ?_
  rw [← hf k]
  simp only [Equiv.symm_apply_apply]
  rfl

/-- The sum from an entry to the end of its row. -/
theorem cum_later (f : ℕ → ℕ → ℕ → ℝ) (init : FVec Ideal ⟨0, ![]⟩ .f32)
    (h : Shape.ReduceWindows ⟨3, ![16, 4096, 4096]⟩ ![1, 1, 4096] ![1, 1, 1] ![0, 0, 0] ![0, 0, 4095] ⟨3, ![16, 4096, 4096]⟩)
    (hu : 0 < Shape.numel ⟨0, ![]⟩) (hi : init (Shape.Idx.first hu) = (0 : EReal)) :
    Host.reduceWindowAdd (F := Ideal) ![1, 1, 4096] ![1, 1, 1] ![0, 0, 0] ![0, 0, 4095] (ten (φ := .f32) 16 4096 4096 f) init h hu
      = ten 16 4096 4096 (fun x y z => ∑ k ∈ range 4096, if z + k < 4096 then f x y (z + k) else 0) := by
  funext j
  unfold Host.reduceWindowAdd
  rw [Ideal.hostReduceWindowAdd_def, hi]
  refine (window_sum _ ![0, 0, 0] ![0, 0, 4095] h j (fun k => (((if (j 2).val + k.val < 4096 then f (j 0).val (j 1).val ((j 2).val + k.val) else 0 : ℝ)) : EReal)) fun k => ?_).trans
    (sum_fin 4096 fun k => if (j 2).val + k < 4096 then f (j 0).val (j 1).val ((j 2).val + k) else 0)
  have h0 : (j 0).val < 16 := (j 0).isLt
  have h1 : (j 1).val < 4096 := (j 1).isLt
  by_cases hk : (j 2).val + k.val < 4096
  · rw [dif_pos, if_pos hk]
    · show ((f ((j 0).val * 1 + 0 - 0) ((j 1).val * 1 + 0 - 0) ((j 2).val * 1 + k.val - 0) : ℝ) : EReal) = _
      simp only [Nat.mul_one, Nat.add_zero, Nat.sub_zero]
    · intro a
      match a with
      | ⟨0, _⟩ => exact ⟨Nat.zero_le _, show (j 0).val * 1 + 0 - 0 < 16 by omega⟩
      | ⟨1, _⟩ => exact ⟨Nat.zero_le _, show (j 1).val * 1 + 0 - 0 < 4096 by omega⟩
      | ⟨2, _⟩ => exact ⟨Nat.zero_le _, show (j 2).val * 1 + k.val - 0 < 4096 by omega⟩
  · rw [dif_neg, if_neg hk]
    · rfl
    · intro hin
      have : (j 2).val * 1 + k.val - 0 < 4096 := (hin 2).2
      omega

/-- The sum from the beginning of a row to an entry. -/
theorem cum_earlier (f : ℕ → ℕ → ℕ → ℝ) (init : FVec Ideal ⟨0, ![]⟩ .f32)
    (h : Shape.ReduceWindows ⟨3, ![16, 4096, 4096]⟩ ![1, 1, 4096] ![1, 1, 1] ![0, 0, 4095] ![0, 0, 0] ⟨3, ![16, 4096, 4096]⟩)
    (hu : 0 < Shape.numel ⟨0, ![]⟩) (hi : init (Shape.Idx.first hu) = (0 : EReal)) :
    Host.reduceWindowAdd (F := Ideal) ![1, 1, 4096] ![1, 1, 1] ![0, 0, 4095] ![0, 0, 0] (ten (φ := .f32) 16 4096 4096 f) init h hu
      = ten 16 4096 4096 (fun x y z => ∑ k ∈ range 4096, if 4095 ≤ z + k then f x y (z + k - 4095) else 0) := by
  funext j
  unfold Host.reduceWindowAdd
  rw [Ideal.hostReduceWindowAdd_def, hi]
  refine (window_sum _ ![0, 0, 4095] ![0, 0, 0] h j (fun k => (((if 4095 ≤ (j 2).val + k.val then f (j 0).val (j 1).val ((j 2).val + k.val - 4095) else 0 : ℝ)) : EReal)) fun k => ?_).trans
    (sum_fin 4096 fun k => if 4095 ≤ (j 2).val + k then f (j 0).val (j 1).val ((j 2).val + k - 4095) else 0)
  have h0 : (j 0).val < 16 := (j 0).isLt
  have h1 : (j 1).val < 4096 := (j 1).isLt
  have h2 : (j 2).val < 4096 := (j 2).isLt
  have hk4 := k.isLt
  by_cases hk : 4095 ≤ (j 2).val + k.val
  · rw [dif_pos, if_pos hk]
    · show ((f ((j 0).val * 1 + 0 - 0) ((j 1).val * 1 + 0 - 0) ((j 2).val * 1 + k.val - 4095) : ℝ) : EReal) = _
      simp only [Nat.mul_one, Nat.add_zero, Nat.sub_zero]
    · intro a
      match a with
      | ⟨0, _⟩ => exact ⟨Nat.zero_le _, show (j 0).val * 1 + 0 - 0 < 16 by omega⟩
      | ⟨1, _⟩ => exact ⟨Nat.zero_le _, show (j 1).val * 1 + 0 - 0 < 4096 by omega⟩
      | ⟨2, _⟩ => exact ⟨show 4095 ≤ (j 2).val * 1 + k.val by omega, show (j 2).val * 1 + k.val - 4095 < 4096 by omega⟩
  · rw [dif_neg, if_neg hk]
    · rfl
    · intro hin
      have : 4095 ≤ (j 2).val * 1 + k.val := (hin 2).1
      omega

/-- Those sums over the reals. -/
theorem later_eq (f : ℕ → ℝ) {z : ℕ} (hz : z < 4096) :
    ∑ k ∈ range 4096, (if z + k < 4096 then f (z + k) else 0) = ∑ s ∈ range 4096, f s - ∑ s ∈ range z, f s := by
  rw [← sum_filter, show (range 4096).filter (fun k => z + k < 4096) = range (4096 - z) by
    ext k; simp only [mem_filter, mem_range]; omega]
  have := sum_range_add (f := f) z (4096 - z)
  rw [show z + (4096 - z) = 4096 by omega] at this
  rw [this, add_sub_cancel_left]

theorem earlier_eq (f : ℕ → ℝ) {z : ℕ} (hz : z < 4096) :
    ∑ k ∈ range 4096, (if 4095 ≤ z + k then f (z + k - 4095) else 0) = ∑ s ∈ range (z + 1), f s := by
  have e := sum_range_add (f := fun k => if 4095 ≤ z + k then f (z + k - 4095) else 0) (4095 - z) (z + 1)
  rw [show (4095 - z) + (z + 1) = 4096 by omega] at e
  rw [e, sum_eq_zero (s := range (4095 - z)), zero_add]
  · refine sum_congr rfl fun k hk => ?_
    rw [if_pos (by omega), show z + (4095 - z + k) - 4095 = k by omega]
  · intro k hk
    have := mem_range.1 hk
    rw [if_neg (by omega)]

end Cert.Mat
-- ==== Proof.RefA.lean ====
module

public import proofs.«01_k».proof.Proof.Cum
public import proofs.«01_k».proof.Proof.Gen.ReferenceIdeal.Read

@[expose] public section

set_option maxRecDepth 16384

noncomputable section

open Idealize.ShloMosaic Idealize.ShloMosaic.TcCoe
open Cert.ReferenceIdeal Cert.ReferenceIdeal.Gen Cert.ReferenceIdeal.Read Cert.Mat Finset

namespace Cert.Ref

/-! ## The reference's forward lines over the reals -/

variable (Q K V : ℕ → ℕ → ℝ)

/-- The logit of head `h`. -/
def lg (h t s : ℕ) : ℝ := (∑ d ∈ range 128, Q t (128 * h + d) * K s (128 * h + d)) * (Real.sqrt 128)⁻¹

/-- The logarithm of what a key leaves to the earlier ones. -/
def lk (h t s : ℕ) : ℝ := if s < t then -sp (lg Q K h t s) else 0

/-- The weight before the mask. -/
def gt (h t s : ℕ) : ℝ :=
  Real.exp (-sp (-lg Q K h t s) + ((∑ k ∈ range 4096, if s + k < 4096 then lk Q K h t (s + k) else 0) - lk Q K h t s))

/-- The weight. -/
def wt (h t s : ℕ) : ℝ := if s < t then gt Q K h t s else 0

/-- A head's output. -/
def yy (t c : ℕ) : ℝ := ∑ s ∈ range 4096, V s c * wt Q K (c / 128) t s

theorem cube (A : ℕ → ℕ → ℝ) (φ : FTy) (x : FVec Ideal S4096x16x128 φ)
    (hx : ∀ i : S4096x16x128.Idx, x i = ((A ((((i 0).val * 16 + (i 1).val) * 128 + (i 2).val) / 2048) ((((i 0).val * 16 + (i 1).val) * 128 + (i 2).val) % 2048) : ℝ) : EReal)) :
    x = ten 4096 16 128 (fun t h d => A t (128 * h + d)) := by
  funext i
  have h0 : (i 0).val < 4096 := (i 0).isLt
  have h1 : (i 1).val < 16 := (i 1).isLt
  have h2 : (i 2).val < 128 := (i 2).isLt
  rw [hx]
  show _ = ((A (i 0).val (128 * (i 1).val + (i 2).val) : ℝ) : EReal)
  congr 2 <;> omega

theorem v3_eq : val_main_v3 (F := Ideal) (mat (φ := .bf16) 4096 2048 Q) = ten (φ := .f32) 4096 16 128 (fun t h d => Q t (128 * h + d)) := by
  refine cube Q .f32 _ fun i => ?_
  rw [val_main_v3_apply]
  rfl

theorem v4_eq : val_main_v4 (F := Ideal) (mat (φ := .bf16) 4096 2048 K) = ten (φ := .f32) 4096 16 128 (fun t h d => K t (128 * h + d)) := by
  refine cube K .f32 _ fun i => ?_
  rw [val_main_v4_apply]
  rfl

theorem v5_eq : val_main_v5 (F := Ideal) (mat (φ := .bf16) 4096 2048 V) = ten (φ := .f32) 4096 16 128 (fun t h d => V t (128 * h + d)) := by
  refine cube V .f32 _ fun i => ?_
  rw [val_main_v5_apply]
  rfl

theorem v6_eq : val_main_v6 (F := Ideal) (mat (φ := .bf16) 4096 2048 Q) (mat (φ := .bf16) 4096 2048 K)
    = ten (φ := .f32) 16 4096 4096 (fun h t s => ∑ d ∈ range 128, Q t (128 * h + d) * K s (128 * h + d)) := by
  funext i
  rw [val_main_v6_apply, v3_eq, v4_eq]
  exact sum_mul_fin 128 (fun d => Q (i 1).val (128 * (i 0).val + d)) (fun d => K (i 2).val (128 * (i 0).val + d))

theorem word_128 : Scalar.ofBits (F := Ideal) .f32 0x43000000#32 = ((128 : ℝ) : EReal) := by
  show Ideal.ofBits .f32 0x43000000#32 = ((128 : ℝ) : EReal)
  simp [Ideal.ofBits, Ideal.ieee, -EReal.coe_mul]; norm_num

theorem v7_eq (i : S_.Idx) : val_main_v7 (F := Ideal) i = ((Real.sqrt 128 : ℝ) : EReal) := by
  show Ideal.sqrt (Scalar.ofBits (F := Ideal) .f32 0x43000000#32) = _
  rw [word_128, Ideal.sqrt_coe, if_neg (by norm_num)]

theorem v8_eq : val_main_v8 (F := Ideal) = ten (φ := .f32) 16 4096 4096 (fun _ _ _ => Real.sqrt 128) := by
  funext i
  rw [val_main_v8_apply, v7_eq]
  rfl

theorem root_ne : Real.sqrt 128 ≠ 0 := (Real.sqrt_pos.2 (by norm_num)).ne'

theorem v9_eq : val_main_v9 (F := Ideal) (mat (φ := FTy.bf16) 4096 2048 Q) (mat (φ := FTy.bf16) 4096 2048 K) = ten (φ := .f32) 16 4096 4096 (lg Q K) := by
  unfold val_main_v9
  rw [v6_eq, v8_eq, ten_div _ _ root_ne]
  rfl

theorem zero_ten (o : FVec Ideal S16x4096x4096 .f32) (ho : ∀ i, o i = Scalar.ofBits (F := Ideal) .f32 0x00000000#32) :
    o = ten 16 4096 4096 (fun _ _ _ => 0) := by
  funext i
  rw [ho]
  exact Ideal.ofBits_zero .f32

theorem v17_eq : val_main_v17_0 (F := Ideal) (mat (φ := FTy.bf16) 4096 2048 Q) (mat (φ := FTy.bf16) 4096 2048 K) = ten (φ := .f32) 16 4096 4096 (fun h t s => sp (lg Q K h t s)) := by
  have e := ten_sp (φ := .f32) (a := 16) (b := 4096) (c := 4096) (lg Q K) (val_main_call0_v0 (F := Ideal)) (zero_ten _ fun i => rfl)
  rw [← v9_eq] at e
  exact e

theorem mask_eq (i : S16x4096x4096.Idx) : val_main_v19_1 (F := Ideal) i = BitVec.ofBool (decide ((i 2).val < (i 1).val)) := by
  have h1 : (i 1).val < 4096 := (i 1).isLt
  have h2 : (i 2).val < 4096 := (i 2).isLt
  rw [val_main_v19_1_apply, val_main_v16_apply, val_main_v14_apply, val_main_v15_apply, val_main_v11_apply, val_main_v13_apply]
  exact word_slt (m := (i 2).val) (n := (i 1).val) (by omega) (by omega)

theorem v19_eq : val_main_v19_0 (F := Ideal) (mat (φ := FTy.bf16) 4096 2048 Q) (mat (φ := FTy.bf16) 4096 2048 K) = ten (φ := .f32) 16 4096 4096 (lk Q K) := by
  unfold val_main_v19_0 val_main_v18
  rw [v17_eq, ten_neg, zero_ten (val_main_call1_v2 (F := Ideal)) fun i => rfl]
  exact ten_where _ (fun _ t s => s < t) mask_eq _ _

theorem v24_eq : val_main_v24 (F := Ideal) (mat (φ := FTy.bf16) 4096 2048 Q) (mat (φ := FTy.bf16) 4096 2048 K) = ten (φ := .f32) 16 4096 4096 (gt Q K) := by
  unfold val_main_v24 val_main_v23 val_main_v22_0 val_main_v21 val_main_v20
  have e := ten_sp (φ := .f32) (a := 16) (b := 4096) (c := 4096) (fun h t s => -lg Q K h t s) (val_main_call3_call0_v0 (F := Ideal)) (zero_ten _ fun i => rfl)
  rw [← ten_neg, ← v9_eq] at e
  have e' : val_main_call3_v1_0 (F := Ideal) (mat (φ := FTy.bf16) 4096 2048 Q) (mat (φ := FTy.bf16) 4096 2048 K) = _ := e
  rw [e', v19_eq, cum_later _ _ _ _ (Ideal.ofBits_zero .f32), ten_sub, ten_neg, ten_add, ten_exp]
  rfl

theorem v25_eq : val_main_v25_0 (F := Ideal) (mat (φ := FTy.bf16) 4096 2048 Q) (mat (φ := FTy.bf16) 4096 2048 K) = ten (φ := .f32) 16 4096 4096 (wt Q K) := by
  unfold val_main_v25_0
  rw [v24_eq, zero_ten (val_main_call4_v2 (F := Ideal)) fun i => rfl]
  exact ten_where _ (fun _ t s => s < t) mask_eq _ _

theorem v26_eq : val_main_v26 (F := Ideal) (mat (φ := FTy.bf16) 4096 2048 Q) (mat (φ := FTy.bf16) 4096 2048 K) (mat (φ := FTy.bf16) 4096 2048 V)
    = ten (φ := .f32) 16 128 4096 (fun h d t => ∑ s ∈ range 4096, V s (128 * h + d) * wt Q K h t s) := by
  funext i
  rw [val_main_v26_apply, v5_eq, v25_eq]
  exact sum_mul_fin 4096 (fun s => V s (128 * (i 0).val + (i 1).val)) (fun s => wt Q K (i 0).val (i 2).val s)

/-- An array of heads laid out as a matrix. -/
theorem flat (A : ℕ → ℕ → ℕ → ℝ) (φ : FTy) (x : FVec Ideal S4096x2048 φ)
    (hx : ∀ i : S4096x2048.Idx, x i = ((A (((i 0).val * 2048 + (i 1).val) / 2048) (((i 0).val * 2048 + (i 1).val) / 128 % 16)
      (((i 0).val * 2048 + (i 1).val) % 128) : ℝ) : EReal)) :
    x = mat 4096 2048 (fun t c => A t (c / 128) (c % 128)) := by
  funext i
  have h0 : (i 0).val < 4096 := (i 0).isLt
  have h1 : (i 1).val < 2048 := (i 1).isLt
  rw [hx]
  show _ = ((A (i 0).val ((i 1).val / 128) ((i 1).val % 128) : ℝ) : EReal)
  congr 2 <;> omega

theorem v30_eq : val_main_v30 (F := Ideal) (mat (φ := FTy.bf16) 4096 2048 Q) (mat (φ := FTy.bf16) 4096 2048 K) (mat (φ := FTy.bf16) 4096 2048 V) = mat (φ := .f32) 4096 2048 (yy Q K V) := by
  refine (flat (fun t h d => ∑ s ∈ range 4096, V s (128 * h + d) * wt Q K h t s) .f32 _ fun i => ?_).trans ?_
  · rw [val_main_v30_apply, val_main_v27_apply, v26_eq]
    rfl
  · refine mat_congr fun t _ c _ => sum_congr rfl fun s _ => ?_
    rw [Nat.div_add_mod c 128]

theorem v29_eq : val_main_v29 (F := Ideal) (mat (φ := FTy.bf16) 4096 2048 Q) (mat (φ := FTy.bf16) 4096 2048 K) = mat (φ := .f32) 16 4096 (fun h t => ∑ s ∈ range 4096, -lk Q K h t s) := by
  funext i
  rw [val_main_v29_apply]
  unfold val_main_v28
  rw [v19_eq, ten_neg]
  have e := sum_fin 4096 fun s => -lk Q K (i 0).val (i 1).val s
  show Scalar.ofBits (F := Ideal) .f32 0x00000000#32 + (∑ k : Fin 4096, ((-lk Q K (i 0).val (i 1).val k.val : ℝ) : EReal)) = _
  rw [e]
  exact (congrArg (· + _) (Ideal.ofBits_zero .f32)).trans (zero_add _)

end Cert.Ref
-- ==== Proof.RefB.lean ====
module

public import proofs.«01_k».proof.Proof.RefA

@[expose] public section

set_option maxRecDepth 16384

noncomputable section

open Idealize.ShloMosaic Idealize.ShloMosaic.TcCoe
open Cert.ReferenceIdeal Cert.ReferenceIdeal.Gen Cert.ReferenceIdeal.Read Cert.Mat Finset

namespace Cert.Ref

/-! ## The reference's backward lines over the reals -/

variable (Q K V G U : ℕ → ℕ → ℝ)

/-- The logistic function. -/
def sg (x : ℝ) : ℝ := (1 + Real.exp (-x))⁻¹

/-- The gradient of the heads' outputs. -/
def dyr (t c : ℕ) : ℝ := U t c * (G t c * sg (G t c))

/-- The gradient of a weight. -/
def dwr (h t s : ℕ) : ℝ := ∑ d ∈ range 128, dyr G U t (128 * h + d) * V s (128 * h + d)

/-- The gradient of a weight's logarithm. -/
def er (h t s : ℕ) : ℝ := (if s < t then dwr V G U h t s else 0) * gt Q K h t s

/-- The gradient of what a key leaves. -/
def lr (h t s : ℕ) : ℝ :=
  if s < t then -er Q K V G U h t s + ∑ k ∈ range 4096, (if 4095 ≤ s + k then er Q K V G U h t (s + k - 4095) else 0) else 0

/-- The gradient of the logit. -/
def dzr (h t s : ℕ) : ℝ :=
  -(-er Q K V G U h t s * Real.exp (-lg Q K h t s - sp (-lg Q K h t s)))
    + -lr Q K V G U h t s * Real.exp (lg Q K h t s - sp (lg Q K h t s))

/-- The gradient of the gate. -/
def dgr (t c : ℕ) : ℝ :=
  yy Q K V t c * U t c * sg (G t c) + G t c * (yy Q K V t c * U t c) * (sg (G t c) * (1 - sg (G t c)))

theorem word_1 : Scalar.ofBits (F := Ideal) .f32 0x3F800000#32 = ((1 : ℝ) : EReal) := by
  show Ideal.ofBits .f32 0x3F800000#32 = ((1 : ℝ) : EReal)
  simp [Ideal.ofBits, Ideal.ieee, -EReal.coe_mul]; norm_num

theorem word_top : Scalar.ofBits (F := Ideal) .f32 0x7F800000#32 = (⊤ : EReal) := by
  show Ideal.ofBits .f32 0x7F800000#32 = (⊤ : EReal)
  simp [Ideal.ofBits, Ideal.ieee]

theorem v31_2_eq : val_main_v31_2 (F := Ideal) (mat (φ := FTy.f32) 4096 2048 G) = mat (φ := .f32) 4096 2048 (fun t c => sg (G t c)) := by
  funext i
  show Ideal.div (Scalar.ofBits (F := Ideal) .f32 0x3F800000#32)
    (Scalar.ofBits (F := Ideal) .f32 0x3F800000#32 + Ideal.exp (-((G (i 0).val (i 1).val : ℝ) : EReal))) = ((sg (G (i 0).val (i 1).val) : ℝ) : EReal)
  have hp : (1 + Real.exp (-G (i 0).val (i 1).val)) ≠ 0 := by positivity
  rw [word_1, ← EReal.coe_neg, Ideal.exp_coe, ← EReal.coe_add, Ideal.div_coe hp, ← EReal.coe_mul, one_mul, one_div]
  rfl

theorem v31_1_eq : val_main_v31_1 (F := Ideal) (mat (φ := FTy.f32) 4096 2048 G) = mat (φ := .f32) 4096 2048 (fun t c => sg (G t c) * (1 - sg (G t c))) := by
  have e : val_main_call5_v6 (F := Ideal) = mat (φ := .f32) 4096 2048 (fun _ _ => 1) := funext fun i => word_1
  unfold val_main_v31_1 val_main_call5_v7
  rw [v31_2_eq, e, mat_sub, mat_mul]

theorem v34_eq : val_main_v34 (F := Ideal) (mat (φ := FTy.f32) 4096 2048 G) (mat (φ := FTy.f32) 4096 2048 U) = mat (φ := .f32) 4096 2048 (dyr G U) := by
  unfold val_main_v34 val_main_v31_0
  rw [v31_2_eq, mat_mul, mat_mul]
  rfl

theorem v33_eq : val_main_v33 (F := Ideal) (mat (φ := FTy.bf16) 4096 2048 Q) (mat (φ := FTy.bf16) 4096 2048 K) (mat (φ := FTy.bf16) 4096 2048 V) (mat (φ := FTy.f32) 4096 2048 U) = mat (φ := .f32) 4096 2048 (fun t c => yy Q K V t c * U t c) := by
  unfold val_main_v33
  rw [v30_eq, mat_mul]

theorem v63_eq : val_main_v63 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = mat (φ := .bf16) 4096 2048 (dgr Q K V G U) := by
  unfold val_main_v63 val_main_v35 val_main_call6_v2 val_main_call6_v1 val_main_call6_v0
  rw [v33_eq, v31_2_eq, v31_1_eq, mat_mul, mat_mul, mat_mul, mat_add]
  rfl

theorem v36_eq : val_main_v36 (F := Ideal) (mat (φ := FTy.f32) 4096 2048 G) (mat (φ := FTy.f32) 4096 2048 U) = ten (φ := .f32) 4096 16 128 (fun t h d => dyr G U t (128 * h + d)) := by
  refine cube (dyr G U) .f32 _ fun i => ?_
  rw [val_main_v36_apply, v34_eq]
  rfl

theorem v37_eq : val_main_v37 (F := Ideal) (mat (φ := FTy.f32) 4096 2048 G) (mat (φ := FTy.f32) 4096 2048 U) = ten (φ := .f32) 16 128 4096 (fun h d t => dyr G U t (128 * h + d)) := by
  funext i
  rw [val_main_v37_apply, v36_eq]
  rfl

theorem v38_eq : val_main_v38 (F := Ideal) (mat (φ := FTy.bf16) 4096 2048 V) (mat (φ := FTy.f32) 4096 2048 G) (mat (φ := FTy.f32) 4096 2048 U) = ten (φ := .f32) 16 4096 4096 (dwr V G U) := by
  funext i
  rw [val_main_v38_apply, v37_eq, v5_eq]
  exact sum_mul_fin 128 (fun d => dyr G U (i 1).val (128 * (i 0).val + d)) (fun d => V (i 2).val (128 * (i 0).val + d))

theorem v39_eq : val_main_v39 (F := Ideal) (mat (φ := FTy.bf16) 4096 2048 Q) (mat (φ := FTy.bf16) 4096 2048 K) (mat (φ := FTy.f32) 4096 2048 G) (mat (φ := FTy.f32) 4096 2048 U)
    = ten (φ := .f32) 16 128 4096 (fun h d s => ∑ t ∈ range 4096, dyr G U t (128 * h + d) * wt Q K h t s) := by
  funext i
  rw [val_main_v39_apply, v37_eq, v25_eq]
  exact sum_mul_fin 4096 (fun t => dyr G U t (128 * (i 0).val + (i 1).val)) (fun t => wt Q K (i 0).val t (i 2).val)

theorem v62_eq : val_main_v62 (F := Ideal) (mat (φ := FTy.bf16) 4096 2048 Q) (mat (φ := FTy.bf16) 4096 2048 K) (mat (φ := FTy.f32) 4096 2048 G) (mat (φ := FTy.f32) 4096 2048 U)
    = mat (φ := .bf16) 4096 2048 (fun s c => ∑ t ∈ range 4096, dyr G U t c * wt Q K (c / 128) t s) := by
  have e : val_main_v57 (F := Ideal) (mat (φ := FTy.bf16) 4096 2048 Q) (mat (φ := FTy.bf16) 4096 2048 K) (mat (φ := FTy.f32) 4096 2048 G) (mat (φ := FTy.f32) 4096 2048 U) = mat (φ := .f32) 4096 2048 (fun s c => ∑ t ∈ range 4096, dyr G U t c * wt Q K (c / 128) t s) := by
    refine (flat (fun s h d => ∑ t ∈ range 4096, dyr G U t (128 * h + d) * wt Q K h t s) .f32 _ fun i => ?_).trans ?_
    · rw [val_main_v57_apply, val_main_v40_apply, v39_eq]
      rfl
    · refine mat_congr fun t _ c _ => sum_congr rfl fun s _ => ?_
      rw [Nat.div_add_mod c 128]
  unfold val_main_v62
  rw [e]
  rfl

theorem v42_eq : val_main_v42 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = ten (φ := .f32) 16 4096 4096 (er Q K V G U) := by
  unfold val_main_v42 val_main_v41
  have e : select (val_main_v25_1 (F := Ideal)) (ten (φ := .f32) 16 4096 4096 (dwr V G U)) (ten 16 4096 4096 (fun _ _ _ => 0))
      = ten (φ := .f32) 16 4096 4096 (fun h t s => if s < t then dwr V G U h t s else 0) := ten_where _ (fun _ t s => s < t) mask_eq _ _
  rw [v38_eq, v24_eq, zero_ten (val_main_call7_v0 (F := Ideal)) fun i => rfl, e, ten_mul]
  rfl

theorem v22_1_eq : val_main_v22_1 (F := Ideal) (mat (φ := FTy.bf16) 4096 2048 Q) (mat (φ := FTy.bf16) 4096 2048 K) = ten (φ := .f32) 16 4096 4096 (fun h t s => Real.exp (-lg Q K h t s - sp (-lg Q K h t s))) := by
  have e := ten_sp (φ := .f32) (a := 16) (b := 4096) (c := 4096) (fun h t s => -lg Q K h t s) (val_main_call3_call0_v0 (F := Ideal)) (zero_ten _ fun i => rfl)
  have e0 : val_main_call3_v0 (F := Ideal) (mat (φ := FTy.bf16) 4096 2048 Q) (mat (φ := FTy.bf16) 4096 2048 K) = ten (φ := .f32) 16 4096 4096 (fun h t s => -lg Q K h t s) := by
    unfold val_main_call3_v0
    rw [v9_eq, ten_neg]
  rw [← e0] at e
  have e' : val_main_call3_v1_0 (F := Ideal) (mat (φ := FTy.bf16) 4096 2048 Q) (mat (φ := FTy.bf16) 4096 2048 K) = _ := e
  unfold val_main_v22_1 val_main_call3_call0_v21 val_main_call3_call0_v16 val_main_call3_call0_v20 val_main_call3_call0_v14 val_main_call3_call0_v18
  rw [e', e0, select_top _ (val_main_call3_call0_v13 (F := Ideal)) _ _ fun i => word_top, select_top _ (val_main_call3_call0_v17 (F := Ideal)) _ _ fun i => word_top, ten_sub, ten_exp]

theorem v17_1_eq : val_main_v17_1 (F := Ideal) (mat (φ := FTy.bf16) 4096 2048 Q) (mat (φ := FTy.bf16) 4096 2048 K) = ten (φ := .f32) 16 4096 4096 (fun h t s => Real.exp (lg Q K h t s - sp (lg Q K h t s))) := by
  unfold val_main_v17_1 val_main_call0_v21 val_main_call0_v16 val_main_call0_v20 val_main_call0_v14 val_main_call0_v18
  rw [v17_eq, v9_eq, select_top _ (val_main_call0_v13 (F := Ideal)) _ _ fun i => word_top, select_top _ (val_main_call0_v17 (F := Ideal)) _ _ fun i => word_top, ten_sub, ten_exp]

theorem v47_eq : val_main_v47 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = ten (φ := .f32) 16 4096 4096 (lr Q K V G U) := by
  unfold val_main_v47 val_main_v46 val_main_v44 val_main_v45
  rw [v42_eq, cum_earlier _ _ _ _ (Ideal.ofBits_zero .f32), ten_neg, ten_add, zero_ten (val_main_call10_v0 (F := Ideal)) fun i => rfl]
  exact ten_where _ (fun _ t s => s < t) mask_eq _ _

theorem v50_eq : val_main_v50 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = ten (φ := .f32) 16 4096 4096 (dzr Q K V G U) := by
  unfold val_main_v50 val_main_v49 val_main_v48 val_main_v43 val_main_call8_v1 val_main_call8_v0
  rw [v47_eq, v42_eq, v22_1_eq, v17_1_eq, ten_neg, ten_neg, ten_mul, ten_mul, ten_neg, ten_add]
  rfl

theorem v52_eq : val_main_v52 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = ten (φ := .f32) 16 4096 4096 (fun h t s => dzr Q K V G U h t s * (Real.sqrt 128)⁻¹) := by
  have e : val_main_v51 (F := Ideal) = ten (φ := .f32) 16 4096 4096 (fun _ _ _ => Real.sqrt 128) := v8_eq
  unfold val_main_v52
  rw [v50_eq, e, ten_div _ _ root_ne]

theorem v53_eq : val_main_v53 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U)
    = ten (φ := .f32) 16 4096 128 (fun h s d => ∑ t ∈ range 4096, dzr Q K V G U h t s * (Real.sqrt 128)⁻¹ * Q t (128 * h + d)) := by
  funext i
  rw [val_main_v53_apply, v52_eq, v3_eq]
  exact sum_mul_fin 4096 (fun t => dzr Q K V G U (i 0).val t (i 1).val * (Real.sqrt 128)⁻¹) (fun t => Q t (128 * (i 0).val + (i 2).val))

theorem v55_eq : val_main_v55 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U)
    = ten (φ := .f32) 16 4096 128 (fun h t d => ∑ s ∈ range 4096, dzr Q K V G U h t s * (Real.sqrt 128)⁻¹ * K s (128 * h + d)) := by
  funext i
  rw [val_main_v55_apply, v52_eq, v4_eq]
  exact sum_mul_fin 4096 (fun s => dzr Q K V G U (i 0).val (i 1).val s * (Real.sqrt 128)⁻¹) (fun s => K s (128 * (i 0).val + (i 2).val))

theorem v61_eq : val_main_v61 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U)
    = mat (φ := .bf16) 4096 2048 (fun s c => ∑ t ∈ range 4096, dzr Q K V G U (c / 128) t s * (Real.sqrt 128)⁻¹ * Q t c) := by
  have e : val_main_v58 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = mat (φ := .f32) 4096 2048 (fun s c => ∑ t ∈ range 4096, dzr Q K V G U (c / 128) t s * (Real.sqrt 128)⁻¹ * Q t c) := by
    refine (flat (fun s h d => ∑ t ∈ range 4096, dzr Q K V G U h t s * (Real.sqrt 128)⁻¹ * Q t (128 * h + d)) .f32 _ fun i => ?_).trans ?_
    · rw [val_main_v58_apply, val_main_v54_apply, v53_eq]
      rfl
    · refine mat_congr fun t _ c _ => sum_congr rfl fun s _ => ?_
      rw [Nat.div_add_mod c 128]
  unfold val_main_v61
  rw [e]
  rfl

theorem v60_eq : val_main_v60 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U)
    = mat (φ := .bf16) 4096 2048 (fun t c => ∑ s ∈ range 4096, dzr Q K V G U (c / 128) t s * (Real.sqrt 128)⁻¹ * K s c) := by
  have e : val_main_v59 (F := Ideal) (mat (φ := FTy.bf16) 4096 2048 Q) (mat (φ := FTy.bf16) 4096 2048 K) (mat (φ := FTy.bf16) 4096 2048 V) (mat (φ := FTy.f32) 4096 2048 G) (mat (φ := FTy.f32) 4096 2048 U) = mat (φ := .f32) 4096 2048 (fun t c => ∑ s ∈ range 4096, dzr Q K V G U (c / 128) t s * (Real.sqrt 128)⁻¹ * K s c) := by
    refine (flat (fun t h d => ∑ s ∈ range 4096, dzr Q K V G U h t s * (Real.sqrt 128)⁻¹ * K s (128 * h + d)) .f32 _ fun i => ?_).trans ?_
    · rw [val_main_v59_apply, val_main_v56_apply, v55_eq]
      rfl
    · refine mat_congr fun t _ c _ => sum_congr rfl fun s _ => ?_
      rw [Nat.div_add_mod c 128]
  unfold val_main_v60
  rw [e]
  rfl

end Cert.Ref
-- ==== Proof.Trip.lean ====
module

public import proofs.«01_k».proof.Proof.Head
public import proofs.«01_k».proof.Proof.Gen.KernelIdeal.Loops

@[expose] public section

set_option maxRecDepth 16384

noncomputable section

namespace Cert.Trip

open Idealize.ShloMosaic Idealize.ShloMosaic.TcCoe
open Cert.KernelIdeal Cert.KernelIdeal.Gen Cert.Mat Finset

/-- The queries of a block of rows. -/
def qM (H : Head) (t0 : ℕ) : FVec Ideal S512x128 .bf16 := mat 512 128 (at2 H.q t0 0)

/-- The gradient of the output at a block of rows. -/
def dyM (H : Head) (t0 : ℕ) : FVec Ideal S512x128 .bf16 := mat 512 128 (at2 H.dy t0 0)

/-- The whole sums of the softplus at a block of rows. -/
def totM (H : Head) (t0 : ℕ) : FVec Ideal S512x128 .f32 := mat 512 128 (fun r _ => H.tot (t0 + r))

/-- The keys, or the values, of a block. -/
def kM (f : ℕ → ℕ → ℝ) (s0 : ℕ) : FVec Ideal S512x128 .bf16 := mat 512 128 (at2 f s0 0)

/-- Ones on and above the diagonal, twice. -/
def triLe : FVec Ideal S256x128 .bf16 := mat 256 128 (fun r c => if r % 128 ≤ c then 1 else 0)

/-- Ones above the diagonal, twice. -/
def triLt : FVec Ideal S256x128 .bf16 := mat 256 128 (fun r c => if r % 128 < c then 1 else 0)

theorem pay125_eq : k0_pay125 (F := Ideal) = triLe := by
  unfold k0_pay125 triLe
  dsimp only
  rw [mask_le]
  refine cat_rows_128_128 _ _ _ _ (fun r hr c _ => ?_) (fun r hr c _ => ?_)
  · rw [Nat.zero_add, Nat.mod_eq_of_lt hr]
  · rw [Nat.add_mod_left, Nat.mod_eq_of_lt hr]

theorem pay127_eq : k0_pay127 (F := Ideal) k0_pay126 = triLt := by
  unfold k0_pay127 k0_pay126 triLt
  dsimp only
  rw [mask_lt]
  refine cat_rows_128_128 _ _ _ _ (fun r hr c _ => ?_) (fun r hr c _ => ?_)
  · rw [Nat.zero_add, Nat.mod_eq_of_lt hr]
  · rw [Nat.add_mod_left, Nat.mod_eq_of_lt hr]

/-- What the loop carries before the block of keys that begins at `s0`. -/
def accM (H : Head) (t0 s0 : ℕ) (g : ℕ → ℕ → ℝ) : FVec Ideal S512x128 .f32 × FVec Ideal S512x1 .f32 × FVec Ideal S512x1 .f32 :=
  (mat 512 128 g, mat 512 1 (fun r _ => H.seen (t0 + r) s0), mat 512 1 (fun r _ => H.eseen (t0 + r) s0))

theorem rows4_zero {f0 f1 f2 f3 : ℕ → ℕ → ℝ} {x y z r : ℕ} (h : r < x) (c : ℕ) : rows4 x y z f0 f1 f2 f3 r c = f0 r c := by
  simp only [rows4, if_pos h]

section span
variable (i : grid0.Coords) (arg3 : Memref sig .tc .vmem S4096x128 .bf16) (arg4 : Memref sig .tc .vmem S4096x128 .bf16)
  (X_arg3 : BufTy.Contents (Elt Ideal) arg3.view.ty) (X_arg4 : BufTy.Contents (Elt Ideal) arg4.view.ty) (k : Fin (k0_t1_loop i).trips)
  {H : Head} {t0 s0 : ℕ} (g : ℕ → ℕ → ℝ) (hlt : s0 + 512 ≤ t0)
  (hK : (trip_k0_t1.sl.r (F := Ideal) i arg3 X_arg3 k) = kM H.k s0)
  (hV : trip_k0_t1.sl.r (F := Ideal) i arg4 X_arg4 k = kM H.v s0)
include g hlt hK hV

theorem z_eq : k0_pay5 (F := Ideal) (qM H t0) (kM H.k s0) = mat (φ := .f32) 512 512 (at2 H.z t0 s0) := by
  unfold k0_pay5 qM kM
  dsimp only
  rw [mat_const_zero, dot_nt, mat_scale_log2_e, mat_mul]
  refine mat_congr fun r _ c _ => ?_
  simp only [at2, Head.z, zero_add]

theorem w_r_1 : (trip_k0_t1.sl.r_1 (F := Ideal) i arg3 (qM H t0) X_arg3 k) = mat (φ := .f32) 512 512 (at2 H.z t0 s0) := by
  show k0_pay5 (qM H t0) (trip_k0_t1.sl.r i arg3 X_arg3 k) = _
  rw [hK]
  exact z_eq i arg3 arg4 X_arg3 X_arg4 k g hlt hK hV

theorem w_r_2 : (trip_k0_t1.sl.r_2 (F := Ideal) i arg3 (qM H t0) X_arg3 k) = mat (φ := .f32) 512 128 (at2 H.keep t0 (s0 + 0)) := by
  show k0_pay7 (qM H t0) (trip_k0_t1.sl.r i arg3 X_arg3 k) = _
  rw [hK]
  unfold k0_pay7 k0_pay6
  dsimp only
  rw [z_eq i arg3 arg4 X_arg3 X_arg4 k g hlt hK hV]
  rw [mat_slice, mat_zero, mat_one, mat_log2_e]
  refine (mat_sp2 _).trans (mat_congr fun r hr c hc => ?_)
  simp only [at2, Nat.zero_add, Nat.add_assoc]
  rw [H.keep_of_lt (by omega)]

theorem w_r_4 : (trip_k0_t1.sl.r_4 (F := Ideal) i arg3 (qM H t0) X_arg3 k) = mat (φ := .f32) 512 128 (at2 H.keep t0 (s0 + 128)) := by
  show k0_pay10 (qM H t0) (trip_k0_t1.sl.r i arg3 X_arg3 k) = _
  rw [hK]
  unfold k0_pay10 k0_pay9
  dsimp only
  rw [z_eq i arg3 arg4 X_arg3 X_arg4 k g hlt hK hV]
  rw [mat_slice, mat_zero, mat_one, mat_log2_e]
  refine (mat_sp2 _).trans (mat_congr fun r hr c hc => ?_)
  simp only [at2, Nat.zero_add, Nat.add_assoc]
  rw [H.keep_of_lt (by omega)]

theorem w_r_9 : (trip_k0_t1.sl.r_9 (F := Ideal) i arg3 (qM H t0) X_arg3 k) = mat (φ := .f32) 512 128 (at2 H.keep t0 (s0 + 256)) := by
  show k0_pay15 (k0_pay13 (qM H t0) (trip_k0_t1.sl.r i arg3 X_arg3 k)) (k0_pay14 (qM H t0) (trip_k0_t1.sl.r i arg3 X_arg3 k)) (Scalar.ofBits .f32 0x3F800000#32) = _
  rw [hK]
  unfold k0_pay15 k0_pay13 k0_pay14 k0_pay12
  dsimp only
  rw [z_eq i arg3 arg4 X_arg3 X_arg4 k g hlt hK hV]
  rw [mat_slice, mat_zero, mat_one, mat_log2_e]
  refine (mat_sp2 _).trans (mat_congr fun r hr c hc => ?_)
  simp only [at2, Nat.zero_add, Nat.add_assoc]
  rw [H.keep_of_lt (by omega)]

theorem w_r_11 : (trip_k0_t1.sl.r_11 (F := Ideal) i arg3 (qM H t0) X_arg3 k) = mat (φ := .f32) 512 128 (at2 H.keep t0 (s0 + 384)) := by
  show k0_pay18 (trip_k0_t1.sl.r_1 (F := Ideal) i arg3 (qM H t0) X_arg3 k) = _
  rw [w_r_1 i arg3 arg4 X_arg3 X_arg4 k (H := H) (t0 := t0) (s0 := s0) g hlt hK hV]
  unfold k0_pay18 k0_pay17
  dsimp only
  rw [mat_slice, mat_zero, mat_one, mat_log2_e]
  refine (mat_sp2 _).trans (mat_congr fun r hr c hc => ?_)
  simp only [at2, Nat.zero_add, Nat.add_assoc]
  rw [H.keep_of_lt (by omega)]

theorem w_r_3 : (trip_k0_t1.sl.r_3 (F := Ideal) i arg3 (qM H t0) X_arg3 k) = mat (φ := .f32) 512 128 (at2 H.ls t0 (s0 + 0)) := by
  show k0_pay8 (qM H t0) (trip_k0_t1.sl.r i arg3 X_arg3 k) = _
  rw [hK]
  unfold k0_pay8 k0_pay7 k0_pay6
  dsimp only
  rw [z_eq i arg3 arg4 X_arg3 X_arg4 k g hlt hK hV]
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem w_r_5 : (trip_k0_t1.sl.r_5 (F := Ideal) i arg3 (qM H t0) X_arg3 k) = mat (φ := .f32) 512 128 (at2 H.ls t0 (s0 + 128)) := by
  show k0_pay11 (qM H t0) (trip_k0_t1.sl.r i arg3 X_arg3 k) = _
  rw [hK]
  unfold k0_pay11 k0_pay10 k0_pay9
  dsimp only
  rw [z_eq i arg3 arg4 X_arg3 X_arg4 k g hlt hK hV]
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem w_r_10 : (trip_k0_t1.sl.r_10 (F := Ideal) i arg3 (qM H t0) X_arg3 k) = mat (φ := .f32) 512 128 (at2 H.ls t0 (s0 + 256)) := by
  show k0_pay16 (k0_pay12 (qM H t0) (trip_k0_t1.sl.r i arg3 X_arg3 k)) (k0_pay13 (qM H t0) (trip_k0_t1.sl.r i arg3 X_arg3 k)) (k0_pay14 (qM H t0) (trip_k0_t1.sl.r i arg3 X_arg3 k)) (Scalar.ofBits .f32 0x3F800000#32) = _
  rw [hK]
  unfold k0_pay16 k0_pay15 k0_pay13 k0_pay14 k0_pay12
  dsimp only
  rw [z_eq i arg3 arg4 X_arg3 X_arg4 k g hlt hK hV]
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem w_r_12 : (trip_k0_t1.sl.r_12 (F := Ideal) i arg3 (qM H t0) X_arg3 k) = mat (φ := .f32) 512 128 (at2 H.ls t0 (s0 + 384)) := by
  show k0_pay19 (trip_k0_t1.sl.r_1 (F := Ideal) i arg3 (qM H t0) X_arg3 k) = _
  rw [w_r_1 i arg3 arg4 X_arg3 X_arg4 k (H := H) (t0 := t0) (s0 := s0) g hlt hK hV]
  unfold k0_pay19 k0_pay18 k0_pay17
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem w_r_13 : (trip_k0_t1.sl.r_13 (F := Ideal) i arg4 (dyM H t0) X_arg4 k) = mat (φ := .f32) 512 512 (at2 H.dw t0 s0) := by
  show k0_pay20 (dyM H t0) (trip_k0_t1.sl.r i arg4 X_arg4 k) = _
  rw [hV]
  unfold k0_pay20 dyM kM
  dsimp only
  rw [mat_const_zero, dot_nt]
  refine mat_congr fun r _ c _ => ?_
  simp only [at2, Head.dw, zero_add]

theorem up_eq : k0_pay21 (F := Ideal) triLe (trip_k0_t1.sl.r_1 (F := Ideal) i arg3 (qM H t0) X_arg3 k) (trip_k0_t1.sl.r_2 (F := Ideal) i arg3 (qM H t0) X_arg3 k) (trip_k0_t1.sl.r_4 (F := Ideal) i arg3 (qM H t0) X_arg3 k) (trip_k0_t1.sl.r_7 (F := Ideal) i arg3 (qM H t0) X_arg3 k) (trip_k0_t1.sl.r_8 (F := Ideal) i arg3 (qM H t0) X_arg3 k) (Scalar.ofBits .f32 0x3F800000#32)
    = mat (φ := .f32) 2048 128 (fun r c => ∑ d ∈ range (c + 1), rows4 512 1024 1536 (at2 H.keep t0 (s0 + 0)) (at2 H.keep t0 (s0 + 128)) (at2 H.keep t0 (s0 + 256)) (at2 H.keep t0 (s0 + 384)) r d) := by
  have h2 : k0_pay15 (trip_k0_t1.sl.r_7 (F := Ideal) i arg3 (qM H t0) X_arg3 k) (trip_k0_t1.sl.r_8 (F := Ideal) i arg3 (qM H t0) X_arg3 k) (Scalar.ofBits .f32 0x3F800000#32) = _ := w_r_9 i arg3 arg4 X_arg3 X_arg4 k (H := H) (t0 := t0) (s0 := s0) g hlt hK hV
  have h3 : k0_pay18 (trip_k0_t1.sl.r_1 (F := Ideal) i arg3 (qM H t0) X_arg3 k) = _ := w_r_11 i arg3 arg4 X_arg3 X_arg4 k (H := H) (t0 := t0) (s0 := s0) g hlt hK hV
  unfold k0_pay21 triLe
  dsimp only
  rw [h2, h3, w_r_2 i arg3 arg4 X_arg3 X_arg4 k (H := H) (t0 := t0) (s0 := s0) g hlt hK hV, w_r_4 i arg3 arg4 X_arg3 X_arg4 k (H := H) (t0 := t0) (s0 := s0) g hlt hK hV, split_512, split_512, split_512, split_512, rows_2048, tri_2048_le]

theorem w_r_14 : (trip_k0_t1.sl.r_14 (F := Ideal) i arg3 (qM H t0) triLe X_arg3 k) = mat (φ := .f32) 512 128 (fun r c => ∑ d ∈ range (c + 1), H.keep (t0 + r) (s0 + 128 + d)) := by
  have h := up_eq i arg3 arg4 X_arg3 X_arg4 k g hlt hK hV
  show k0_pay22 triLe (trip_k0_t1.sl.r_1 (F := Ideal) i arg3 (qM H t0) X_arg3 k) (trip_k0_t1.sl.r_2 (F := Ideal) i arg3 (qM H t0) X_arg3 k) (trip_k0_t1.sl.r_4 (F := Ideal) i arg3 (qM H t0) X_arg3 k) (trip_k0_t1.sl.r_7 (F := Ideal) i arg3 (qM H t0) X_arg3 k) (trip_k0_t1.sl.r_8 (F := Ideal) i arg3 (qM H t0) X_arg3 k) (Scalar.ofBits .f32 0x3F800000#32) = _
  unfold k0_pay22
  dsimp only
  rw [h, mat_slice]
  refine mat_congr fun r hr c hc => ?_
  simp only [Nat.zero_add]
  exact sum_congr rfl fun d _ => rows4_1 _ _ _ _ (by omega) d

theorem w_r_15 : (trip_k0_t1.sl.r_15 (F := Ideal) i arg3 (qM H t0) triLe X_arg3 k) = mat (φ := .f32) 512 128 (fun r c => ∑ d ∈ range (c + 1), H.keep (t0 + r) (s0 + 256 + d)) := by
  have h := up_eq i arg3 arg4 X_arg3 X_arg4 k g hlt hK hV
  show k0_pay23 triLe (trip_k0_t1.sl.r_1 (F := Ideal) i arg3 (qM H t0) X_arg3 k) (trip_k0_t1.sl.r_2 (F := Ideal) i arg3 (qM H t0) X_arg3 k) (trip_k0_t1.sl.r_4 (F := Ideal) i arg3 (qM H t0) X_arg3 k) (trip_k0_t1.sl.r_7 (F := Ideal) i arg3 (qM H t0) X_arg3 k) (trip_k0_t1.sl.r_8 (F := Ideal) i arg3 (qM H t0) X_arg3 k) (Scalar.ofBits .f32 0x3F800000#32) = _
  unfold k0_pay23
  dsimp only
  rw [h, mat_slice]
  refine mat_congr fun r hr c hc => ?_
  simp only [Nat.zero_add]
  exact sum_congr rfl fun d _ => rows4_2 _ _ _ _ (by omega) (by omega) d

theorem w_r_16 : (trip_k0_t1.sl.r_16 (F := Ideal) i arg3 (qM H t0) triLe X_arg3 k) = mat (φ := .f32) 512 128 (fun r c => ∑ d ∈ range (c + 1), H.keep (t0 + r) (s0 + 384 + d)) := by
  have h := up_eq i arg3 arg4 X_arg3 X_arg4 k g hlt hK hV
  show k0_pay24 triLe (trip_k0_t1.sl.r_1 (F := Ideal) i arg3 (qM H t0) X_arg3 k) (trip_k0_t1.sl.r_2 (F := Ideal) i arg3 (qM H t0) X_arg3 k) (trip_k0_t1.sl.r_4 (F := Ideal) i arg3 (qM H t0) X_arg3 k) (trip_k0_t1.sl.r_7 (F := Ideal) i arg3 (qM H t0) X_arg3 k) (trip_k0_t1.sl.r_8 (F := Ideal) i arg3 (qM H t0) X_arg3 k) (Scalar.ofBits .f32 0x3F800000#32) = _
  unfold k0_pay24
  dsimp only
  rw [h, mat_slice]
  refine mat_congr fun r hr c hc => ?_
  simp only [Nat.zero_add]
  exact sum_congr rfl fun d _ => rows4_3 _ _ _ _ (by omega) (by omega) d

theorem w_r_17 : (trip_k0_t1.sl.r_17 (F := Ideal) i arg3 (qM H t0) (totM H t0) triLe X_arg3 k) = mat (φ := .f32) 512 128 (fun r c => H.tot (t0 + r) - ∑ d ∈ range (c + 1), H.keep (t0 + r) (s0 + 0 + d)) := by
  have h := up_eq i arg3 arg4 X_arg3 X_arg4 k g hlt hK hV
  show k0_pay25 (totM H t0) triLe (trip_k0_t1.sl.r_1 (F := Ideal) i arg3 (qM H t0) X_arg3 k) (trip_k0_t1.sl.r_2 (F := Ideal) i arg3 (qM H t0) X_arg3 k) (trip_k0_t1.sl.r_4 (F := Ideal) i arg3 (qM H t0) X_arg3 k) (trip_k0_t1.sl.r_7 (F := Ideal) i arg3 (qM H t0) X_arg3 k) (trip_k0_t1.sl.r_8 (F := Ideal) i arg3 (qM H t0) X_arg3 k) (Scalar.ofBits .f32 0x3F800000#32) = _
  unfold k0_pay25 totM
  dsimp only
  rw [h, mat_slice, mat_sub]
  refine mat_congr fun r hr c hc => congrArg _ ?_
  simp only [Nat.zero_add]
  exact sum_congr rfl fun d _ => rows4_zero hr d

theorem w_v497 : (trip_k0_t1.sl.v497 (F := Ideal) i arg3 (qM H t0) X_arg3 k (accM H t0 s0 g)) = mat (φ := .f32) 512 1 (fun r _ => H.seen (t0 + r) (s0 + 128)) := by
  show addf (mat (φ := .f32) 512 1 (fun r _ => H.seen (t0 + r) s0)) (shapeCast S512x1 (multiReduction .add [1] S512 (trip_k0_t1.sl.r_2 (F := Ideal) i arg3 (qM H t0) X_arg3 k) 0x00000000#32 reduces_S512x128_S512 (.inl rfl) rfl) shapeCasts_S512_S512x1) = _
  rw [w_r_2 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.seen_add (t0 + r) (s0 + 0) 128).symm

theorem w_v508 : (trip_k0_t1.sl.v508 (F := Ideal) i arg3 (qM H t0) X_arg3 k (accM H t0 s0 g)) = mat (φ := .f32) 512 1 (fun r _ => H.seen (t0 + r) (s0 + 256)) := by
  show addf ((trip_k0_t1.sl.v497 (F := Ideal) i arg3 (qM H t0) X_arg3 k (accM H t0 s0 g))) (shapeCast S512x1 (multiReduction .add [1] S512 (trip_k0_t1.sl.r_4 (F := Ideal) i arg3 (qM H t0) X_arg3 k) 0x00000000#32 reduces_S512x128_S512 (.inl rfl) rfl) shapeCasts_S512_S512x1) = _
  rw [w_v497 i arg3 arg4 X_arg3 X_arg4 k (H := H) (t0 := t0) (s0 := s0) g hlt hK hV, w_r_4 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.seen_add (t0 + r) (s0 + 128) 128).symm

theorem w_v519 : (trip_k0_t1.sl.v519 (F := Ideal) i arg3 (qM H t0) X_arg3 k (accM H t0 s0 g)) = mat (φ := .f32) 512 1 (fun r _ => H.seen (t0 + r) (s0 + 384)) := by
  show addf ((trip_k0_t1.sl.v508 (F := Ideal) i arg3 (qM H t0) X_arg3 k (accM H t0 s0 g))) (shapeCast S512x1 (multiReduction .add [1] S512 (trip_k0_t1.sl.r_9 (F := Ideal) i arg3 (qM H t0) X_arg3 k) 0x00000000#32 reduces_S512x128_S512 (.inl rfl) rfl) shapeCasts_S512_S512x1) = _
  rw [w_v508 i arg3 arg4 X_arg3 X_arg4 k (H := H) (t0 := t0) (s0 := s0) g hlt hK hV, w_r_9 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.seen_add (t0 + r) (s0 + 256) 128).symm

theorem w_v530 : (trip_k0_t1.sl.v530 (F := Ideal) i arg3 (qM H t0) X_arg3 k (accM H t0 s0 g)) = mat (φ := .f32) 512 1 (fun r _ => H.seen (t0 + r) (s0 + 512)) := by
  show addf ((trip_k0_t1.sl.v519 (F := Ideal) i arg3 (qM H t0) X_arg3 k (accM H t0 s0 g))) (shapeCast S512x1 (multiReduction .add [1] S512 (trip_k0_t1.sl.r_11 (F := Ideal) i arg3 (qM H t0) X_arg3 k) 0x00000000#32 reduces_S512x128_S512 (.inl rfl) rfl) shapeCasts_S512_S512x1) = _
  rw [w_v519 i arg3 arg4 X_arg3 X_arg4 k (H := H) (t0 := t0) (s0 := s0) g hlt hK hV, w_r_11 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.seen_add (t0 + r) (s0 + 384) 128).symm

theorem w_v491 : (trip_k0_t1.sl.v491 (F := Ideal) i arg3 (qM H t0) (totM H t0) triLe X_arg3 k (accM H t0 s0 g)) = mat (φ := .f32) 512 128 (at2 H.w t0 (s0 + 0)) := by
  show exp2 (subf (trip_k0_t1.sl.r_3 (F := Ideal) i arg3 (qM H t0) X_arg3 k) (subf (trip_k0_t1.sl.r_17 (F := Ideal) i arg3 (qM H t0) (totM H t0) triLe X_arg3 k) (broadcastTo S512x128 (mat (φ := .f32) 512 1 (fun r _ => H.seen (t0 + r) s0)) broadcasts_S512x1_S512x128))) = _
  rw [w_r_3 i arg3 arg4 X_arg3 X_arg4 k (H := H) (t0 := t0) (s0 := s0) g hlt hK hV, w_r_17 i arg3 arg4 X_arg3 X_arg4 k (H := H) (t0 := t0) (s0 := s0) g hlt hK hV, mat_broadcast_col, mat_sub, mat_sub, mat_exp2]
  refine mat_congr fun r hr c hc => ?_
  simp only [at2]
  rw [← H.w_block, if_pos (by omega)]
  rfl

theorem w_v502 : (trip_k0_t1.sl.v502 (F := Ideal) i arg3 (qM H t0) (totM H t0) triLe X_arg3 k (accM H t0 s0 g)) = mat (φ := .f32) 512 128 (at2 H.w t0 (s0 + 128)) := by
  show exp2 (subf (trip_k0_t1.sl.r_5 (F := Ideal) i arg3 (qM H t0) X_arg3 k) (subf (subf (mat (φ := .f32) 512 128 (fun r _ => H.tot (t0 + r))) (trip_k0_t1.sl.r_14 (F := Ideal) i arg3 (qM H t0) triLe X_arg3 k)) (broadcastTo S512x128 (trip_k0_t1.sl.v497 (F := Ideal) i arg3 (qM H t0) X_arg3 k (accM H t0 s0 g)) _))) = _
  rw [w_r_5 i arg3 arg4 X_arg3 X_arg4 k (H := H) (t0 := t0) (s0 := s0) g hlt hK hV, w_r_14 i arg3 arg4 X_arg3 X_arg4 k (H := H) (t0 := t0) (s0 := s0) g hlt hK hV, w_v497 i arg3 arg4 X_arg3 X_arg4 k (H := H) (t0 := t0) (s0 := s0) g hlt hK hV, mat_broadcast_col, mat_sub, mat_sub, mat_sub, mat_exp2]
  refine mat_congr fun r hr c hc => ?_
  simp only [at2]
  rw [← H.w_block, if_pos (by omega)]

theorem w_v513 : (trip_k0_t1.sl.v513 (F := Ideal) i arg3 (qM H t0) (totM H t0) triLe X_arg3 k (accM H t0 s0 g)) = mat (φ := .f32) 512 128 (at2 H.w t0 (s0 + 256)) := by
  show exp2 (subf (trip_k0_t1.sl.r_10 (F := Ideal) i arg3 (qM H t0) X_arg3 k) (subf (subf (mat (φ := .f32) 512 128 (fun r _ => H.tot (t0 + r))) (trip_k0_t1.sl.r_15 (F := Ideal) i arg3 (qM H t0) triLe X_arg3 k)) (broadcastTo S512x128 (trip_k0_t1.sl.v508 (F := Ideal) i arg3 (qM H t0) X_arg3 k (accM H t0 s0 g)) _))) = _
  rw [w_r_10 i arg3 arg4 X_arg3 X_arg4 k (H := H) (t0 := t0) (s0 := s0) g hlt hK hV, w_r_15 i arg3 arg4 X_arg3 X_arg4 k (H := H) (t0 := t0) (s0 := s0) g hlt hK hV, w_v508 i arg3 arg4 X_arg3 X_arg4 k (H := H) (t0 := t0) (s0 := s0) g hlt hK hV, mat_broadcast_col, mat_sub, mat_sub, mat_sub, mat_exp2]
  refine mat_congr fun r hr c hc => ?_
  simp only [at2]
  rw [← H.w_block, if_pos (by omega)]

theorem w_v524 : (trip_k0_t1.sl.v524 (F := Ideal) i arg3 (qM H t0) (totM H t0) triLe X_arg3 k (accM H t0 s0 g)) = mat (φ := .f32) 512 128 (at2 H.w t0 (s0 + 384)) := by
  show exp2 (subf (trip_k0_t1.sl.r_12 (F := Ideal) i arg3 (qM H t0) X_arg3 k) (subf (subf (mat (φ := .f32) 512 128 (fun r _ => H.tot (t0 + r))) (trip_k0_t1.sl.r_16 (F := Ideal) i arg3 (qM H t0) triLe X_arg3 k)) (broadcastTo S512x128 (trip_k0_t1.sl.v519 (F := Ideal) i arg3 (qM H t0) X_arg3 k (accM H t0 s0 g)) _))) = _
  rw [w_r_12 i arg3 arg4 X_arg3 X_arg4 k (H := H) (t0 := t0) (s0 := s0) g hlt hK hV, w_r_16 i arg3 arg4 X_arg3 X_arg4 k (H := H) (t0 := t0) (s0 := s0) g hlt hK hV, w_v519 i arg3 arg4 X_arg3 X_arg4 k (H := H) (t0 := t0) (s0 := s0) g hlt hK hV, mat_broadcast_col, mat_sub, mat_sub, mat_sub, mat_exp2]
  refine mat_congr fun r hr c hc => ?_
  simp only [at2]
  rw [← H.w_block, if_pos (by omega)]

theorem w_v492 : (trip_k0_t1.sl.v492 (F := Ideal) i arg3 (qM H t0) (totM H t0) triLe X_arg3 k (accM H t0 s0 g)) = mat (φ := .bf16) 512 128 (at2 H.w t0 (s0 + 0)) := by
  show truncf .bf16 (trip_k0_t1.sl.v491 (F := Ideal) i arg3 (qM H t0) (totM H t0) triLe X_arg3 k (accM H t0 s0 g)) _ = _
  rw [w_v491 i arg3 arg4 X_arg3 X_arg4 k (H := H) (t0 := t0) (s0 := s0) g hlt hK hV, mat_truncf]

theorem w_v503 : (trip_k0_t1.sl.v503 (F := Ideal) i arg3 (qM H t0) (totM H t0) triLe X_arg3 k (accM H t0 s0 g)) = mat (φ := .bf16) 512 128 (at2 H.w t0 (s0 + 128)) := by
  show truncf .bf16 (trip_k0_t1.sl.v502 (F := Ideal) i arg3 (qM H t0) (totM H t0) triLe X_arg3 k (accM H t0 s0 g)) _ = _
  rw [w_v502 i arg3 arg4 X_arg3 X_arg4 k (H := H) (t0 := t0) (s0 := s0) g hlt hK hV, mat_truncf]

theorem w_v514 : (trip_k0_t1.sl.v514 (F := Ideal) i arg3 (qM H t0) (totM H t0) triLe X_arg3 k (accM H t0 s0 g)) = mat (φ := .bf16) 512 128 (at2 H.w t0 (s0 + 256)) := by
  show truncf .bf16 (trip_k0_t1.sl.v513 (F := Ideal) i arg3 (qM H t0) (totM H t0) triLe X_arg3 k (accM H t0 s0 g)) _ = _
  rw [w_v513 i arg3 arg4 X_arg3 X_arg4 k (H := H) (t0 := t0) (s0 := s0) g hlt hK hV, mat_truncf]

theorem w_v525 : (trip_k0_t1.sl.v525 (F := Ideal) i arg3 (qM H t0) (totM H t0) triLe X_arg3 k (accM H t0 s0 g)) = mat (φ := .bf16) 512 128 (at2 H.w t0 (s0 + 384)) := by
  show truncf .bf16 (trip_k0_t1.sl.v524 (F := Ideal) i arg3 (qM H t0) (totM H t0) triLe X_arg3 k (accM H t0 s0 g)) _ = _
  rw [w_v524 i arg3 arg4 X_arg3 X_arg4 k (H := H) (t0 := t0) (s0 := s0) g hlt hK hV, mat_truncf]

theorem w_v494 : (trip_k0_t1.sl.v494 (F := Ideal) i arg3 arg4 (qM H t0) (dyM H t0) (totM H t0) triLe X_arg3 X_arg4 k (accM H t0 s0 g)) = mat (φ := .f32) 512 128 (at2 H.e t0 (s0 + 0)) := by
  show mulf (extractStridedSlice S512x128 ![0, 0] (trip_k0_t1.sl.r_13 (F := Ideal) i arg4 (dyM H t0) X_arg4 k) _) (trip_k0_t1.sl.v491 (F := Ideal) i arg3 (qM H t0) (totM H t0) triLe X_arg3 k (accM H t0 s0 g)) = _
  rw [w_r_13 i arg3 arg4 X_arg3 X_arg4 k (H := H) (t0 := t0) (s0 := s0) g hlt hK hV, w_v491 i arg3 arg4 X_arg3 X_arg4 k (H := H) (t0 := t0) (s0 := s0) g hlt hK hV, mat_slice, mat_mul]
  refine mat_congr fun r _ c _ => ?_
  simp only [at2, Head.e, Nat.zero_add, Nat.add_assoc]

theorem w_v505 : (trip_k0_t1.sl.v505 (F := Ideal) i arg3 arg4 (qM H t0) (dyM H t0) (totM H t0) triLe X_arg3 X_arg4 k (accM H t0 s0 g)) = mat (φ := .f32) 512 128 (at2 H.e t0 (s0 + 128)) := by
  show mulf (extractStridedSlice S512x128 ![0, 128] (trip_k0_t1.sl.r_13 (F := Ideal) i arg4 (dyM H t0) X_arg4 k) _) (trip_k0_t1.sl.v502 (F := Ideal) i arg3 (qM H t0) (totM H t0) triLe X_arg3 k (accM H t0 s0 g)) = _
  rw [w_r_13 i arg3 arg4 X_arg3 X_arg4 k (H := H) (t0 := t0) (s0 := s0) g hlt hK hV, w_v502 i arg3 arg4 X_arg3 X_arg4 k (H := H) (t0 := t0) (s0 := s0) g hlt hK hV, mat_slice, mat_mul]
  refine mat_congr fun r _ c _ => ?_
  simp only [at2, Head.e, Nat.zero_add, Nat.add_assoc]

theorem w_v516 : (trip_k0_t1.sl.v516 (F := Ideal) i arg3 arg4 (qM H t0) (dyM H t0) (totM H t0) triLe X_arg3 X_arg4 k (accM H t0 s0 g)) = mat (φ := .f32) 512 128 (at2 H.e t0 (s0 + 256)) := by
  show mulf (extractStridedSlice S512x128 ![0, 256] (trip_k0_t1.sl.r_13 (F := Ideal) i arg4 (dyM H t0) X_arg4 k) _) (trip_k0_t1.sl.v513 (F := Ideal) i arg3 (qM H t0) (totM H t0) triLe X_arg3 k (accM H t0 s0 g)) = _
  rw [w_r_13 i arg3 arg4 X_arg3 X_arg4 k (H := H) (t0 := t0) (s0 := s0) g hlt hK hV, w_v513 i arg3 arg4 X_arg3 X_arg4 k (H := H) (t0 := t0) (s0 := s0) g hlt hK hV, mat_slice, mat_mul]
  refine mat_congr fun r _ c _ => ?_
  simp only [at2, Head.e, Nat.zero_add, Nat.add_assoc]

theorem w_v527 : (trip_k0_t1.sl.v527 (F := Ideal) i arg3 arg4 (qM H t0) (dyM H t0) (totM H t0) triLe X_arg3 X_arg4 k (accM H t0 s0 g)) = mat (φ := .f32) 512 128 (at2 H.e t0 (s0 + 384)) := by
  show mulf (extractStridedSlice S512x128 ![0, 384] (trip_k0_t1.sl.r_13 (F := Ideal) i arg4 (dyM H t0) X_arg4 k) _) (trip_k0_t1.sl.v524 (F := Ideal) i arg3 (qM H t0) (totM H t0) triLe X_arg3 k (accM H t0 s0 g)) = _
  rw [w_r_13 i arg3 arg4 X_arg3 X_arg4 k (H := H) (t0 := t0) (s0 := s0) g hlt hK hV, w_v524 i arg3 arg4 X_arg3 X_arg4 k (H := H) (t0 := t0) (s0 := s0) g hlt hK hV, mat_slice, mat_mul]
  refine mat_congr fun r _ c _ => ?_
  simp only [at2, Head.e, Nat.zero_add, Nat.add_assoc]

theorem w_v535 : (trip_k0_t1.sl.v535 (F := Ideal) i arg3 arg4 (qM H t0) (dyM H t0) (totM H t0) triLe X_arg3 X_arg4 k (accM H t0 s0 g)) = mat (φ := .bf16) 512 256 (half (at2 H.e t0 (s0 + 0))) := by
  show concatenate (α := EReal) S512x256 1 [⟨S512x128, truncf (F := Ideal) .bf16 (trip_k0_t1.sl.v494 (F := Ideal) i arg3 arg4 (qM H t0) (dyM H t0) (totM H t0) triLe X_arg3 X_arg4 k (accM H t0 s0 g)) _⟩, ⟨S512x128, truncf (F := Ideal) .bf16 (subf (trip_k0_t1.sl.v494 (F := Ideal) i arg3 arg4 (qM H t0) (dyM H t0) (totM H t0) triLe X_arg3 X_arg4 k (accM H t0 s0 g)) (extf .f32 (truncf .bf16 (trip_k0_t1.sl.v494 (F := Ideal) i arg3 arg4 (qM H t0) (dyM H t0) (totM H t0) triLe X_arg3 X_arg4 k (accM H t0 s0 g)) _) _)) _⟩] _ = _
  rw [w_v494 i arg3 arg4 X_arg3 X_arg4 k (H := H) (t0 := t0) (s0 := s0) g hlt hK hV, split_512]

theorem w_v540 : (trip_k0_t1.sl.v540 (F := Ideal) i arg3 arg4 (qM H t0) (dyM H t0) (totM H t0) triLe X_arg3 X_arg4 k (accM H t0 s0 g)) = mat (φ := .bf16) 512 256 (half (at2 H.e t0 (s0 + 128))) := by
  show concatenate (α := EReal) S512x256 1 [⟨S512x128, truncf (F := Ideal) .bf16 (trip_k0_t1.sl.v505 (F := Ideal) i arg3 arg4 (qM H t0) (dyM H t0) (totM H t0) triLe X_arg3 X_arg4 k (accM H t0 s0 g)) _⟩, ⟨S512x128, truncf (F := Ideal) .bf16 (subf (trip_k0_t1.sl.v505 (F := Ideal) i arg3 arg4 (qM H t0) (dyM H t0) (totM H t0) triLe X_arg3 X_arg4 k (accM H t0 s0 g)) (extf .f32 (truncf .bf16 (trip_k0_t1.sl.v505 (F := Ideal) i arg3 arg4 (qM H t0) (dyM H t0) (totM H t0) triLe X_arg3 X_arg4 k (accM H t0 s0 g)) _) _)) _⟩] _ = _
  rw [w_v505 i arg3 arg4 X_arg3 X_arg4 k (H := H) (t0 := t0) (s0 := s0) g hlt hK hV, split_512]

theorem w_v545 : (trip_k0_t1.sl.v545 (F := Ideal) i arg3 arg4 (qM H t0) (dyM H t0) (totM H t0) triLe X_arg3 X_arg4 k (accM H t0 s0 g)) = mat (φ := .bf16) 512 256 (half (at2 H.e t0 (s0 + 256))) := by
  show concatenate (α := EReal) S512x256 1 [⟨S512x128, truncf (F := Ideal) .bf16 (trip_k0_t1.sl.v516 (F := Ideal) i arg3 arg4 (qM H t0) (dyM H t0) (totM H t0) triLe X_arg3 X_arg4 k (accM H t0 s0 g)) _⟩, ⟨S512x128, truncf (F := Ideal) .bf16 (subf (trip_k0_t1.sl.v516 (F := Ideal) i arg3 arg4 (qM H t0) (dyM H t0) (totM H t0) triLe X_arg3 X_arg4 k (accM H t0 s0 g)) (extf .f32 (truncf .bf16 (trip_k0_t1.sl.v516 (F := Ideal) i arg3 arg4 (qM H t0) (dyM H t0) (totM H t0) triLe X_arg3 X_arg4 k (accM H t0 s0 g)) _) _)) _⟩] _ = _
  rw [w_v516 i arg3 arg4 X_arg3 X_arg4 k (H := H) (t0 := t0) (s0 := s0) g hlt hK hV, split_512]

theorem w_v550 : (trip_k0_t1.sl.v550 (F := Ideal) i arg3 arg4 (qM H t0) (dyM H t0) (totM H t0) triLe X_arg3 X_arg4 k (accM H t0 s0 g)) = mat (φ := .bf16) 512 256 (half (at2 H.e t0 (s0 + 384))) := by
  show concatenate (α := EReal) S512x256 1 [⟨S512x128, truncf (F := Ideal) .bf16 (trip_k0_t1.sl.v527 (F := Ideal) i arg3 arg4 (qM H t0) (dyM H t0) (totM H t0) triLe X_arg3 X_arg4 k (accM H t0 s0 g)) _⟩, ⟨S512x128, truncf (F := Ideal) .bf16 (subf (trip_k0_t1.sl.v527 (F := Ideal) i arg3 arg4 (qM H t0) (dyM H t0) (totM H t0) triLe X_arg3 X_arg4 k (accM H t0 s0 g)) (extf .f32 (truncf .bf16 (trip_k0_t1.sl.v527 (F := Ideal) i arg3 arg4 (qM H t0) (dyM H t0) (totM H t0) triLe X_arg3 X_arg4 k (accM H t0 s0 g)) _) _)) _⟩] _ = _
  rw [w_v527 i arg3 arg4 X_arg3 X_arg4 k (H := H) (t0 := t0) (s0 := s0) g hlt hK hV, split_512]

theorem w_v552 : (trip_k0_t1.sl.v552 (F := Ideal) i arg3 arg4 (qM H t0) (dyM H t0) (totM H t0) triLe k0_pay126 X_arg3 X_arg4 k (accM H t0 s0 g)) = mat (φ := .f32) 2048 128 (fun r c => ∑ d ∈ range c, rows4 512 1024 1536 (at2 H.e t0 (s0 + 0)) (at2 H.e t0 (s0 + 128)) (at2 H.e t0 (s0 + 256)) (at2 H.e t0 (s0 + 384)) r d) := by
  show matmul _ none (concatenate (α := EReal) S2048x256 0 [⟨S512x256, (trip_k0_t1.sl.v535 (F := Ideal) i arg3 arg4 (qM H t0) (dyM H t0) (totM H t0) triLe X_arg3 X_arg4 k (accM H t0 s0 g))⟩, ⟨S512x256, (trip_k0_t1.sl.v540 (F := Ideal) i arg3 arg4 (qM H t0) (dyM H t0) (totM H t0) triLe X_arg3 X_arg4 k (accM H t0 s0 g))⟩, ⟨S512x256, (trip_k0_t1.sl.v545 (F := Ideal) i arg3 arg4 (qM H t0) (dyM H t0) (totM H t0) triLe X_arg3 X_arg4 k (accM H t0 s0 g))⟩, ⟨S512x256, (trip_k0_t1.sl.v550 (F := Ideal) i arg3 arg4 (qM H t0) (dyM H t0) (totM H t0) triLe X_arg3 X_arg4 k (accM H t0 s0 g))⟩] _) (k0_pay127 k0_pay126) (constant (F := Ideal) S2048x128 .f32 0x00000000#32) = _
  rw [pay127_eq, w_v535 i arg3 arg4 X_arg3 X_arg4 k (H := H) (t0 := t0) (s0 := s0) g hlt hK hV, w_v540 i arg3 arg4 X_arg3 X_arg4 k (H := H) (t0 := t0) (s0 := s0) g hlt hK hV, w_v545 i arg3 arg4 X_arg3 X_arg4 k (H := H) (t0 := t0) (s0 := s0) g hlt hK hV, w_v550 i arg3 arg4 X_arg3 X_arg4 k (H := H) (t0 := t0) (s0 := s0) g hlt hK hV, rows_2048]
  unfold triLt
  rw [tri_2048_lt]

theorem w_v553 : (trip_k0_t1.sl.v553 (F := Ideal) i arg3 arg4 (qM H t0) (dyM H t0) (totM H t0) triLe k0_pay126 X_arg3 X_arg4 k (accM H t0 s0 g)) = mat (φ := .f32) 512 128 (fun r c => ∑ d ∈ range c, H.e (t0 + r) (s0 + 0 + d)) := by
  show extractStridedSlice S512x128 ![0, 0] (trip_k0_t1.sl.v552 (F := Ideal) i arg3 arg4 (qM H t0) (dyM H t0) (totM H t0) triLe k0_pay126 X_arg3 X_arg4 k (accM H t0 s0 g)) _ = _
  rw [w_v552 i arg3 arg4 X_arg3 X_arg4 k (H := H) (t0 := t0) (s0 := s0) g hlt hK hV, mat_slice]
  refine mat_congr fun r hr c hc => ?_
  simp only [Nat.zero_add]
  exact sum_congr rfl fun d _ => rows4_zero hr d

theorem w_v554 : (trip_k0_t1.sl.v554 (F := Ideal) i arg3 arg4 (qM H t0) (dyM H t0) (totM H t0) triLe k0_pay126 X_arg3 X_arg4 k (accM H t0 s0 g)) = mat (φ := .f32) 512 128 (fun r c => ∑ d ∈ range c, H.e (t0 + r) (s0 + 128 + d)) := by
  show extractStridedSlice S512x128 ![512, 0] (trip_k0_t1.sl.v552 (F := Ideal) i arg3 arg4 (qM H t0) (dyM H t0) (totM H t0) triLe k0_pay126 X_arg3 X_arg4 k (accM H t0 s0 g)) _ = _
  rw [w_v552 i arg3 arg4 X_arg3 X_arg4 k (H := H) (t0 := t0) (s0 := s0) g hlt hK hV, mat_slice]
  refine mat_congr fun r hr c hc => ?_
  simp only [Nat.zero_add]
  exact sum_congr rfl fun d _ => rows4_1 _ _ _ _ (by omega) d

theorem w_v555 : (trip_k0_t1.sl.v555 (F := Ideal) i arg3 arg4 (qM H t0) (dyM H t0) (totM H t0) triLe k0_pay126 X_arg3 X_arg4 k (accM H t0 s0 g)) = mat (φ := .f32) 512 128 (fun r c => ∑ d ∈ range c, H.e (t0 + r) (s0 + 256 + d)) := by
  show extractStridedSlice S512x128 ![1024, 0] (trip_k0_t1.sl.v552 (F := Ideal) i arg3 arg4 (qM H t0) (dyM H t0) (totM H t0) triLe k0_pay126 X_arg3 X_arg4 k (accM H t0 s0 g)) _ = _
  rw [w_v552 i arg3 arg4 X_arg3 X_arg4 k (H := H) (t0 := t0) (s0 := s0) g hlt hK hV, mat_slice]
  refine mat_congr fun r hr c hc => ?_
  simp only [Nat.zero_add]
  exact sum_congr rfl fun d _ => rows4_2 _ _ _ _ (by omega) (by omega) d

theorem w_v556 : (trip_k0_t1.sl.v556 (F := Ideal) i arg3 arg4 (qM H t0) (dyM H t0) (totM H t0) triLe k0_pay126 X_arg3 X_arg4 k (accM H t0 s0 g)) = mat (φ := .f32) 512 128 (fun r c => ∑ d ∈ range c, H.e (t0 + r) (s0 + 384 + d)) := by
  show extractStridedSlice S512x128 ![1536, 0] (trip_k0_t1.sl.v552 (F := Ideal) i arg3 arg4 (qM H t0) (dyM H t0) (totM H t0) triLe k0_pay126 X_arg3 X_arg4 k (accM H t0 s0 g)) _ = _
  rw [w_v552 i arg3 arg4 X_arg3 X_arg4 k (H := H) (t0 := t0) (s0 := s0) g hlt hK hV, mat_slice]
  refine mat_congr fun r hr c hc => ?_
  simp only [Nat.zero_add]
  exact sum_congr rfl fun d _ => rows4_3 _ _ _ _ (by omega) (by omega) d

theorem w_v566 : (trip_k0_t1.sl.v566 (F := Ideal) i arg3 arg4 (qM H t0) (dyM H t0) (totM H t0) triLe X_arg3 X_arg4 k (accM H t0 s0 g)) = mat (φ := .f32) 512 1 (fun r _ => H.eseen (t0 + r) (s0 + 128)) := by
  show addf (mat (φ := .f32) 512 1 (fun r _ => H.eseen (t0 + r) s0)) (shapeCast S512x1 (multiReduction .add [1] S512 (trip_k0_t1.sl.v494 (F := Ideal) i arg3 arg4 (qM H t0) (dyM H t0) (totM H t0) triLe X_arg3 X_arg4 k (accM H t0 s0 g)) 0x00000000#32 reduces_S512x128_S512 (.inl rfl) rfl) shapeCasts_S512_S512x1) = _
  rw [w_v494 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.eseen_add (t0 + r) (s0 + 0) 128).symm

theorem w_v576 : (trip_k0_t1.sl.v576 (F := Ideal) i arg3 arg4 (qM H t0) (dyM H t0) (totM H t0) triLe X_arg3 X_arg4 k (accM H t0 s0 g)) = mat (φ := .f32) 512 1 (fun r _ => H.eseen (t0 + r) (s0 + 256)) := by
  show addf ((trip_k0_t1.sl.v566 (F := Ideal) i arg3 arg4 (qM H t0) (dyM H t0) (totM H t0) triLe X_arg3 X_arg4 k (accM H t0 s0 g))) (shapeCast S512x1 (multiReduction .add [1] S512 (trip_k0_t1.sl.v505 (F := Ideal) i arg3 arg4 (qM H t0) (dyM H t0) (totM H t0) triLe X_arg3 X_arg4 k (accM H t0 s0 g)) 0x00000000#32 reduces_S512x128_S512 (.inl rfl) rfl) shapeCasts_S512_S512x1) = _
  rw [w_v566 i arg3 arg4 X_arg3 X_arg4 k (H := H) (t0 := t0) (s0 := s0) g hlt hK hV, w_v505 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.eseen_add (t0 + r) (s0 + 128) 128).symm

theorem w_v586 : (trip_k0_t1.sl.v586 (F := Ideal) i arg3 arg4 (qM H t0) (dyM H t0) (totM H t0) triLe X_arg3 X_arg4 k (accM H t0 s0 g)) = mat (φ := .f32) 512 1 (fun r _ => H.eseen (t0 + r) (s0 + 384)) := by
  show addf ((trip_k0_t1.sl.v576 (F := Ideal) i arg3 arg4 (qM H t0) (dyM H t0) (totM H t0) triLe X_arg3 X_arg4 k (accM H t0 s0 g))) (shapeCast S512x1 (multiReduction .add [1] S512 (trip_k0_t1.sl.v516 (F := Ideal) i arg3 arg4 (qM H t0) (dyM H t0) (totM H t0) triLe X_arg3 X_arg4 k (accM H t0 s0 g)) 0x00000000#32 reduces_S512x128_S512 (.inl rfl) rfl) shapeCasts_S512_S512x1) = _
  rw [w_v576 i arg3 arg4 X_arg3 X_arg4 k (H := H) (t0 := t0) (s0 := s0) g hlt hK hV, w_v516 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.eseen_add (t0 + r) (s0 + 256) 128).symm

theorem w_v596 : (trip_k0_t1.sl.v596 (F := Ideal) i arg3 arg4 (qM H t0) (dyM H t0) (totM H t0) triLe X_arg3 X_arg4 k (accM H t0 s0 g)) = mat (φ := .f32) 512 1 (fun r _ => H.eseen (t0 + r) (s0 + 512)) := by
  show addf ((trip_k0_t1.sl.v586 (F := Ideal) i arg3 arg4 (qM H t0) (dyM H t0) (totM H t0) triLe X_arg3 X_arg4 k (accM H t0 s0 g))) (shapeCast S512x1 (multiReduction .add [1] S512 (trip_k0_t1.sl.v527 (F := Ideal) i arg3 arg4 (qM H t0) (dyM H t0) (totM H t0) triLe X_arg3 X_arg4 k (accM H t0 s0 g)) 0x00000000#32 reduces_S512x128_S512 (.inl rfl) rfl) shapeCasts_S512_S512x1) = _
  rw [w_v586 i arg3 arg4 X_arg3 X_arg4 k (H := H) (t0 := t0) (s0 := s0) g hlt hK hV, w_v527 i arg3 arg4 X_arg3 X_arg4 k (H := H) (t0 := t0) (s0 := s0) g hlt hK hV]
  refine (congrArg (addf _) (mat_rowsum_512 _ _ _ _ _)).trans ?_
  rw [mat_add]
  refine mat_congr fun r _ c _ => ?_
  exact (H.eseen_add (t0 + r) (s0 + 384) 128).symm

theorem w_v563 : (trip_k0_t1.sl.v563 (F := Ideal) i arg3 arg4 (qM H t0) (dyM H t0) (totM H t0) triLe k0_pay126 X_arg3 X_arg4 k (accM H t0 s0 g)) = mat (φ := .bf16) 512 128 (at2 H.dz t0 (s0 + 0)) := by
  show truncf .bf16 (subf (trip_k0_t1.sl.v494 (F := Ideal) i arg3 arg4 (qM H t0) (dyM H t0) (totM H t0) triLe X_arg3 X_arg4 k (accM H t0 s0 g)) (mulf (addf (trip_k0_t1.sl.v494 (F := Ideal) i arg3 arg4 (qM H t0) (dyM H t0) (totM H t0) triLe X_arg3 X_arg4 k (accM H t0 s0 g)) (addf (broadcastTo S512x128 (mat (φ := .f32) 512 1 (fun r _ => H.eseen (t0 + r) s0)) broadcasts_S512x1_S512x128) (trip_k0_t1.sl.v553 (F := Ideal) i arg3 arg4 (qM H t0) (dyM H t0) (totM H t0) triLe k0_pay126 X_arg3 X_arg4 k (accM H t0 s0 g)))) (exp2 (trip_k0_t1.sl.r_3 (F := Ideal) i arg3 (qM H t0) X_arg3 k)))) _ = _
  rw [w_v494 i arg3 arg4 X_arg3 X_arg4 k (H := H) (t0 := t0) (s0 := s0) g hlt hK hV, w_v553 i arg3 arg4 X_arg3 X_arg4 k (H := H) (t0 := t0) (s0 := s0) g hlt hK hV, w_r_3 i arg3 arg4 X_arg3 X_arg4 k (H := H) (t0 := t0) (s0 := s0) g hlt hK hV, mat_broadcast_col, mat_exp2, mat_add, mat_add, mat_mul, mat_sub, mat_truncf]
  refine mat_congr fun r hr c hc => ?_
  simp only [at2]
  rw [← H.dz_block, if_pos (by omega)]
  rfl

theorem w_v573 : (trip_k0_t1.sl.v573 (F := Ideal) i arg3 arg4 (qM H t0) (dyM H t0) (totM H t0) triLe k0_pay126 X_arg3 X_arg4 k (accM H t0 s0 g)) = mat (φ := .bf16) 512 128 (at2 H.dz t0 (s0 + 128)) := by
  show truncf .bf16 (subf (trip_k0_t1.sl.v505 (F := Ideal) i arg3 arg4 (qM H t0) (dyM H t0) (totM H t0) triLe X_arg3 X_arg4 k (accM H t0 s0 g)) (mulf (addf (trip_k0_t1.sl.v505 (F := Ideal) i arg3 arg4 (qM H t0) (dyM H t0) (totM H t0) triLe X_arg3 X_arg4 k (accM H t0 s0 g)) (addf (broadcastTo S512x128 ((trip_k0_t1.sl.v566 (F := Ideal) i arg3 arg4 (qM H t0) (dyM H t0) (totM H t0) triLe X_arg3 X_arg4 k (accM H t0 s0 g))) broadcasts_S512x1_S512x128) (trip_k0_t1.sl.v554 (F := Ideal) i arg3 arg4 (qM H t0) (dyM H t0) (totM H t0) triLe k0_pay126 X_arg3 X_arg4 k (accM H t0 s0 g)))) (exp2 (trip_k0_t1.sl.r_5 (F := Ideal) i arg3 (qM H t0) X_arg3 k)))) _ = _
  rw [w_v566 i arg3 arg4 X_arg3 X_arg4 k (H := H) (t0 := t0) (s0 := s0) g hlt hK hV, w_v505 i arg3 arg4 X_arg3 X_arg4 k (H := H) (t0 := t0) (s0 := s0) g hlt hK hV, w_v554 i arg3 arg4 X_arg3 X_arg4 k (H := H) (t0 := t0) (s0 := s0) g hlt hK hV, w_r_5 i arg3 arg4 X_arg3 X_arg4 k (H := H) (t0 := t0) (s0 := s0) g hlt hK hV, mat_broadcast_col, mat_exp2, mat_add, mat_add, mat_mul, mat_sub, mat_truncf]
  refine mat_congr fun r hr c hc => ?_
  simp only [at2]
  rw [← H.dz_block, if_pos (by omega)]

theorem w_v583 : (trip_k0_t1.sl.v583 (F := Ideal) i arg3 arg4 (qM H t0) (dyM H t0) (totM H t0) triLe k0_pay126 X_arg3 X_arg4 k (accM H t0 s0 g)) = mat (φ := .bf16) 512 128 (at2 H.dz t0 (s0 + 256)) := by
  show truncf .bf16 (subf (trip_k0_t1.sl.v516 (F := Ideal) i arg3 arg4 (qM H t0) (dyM H t0) (totM H t0) triLe X_arg3 X_arg4 k (accM H t0 s0 g)) (mulf (addf (trip_k0_t1.sl.v516 (F := Ideal) i arg3 arg4 (qM H t0) (dyM H t0) (totM H t0) triLe X_arg3 X_arg4 k (accM H t0 s0 g)) (addf (broadcastTo S512x128 ((trip_k0_t1.sl.v576 (F := Ideal) i arg3 arg4 (qM H t0) (dyM H t0) (totM H t0) triLe X_arg3 X_arg4 k (accM H t0 s0 g))) broadcasts_S512x1_S512x128) (trip_k0_t1.sl.v555 (F := Ideal) i arg3 arg4 (qM H t0) (dyM H t0) (totM H t0) triLe k0_pay126 X_arg3 X_arg4 k (accM H t0 s0 g)))) (exp2 (trip_k0_t1.sl.r_10 (F := Ideal) i arg3 (qM H t0) X_arg3 k)))) _ = _
  rw [w_v576 i arg3 arg4 X_arg3 X_arg4 k (H := H) (t0 := t0) (s0 := s0) g hlt hK hV, w_v516 i arg3 arg4 X_arg3 X_arg4 k (H := H) (t0 := t0) (s0 := s0) g hlt hK hV, w_v555 i arg3 arg4 X_arg3 X_arg4 k (H := H) (t0 := t0) (s0 := s0) g hlt hK hV, w_r_10 i arg3 arg4 X_arg3 X_arg4 k (H := H) (t0 := t0) (s0 := s0) g hlt hK hV, mat_broadcast_col, mat_exp2, mat_add, mat_add, mat_mul, mat_sub, mat_truncf]
  refine mat_congr fun r hr c hc => ?_
  simp only [at2]
  rw [← H.dz_block, if_pos (by omega)]

theorem w_v593 : (trip_k0_t1.sl.v593 (F := Ideal) i arg3 arg4 (qM H t0) (dyM H t0) (totM H t0) triLe k0_pay126 X_arg3 X_arg4 k (accM H t0 s0 g)) = mat (φ := .bf16) 512 128 (at2 H.dz t0 (s0 + 384)) := by
  show truncf .bf16 (subf (trip_k0_t1.sl.v527 (F := Ideal) i arg3 arg4 (qM H t0) (dyM H t0) (totM H t0) triLe X_arg3 X_arg4 k (accM H t0 s0 g)) (mulf (addf (trip_k0_t1.sl.v527 (F := Ideal) i arg3 arg4 (qM H t0) (dyM H t0) (totM H t0) triLe X_arg3 X_arg4 k (accM H t0 s0 g)) (addf (broadcastTo S512x128 ((trip_k0_t1.sl.v586 (F := Ideal) i arg3 arg4 (qM H t0) (dyM H t0) (totM H t0) triLe X_arg3 X_arg4 k (accM H t0 s0 g))) broadcasts_S512x1_S512x128) (trip_k0_t1.sl.v556 (F := Ideal) i arg3 arg4 (qM H t0) (dyM H t0) (totM H t0) triLe k0_pay126 X_arg3 X_arg4 k (accM H t0 s0 g)))) (exp2 (trip_k0_t1.sl.r_12 (F := Ideal) i arg3 (qM H t0) X_arg3 k)))) _ = _
  rw [w_v586 i arg3 arg4 X_arg3 X_arg4 k (H := H) (t0 := t0) (s0 := s0) g hlt hK hV, w_v527 i arg3 arg4 X_arg3 X_arg4 k (H := H) (t0 := t0) (s0 := s0) g hlt hK hV, w_v556 i arg3 arg4 X_arg3 X_arg4 k (H := H) (t0 := t0) (s0 := s0) g hlt hK hV, w_r_12 i arg3 arg4 X_arg3 X_arg4 k (H := H) (t0 := t0) (s0 := s0) g hlt hK hV, mat_broadcast_col, mat_exp2, mat_add, mat_add, mat_mul, mat_sub, mat_truncf]
  refine mat_congr fun r hr c hc => ?_
  simp only [at2]
  rw [← H.dz_block, if_pos (by omega)]

theorem w_v597 : (trip_k0_t1.sl.v597 (F := Ideal) i arg3 arg4 (qM H t0) (dyM H t0) (totM H t0) triLe k0_pay126 X_arg3 X_arg4 k (accM H t0 s0 g)) = mat (φ := .bf16) 512 512 (at2 H.dz t0 s0) := by
  show concatenate (α := EReal) S512x512 1 [⟨S512x128, (trip_k0_t1.sl.v563 (F := Ideal) i arg3 arg4 (qM H t0) (dyM H t0) (totM H t0) triLe k0_pay126 X_arg3 X_arg4 k (accM H t0 s0 g))⟩, ⟨S512x128, (trip_k0_t1.sl.v573 (F := Ideal) i arg3 arg4 (qM H t0) (dyM H t0) (totM H t0) triLe k0_pay126 X_arg3 X_arg4 k (accM H t0 s0 g))⟩, ⟨S512x128, (trip_k0_t1.sl.v583 (F := Ideal) i arg3 arg4 (qM H t0) (dyM H t0) (totM H t0) triLe k0_pay126 X_arg3 X_arg4 k (accM H t0 s0 g))⟩, ⟨S512x128, (trip_k0_t1.sl.v593 (F := Ideal) i arg3 arg4 (qM H t0) (dyM H t0) (totM H t0) triLe k0_pay126 X_arg3 X_arg4 k (accM H t0 s0 g))⟩] _ = _
  rw [w_v563 i arg3 arg4 X_arg3 X_arg4 k (H := H) (t0 := t0) (s0 := s0) g hlt hK hV, w_v573 i arg3 arg4 X_arg3 X_arg4 k (H := H) (t0 := t0) (s0 := s0) g hlt hK hV, w_v583 i arg3 arg4 X_arg3 X_arg4 k (H := H) (t0 := t0) (s0 := s0) g hlt hK hV, w_v593 i arg3 arg4 X_arg3 X_arg4 k (H := H) (t0 := t0) (s0 := s0) g hlt hK hV]
  refine cat_cols_128_128_128_128_512 _ _ _ _ _ _ ?_ ?_ ?_ ?_ <;>
    exact fun r _ c _ => by simp only [at2, Nat.zero_add, Nat.add_assoc]

theorem w_v598 : (trip_k0_t1.sl.v598 (F := Ideal) i arg3 arg4 (qM H t0) (dyM H t0) (totM H t0) triLe k0_pay126 X_arg3 X_arg4 k (accM H t0 s0 g)) = mat (φ := .f32) 512 128 (fun r d => ∑ s ∈ range 512, H.dz (t0 + r) (s0 + s) * H.k (s0 + s) d) := by
  show matmul _ none (trip_k0_t1.sl.v597 (F := Ideal) i arg3 arg4 (qM H t0) (dyM H t0) (totM H t0) triLe k0_pay126 X_arg3 X_arg4 k (accM H t0 s0 g)) (trip_k0_t1.sl.r (F := Ideal) i arg3 X_arg3 k) (constant (F := Ideal) S512x128 .f32 0x00000000#32) = _
  rw [w_v597 i arg3 arg4 X_arg3 X_arg4 k (H := H) (t0 := t0) (s0 := s0) g hlt hK hV, hK]
  unfold kM
  rw [mat_const_zero, dot_dq]
  refine mat_congr fun r _ d _ => ?_
  simp only [at2, zero_add]

end span

end Cert.Trip
-- ==== Proof.Diag.lean ====
module

public import proofs.«01_k».proof.Proof.Trip

@[expose] public section

set_option maxRecDepth 16384

noncomputable section

namespace Cert.Diag

open Idealize.ShloMosaic Idealize.ShloMosaic.TcCoe
open Cert.KernelIdeal Cert.KernelIdeal.Gen Cert.Mat Cert.Trip Finset

/-- The scale of the logits in base two, as the kernel names it. -/
def cs : Ideal .f32 := Named.named (F := Ideal) κ "scale_log2_e" 0x3E0293EE#32

/-- The constant from natural to base-two logarithms, as the kernel names it. -/
def c2 : Ideal .f32 := Named.named (F := Ideal) κ "log2_e" 0x3FB8AA3B#32

/-- The sums of the softplus over the keys before `s`, a row each. -/
def seenM (H : Head) (t0 s : ℕ) : FVec Ideal S512x1 .f32 := mat 512 1 (fun r _ => H.seen (t0 + r) s)

/-- The sums of the weights' gradients over the keys before `s`, a row each. -/
def eseenM (H : Head) (t0 s : ℕ) : FVec Ideal S512x1 .f32 := mat 512 1 (fun r _ => H.eseen (t0 + r) s)

section
variable (a b : BitVec 32) (H : Head) {t0 : ℕ}

theorem z_eq : k0_pay137 (k0_pay136 (F := Ideal) (qM H t0) (kM H.k t0)) cs = (mat (φ := .f32) 512 512 (at2 H.z t0 t0)) := by
  unfold k0_pay137 k0_pay136 qM kM cs
  dsimp only
  rw [mat_const_zero, dot_nt, mat_scale_log2_e, mat_mul]
  refine mat_congr fun r _ c _ => ?_
  simp only [at2, Head.z, zero_add]

theorem dw_eq : (k0_pay161 (F := Ideal) (dyM H t0) (kM H.v t0)) = mat (φ := .f32) 512 512 (at2 H.dw t0 t0) := by
  unfold k0_pay161 dyM kM
  dsimp only
  rw [mat_const_zero, dot_nt]
  refine mat_congr fun r _ c _ => ?_
  simp only [at2, Head.dw, zero_add]

variable (ha : a = BitVec.ofNat 32 t0) (hb : b = BitVec.ofNat 32 t0) (ht : t0 < 2 ^ 19)
include ha hb ht

theorem sel0 (f : ℕ → ℕ → ℝ) : select (α := EReal) (k0_pay138 a b) (mat (φ := .f32) 512 128 f) (mat (φ := .f32) 512 128 (fun _ _ => 0))
    = mat (φ := .f32) 512 128 (fun r c => if t0 + c < t0 + r then f r c else 0) := by
  have e : ∀ w : BitVec 32, w = BitVec.ofNat 32 t0 → Scalar.addi w 0#32 = BitVec.ofNat 32 (t0) := by
    rintro _ rfl
    show BitVec.ofNat 32 t0 + BitVec.ofNat 32 0 = _
    exact (BitVec.ofNat_add_ofNat t0 0).trans rfl
  unfold k0_pay138
  exact mask_rows_512 _ _ _ _ (e a ha) (e b hb) (by omega) (by omega) f _ _

theorem sel1 (f : ℕ → ℕ → ℝ) : select (α := EReal) (k0_pay143 a b) (mat (φ := .f32) 384 128 f) (mat (φ := .f32) 384 128 (fun _ _ => 0))
    = mat (φ := .f32) 384 128 (fun r c => if t0 + 128 + c < t0 + 128 + r then f r c else 0) := by
  have e : ∀ w : BitVec 32, w = BitVec.ofNat 32 t0 → Scalar.addi w 128#32 = BitVec.ofNat 32 (t0 + 128) := by
    rintro _ rfl
    show BitVec.ofNat 32 t0 + BitVec.ofNat 32 128 = _
    exact (BitVec.ofNat_add_ofNat t0 128).trans rfl
  unfold k0_pay143
  exact mask_rows_384 _ _ _ _ (e a ha) (e b hb) (by omega) (by omega) f _ _

theorem sel2 (f : ℕ → ℕ → ℝ) : select (α := EReal) (k0_pay150 a b) (mat (φ := .f32) 256 128 f) (mat (φ := .f32) 256 128 (fun _ _ => 0))
    = mat (φ := .f32) 256 128 (fun r c => if t0 + 256 + c < t0 + 256 + r then f r c else 0) := by
  have e : ∀ w : BitVec 32, w = BitVec.ofNat 32 t0 → Scalar.addi w 256#32 = BitVec.ofNat 32 (t0 + 256) := by
    rintro _ rfl
    show BitVec.ofNat 32 t0 + BitVec.ofNat 32 256 = _
    exact (BitVec.ofNat_add_ofNat t0 256).trans rfl
  unfold k0_pay150
  exact mask_rows_256 _ _ _ _ (e a ha) (e b hb) (by omega) (by omega) f _ _

theorem sel3 (f : ℕ → ℕ → ℝ) : select (α := EReal) (k0_pay155 a b) (mat (φ := .f32) 128 128 f) (mat (φ := .f32) 128 128 (fun _ _ => 0))
    = mat (φ := .f32) 128 128 (fun r c => if t0 + 384 + c < t0 + 384 + r then f r c else 0) := by
  have e : ∀ w : BitVec 32, w = BitVec.ofNat 32 t0 → Scalar.addi w 384#32 = BitVec.ofNat 32 (t0 + 384) := by
    rintro _ rfl
    show BitVec.ofNat 32 t0 + BitVec.ofNat 32 384 = _
    exact (BitVec.ofNat_add_ofNat t0 384).trans rfl
  unfold k0_pay155
  exact mask_rows_128 _ _ _ _ (e a ha) (e b hb) (by omega) (by omega) f _ _

omit ha hb ht in
theorem soft0 : k0_pay140 (k0_pay136 (F := Ideal) (qM H t0) (kM H.k t0)) cs
    = mat (φ := .f32) 512 128 (fun r c => sp2 (H.z (t0 + r) (t0 + c))) := by
  unfold k0_pay140 k0_pay139
  dsimp only
  rw [z_eq, mat_slice, mat_zero, mat_one, mat_log2_e]
  refine (mat_sp2 _).trans (mat_congr fun r hr c hc => ?_)
  simp only [at2, Nat.zero_add, ← Nat.add_assoc]

omit ha hb ht in
theorem soft1 : k0_pay147 (k0_pay145 (k0_pay136 (F := Ideal) (qM H t0) (kM H.k t0)) cs) (k0_pay146 (k0_pay136 (F := Ideal) (qM H t0) (kM H.k t0)) cs) c2
    = mat (φ := .f32) 384 128 (fun r c => sp2 (H.z (t0 + 128 + r) (t0 + 128 + c))) := by
  unfold k0_pay147 k0_pay145 k0_pay146 k0_pay144 c2
  dsimp only
  rw [z_eq, mat_slice, mat_slice, mat_zero, mat_one, mat_log2_e]
  refine (mat_sp2 _).trans (mat_congr fun r hr c hc => ?_)
  simp only [at2, Nat.zero_add, ← Nat.add_assoc]

omit ha hb ht in
theorem soft2 : k0_pay152 (mat (φ := .f32) 512 512 (at2 H.z t0 t0))
    = mat (φ := .f32) 256 128 (fun r c => sp2 (H.z (t0 + 256 + r) (t0 + 256 + c))) := by
  unfold k0_pay152 k0_pay151
  dsimp only
  rw [mat_slice, mat_slice, mat_zero, mat_one, mat_log2_e]
  refine (mat_sp2 _).trans (mat_congr fun r hr c hc => ?_)
  simp only [at2, Nat.zero_add, ← Nat.add_assoc]

omit ha hb ht in
theorem soft3 : k0_pay159 (k0_pay157 (mat (φ := .f32) 512 512 (at2 H.z t0 t0))) (k0_pay158 (mat (φ := .f32) 512 512 (at2 H.z t0 t0)))
    = mat (φ := .f32) 128 128 (fun r c => sp2 (H.z (t0 + 384 + r) (t0 + 384 + c))) := by
  unfold k0_pay159 k0_pay157 k0_pay158 k0_pay156
  dsimp only
  rw [mat_slice, mat_slice, mat_zero, mat_one, mat_log2_e]
  refine (mat_sp2 _).trans (mat_congr fun r hr c hc => ?_)
  simp only [at2, Nat.zero_add, ← Nat.add_assoc]

theorem keep0 : k0_pay141 a b (k0_pay136 (F := Ideal) (qM H t0) (kM H.k t0)) cs
    = mat (φ := .f32) 512 128 (at2 H.keep (t0) (t0)) := by
  unfold k0_pay141
  dsimp only
  rw [soft0 H, mat_zero, sel0 a b ha hb ht]
  rfl

theorem keep1 : k0_pay148 (k0_pay143 a b) (k0_pay145 (k0_pay136 (F := Ideal) (qM H t0) (kM H.k t0)) cs) (k0_pay146 (k0_pay136 (F := Ideal) (qM H t0) (kM H.k t0)) cs) c2
    = mat (φ := .f32) 384 128 (at2 H.keep (t0 + 128) (t0 + 128)) := by
  unfold k0_pay148
  dsimp only
  rw [soft1 H, mat_zero, sel1 a b ha hb ht]
  rfl

theorem keep2 : k0_pay153 a b (mat (φ := .f32) 512 512 (at2 H.z t0 t0))
    = mat (φ := .f32) 256 128 (at2 H.keep (t0 + 256) (t0 + 256)) := by
  unfold k0_pay153
  dsimp only
  rw [soft2 H, mat_zero, sel2 a b ha hb ht]
  rfl

theorem keep3 : select (α := EReal) (k0_pay155 a b) (k0_pay159 (k0_pay157 (mat (φ := .f32) 512 512 (at2 H.z t0 t0))) (k0_pay158 (mat (φ := .f32) 512 512 (at2 H.z t0 t0)))) (broadcast S128x128 (Scalar.ofBits (F := Ideal) .f32 0x00000000#32))
    = mat (φ := .f32) 128 128 (at2 H.keep (t0 + 384) (t0 + 384)) := by
  rw [soft3 H, mat_zero, sel3 a b ha hb ht]
  rfl

omit ha hb ht in
theorem ls0 : k0_pay142 (k0_pay136 (F := Ideal) (qM H t0) (kM H.k t0)) cs
    = mat (φ := .f32) 512 128 (at2 H.ls (t0) (t0)) := by
  unfold k0_pay142
  dsimp only
  rw [soft0 H]
  unfold k0_pay139
  dsimp only
  rw [z_eq, mat_slice, mat_sub]
  refine mat_congr fun r hr c hc => ?_
  simp only [at2, Nat.zero_add, ← Nat.add_assoc, Head.ls]

omit ha hb ht in
theorem ls1 : k0_pay149 (k0_pay144 (k0_pay136 (F := Ideal) (qM H t0) (kM H.k t0)) cs) (k0_pay145 (k0_pay136 (F := Ideal) (qM H t0) (kM H.k t0)) cs) (k0_pay146 (k0_pay136 (F := Ideal) (qM H t0) (kM H.k t0)) cs) c2
    = mat (φ := .f32) 384 128 (at2 H.ls (t0 + 128) (t0 + 128)) := by
  unfold k0_pay149
  dsimp only
  rw [soft1 H]
  unfold k0_pay144
  dsimp only
  rw [z_eq, mat_slice, mat_slice, mat_sub]
  refine mat_congr fun r hr c hc => ?_
  simp only [at2, Nat.zero_add, ← Nat.add_assoc, Head.ls]

omit ha hb ht in
theorem ls2 : k0_pay154 (mat (φ := .f32) 512 512 (at2 H.z t0 t0))
    = mat (φ := .f32) 256 128 (at2 H.ls (t0 + 256) (t0 + 256)) := by
  unfold k0_pay154
  dsimp only
  rw [soft2 H]
  unfold k0_pay151
  dsimp only
  rw [mat_slice, mat_slice, mat_sub]
  refine mat_congr fun r hr c hc => ?_
  simp only [at2, Nat.zero_add, ← Nat.add_assoc, Head.ls]

omit ha hb ht in
theorem ls3 : k0_pay160 (k0_pay156 (mat (φ := .f32) 512 512 (at2 H.z t0 t0))) (k0_pay157 (mat (φ := .f32) 512 512 (at2 H.z t0 t0))) (k0_pay158 (mat (φ := .f32) 512 512 (at2 H.z t0 t0)))
    = mat (φ := .f32) 128 128 (at2 H.ls (t0 + 384) (t0 + 384)) := by
  unfold k0_pay160
  dsimp only
  rw [soft3 H]
  unfold k0_pay156
  dsimp only
  rw [mat_slice, mat_slice, mat_sub]
  refine mat_congr fun r hr c hc => ?_
  simp only [at2, Nat.zero_add, ← Nat.add_assoc, Head.ls]

theorem up : k0_pay162 triLe (mat (φ := .f32) 512 128 (at2 H.keep (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .f32) 1280 128 (fun r c => ∑ d ∈ range (c + 1), rows4 512 896 1152 (at2 H.keep (t0) (t0)) (at2 H.keep (t0 + 128) (t0 + 128)) (at2 H.keep (t0 + 256) (t0 + 256)) (at2 H.keep (t0 + 384) (t0 + 384)) r d) := by
  unfold k0_pay162 triLe
  dsimp only
  rw [keep3 a b H ha hb ht, split_512, split_384, split_256, split_128, rows_1280, tri_1280_le]

theorem up0 : extractStridedSlice S512x128 ![0, 0] (k0_pay162 triLe (mat (φ := .f32) 512 128 (at2 H.keep (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))) slices_S1280x128_o0_0_S512x128
    = mat (φ := .f32) 512 128 (fun r c => ∑ d ∈ range (c + 1), H.keep (t0 + r) (t0 + d)) := by
  rw [up a b H ha hb ht, mat_slice]
  refine mat_congr fun r hr c hc => ?_
  simp only [Nat.zero_add]
  exact sum_congr rfl fun d _ => rows4_zero hr d

theorem up1 : k0_pay163 triLe (mat (φ := .f32) 512 128 (at2 H.keep (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .f32) 384 128 (fun r c => ∑ d ∈ range (c + 1), H.keep (t0 + 128 + r) (t0 + 128 + d)) := by
  unfold k0_pay163
  dsimp only
  rw [up a b H ha hb ht, mat_slice]
  refine mat_congr fun r hr c hc => ?_
  simp only [Nat.zero_add]
  exact sum_congr rfl fun d _ => rows4_1 _ _ _ _ (by omega) d

theorem up2 : k0_pay164 triLe (mat (φ := .f32) 512 128 (at2 H.keep (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .f32) 256 128 (fun r c => ∑ d ∈ range (c + 1), H.keep (t0 + 256 + r) (t0 + 256 + d)) := by
  unfold k0_pay164
  dsimp only
  rw [up a b H ha hb ht, mat_slice]
  refine mat_congr fun r hr c hc => ?_
  simp only [Nat.zero_add]
  exact sum_congr rfl fun d _ => rows4_2 _ _ _ _ (by omega) (by omega) d

theorem up3 : k0_pay165 triLe (mat (φ := .f32) 512 128 (at2 H.keep (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .f32) 128 128 (fun r c => ∑ d ∈ range (c + 1), H.keep (t0 + 384 + r) (t0 + 384 + d)) := by
  unfold k0_pay165
  dsimp only
  rw [up a b H ha hb ht, mat_slice]
  refine mat_congr fun r hr c hc => ?_
  simp only [Nat.zero_add]
  exact sum_congr rfl fun d _ => rows4_3 _ _ _ _ (by omega) (by omega) d

theorem w0 : k0_pay166 (totM H t0) triLe (seenM H t0 t0) (k0_pay138 a b) (mat (φ := .f32) 512 128 (at2 H.keep (t0) (t0))) (mat (φ := .f32) 512 128 (at2 H.ls (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .f32) 512 128 (at2 H.w (t0) (t0)) := by
  unfold k0_pay166
  dsimp only
  rw [up0 a b H ha hb ht]
  unfold totM seenM
  rw [mat_broadcast_col, mat_sub, mat_sub, mat_sub, mat_exp2, mat_zero, sel0 a b ha hb ht]
  refine mat_congr fun r hr c hc => ?_
  simp only [at2, Nat.zero_add, ← Nat.add_assoc]
  exact H.w_block

theorem w0h : k0_pay167 (totM H t0) triLe (seenM H t0 t0) (k0_pay138 a b) (mat (φ := .f32) 512 128 (at2 H.keep (t0) (t0))) (mat (φ := .f32) 512 128 (at2 H.ls (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0)))
    = mat (φ := .bf16) 512 128 (at2 H.w t0 (t0 + 0)) := by
  unfold k0_pay167
  dsimp only
  rw [w0 a b H ha hb ht, mat_truncf]
  rfl

theorem e0 : k0_pay168 (dyM H t0) (totM H t0) triLe (seenM H t0 t0) (k0_pay138 a b) (mat (φ := .f32) 512 128 (at2 H.keep (t0) (t0))) (mat (φ := .f32) 512 128 (at2 H.ls (t0) (t0))) (mat (φ := .f32) 384 128 (at2 H.keep (t0 + 128) (t0 + 128))) (mat (φ := .f32) 256 128 (at2 H.keep (t0 + 256) (t0 + 256))) (k0_pay155 a b) (k0_pay157 (mat (φ := .f32) 512 512 (at2 H.z t0 t0))) (k0_pay158 (mat (φ := .f32) 512 512 (at2 H.z t0 t0))) (kM H.v t0)
    = mat (φ := .f32) 512 128 (at2 H.e (t0) (t0)) := by
  unfold k0_pay168
  dsimp only
  rw [w0 a b H ha hb ht, dw_eq, mat_slice, mat_mul]
  refine mat_congr fun r _ c _ => ?_
  simp only [at2, Head.e, Nat.zero_add, ← Nat.add_assoc]

omit ha hb ht in
theorem seen1 : k0_pay169 (seenM H t0 t0) (mat (φ := .f32) 512 128 (at2 H.keep (t0) (t0)))
    = seenM H t0 (t0 + 128) := by
  unfold k0_pay169 seenM
  dsimp only
  refine (congrArg (addf _) (mat_rowsum_512 _ _ _ _ _)).trans ?_
  rw [mat_add]
  exact mat_congr fun r _ c _ => (H.seen_add (t0 + r) t0 128).symm

omit ha hb ht in
theorem seen2 : k0_pay173 (mat (φ := .f32) 384 128 (at2 H.keep (t0 + 128) (t0 + 128))) (seenM H t0 (t0 + 128))
    = seenM H t0 (t0 + 256) := by
  unfold k0_pay173 seenM
  dsimp only
  refine (congrArg (addf _) ((congrArg (fun x => concatenate (α := EReal) S512x1 0 [⟨S128x1, broadcast S128x1 (Scalar.ofBits (F := Ideal) .f32 0x00000000#32)⟩, ⟨S384x1, x⟩] concatenates_S128x1_S384x1_S512x1_d0) (mat_rowsum_384 _ _ _ _ _)))).trans ?_
  rw [mat_zero, cat_rows_128_384_1 _ _ (fun r _ => ∑ d ∈ range 128, H.keep (t0 + r) (t0 + 128 + d)) _ (fun r hr c _ => ?_) (fun r hr c _ => ?_), mat_add]
  · exact mat_congr fun r _ c _ => (H.seen_add (t0 + r) (t0 + 128) 128).symm
  · exact sum_eq_zero fun d _ => H.keep_of_le (by omega)
  · simp only [at2, ← Nat.add_assoc]

theorem w1 : k0_pay170 (totM H t0) (k0_pay143 a b) (mat (φ := .f32) 384 128 (at2 H.ls (t0 + 128) (t0 + 128))) (mat (φ := .f32) 384 128 (fun r c => ∑ d ∈ range (c + 1), H.keep (t0 + 128 + r) (t0 + 128 + d))) (seenM H t0 (t0 + 128))
    = mat (φ := .f32) 384 128 (at2 H.w (t0 + 128) (t0 + 128)) := by
  unfold k0_pay170
  dsimp only
  unfold totM seenM
  rw [mat_slice, mat_slice, mat_broadcast_col, mat_sub, mat_sub, mat_sub, mat_exp2, mat_zero, sel1 a b ha hb ht]
  refine mat_congr fun r hr c hc => ?_
  simp only [at2, Nat.zero_add, ← Nat.add_assoc]
  exact H.w_block

theorem w1h : k0_pay171 (totM H t0) (k0_pay143 a b) (mat (φ := .f32) 384 128 (at2 H.ls (t0 + 128) (t0 + 128))) (mat (φ := .f32) 384 128 (fun r c => ∑ d ∈ range (c + 1), H.keep (t0 + 128 + r) (t0 + 128 + d))) (seenM H t0 (t0 + 128))
    = mat (φ := .bf16) 512 128 (at2 H.w t0 (t0 + 128)) := by
  unfold k0_pay171
  dsimp only
  rw [w1 a b H ha hb ht, mat_truncf, mat_zero_half]
  refine cat_rows_128_384 _ _ _ _ (fun r hr c _ => ?_) (fun r hr c _ => ?_)
  · exact H.w_of_le (by omega)
  · simp only [at2, ← Nat.add_assoc]

theorem e1 : k0_pay172 (totM H t0) (k0_pay143 a b) (mat (φ := .f32) 384 128 (at2 H.ls (t0 + 128) (t0 + 128))) (k0_pay161 (F := Ideal) (dyM H t0) (kM H.v t0)) (mat (φ := .f32) 384 128 (fun r c => ∑ d ∈ range (c + 1), H.keep (t0 + 128 + r) (t0 + 128 + d))) (seenM H t0 (t0 + 128))
    = mat (φ := .f32) 384 128 (at2 H.e (t0 + 128) (t0 + 128)) := by
  unfold k0_pay172
  dsimp only
  rw [w1 a b H ha hb ht, dw_eq, mat_slice, mat_slice, mat_mul]
  refine mat_congr fun r _ c _ => ?_
  simp only [at2, Head.e, Nat.zero_add, ← Nat.add_assoc]

theorem w2 : k0_pay174 (totM H t0) (mat (φ := .f32) 384 128 (at2 H.keep (t0 + 128) (t0 + 128))) (k0_pay150 a b) (mat (φ := .f32) 256 128 (at2 H.ls (t0 + 256) (t0 + 256))) (mat (φ := .f32) 256 128 (fun r c => ∑ d ∈ range (c + 1), H.keep (t0 + 256 + r) (t0 + 256 + d))) (seenM H t0 (t0 + 128))
    = mat (φ := .f32) 256 128 (at2 H.w (t0 + 256) (t0 + 256)) := by
  unfold k0_pay174
  dsimp only
  rw [seen2]
  unfold totM seenM
  rw [mat_slice, mat_slice, mat_broadcast_col, mat_sub, mat_sub, mat_sub, mat_exp2, mat_zero, sel2 a b ha hb ht]
  refine mat_congr fun r hr c hc => ?_
  simp only [at2, Nat.zero_add, ← Nat.add_assoc]
  exact H.w_block

theorem w2h : k0_pay175 (totM H t0) (mat (φ := .f32) 384 128 (at2 H.keep (t0 + 128) (t0 + 128))) (k0_pay150 a b) (mat (φ := .f32) 256 128 (at2 H.ls (t0 + 256) (t0 + 256))) (mat (φ := .f32) 256 128 (fun r c => ∑ d ∈ range (c + 1), H.keep (t0 + 256 + r) (t0 + 256 + d))) (seenM H t0 (t0 + 128))
    = mat (φ := .bf16) 512 128 (at2 H.w t0 (t0 + 256)) := by
  unfold k0_pay175
  dsimp only
  rw [w2 a b H ha hb ht, mat_truncf, mat_zero_half]
  refine cat_rows_256_256 _ _ _ _ (fun r hr c _ => ?_) (fun r hr c _ => ?_)
  · exact H.w_of_le (by omega)
  · simp only [at2, ← Nat.add_assoc]

theorem e2 : k0_pay176 (totM H t0) (mat (φ := .f32) 384 128 (at2 H.keep (t0 + 128) (t0 + 128))) (k0_pay150 a b) (mat (φ := .f32) 256 128 (at2 H.ls (t0 + 256) (t0 + 256))) (k0_pay161 (F := Ideal) (dyM H t0) (kM H.v t0)) (mat (φ := .f32) 256 128 (fun r c => ∑ d ∈ range (c + 1), H.keep (t0 + 256 + r) (t0 + 256 + d))) (seenM H t0 (t0 + 128))
    = mat (φ := .f32) 256 128 (at2 H.e (t0 + 256) (t0 + 256)) := by
  unfold k0_pay176
  dsimp only
  rw [w2 a b H ha hb ht, dw_eq, mat_slice, mat_slice, mat_mul]
  refine mat_congr fun r _ c _ => ?_
  simp only [at2, Head.e, Nat.zero_add, ← Nat.add_assoc]

omit ha hb ht in
theorem seen3 : addf (F := Ideal) (seenM H t0 (t0 + 256)) (concatenate (α := EReal) S512x1 0 [⟨S256x1, broadcast S256x1 (Scalar.ofBits (F := Ideal) .f32 0x00000000#32)⟩, ⟨S256x1, shapeCast S256x1 (multiReduction (F := Ideal) (φ := .f32) .add [1] S256 (mat (φ := .f32) 256 128 (at2 H.keep (t0 + 256) (t0 + 256))) 0x00000000#32 reduces_S256x128_S256 (.inl rfl) rfl) shapeCasts_S256_S256x1⟩] concatenates_S256x1_S256x1_S512x1_d0)
    = seenM H t0 (t0 + 384) := by
  unfold seenM
  refine (congrArg (addf _) ((congrArg (fun x => concatenate (α := EReal) S512x1 0 [⟨S256x1, broadcast S256x1 (Scalar.ofBits (F := Ideal) .f32 0x00000000#32)⟩, ⟨S256x1, x⟩] concatenates_S256x1_S256x1_S512x1_d0) (mat_rowsum_256 _ _ _ _ _)))).trans ?_
  rw [mat_zero, cat_rows_256_256_1 _ _ (fun r _ => ∑ d ∈ range 128, H.keep (t0 + r) (t0 + 256 + d)) _ (fun r hr c _ => ?_) (fun r hr c _ => ?_), mat_add]
  · exact mat_congr fun r _ c _ => (H.seen_add (t0 + r) (t0 + 256) 128).symm
  · exact sum_eq_zero fun d _ => H.keep_of_le (by omega)
  · simp only [at2, ← Nat.add_assoc]

theorem w3 : k0_pay177 (totM H t0) (mat (φ := .f32) 384 128 (at2 H.keep (t0 + 128) (t0 + 128))) (mat (φ := .f32) 256 128 (at2 H.keep (t0 + 256) (t0 + 256))) (k0_pay155 a b) (mat (φ := .f32) 128 128 (at2 H.ls (t0 + 384) (t0 + 384))) (mat (φ := .f32) 128 128 (fun r c => ∑ d ∈ range (c + 1), H.keep (t0 + 384 + r) (t0 + 384 + d))) (seenM H t0 (t0 + 128))
    = mat (φ := .f32) 128 128 (at2 H.w (t0 + 384) (t0 + 384)) := by
  unfold k0_pay177
  dsimp only
  rw [seen2, seen3]
  unfold totM seenM
  rw [mat_slice, mat_slice, mat_broadcast_col, mat_sub, mat_sub, mat_sub, mat_exp2, mat_zero, sel3 a b ha hb ht]
  refine mat_congr fun r hr c hc => ?_
  simp only [at2, Nat.zero_add, ← Nat.add_assoc]
  exact H.w_block

theorem w3h : k0_pay179 (k0_pay178 (totM H t0) (mat (φ := .f32) 384 128 (at2 H.keep (t0 + 128) (t0 + 128))) (mat (φ := .f32) 256 128 (at2 H.keep (t0 + 256) (t0 + 256))) (k0_pay155 a b) (mat (φ := .f32) 128 128 (at2 H.ls (t0 + 384) (t0 + 384))) (mat (φ := .f32) 128 128 (fun r c => ∑ d ∈ range (c + 1), H.keep (t0 + 384 + r) (t0 + 384 + d))) (seenM H t0 (t0 + 128))) (FloatOps.ofBits .bf16 0#16)
    = mat (φ := .bf16) 512 128 (at2 H.w t0 (t0 + 384)) := by
  unfold k0_pay179 k0_pay178
  dsimp only
  rw [w3 a b H ha hb ht, mat_truncf]
  refine (congrArg (fun x => concatenate (α := EReal) S512x128 0 [⟨S384x128, x⟩, ⟨S128x128, mat (φ := .bf16) 128 128 (at2 H.w (t0 + 384) (t0 + 384))⟩] concatenates_S384x128_S128x128_S512x128_d0) (mat_zero_half (a := 384) (b := 128))).trans ?_
  refine cat_rows_384_128 _ _ _ _ (fun r hr c _ => ?_) (fun r hr c _ => ?_)
  · exact H.w_of_le (by omega)
  · simp only [at2, ← Nat.add_assoc]

omit ha hb ht in
theorem e3 : k0_pay180 (k0_pay161 (F := Ideal) (dyM H t0) (kM H.v t0)) (mat (φ := .f32) 128 128 (at2 H.w (t0 + 384) (t0 + 384)))
    = mat (φ := .f32) 128 128 (at2 H.e (t0 + 384) (t0 + 384)) := by
  unfold k0_pay180
  dsimp only
  rw [dw_eq, mat_slice, mat_slice, mat_mul]
  refine mat_congr fun r _ c _ => ?_
  simp only [at2, Head.e, Nat.zero_add, ← Nat.add_assoc]

omit ha hb ht in
theorem before : k0_pay181 triLt (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))
    = mat (φ := .f32) 1280 128 (fun r c => ∑ d ∈ range c, rows4 512 896 1152 (at2 H.e (t0) (t0)) (at2 H.e (t0 + 128) (t0 + 128)) (at2 H.e (t0 + 256) (t0 + 256)) (at2 H.e (t0 + 384) (t0 + 384)) r d) := by
  unfold k0_pay181 triLt
  dsimp only
  rw [e3 H, split_512, split_384, split_256, split_128, rows_1280, tri_1280_lt]

omit ha hb ht in
theorem before0 : extractStridedSlice S512x128 ![0, 0] (k0_pay181 triLt (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))) slices_S1280x128_o0_0_S512x128
    = mat (φ := .f32) 512 128 (fun r c => ∑ d ∈ range c, H.e (t0 + r) (t0 + d)) := by
  rw [before H, mat_slice]
  refine mat_congr fun r hr c hc => ?_
  simp only [Nat.zero_add]
  exact sum_congr rfl fun d _ => rows4_zero hr d

omit ha hb ht in
theorem before1 : extractStridedSlice S384x128 ![512, 0] (k0_pay181 triLt (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))) slices_S1280x128_o512_0_S384x128
    = mat (φ := .f32) 384 128 (fun r c => ∑ d ∈ range c, H.e (t0 + 128 + r) (t0 + 128 + d)) := by
  rw [before H, mat_slice]
  refine mat_congr fun r hr c hc => ?_
  simp only [Nat.zero_add]
  exact sum_congr rfl fun d _ => rows4_1 _ _ _ _ (by omega) d

omit ha hb ht in
theorem before2 : k0_pay182 triLt (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))
    = mat (φ := .f32) 256 128 (fun r c => ∑ d ∈ range c, H.e (t0 + 256 + r) (t0 + 256 + d)) := by
  unfold k0_pay182
  dsimp only
  rw [before H, mat_slice]
  refine mat_congr fun r hr c hc => ?_
  simp only [Nat.zero_add]
  exact sum_congr rfl fun d _ => rows4_2 _ _ _ _ (by omega) (by omega) d

omit ha hb ht in
theorem before3 : k0_pay183 triLt (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))
    = mat (φ := .f32) 128 128 (fun r c => ∑ d ∈ range c, H.e (t0 + 384 + r) (t0 + 384 + d)) := by
  unfold k0_pay183
  dsimp only
  rw [before H, mat_slice]
  refine mat_congr fun r hr c hc => ?_
  simp only [Nat.zero_add]
  exact sum_congr rfl fun d _ => rows4_3 _ _ _ _ (by omega) (by omega) d

theorem dz0 : k0_pay184 triLt (eseenM H t0 t0) (k0_pay138 a b) (mat (φ := .f32) 512 128 (at2 H.ls (t0) (t0))) (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))
    = mat (φ := .bf16) 512 128 (at2 H.dz t0 (t0 + 0)) := by
  unfold k0_pay184
  dsimp only
  rw [before0 H]
  unfold eseenM
  rw [mat_broadcast_col, mat_exp2, mat_add, mat_add, mat_mul, mat_sub, mat_zero, sel0 a b ha hb ht, mat_truncf]
  refine mat_congr fun r hr c hc => ?_
  simp only [at2, Nat.zero_add, ← Nat.add_assoc]
  exact H.dz_block

omit ha hb ht in
theorem eseen1 : k0_pay185 (eseenM H t0 t0) (mat (φ := .f32) 512 128 (at2 H.e (t0) (t0)))
    = eseenM H t0 (t0 + 128) := by
  unfold k0_pay185 eseenM
  dsimp only
  refine (congrArg (addf _) (mat_rowsum_512 _ _ _ _ _)).trans ?_
  rw [mat_add]
  exact mat_congr fun r _ c _ => (H.eseen_add (t0 + r) t0 128).symm

theorem dz1 : k0_pay186 triLt (eseenM H t0 t0) (k0_pay143 a b) (mat (φ := .f32) 384 128 (at2 H.ls (t0 + 128) (t0 + 128))) (k0_pay161 (F := Ideal) (dyM H t0) (kM H.v t0)) (mat (φ := .f32) 512 128 (at2 H.e (t0) (t0))) (mat (φ := .f32) 384 128 (at2 H.e (t0 + 128) (t0 + 128))) (mat (φ := .f32) 256 128 (at2 H.e (t0 + 256) (t0 + 256))) (mat (φ := .f32) 128 128 (at2 H.w (t0 + 384) (t0 + 384)))
    = mat (φ := .bf16) 512 128 (at2 H.dz t0 (t0 + 128)) := by
  unfold k0_pay186
  dsimp only
  rw [before1 H, eseen1 H]
  unfold eseenM
  rw [mat_slice, mat_broadcast_col, mat_exp2, mat_add, mat_add, mat_mul, mat_sub, mat_zero, sel1 a b ha hb ht, mat_truncf, mat_zero_half]
  refine cat_rows_128_384 _ _ _ _ (fun r hr c _ => ?_) (fun r hr c _ => ?_)
  · exact H.dz_of_le (by omega)
  · simp only [at2, Nat.zero_add, ← Nat.add_assoc]
    exact H.dz_block.symm

omit ha hb ht in
theorem eseen2 : addf (F := Ideal) (eseenM H t0 (t0 + 128)) (concatenate (α := EReal) S512x1 0 [⟨S128x1, broadcast S128x1 (Scalar.ofBits (F := Ideal) .f32 0x00000000#32)⟩, ⟨S384x1, shapeCast S384x1 (multiReduction (F := Ideal) (φ := .f32) .add [1] S384 (mat (φ := .f32) 384 128 (at2 H.e (t0 + 128) (t0 + 128))) 0x00000000#32 reduces_S384x128_S384 (.inl rfl) rfl) shapeCasts_S384_S384x1⟩] concatenates_S128x1_S384x1_S512x1_d0)
    = eseenM H t0 (t0 + 256) := by
  unfold eseenM
  refine (congrArg (addf _) ((congrArg (fun x => concatenate (α := EReal) S512x1 0 [⟨S128x1, broadcast S128x1 (Scalar.ofBits (F := Ideal) .f32 0x00000000#32)⟩, ⟨S384x1, x⟩] concatenates_S128x1_S384x1_S512x1_d0) (mat_rowsum_384 _ _ _ _ _)))).trans ?_
  rw [mat_zero, cat_rows_128_384_1 _ _ (fun r _ => ∑ d ∈ range 128, H.e (t0 + r) (t0 + 128 + d)) _ (fun r hr c _ => ?_) (fun r hr c _ => ?_), mat_add]
  · exact mat_congr fun r _ c _ => (H.eseen_add (t0 + r) (t0 + 128) 128).symm
  · exact sum_eq_zero fun d _ => H.e_of_le (by omega)
  · simp only [at2, ← Nat.add_assoc]

omit ha hb ht in
theorem eseen3 : addf (F := Ideal) (eseenM H t0 (t0 + 256)) (concatenate (α := EReal) S512x1 0 [⟨S256x1, broadcast S256x1 (Scalar.ofBits (F := Ideal) .f32 0x00000000#32)⟩, ⟨S256x1, shapeCast S256x1 (multiReduction (F := Ideal) (φ := .f32) .add [1] S256 (mat (φ := .f32) 256 128 (at2 H.e (t0 + 256) (t0 + 256))) 0x00000000#32 reduces_S256x128_S256 (.inl rfl) rfl) shapeCasts_S256_S256x1⟩] concatenates_S256x1_S256x1_S512x1_d0)
    = eseenM H t0 (t0 + 384) := by
  unfold eseenM
  refine (congrArg (addf _) ((congrArg (fun x => concatenate (α := EReal) S512x1 0 [⟨S256x1, broadcast S256x1 (Scalar.ofBits (F := Ideal) .f32 0x00000000#32)⟩, ⟨S256x1, x⟩] concatenates_S256x1_S256x1_S512x1_d0) (mat_rowsum_256 _ _ _ _ _)))).trans ?_
  rw [mat_zero, cat_rows_256_256_1 _ _ (fun r _ => ∑ d ∈ range 128, H.e (t0 + r) (t0 + 256 + d)) _ (fun r hr c _ => ?_) (fun r hr c _ => ?_), mat_add]
  · exact mat_congr fun r _ c _ => (H.eseen_add (t0 + r) (t0 + 256) 128).symm
  · exact sum_eq_zero fun d _ => H.e_of_le (by omega)
  · simp only [at2, ← Nat.add_assoc]

theorem dz2 : concatenate (α := EReal) S512x128 0 [⟨S256x128, broadcast S256x128 (Scalar.ofBits (F := Ideal) .bf16 0x0000#16)⟩, ⟨S256x128, truncf (F := Ideal) .bf16 (select (α := EReal) (k0_pay150 a b) (subf (F := Ideal) (mat (φ := .f32) 256 128 (at2 H.e (t0 + 256) (t0 + 256))) (mulf (addf (mat (φ := .f32) 256 128 (at2 H.e (t0 + 256) (t0 + 256))) (addf (F := Ideal) (broadcastTo S256x128 (extractStridedSlice S256x1 ![256, 0] (eseenM H t0 (t0 + 256)) slices_S512x1_o256_0_S256x1) broadcasts_S256x1_S256x128) (mat (φ := .f32) 256 128 (fun r c => ∑ d ∈ range c, H.e (t0 + 256 + r) (t0 + 256 + d))))) (exp2 (mat (φ := .f32) 256 128 (at2 H.ls (t0 + 256) (t0 + 256)))))) (broadcast S256x128 (Scalar.ofBits (F := Ideal) .f32 0x00000000#32))) bitsLt_bf16_f32⟩] concatenates_S256x128_S256x128_S512x128_d0
    = mat (φ := .bf16) 512 128 (at2 H.dz t0 (t0 + 256)) := by
  unfold eseenM
  rw [mat_slice, mat_broadcast_col, mat_exp2, mat_add, mat_add, mat_mul, mat_sub, mat_zero, sel2 a b ha hb ht, mat_truncf, mat_zero_half]
  refine cat_rows_256_256 _ _ _ _ (fun r hr c _ => ?_) (fun r hr c _ => ?_)
  · exact H.dz_of_le (by omega)
  · simp only [at2, Nat.zero_add, ← Nat.add_assoc]
    exact H.dz_block.symm

theorem dz3 : concatenate (α := EReal) S512x128 0 [⟨S384x128, broadcast S384x128 (Scalar.ofBits (F := Ideal) .bf16 0x0000#16)⟩, ⟨S128x128, truncf (F := Ideal) .bf16 (select (α := EReal) (k0_pay155 a b) (subf (F := Ideal) (mat (φ := .f32) 128 128 (at2 H.e (t0 + 384) (t0 + 384))) (mulf (addf (mat (φ := .f32) 128 128 (at2 H.e (t0 + 384) (t0 + 384))) (addf (F := Ideal) (broadcastTo S128x128 (extractStridedSlice S128x1 ![384, 0] (eseenM H t0 (t0 + 384)) slices_S512x1_o384_0_S128x1) broadcasts_S128x1_S128x128) (mat (φ := .f32) 128 128 (fun r c => ∑ d ∈ range c, H.e (t0 + 384 + r) (t0 + 384 + d))))) (exp2 (mat (φ := .f32) 128 128 (at2 H.ls (t0 + 384) (t0 + 384)))))) (broadcast S128x128 (Scalar.ofBits (F := Ideal) .f32 0x00000000#32))) bitsLt_bf16_f32⟩] concatenates_S384x128_S128x128_S512x128_d0
    = mat (φ := .bf16) 512 128 (at2 H.dz t0 (t0 + 384)) := by
  unfold eseenM
  rw [mat_slice, mat_broadcast_col, mat_exp2, mat_add, mat_add, mat_mul, mat_sub, mat_zero, sel3 a b ha hb ht, mat_truncf, mat_zero_half]
  refine cat_rows_384_128 _ _ _ _ (fun r hr c _ => ?_) (fun r hr c _ => ?_)
  · exact H.dz_of_le (by omega)
  · simp only [at2, Nat.zero_add, ← Nat.add_assoc]
    exact H.dz_block.symm

theorem dzs : k0_pay187 (k0_pay150 a b) (mat (φ := .f32) 256 128 (at2 H.ls (t0 + 256) (t0 + 256))) (k0_pay155 a b) (mat (φ := .f32) 128 128 (at2 H.ls (t0 + 384) (t0 + 384))) (mat (φ := .f32) 384 128 (at2 H.e (t0 + 128) (t0 + 128))) (mat (φ := .f32) 256 128 (at2 H.e (t0 + 256) (t0 + 256))) (mat (φ := .f32) 128 128 (at2 H.e (t0 + 384) (t0 + 384))) (mat (φ := .f32) 256 128 (fun r c => ∑ d ∈ range c, H.e (t0 + 256 + r) (t0 + 256 + d))) (mat (φ := .f32) 128 128 (fun r c => ∑ d ∈ range c, H.e (t0 + 384 + r) (t0 + 384 + d))) (mat (φ := .bf16) 512 128 (at2 H.dz t0 (t0 + 0))) (eseenM H t0 (t0 + 128)) (mat (φ := .bf16) 512 128 (at2 H.dz t0 (t0 + 128)))
    = mat (φ := .bf16) 512 512 (at2 H.dz t0 t0) := by
  unfold k0_pay187
  dsimp only
  rw [eseen2 H, eseen3 H, dz2 a b H ha hb ht, dz3 a b H ha hb ht]
  refine cat_cols_128_128_128_128_512 _ _ _ _ _ _ ?_ ?_ ?_ ?_ <;>
    exact fun r _ c _ => by simp only [at2, Nat.zero_add, Nat.add_assoc]

theorem dq (g : ℕ → ℕ → ℝ) : k0_pay188 (mat (φ := .f32) 512 128 g) (kM H.k t0) (k0_pay150 a b) (mat (φ := .f32) 256 128 (at2 H.ls (t0 + 256) (t0 + 256))) (k0_pay155 a b) (mat (φ := .f32) 128 128 (at2 H.ls (t0 + 384) (t0 + 384))) (mat (φ := .f32) 384 128 (at2 H.e (t0 + 128) (t0 + 128))) (mat (φ := .f32) 256 128 (at2 H.e (t0 + 256) (t0 + 256))) (mat (φ := .f32) 128 128 (at2 H.e (t0 + 384) (t0 + 384))) (mat (φ := .f32) 256 128 (fun r c => ∑ d ∈ range c, H.e (t0 + 256 + r) (t0 + 256 + d))) (mat (φ := .f32) 128 128 (fun r c => ∑ d ∈ range c, H.e (t0 + 384 + r) (t0 + 384 + d))) (mat (φ := .bf16) 512 128 (at2 H.dz t0 (t0 + 0))) (eseenM H t0 (t0 + 128)) (mat (φ := .bf16) 512 128 (at2 H.dz t0 (t0 + 128)))
    = mat (φ := .f32) 512 128 (fun r d => g r d + ∑ s ∈ range 512, H.dz (t0 + r) (t0 + s) * H.k (t0 + s) d) := by
  unfold k0_pay188 kM
  dsimp only
  rw [dzs a b H ha hb ht, mat_const_zero, dot_dq, mat_add]
  refine mat_congr fun r _ d _ => ?_
  simp only [at2, zero_add]

omit ha hb ht in
theorem acc_slab (u f g : ℕ → ℕ → ℝ) (p) (h : S1x128x512.ShapeCasts S128x512) (h' : S128x512.ShapeCasts S1x128x512) :
    shapeCast S1x128x512 (addf (F := Ideal) (shapeCast S128x512 (slab g) h) (matmul dot_S128x512_S512x512_S128x512_1_0_0_1_n_n p
      (mat (φ := .bf16) 128 512 u) (mat (φ := .bf16) 512 512 f) (constant (F := Ideal) S128x512 .f32 0x00000000#32))) h'
      = slab (fun d s => g d s + ∑ r ∈ range 512, u d r * f r s) := by
  rw [slab_flat, mat_const_zero, dot_acc, mat_add, flat_slab]
  simp only [zero_add]

/-- The queries of a block of rows, a feature to a row. -/
def qT (H : Head) (t0 : ℕ) : FVec Ideal S128x512 .bf16 := mat 128 512 (fun d r => H.q (t0 + r) d)

/-- The gradient of the output at a block of rows, a feature to a row. -/
def dyT (H : Head) (t0 : ℕ) : FVec Ideal S128x512 .bf16 := mat 128 512 (fun d r => H.dy (t0 + r) d)

/-- What a block of rows adds to the gradient of the keys from `s0` on. -/
def dkt (H : Head) (t0 s0 : ℕ) : ℕ → ℕ → ℝ := fun d s => ∑ r ∈ range 512, H.q (t0 + r) d * H.dz (t0 + r) (s0 + s)

/-- What a block of rows adds to the gradient of the values from `s0` on. -/
def dvt (H : Head) (t0 s0 : ℕ) : ℕ → ℕ → ℝ := fun d s => ∑ r ∈ range 512, H.dy (t0 + r) d * H.w (t0 + r) (s0 + s)

theorem dk_acc (g : ℕ → ℕ → ℝ) : k0_pay189 (qT H t0) (k0_pay150 a b) (mat (φ := .f32) 256 128 (at2 H.ls (t0 + 256) (t0 + 256))) (k0_pay155 a b) (mat (φ := .f32) 128 128 (at2 H.ls (t0 + 384) (t0 + 384))) (mat (φ := .f32) 384 128 (at2 H.e (t0 + 128) (t0 + 128))) (mat (φ := .f32) 256 128 (at2 H.e (t0 + 256) (t0 + 256))) (mat (φ := .f32) 128 128 (at2 H.e (t0 + 384) (t0 + 384))) (mat (φ := .f32) 256 128 (fun r c => ∑ d ∈ range c, H.e (t0 + 256 + r) (t0 + 256 + d))) (mat (φ := .f32) 128 128 (fun r c => ∑ d ∈ range c, H.e (t0 + 384 + r) (t0 + 384 + d))) (mat (φ := .bf16) 512 128 (at2 H.dz t0 (t0 + 0))) (eseenM H t0 (t0 + 128)) (mat (φ := .bf16) 512 128 (at2 H.dz t0 (t0 + 128))) (slab g)
    = slab (fun d s => g d s + dkt H t0 t0 d s) := by
  unfold k0_pay189 qT
  dsimp only
  rw [dzs a b H ha hb ht, acc_slab]
  simp only [at2, dkt]

omit ha hb ht in
theorem dv_acc (s0 : ℕ) (g : ℕ → ℕ → ℝ) : k0_pay1 (dyT H t0) (mat (φ := .bf16) 512 128 (at2 H.w t0 (s0 + 0))) (mat (φ := .bf16) 512 128 (at2 H.w t0 (s0 + 128))) (mat (φ := .bf16) 512 128 (at2 H.w t0 (s0 + 256))) (mat (φ := .bf16) 512 128 (at2 H.w t0 (s0 + 384))) (slab g)
    = slab (fun d s => g d s + dvt H t0 s0 d s) := by
  unfold k0_pay1 dyT
  dsimp only
  rw [cat_cols_128_128_128_128_512 _ _ _ _ (at2 H.w t0 s0) _ ?_ ?_ ?_ ?_, acc_slab]
  · simp only [at2, dvt]
  all_goals exact fun r _ c _ => by simp only [at2, Nat.zero_add, Nat.add_assoc]

omit ha hb ht in
theorem trip_dv (s0 : ℕ) (g : ℕ → ℕ → ℝ) : k0_pay132 (dyT H t0) (mat (φ := .bf16) 512 128 (at2 H.w t0 (s0 + 0))) (mat (φ := .bf16) 512 128 (at2 H.w t0 (s0 + 128))) (mat (φ := .bf16) 512 128 (at2 H.w t0 (s0 + 256))) (mat (φ := .bf16) 512 128 (at2 H.w t0 (s0 + 384))) (slab g)
    = slab (fun d s => g d s + dvt H t0 s0 d s) := by
  unfold k0_pay132 dyT
  dsimp only
  rw [cat_cols_128_128_128_128_512 _ _ _ _ (at2 H.w t0 s0) _ ?_ ?_ ?_ ?_, acc_slab]
  · simp only [at2, dvt]
  all_goals exact fun r _ c _ => by simp only [at2, Nat.zero_add, Nat.add_assoc]

omit ha hb ht in
theorem trip_dk (s0 : ℕ) (g : ℕ → ℕ → ℝ) : k0_pay131 (qT H t0) (mat (φ := .bf16) 512 512 (at2 H.dz t0 s0)) (slab g)
    = slab (fun d s => g d s + dkt H t0 s0 d s) := by
  unfold k0_pay131 qT
  dsimp only
  rw [acc_slab]
  simp only [at2, dkt]

end

/-! ## What the kernel writes -/

theorem dq_out (f : ℕ → ℕ → ℝ) : k0_pay2 (F := Ideal) (mat (φ := .f32) 512 128 f) = mat (φ := .bf16) 512 128 (fun r c => f r c * (Real.sqrt 128)⁻¹) := by
  unfold k0_pay2
  dsimp only
  rw [mat_scale, mat_mul, mat_truncf]

theorem dk_out (f : ℕ → ℕ → ℝ) : k0_pay3 (F := Ideal) (k0_pay116 (slab f)) = mat (φ := .bf16) 512 128 (fun s d => f d s * (Real.sqrt 128)⁻¹) := by
  unfold k0_pay3 k0_pay116
  dsimp only
  rw [slab_flat, mat_transpose, mat_scale, mat_mul, mat_truncf]

theorem dk_out' (f : ℕ → ℕ → ℝ) : k0_pay114 (F := Ideal) (slab f) = mat (φ := .bf16) 512 128 (fun s d => f d s * (Real.sqrt 128)⁻¹) := dk_out f

theorem dv_out (f : ℕ → ℕ → ℝ) : k0_pay4 (F := Ideal) (slab f) = mat (φ := .bf16) 512 128 (fun s d => f d s) := by
  unfold k0_pay4
  dsimp only
  rw [slab_flat, mat_transpose, mat_truncf]

theorem dv_out' (f : ℕ → ℕ → ℝ) : k0_pay115 (F := Ideal) (slab f) = mat (φ := .bf16) 512 128 (fun s d => f d s) := dv_out f

end Cert.Diag
-- ==== Proof.Loop.lean ====
module

public import proofs.«01_k».proof.Proof.Diag
public import proofs.«01_k».proof.Proof.Gen.KernelIdeal.Loops
public import Idealize.ShloMosaic.Lib.Pipeline.ValueKit
public import Idealize.ShloMosaic.Lib.LoopRemainder
public import Idealize.ShloMosaic.Lib.WritesUnit

@[expose] public section

set_option maxRecDepth 16384

/-! The counted loop of a grid point: the blocks of keys before the diagonal, one trip each. -/

noncomputable section

namespace Cert.Loop

open Idealize.ShloMosaic Idealize.ShloMosaic.TcCoe
open Cert.KernelIdeal Cert.KernelIdeal.Gen Cert.Mat Cert.Trip Cert.Diag Finset

/-! ## Words of a grid point -/

/-- A grid point from its block of rows alone. -/
def row (n : Fin 8) : grid0.Coords := fun a => match a with
  | 0 => (0 : Fin 16)
  | 1 => n

theorem trips1 (i : grid0.Coords) : (k0_t1_loop i).trips = (i 1).val :=
  (by decide +kernel : ∀ n : Fin 8, (k0_t1_loop (row n)).trips = n.val) (i 1)

theorem off5 (i : grid0.Coords) : k0_off5 i = ![512 * (i 1).val, 0] :=
  (by decide +kernel : ∀ n : Fin 8, k0_off5 (row n) = ![512 * n.val, 0]) (i 1)

theorem off6 (i : grid0.Coords) : k0_off6 i = ![(i 1).val, 0, 0] :=
  (by decide +kernel : ∀ n : Fin 8, k0_off6 (row n) = ![n.val, 0, 0]) (i 1)

theorem lt8 (i : grid0.Coords) : (i 1).val < 8 := (i 1).isLt

theorem off1 (i : grid0.Coords) (k : Fin (k0_t1_loop i).trips) : k0_off1 i k = ![512 * k.val, 0] :=
  (by decide +kernel : ∀ n : Fin 8, (![(Scalar.indexCast (Scalar.muli (Scf.iv 0#32 1#32 n.val) 512#32)).toNat, 0] : Fin 2 → ℕ) = ![512 * n.val, 0])
    ⟨k.val, lt_trans (lt_of_lt_of_eq k.isLt (trips1 i)) (lt8 i)⟩

theorem off2 (i : grid0.Coords) (k : Fin (k0_t1_loop i).trips) : k0_off2 i k = ![k.val, 0, 0] :=
  (by decide +kernel : ∀ n : Fin 8, (![(Scalar.indexCast (Scf.iv 0#32 1#32 n.val)).toNat, 0, 0] : Fin 3 → ℕ) = ![n.val, 0, 0])
    ⟨k.val, lt_trans (lt_of_lt_of_eq k.isLt (trips1 i)) (lt8 i)⟩

/-! ## Blocks of rows, and rows of blocks -/

section
variable {sp : Space} {sg : RefSig} {κ : Kind}

theorem read_rows {e : EltTy} (v : View sg κ sp S4096x128 e) (X : v.ty.Contents (Elt Ideal)) (Y : S4096x128.Idx → Elt Ideal e)
    (hX : v.read (Elt Ideal) X = Y) {off : Fin 2 → ℕ} (inb : ∀ a, off a + S512x128.size a ≤ S4096x128.size a) (n : ℕ) (hn : off = ![512 * n, 0])
    (Z : S512x128.Idx → Elt Ideal e) (h : ∀ (ix : S4096x128.Idx) (iz : S512x128.Idx), (ix 0).val = 512 * n + (iz 0).val → (ix 1).val = (iz 1).val → Y ix = Z iz) :
    v.readAt (Elt Ideal) (Rect.unit (s := S4096x128) off S512x128.size inb).toLoadRect X = Z := by
  subst hn
  funext y
  show v.read (Elt Ideal) X _ = _
  rw [hX]
  refine h _ _ ?_ ?_
  · show 512 * n + 1 * (y 0).val = _
    rw [Nat.one_mul]
  · show 0 + 1 * (y 1).val = _
    rw [Nat.one_mul, Nat.zero_add]

theorem read_kM (v : View sg κ sp S4096x128 .bf16) (X : v.ty.Contents (Elt Ideal)) (f : ℕ → ℕ → ℝ)
    (hX : v.read (Elt Ideal) X = mat (φ := .bf16) 4096 128 f) {off : Fin 2 → ℕ} (inb : ∀ a, off a + S512x128.size a ≤ S4096x128.size a) (n : ℕ)
    (hn : off = ![512 * n, 0]) :
    v.readAt (Elt Ideal) (Rect.unit (s := S4096x128) off S512x128.size inb).toLoadRect X = kM f (512 * n) :=
  read_rows v X _ hX inb n hn _ fun ix iz h0 h1 => by
    simp only [kM, mat, at2, h0, h1, Nat.zero_add]

/-- The accumulator: for each block of keys, a matrix. -/
def cube (g : ℕ → ℕ → ℕ → ℝ) : Vec Ideal S8x128x512 .f32 := fun ix => ((g (ix 0).val (ix 1).val (ix 2).val : ℝ) : EReal)

theorem cube_congr {f g : ℕ → ℕ → ℕ → ℝ} (h : ∀ j < 8, ∀ d < 128, ∀ s < 512, f j d s = g j d s) : cube f = cube g := by
  funext ix
  show ((f _ _ _ : ℝ) : EReal) = ((g _ _ _ : ℝ) : EReal)
  rw [h _ (ix 0).isLt _ (ix 1).isLt _ (ix 2).isLt]

theorem read_slab (v : View sg κ sp S8x128x512 .f32) (X : v.ty.Contents (Elt Ideal)) (g : ℕ → ℕ → ℕ → ℝ)
    (hX : v.read (Elt Ideal) X = cube g) {off : Fin 3 → ℕ} (inb : ∀ a, off a + S1x128x512.size a ≤ S8x128x512.size a) (n : ℕ)
    (hn : off = ![n, 0, 0]) :
    v.readAt (Elt Ideal) (Rect.unit (s := S8x128x512) off S1x128x512.size inb).toLoadRect X = slab (g n) := by
  subst hn
  funext y
  show v.read (Elt Ideal) X _ = _
  rw [hX]
  show ((g (n + 1 * (y 0).val) (0 + 1 * (y 1).val) (0 + 1 * (y 2).val) : ℝ) : EReal) = ((g n (y 1).val (y 2).val : ℝ) : EReal)
  have h0 : (y 0).val = 0 := Nat.lt_one_iff.mp (y 0).isLt
  simp only [h0, Nat.one_mul, Nat.zero_add, Nat.add_zero]

theorem write_slab (v : View sg κ sp S8x128x512 .f32) (X : v.ty.Contents (Elt Ideal)) (g : ℕ → ℕ → ℕ → ℝ) (L : List (View.Piece (Elt Ideal) S8x128x512 .f32))
    (hX : v.read (Elt Ideal) (v.writes (Elt Ideal) X L) = cube g) {off : Fin 3 → ℕ} (inb : ∀ a, off a + S1x128x512.size a ≤ S8x128x512.size a) (n : ℕ)
    (hn : off = ![n, 0, 0]) (h : ℕ → ℕ → ℝ) (w : (Rect.unit (s := S8x128x512) off S1x128x512.size inb).shape.Idx → Elt Ideal .f32) (hw : w = slab h) :
    v.read (Elt Ideal) (v.writes (Elt Ideal) X ((⟨Rect.unit (s := S8x128x512) off S1x128x512.size inb, w⟩ : View.Piece (Elt Ideal) S8x128x512 .f32) :: L))
      = cube (fun j d s => if j = n then h d s else g j d s) := by
  subst hw
  funext y
  by_cases hy : (y 0).val = n
  · refine (View.read_writes_cons_unit_of_mem v X inb (slab h) L y (fun a => match a with
      | 0 => (0 : Fin 1) | 1 => (y 1 : Fin 128) | 2 => (y 2 : Fin 512)) hn fun a => ?_).trans ?_
    · fin_cases a
      · exact hy
      · exact (Nat.zero_add _).symm
      · exact (Nat.zero_add _).symm
    · show ((h _ _ : ℝ) : EReal) = ((if _ then _ else _ : ℝ) : EReal)
      rw [if_pos hy]
  · refine (View.read_writes_cons_unit_of_not_mem v X inb (slab h) L y hn 0 ?_).trans ?_
    · show (y 0).val < n ∨ n + 1 ≤ (y 0).val
      omega
    · rw [hX]
      show ((g _ _ _ : ℝ) : EReal) = ((if _ then _ else _ : ℝ) : EReal)
      rw [if_neg hy]

end

/-! ## The trips -/

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S512x128 .bf16) (harg12 : arg12.IsWhole) (arg13 : Memref sig .tc .vmem S8x128x512 .f32) (harg13 : arg13.IsWhole) (arg14 : Memref sig .tc .vmem S8x128x512 .f32) (harg14 : arg14.IsWhole) (arg1 : BitVec 32)
  (X3 : BufTy.Contents (Elt Ideal) arg3.view.ty) (X4 : BufTy.Contents (Elt Ideal) arg4.view.ty)
  (G13 : BufTy.Contents (Elt Ideal) arg13.view.ty) (G14 : BufTy.Contents (Elt Ideal) arg14.view.ty) (H : Head) (g13 g14 : ℕ → ℕ → ℕ → ℝ)

/-- What the trips before `k` left. -/
structure Before (k : ℕ) : Prop where
  carried : (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 (qM H (512 * (i 1).val)) (dyM H (512 * (i 1).val)) (qT H (512 * (i 1).val)) (dyT H (512 * (i 1).val)) (totM H (512 * (i 1).val)) triLe k0_pay126 X3 X4 G13 G14 (k0_pay129 (F := Ideal), k0_pay128 (F := Ideal), k0_pay128 (F := Ideal)) k).1 = accM H (512 * (i 1).val) (512 * k) (fun r d => ∑ s ∈ range (512 * k), H.dz (512 * (i 1).val + r) s * H.k s d)
  dk : arg13.view.read (Elt Ideal) (arg13.view.writes (Elt Ideal) G13 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 (qM H (512 * (i 1).val)) (dyM H (512 * (i 1).val)) (qT H (512 * (i 1).val)) (dyT H (512 * (i 1).val)) (totM H (512 * (i 1).val)) triLe k0_pay126 X3 X4 G13 G14 (k0_pay129 (F := Ideal), k0_pay128 (F := Ideal), k0_pay128 (F := Ideal)) k).2.1) = cube (fun j d s => if j < k then g13 j d s + dkt H (512 * (i 1).val) (512 * j) d s else g13 j d s)
  dv : arg14.view.read (Elt Ideal) (arg14.view.writes (Elt Ideal) G14 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 (qM H (512 * (i 1).val)) (dyM H (512 * (i 1).val)) (qT H (512 * (i 1).val)) (dyT H (512 * (i 1).val)) (totM H (512 * (i 1).val)) triLe k0_pay126 X3 X4 G13 G14 (k0_pay129 (F := Ideal), k0_pay128 (F := Ideal), k0_pay128 (F := Ideal)) k).2.2) = cube (fun j d s => if j < k then g14 j d s + dvt H (512 * (i 1).val) (512 * j) d s else g14 j d s)

theorem before_zero (h13 : arg13.view.read (Elt Ideal) G13 = cube g13) (h14 : arg14.view.read (Elt Ideal) G14 = cube g14) :
    Before c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 0 where
  carried := by
    show (k0_pay129 (F := Ideal), k0_pay128 (F := Ideal), k0_pay128 (F := Ideal)) = _
    unfold accM k0_pay128 k0_pay129
    dsimp only
    refine Prod.ext ?_ (Prod.ext ?_ ?_)
    · dsimp only
      funext ix
      pointwise [mat]
      rw [range_zero, sum_empty]
      rfl
    · dsimp only
      funext ix
      pointwise [mat, Head.seen]
      rw [range_zero, sum_empty]
      rfl
    · dsimp only
      funext ix
      pointwise [mat, Head.eseen]
      rw [range_zero, sum_empty]
      rfl
  dk := h13
  dv := h14

theorem before_succ (h3 : arg3.view.read (Elt Ideal) X3 = mat (φ := .bf16) 4096 128 H.k) (h4 : arg4.view.read (Elt Ideal) X4 = mat (φ := .bf16) 4096 128 H.v)
    (k : Fin (k0_t1_loop i).trips) (h : Before c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 k.val) :
    Before c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 (k.val + 1) := by
  obtain ⟨ha, hk, hv⟩ := h
  have hlt : k.val < (i 1).val := lt_of_lt_of_eq k.isLt (trips1 i)
  have hle : 512 * k.val + 512 ≤ 512 * (i 1).val := by omega
  have hK : trip_k0_t1.sl.r (F := Ideal) i arg3 X3 k = kM H.k (512 * k.val) := read_kM arg3.view X3 H.k h3 _ _ (off1 i k)
  have hV : trip_k0_t1.sl.r (F := Ideal) i arg4 X4 k = kM H.v (512 * k.val) := read_kM arg4.view X4 H.v h4 _ _ (off1 i k)
  refine ⟨?_, ?_, ?_⟩
  · rw [st_k0_t1_succ, tripR_k0_t1, ha]
    unfold trip_k0_t1
    dsimp only
    refine Prod.ext ?_ (Prod.ext ?_ ?_)
    · dsimp only
      rw [w_v598 i arg3 arg4 X3 X4 k (H := H) (t0 := 512 * (i 1).val) (s0 := 512 * k.val) _ hle hK hV]
      unfold accM k0_pay130
      dsimp only
      rw [mat_add]
      refine mat_congr fun r _ d _ => ?_
      rw [show 512 * (k.val + 1) = 512 * k.val + 512 from by ring, sum_range_add]
    · dsimp only
      rw [w_v530 i arg3 arg4 X3 X4 k (H := H) (t0 := 512 * (i 1).val) (s0 := 512 * k.val) _ hle hK hV]
      rfl
    · dsimp only
      rw [w_v596 i arg3 arg4 X3 X4 k (H := H) (t0 := 512 * (i 1).val) (s0 := 512 * k.val) _ hle hK hV]
      rfl
  · rw [st_k0_t1_succ, tripL_k0_t1, ha]
    unfold trip_k0_t1
    dsimp only [List.singleton_append]
    refine (write_slab arg13.view G13 _ _ hk _ k.val (off2 i k) _ _ ((congrArg₂ (k0_pay131 (F := Ideal) _) (w_v597 i arg3 arg4 X3 X4 k (H := H) (t0 := 512 * (i 1).val) (s0 := 512 * k.val) _ hle hK hV)
      (read_slab arg13.view _ _ hk _ k.val (off2 i k))).trans (trip_dk H _ _))).trans (cube_congr fun j _ d _ s _ => ?_)
    by_cases hj : j = k.val
    · subst hj
      simp
    · by_cases hl : j < k.val
      · rw [if_neg hj, if_pos hl, if_pos (Nat.lt_succ_of_lt hl)]
      · rw [if_neg hj, if_neg hl, if_neg (by omega)]
  · rw [st_k0_t1_succ, tripL_k0_t1, ha]
    unfold trip_k0_t1
    dsimp only [List.singleton_append]
    refine (write_slab arg14.view G14 _ _ hv _ k.val (off2 i k) _ _ ((?_ : _ = _).trans (trip_dv H (t0 := 512 * (i 1).val) (512 * k.val)
      ((fun j d s => if j < k.val then g14 j d s + dvt H (512 * (i 1).val) (512 * j) d s else g14 j d s) k.val)))).trans (cube_congr fun j _ d _ s _ => ?_)
    · rw [w_v492 i arg3 arg4 X3 X4 k (H := H) (t0 := 512 * (i 1).val) (s0 := 512 * k.val) _ hle hK hV,
        w_v503 i arg3 arg4 X3 X4 k (H := H) (t0 := 512 * (i 1).val) (s0 := 512 * k.val) _ hle hK hV,
        w_v514 i arg3 arg4 X3 X4 k (H := H) (t0 := 512 * (i 1).val) (s0 := 512 * k.val) _ hle hK hV,
        w_v525 i arg3 arg4 X3 X4 k (H := H) (t0 := 512 * (i 1).val) (s0 := 512 * k.val) _ hle hK hV]
      exact congrArg _ (read_slab arg14.view _ _ hv _ k.val (off2 i k))
    by_cases hj : j = k.val
    · subst hj
      simp
    · by_cases hl : j < k.val
      · rw [if_neg hj, if_pos hl, if_pos (Nat.lt_succ_of_lt hl)]
      · rw [if_neg hj, if_neg hl, if_neg (by omega)]

theorem before_all (h3 : arg3.view.read (Elt Ideal) X3 = mat (φ := .bf16) 4096 128 H.k) (h4 : arg4.view.read (Elt Ideal) X4 = mat (φ := .bf16) 4096 128 H.v)
    (h13 : arg13.view.read (Elt Ideal) G13 = cube g13) (h14 : arg14.view.read (Elt Ideal) G14 = cube g14) :
    ∀ n, n ≤ (k0_t1_loop i).trips → Before c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 n
  | 0, _ => before_zero c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 h13 h14
  | n + 1, hn => before_succ c i arg2 harg2 arg3 harg3 arg4 harg4 arg5 harg5 arg6 harg6 arg7 harg7 arg8 harg8 arg9 harg9 arg10 harg10 arg11 harg11 arg12 harg12 arg13 harg13 arg14 harg14 arg1 X3 X4 G13 G14 H g13 g14 h3 h4 ⟨n, hn⟩
      (before_all h3 h4 h13 h14 n (Nat.le_of_lt hn))

end

end Cert.Loop
-- ==== Proof.Span.lean ====
module

public import proofs.«01_k».proof.Proof.Loop
public import Idealize.ShloMosaic.Lib.VecWindow

@[expose] public section

set_option maxRecDepth 16384

/-! The last block of keys of a grid point: what is common to the three kinds of points. -/

noncomputable section

namespace Cert.Span

open Idealize.ShloMosaic Idealize.ShloMosaic.TcCoe
open Cert.KernelIdeal Cert.KernelIdeal.Gen Cert.Mat Cert.Trip Cert.Diag Cert.Loop Finset

theorem ht (i : grid0.Coords) : 512 * (i 1).val < 2 ^ 19 := by
  have := lt8 i
  omega

theorem trips2 (i : grid0.Coords) : Scf.trips (k0_t2_loop i).lb (k0_t2_loop i).ub (k0_t2_loop i).st = 0 :=
  (by decide +kernel : ∀ n : Fin 8, Scf.trips (k0_t2_loop (row n)).lb (k0_t2_loop (row n)).ub (k0_t2_loop (row n)).st = 0) (i 1)

theorem read_whole {sp : Space} {sg : RefSig} {κ : Kind} {s : Shape} {e : EltTy} (v : View sg κ sp s e) (X : v.ty.Contents (Elt Ideal)) (Y : s.Idx → Elt Ideal e)
    (hX : v.read (Elt Ideal) X = Y) {off : Fin s.rank → ℕ} (inb : ∀ a, off a + s.size a ≤ s.size a) :
    v.readAt (Elt Ideal) (Rect.unit (s := s) off s.size inb).toLoadRect X = Y := by
  funext y
  show v.read (Elt Ideal) X _ = _
  rw [hX]
  refine congrArg Y (funext fun a => Fin.ext ?_)
  show off a + 1 * (y a).val = (y a).val
  have := inb a
  omega

theorem pay122_eq (H : Head) (t0 : ℕ) : k0_pay122 (F := Ideal) (qM H t0) = qT H t0 := by
  unfold k0_pay122 qM qT
  dsimp only
  rw [mat_extf, mat_transpose, mat_truncf]
  refine mat_congr fun r _ d _ => ?_
  simp only [at2, Nat.zero_add]

theorem pay124_eq (H : Head) (t0 : ℕ) : k0_pay124 (F := Ideal) (totM H t0) = totM H t0 := cast_512_128 _ _

theorem dkt_zero (H : Head) {t0 s0 : ℕ} (h : t0 + 512 ≤ s0) (d s : ℕ) : dkt H t0 s0 d s = 0 :=
  sum_eq_zero fun r hr => by
    rw [H.dz_of_le (by have := mem_range.mp hr; omega), mul_zero]

theorem dvt_zero (H : Head) {t0 s0 : ℕ} (h : t0 + 512 ≤ s0) (d s : ℕ) : dvt H t0 s0 d s = 0 :=
  sum_eq_zero fun r hr => by
    rw [H.w_of_le (by have := mem_range.mp hr; omega), mul_zero]

/-- The accumulator after a point: every block of keys has its part added. -/
theorem cube_after (n : ℕ) (g u : ℕ → ℕ → ℕ → ℝ) (hu : ∀ j, n < j → ∀ d s, u j d s = 0) :
    cube (fun j d s => if j = n then g n d s + u n d s else if j < n then g j d s + u j d s else g j d s)
      = cube (fun j d s => g j d s + u j d s) :=
  cube_congr fun j _ d _ s _ => by
    by_cases h : j = n
    · subst h
      rw [if_pos rfl]
    · by_cases hl : j < n
      · rw [if_neg h, if_pos hl]
      · rw [if_neg h, if_neg hl, hu j (by omega), add_zero]

theorem slab_self (n : ℕ) (g u : ℕ → ℕ → ℕ → ℝ) :
    slab ((fun j d s => if j < n then g j d s + u j d s else g j d s) n) = slab (g n) := by
  simp only [lt_irrefl, if_false]

theorem congr3 {α β γ δ : Type} (f : α → β → γ → δ) {a a' : α} {b b' : β} {c c' : γ} (ha : a = a') (hb : b = b') (hc : c = c') : f a b c = f a' b' c' := by
  rw [ha, hb, hc]

/-- Eight blocks of rows, one below the other. -/
theorem piece_rows {e : EltTy} (G : S4096x128.Idx → Elt Ideal e) {off : Fin 2 → ℕ} (inb : ∀ a, off a + S512x128.size a ≤ S4096x128.size a) (n : ℕ)
    (hn : off = ![512 * n, 0]) (Z : S512x128.Idx → Elt Ideal e)
    (h : ∀ (ix : S4096x128.Idx) (iz : S512x128.Idx), (ix 0).val = 512 * n + (iz 0).val → (ix 1).val = (iz 1).val → Z iz = G ix)
    (x : (Rect.unit (s := S4096x128) off S512x128.size inb).shape.Idx) : Z x = G ((Rect.unit (s := S4096x128) off S512x128.size inb).emb x) := by
  subst hn
  refine h _ x ?_ ?_
  · show 512 * n + 1 * (x 0).val = _
    rw [Nat.one_mul]
  · show 0 + 1 * (x 1).val = _
    rw [Nat.one_mul, Nat.zero_add]

/-- The rows of a matrix by blocks of 512. -/
def byBlock (f : ℕ → ℕ → ℕ → ℝ) : ℕ → ℕ → ℝ := fun s d => f (s / 512) (s % 512) d

theorem piece_mat (f : ℕ → ℕ → ℕ → ℝ) {off : Fin 2 → ℕ} (inb : ∀ a, off a + S512x128.size a ≤ S4096x128.size a) (n : ℕ)
    (hn : off = ![512 * n, 0]) (Z : S512x128.Idx → Elt Ideal .bf16) (hZ : Z = mat (φ := .bf16) 512 128 (f n))
    (x : (Rect.unit (s := S4096x128) off S512x128.size inb).shape.Idx) :
    Z x = mat (φ := .bf16) 4096 128 (byBlock f) ((Rect.unit (s := S4096x128) off S512x128.size inb).emb x) := by
  refine piece_rows _ inb n hn Z (fun ix iz h0 h1 => ?_) x
  subst hZ
  have hl : (iz 0).val < 512 := (iz 0).isLt
  show ((f n (iz 0).val (iz 1).val : ℝ) : EReal) = ((f ((ix 0).val / 512) ((ix 0).val % 512) (ix 1).val : ℝ) : EReal)
  rw [h0, h1, show (512 * n + (iz 0).val) / 512 = n from by omega, show (512 * n + (iz 0).val) % 512 = (iz 0).val from by omega]

end Cert.Span
-- ==== Proof.PointA.lean ====
module

public import proofs.«01_k».proof.Proof.Span
public import proofs.«01_k».proof.Proof.Gen.KernelIdeal.Frame

@[expose] public section

set_option maxRecDepth 16384

/-! The first point of a head: the accumulators start from zero. -/

noncomputable section

namespace Cert.PointA

open Idealize.ShloMosaic Idealize.ShloMosaic.TcCoe
open Cert.KernelIdeal Cert.KernelIdeal.Gen Cert.Mat Cert.Trip Cert.Diag Cert.Loop Cert.Span Finset

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S512x128 .bf16) (harg12 : arg12.IsWhole) (arg13 : Memref sig .tc .vmem S8x128x512 .f32) (harg13 : arg13.IsWhole) (arg14 : Memref sig .tc .vmem S8x128x512 .f32) (harg14 : arg14.IsWhole)
  (x4 x5 x6 : Vec Ideal S512x128 .f32) {H : Head} {g13 g14 : ℕ → ℕ → ℕ → ℝ}

theorem r : kernelRun0_A.sl.r (F := Ideal) c arg2 harg2 (qM H (512 * (i 1).val)) = qM H (512 * (i 1).val) := read_whole _ _ _ (harg2.read_unread _) _

theorem r_1 (h1 : k0_pay121 x5 x6 = dyM H (512 * (i 1).val)) (h3 : k0_pay123 x5 x6 = dyT H (512 * (i 1).val)) : kernelRun0_A.sl.r_1 (F := Ideal) c arg7 harg7 arg8 harg8 x5 x6 = dyM H (512 * (i 1).val) := by
  unfold kernelRun0_A.sl.r_1
  rw [read_whole _ _ _ (harg7.read_unread _), read_whole _ _ _ (harg8.read_unread _), h1]

theorem r_2 : kernelRun0_A.sl.r_2 (F := Ideal) c arg2 harg2 (qM H (512 * (i 1).val)) = qT H (512 * (i 1).val) := by
  unfold kernelRun0_A.sl.r_2
  rw [read_whole _ _ _ (harg2.read_unread _), pay122_eq]

theorem r_3 (h1 : k0_pay121 x5 x6 = dyM H (512 * (i 1).val)) (h3 : k0_pay123 x5 x6 = dyT H (512 * (i 1).val)) : kernelRun0_A.sl.r_3 (F := Ideal) c arg7 harg7 arg8 harg8 x5 x6 = dyT H (512 * (i 1).val) := by
  unfold kernelRun0_A.sl.r_3
  rw [read_whole _ _ _ (harg7.read_unread _), read_whole _ _ _ (harg8.read_unread _), h3]

theorem r_4 : kernelRun0_A.sl.r_4 (F := Ideal) c arg5 harg5 (totM H (512 * (i 1).val)) = totM H (512 * (i 1).val) := by
  unfold kernelRun0_A.sl.r_4
  rw [read_whole _ _ _ (harg5.read_unread _), pay124_eq]

theorem v73 : kernelRun0_A.sl.v73 i = BitVec.ofNat 32 (512 * (i 1).val) :=
  (by decide +kernel : ∀ n : Fin 8, kernelRun0_A.sl.v73 (row n) = BitVec.ofNat 32 (512 * n.val)) (i 1)

theorem v77 : kernelRun0_A.sl.v77 i = BitVec.ofNat 32 (512 * (i 1).val) :=
  (by decide +kernel : ∀ n : Fin 8, kernelRun0_A.sl.v77 (row n) = BitVec.ofNat 32 (512 * n.val)) (i 1)

theorem start13 : arg13.view.read (Elt Ideal) (arg13.view.writes (Elt Ideal) arg13.view.junk (kernelRun0_A.sl.HS0_1 (F := Ideal))) = cube (fun _ _ _ => 0) := by
  unfold kernelRun0_A.sl.HS0_1
  refine (View.read_writes_full arg13.view _ _ _ []).trans ?_
  unfold k0_pay117 cube
  dsimp only
  funext ix
  pointwise []
  rfl

theorem start14 : arg14.view.read (Elt Ideal) (arg14.view.writes (Elt Ideal) arg14.view.junk (kernelRun0_A.sl.HS1_1 (F := Ideal))) = cube (fun _ _ _ => 0) := by
  unfold kernelRun0_A.sl.HS1_1
  refine (View.read_writes_full arg14.view _ _ _ []).trans ?_
  unfold k0_pay118 cube
  dsimp only
  funext ix
  pointwise []
  rfl

theorem loop : Before c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg3.unread (mat (φ := .bf16) 4096 128 H.k)) (harg4.unread (mat (φ := .bf16) 4096 128 H.v))
    (arg13.view.writes (Elt Ideal) arg13.view.junk (kernelRun0_A.sl.HS0_1 (F := Ideal))) (arg14.view.writes (Elt Ideal) arg14.view.junk (kernelRun0_A.sl.HS1_1 (F := Ideal))) H (fun _ _ _ => 0) (fun _ _ _ => 0) (Scf.trips (k0_t1_loop i).lb (k0_t1_loop i).ub (k0_t1_loop i).st) :=
  before_all c i arg2 harg2 arg3 harg3 arg4 harg4 arg5 harg5 arg6 harg6 arg7 harg7 arg8 harg8 arg9 harg9 arg10 harg10 arg11 harg11 arg12 harg12 arg13 harg13 arg14 harg14 _ _ _ _ _ H _ _ (harg3.read_unread _) (harg4.read_unread _) (start13 arg13) (start14 arg14) _ (le_refl _)

theorem trips1' : Scf.trips (k0_t1_loop i).lb (k0_t1_loop i).ub (k0_t1_loop i).st = (i 1).val := trips1 i

theorem r_5 (h1 : k0_pay121 x5 x6 = dyM H (512 * (i 1).val)) (h3 : k0_pay123 x5 x6 = dyT H (512 * (i 1).val)) : kernelRun0_A.sl.r_5 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 512 128 (fun r d => ∑ s ∈ range (512 * (i 1).val), H.dz ((512 * (i 1).val) + r) s * H.k s d) := by
  unfold kernelRun0_A.sl.r_5
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_6 (h1 : k0_pay121 x5 x6 = dyM H (512 * (i 1).val)) (h3 : k0_pay123 x5 x6 = dyT H (512 * (i 1).val)) : kernelRun0_A.sl.r_6 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = seenM H (512 * (i 1).val) (512 * (i 1).val) := by
  unfold kernelRun0_A.sl.r_6
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_7 (h1 : k0_pay121 x5 x6 = dyM H (512 * (i 1).val)) (h3 : k0_pay123 x5 x6 = dyT H (512 * (i 1).val)) : kernelRun0_A.sl.r_7 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = eseenM H (512 * (i 1).val) (512 * (i 1).val) := by
  unfold kernelRun0_A.sl.r_7
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.2) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_8 : kernelRun0_A.sl.r_8 (F := Ideal) i arg3 harg3 (mat (φ := .bf16) 4096 128 H.k) = kM H.k (512 * (i 1).val) := by
  unfold kernelRun0_A.sl.r_8
  exact read_kM _ _ _ (harg3.read_unread _) _ (i 1).val (off5 i)

theorem vb : arg4.view.readAt (Elt Ideal) (Rect.unit (s := S4096x128) (k0_off5 i) S512x128.size (k0_off5_inb i)).toLoadRect (harg4.unread (mat (φ := .bf16) 4096 128 H.v)) = kM H.v (512 * (i 1).val) :=
  read_kM _ _ _ (harg4.read_unread _) _ (i 1).val (off5 i)

theorem r_9 : kernelRun0_A.sl.r_9 (F := Ideal) c i arg2 harg2 arg3 harg3 (qM H (512 * (i 1).val)) (mat (φ := .bf16) 4096 128 H.k) = k0_pay136 (qM H (512 * (i 1).val)) (kM H.k (512 * (i 1).val)) := by
  unfold kernelRun0_A.sl.r_9
  rw [r, read_kM _ _ _ (harg3.read_unread _) _ (i 1).val (off5 i)]

theorem v369 (h1 : k0_pay121 x5 x6 = dyM H (512 * (i 1).val)) (h3 : k0_pay123 x5 x6 = dyT H (512 * (i 1).val)) : kernelRun0_A.sl.v369 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = slab (fun _ _ => 0) := by
  unfold kernelRun0_A.sl.v369
  rw [r, r_1 _ _ _ _ _ _ _ _ h1 h3, r_2, r_3 _ _ _ _ _ _ _ _ h1 h3, r_4, pay125_eq, trips2]
  unfold st_k0_t2
  dsimp only
  rw [List.nil_append, View.writes_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dk _ (i 1).val (off6 i)).trans ?_
  rw [trips1']
  exact slab_self _ (fun _ _ _ => 0) (fun j => dkt H (512 * (i 1).val) (512 * j))

theorem v378 (h1 : k0_pay121 x5 x6 = dyM H (512 * (i 1).val)) (h3 : k0_pay123 x5 x6 = dyT H (512 * (i 1).val)) : kernelRun0_A.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = slab (fun _ _ => 0) := by
  unfold kernelRun0_A.sl.v378
  rw [r, r_1 _ _ _ _ _ _ _ _ h1 h3, r_2, r_3 _ _ _ _ _ _ _ _ h1 h3, r_4, pay125_eq, trips2]
  unfold st_k0_t2
  dsimp only
  rw [List.nil_append, View.writes_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dv _ (i 1).val (off6 i)).trans ?_
  rw [trips1']
  exact slab_self _ (fun _ _ _ => 0) (fun j => dvt H (512 * (i 1).val) (512 * j))

theorem r_10 : kernelRun0_A.sl.r_10 (F := Ideal) c i arg2 harg2 arg3 harg3 (qM H (512 * (i 1).val)) (mat (φ := .bf16) 4096 128 H.k) = (mat (φ := .f32) 512 512 (at2 H.z (512 * (i 1).val) (512 * (i 1).val))) := by
  unfold kernelRun0_A.sl.r_10
  rw [r_9]
  exact z_eq H

theorem r_11 : kernelRun0_A.sl.r_11 i = k0_pay138 (BitVec.ofNat 32 (512 * (i 1).val)) (BitVec.ofNat 32 (512 * (i 1).val)) := by
  unfold kernelRun0_A.sl.r_11
  rw [v73, v77]

theorem r_12 : kernelRun0_A.sl.r_12 (F := Ideal) c i arg2 harg2 arg3 harg3 (qM H (512 * (i 1).val)) (mat (φ := .bf16) 4096 128 H.k) = mat (φ := .f32) 512 128 (at2 H.keep ((512 * (i 1).val)) ((512 * (i 1).val))) := by
  unfold kernelRun0_A.sl.r_12
  rw [v73, v77, r_9]
  exact keep0 _ _ H rfl rfl (ht i)

theorem r_13 : kernelRun0_A.sl.r_13 (F := Ideal) c i arg2 harg2 arg3 harg3 (qM H (512 * (i 1).val)) (mat (φ := .bf16) 4096 128 H.k) = mat (φ := .f32) 512 128 (at2 H.ls ((512 * (i 1).val)) ((512 * (i 1).val))) := by
  unfold kernelRun0_A.sl.r_13
  rw [r_9]
  exact ls0 H

theorem r_14 : kernelRun0_A.sl.r_14 i = k0_pay143 (BitVec.ofNat 32 (512 * (i 1).val)) (BitVec.ofNat 32 (512 * (i 1).val)) := by
  unfold kernelRun0_A.sl.r_14
  rw [v73, v77]

theorem r_15 : kernelRun0_A.sl.r_15 (F := Ideal) c i arg2 harg2 arg3 harg3 (qM H (512 * (i 1).val)) (mat (φ := .bf16) 4096 128 H.k) = k0_pay144 (k0_pay136 (F := Ideal) (qM H (512 * (i 1).val)) (kM H.k (512 * (i 1).val))) cs := by
  unfold kernelRun0_A.sl.r_15
  rw [r_9]
  rfl

theorem r_16 : kernelRun0_A.sl.r_16 (F := Ideal) c i arg2 harg2 arg3 harg3 (qM H (512 * (i 1).val)) (mat (φ := .bf16) 4096 128 H.k) = k0_pay145 (k0_pay136 (F := Ideal) (qM H (512 * (i 1).val)) (kM H.k (512 * (i 1).val))) cs := by
  unfold kernelRun0_A.sl.r_16
  rw [r_9]
  rfl

theorem r_17 : kernelRun0_A.sl.r_17 (F := Ideal) c i arg2 harg2 arg3 harg3 (qM H (512 * (i 1).val)) (mat (φ := .bf16) 4096 128 H.k) = k0_pay146 (k0_pay136 (F := Ideal) (qM H (512 * (i 1).val)) (kM H.k (512 * (i 1).val))) cs := by
  unfold kernelRun0_A.sl.r_17
  rw [r_9]
  rfl

theorem r_18 : kernelRun0_A.sl.r_18 (F := Ideal) c i arg2 harg2 arg3 harg3 (qM H (512 * (i 1).val)) (mat (φ := .bf16) 4096 128 H.k) = mat (φ := .f32) 384 128 (at2 H.keep ((512 * (i 1).val) + 128) ((512 * (i 1).val) + 128)) := by
  unfold kernelRun0_A.sl.r_18
  rw [r_14, r_16, r_17]
  exact keep1 _ _ H rfl rfl (ht i)

theorem r_19 : kernelRun0_A.sl.r_19 (F := Ideal) c i arg2 harg2 arg3 harg3 (qM H (512 * (i 1).val)) (mat (φ := .bf16) 4096 128 H.k) = mat (φ := .f32) 384 128 (at2 H.ls ((512 * (i 1).val) + 128) ((512 * (i 1).val) + 128)) := by
  unfold kernelRun0_A.sl.r_19
  rw [r_15, r_16, r_17]
  exact ls1 H

theorem r_20 : kernelRun0_A.sl.r_20 i = k0_pay150 (BitVec.ofNat 32 (512 * (i 1).val)) (BitVec.ofNat 32 (512 * (i 1).val)) := by
  unfold kernelRun0_A.sl.r_20
  rw [v73, v77]

theorem r_21 : kernelRun0_A.sl.r_21 (F := Ideal) c i arg2 harg2 arg3 harg3 (qM H (512 * (i 1).val)) (mat (φ := .bf16) 4096 128 H.k) = mat (φ := .f32) 256 128 (at2 H.keep ((512 * (i 1).val) + 256) ((512 * (i 1).val) + 256)) := by
  unfold kernelRun0_A.sl.r_21
  rw [v73, v77, r_10]
  exact keep2 _ _ H rfl rfl (ht i)

theorem r_22 : kernelRun0_A.sl.r_22 (F := Ideal) c i arg2 harg2 arg3 harg3 (qM H (512 * (i 1).val)) (mat (φ := .bf16) 4096 128 H.k) = mat (φ := .f32) 256 128 (at2 H.ls ((512 * (i 1).val) + 256) ((512 * (i 1).val) + 256)) := by
  unfold kernelRun0_A.sl.r_22
  rw [r_10]
  exact ls2 H

theorem r_23 : kernelRun0_A.sl.r_23 i = k0_pay155 (BitVec.ofNat 32 (512 * (i 1).val)) (BitVec.ofNat 32 (512 * (i 1).val)) := by
  unfold kernelRun0_A.sl.r_23
  rw [v73, v77]

theorem r_24 : kernelRun0_A.sl.r_24 (F := Ideal) c i arg2 harg2 arg3 harg3 (qM H (512 * (i 1).val)) (mat (φ := .bf16) 4096 128 H.k) = k0_pay156 (mat (φ := .f32) 512 512 (at2 H.z (512 * (i 1).val) (512 * (i 1).val))) := by
  unfold kernelRun0_A.sl.r_24
  rw [r_10]

theorem r_25 : kernelRun0_A.sl.r_25 (F := Ideal) c i arg2 harg2 arg3 harg3 (qM H (512 * (i 1).val)) (mat (φ := .bf16) 4096 128 H.k) = k0_pay157 (mat (φ := .f32) 512 512 (at2 H.z (512 * (i 1).val) (512 * (i 1).val))) := by
  unfold kernelRun0_A.sl.r_25
  rw [r_10]

theorem r_26 : kernelRun0_A.sl.r_26 (F := Ideal) c i arg2 harg2 arg3 harg3 (qM H (512 * (i 1).val)) (mat (φ := .bf16) 4096 128 H.k) = k0_pay158 (mat (φ := .f32) 512 512 (at2 H.z (512 * (i 1).val) (512 * (i 1).val))) := by
  unfold kernelRun0_A.sl.r_26
  rw [r_10]

theorem r_27 : kernelRun0_A.sl.r_27 (F := Ideal) c i arg2 harg2 arg3 harg3 (qM H (512 * (i 1).val)) (mat (φ := .bf16) 4096 128 H.k) = mat (φ := .f32) 128 128 (at2 H.ls ((512 * (i 1).val) + 384) ((512 * (i 1).val) + 384)) := by
  unfold kernelRun0_A.sl.r_27
  rw [r_24, r_25, r_26]
  exact ls3 H

theorem r_28 (h1 : k0_pay121 x5 x6 = dyM H (512 * (i 1).val)) (h3 : k0_pay123 x5 x6 = dyT H (512 * (i 1).val)) : kernelRun0_A.sl.r_28 (F := Ideal) c i arg4 harg4 arg7 harg7 arg8 harg8 (mat (φ := .bf16) 4096 128 H.v) x5 x6 = k0_pay161 (F := Ideal) (dyM H (512 * (i 1).val)) (kM H.v (512 * (i 1).val)) := by
  unfold kernelRun0_A.sl.r_28
  rw [r_1 _ _ _ _ _ _ _ _ h1 h3, vb]

theorem r_29 : kernelRun0_A.sl.r_29 (F := Ideal) c i arg2 harg2 arg3 harg3 (qM H (512 * (i 1).val)) (mat (φ := .bf16) 4096 128 H.k) = mat (φ := .f32) 384 128 (fun r c => ∑ d ∈ range (c + 1), H.keep ((512 * (i 1).val) + 128 + r) ((512 * (i 1).val) + 128 + d)) := by
  unfold kernelRun0_A.sl.r_29
  rw [r_12, r_18, r_21, r_23, r_25, r_26, pay125_eq]
  exact up1 _ _ H rfl rfl (ht i)

theorem r_30 : kernelRun0_A.sl.r_30 (F := Ideal) c i arg2 harg2 arg3 harg3 (qM H (512 * (i 1).val)) (mat (φ := .bf16) 4096 128 H.k) = mat (φ := .f32) 256 128 (fun r c => ∑ d ∈ range (c + 1), H.keep ((512 * (i 1).val) + 256 + r) ((512 * (i 1).val) + 256 + d)) := by
  unfold kernelRun0_A.sl.r_30
  rw [r_12, r_18, r_21, r_23, r_25, r_26, pay125_eq]
  exact up2 _ _ H rfl rfl (ht i)

theorem r_31 : kernelRun0_A.sl.r_31 (F := Ideal) c i arg2 harg2 arg3 harg3 (qM H (512 * (i 1).val)) (mat (φ := .bf16) 4096 128 H.k) = mat (φ := .f32) 128 128 (fun r c => ∑ d ∈ range (c + 1), H.keep ((512 * (i 1).val) + 384 + r) ((512 * (i 1).val) + 384 + d)) := by
  unfold kernelRun0_A.sl.r_31
  rw [r_12, r_18, r_21, r_23, r_25, r_26, pay125_eq]
  exact up3 _ _ H rfl rfl (ht i)

theorem r_32 (h1 : k0_pay121 x5 x6 = dyM H (512 * (i 1).val)) (h3 : k0_pay123 x5 x6 = dyT H (512 * (i 1).val)) : kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.w (512 * (i 1).val) ((512 * (i 1).val) + 0)) := by
  unfold kernelRun0_A.sl.r_32
  rw [r_4, r_6 _ _ _ _ _ _ _ _ _ _ _ _ _ _ _ _ _ _ _ _ _ _ _ _ _ _ _ _ _ _ h1 h3, r_11, r_12, r_13, r_18, r_21, r_23, r_25, r_26, pay125_eq]
  exact w0h _ _ H rfl rfl (ht i)

theorem r_33 (h1 : k0_pay121 x5 x6 = dyM H (512 * (i 1).val)) (h3 : k0_pay123 x5 x6 = dyT H (512 * (i 1).val)) : kernelRun0_A.sl.r_33 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 512 128 (at2 H.e ((512 * (i 1).val)) ((512 * (i 1).val))) := by
  unfold kernelRun0_A.sl.r_33
  rw [r_1 _ _ _ _ _ _ _ _ h1 h3, r_4, r_6 _ _ _ _ _ _ _ _ _ _ _ _ _ _ _ _ _ _ _ _ _ _ _ _ _ _ _ _ _ _ h1 h3, r_11, r_12, r_13, r_18, r_21, r_23, r_25, r_26, pay125_eq, vb]
  exact e0 _ _ H rfl rfl (ht i)

theorem r_34 (h1 : k0_pay121 x5 x6 = dyM H (512 * (i 1).val)) (h3 : k0_pay123 x5 x6 = dyT H (512 * (i 1).val)) : kernelRun0_A.sl.r_34 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = seenM H (512 * (i 1).val) ((512 * (i 1).val) + 128) := by
  unfold kernelRun0_A.sl.r_34
  rw [r_6 _ _ _ _ _ _ _ _ _ _ _ _ _ _ _ _ _ _ _ _ _ _ _ _ _ _ _ _ _ _ h1 h3, r_12]
  exact seen1 H

theorem r_35 (h1 : k0_pay121 x5 x6 = dyM H (512 * (i 1).val)) (h3 : k0_pay123 x5 x6 = dyT H (512 * (i 1).val)) : kernelRun0_A.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.w (512 * (i 1).val) ((512 * (i 1).val) + 128)) := by
  unfold kernelRun0_A.sl.r_35
  rw [r_4, r_14, r_19, r_29, r_34 _ _ _ _ _ _ _ _ _ _ _ _ _ _ _ _ _ _ _ _ _ _ _ _ _ _ _ _ _ _ h1 h3]
  exact w1h _ _ H rfl rfl (ht i)

theorem r_36 (h1 : k0_pay121 x5 x6 = dyM H (512 * (i 1).val)) (h3 : k0_pay123 x5 x6 = dyT H (512 * (i 1).val)) : kernelRun0_A.sl.r_36 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 384 128 (at2 H.e ((512 * (i 1).val) + 128) ((512 * (i 1).val) + 128)) := by
  unfold kernelRun0_A.sl.r_36
  rw [r_4, r_14, r_19, r_28 _ _ _ _ _ _ _ _ _ _ h1 h3, r_29, r_34 _ _ _ _ _ _ _ _ _ _ _ _ _ _ _ _ _ _ _ _ _ _ _ _ _ _ _ _ _ _ h1 h3]
  exact e1 _ _ H rfl rfl (ht i)

theorem r_37 (h1 : k0_pay121 x5 x6 = dyM H (512 * (i 1).val)) (h3 : k0_pay123 x5 x6 = dyT H (512 * (i 1).val)) : kernelRun0_A.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.w (512 * (i 1).val) ((512 * (i 1).val) + 256)) := by
  unfold kernelRun0_A.sl.r_37
  rw [r_4, r_18, r_20, r_22, r_30, r_34 _ _ _ _ _ _ _ _ _ _ _ _ _ _ _ _ _ _ _ _ _ _ _ _ _ _ _ _ _ _ h1 h3]
  exact w2h _ _ H rfl rfl (ht i)

theorem r_38 (h1 : k0_pay121 x5 x6 = dyM H (512 * (i 1).val)) (h3 : k0_pay123 x5 x6 = dyT H (512 * (i 1).val)) : kernelRun0_A.sl.r_38 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 256 128 (at2 H.e ((512 * (i 1).val) + 256) ((512 * (i 1).val) + 256)) := by
  unfold kernelRun0_A.sl.r_38
  rw [r_4, r_18, r_20, r_22, r_28 _ _ _ _ _ _ _ _ _ _ h1 h3, r_30, r_34 _ _ _ _ _ _ _ _ _ _ _ _ _ _ _ _ _ _ _ _ _ _ _ _ _ _ _ _ _ _ h1 h3]
  exact e2 _ _ H rfl rfl (ht i)

theorem r_39 (h1 : k0_pay121 x5 x6 = dyM H (512 * (i 1).val)) (h3 : k0_pay123 x5 x6 = dyT H (512 * (i 1).val)) : kernelRun0_A.sl.r_39 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 128 128 (at2 H.w ((512 * (i 1).val) + 384) ((512 * (i 1).val) + 384)) := by
  unfold kernelRun0_A.sl.r_39
  rw [r_4, r_18, r_21, r_23, r_27, r_31, r_34 _ _ _ _ _ _ _ _ _ _ _ _ _ _ _ _ _ _ _ _ _ _ _ _ _ _ _ _ _ _ h1 h3]
  exact w3 _ _ H rfl rfl (ht i)

theorem r_40 (h1 : k0_pay121 x5 x6 = dyM H (512 * (i 1).val)) (h3 : k0_pay123 x5 x6 = dyT H (512 * (i 1).val)) : kernelRun0_A.sl.r_40 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = k0_pay178 (totM H (512 * (i 1).val)) (mat (φ := .f32) 384 128 (at2 H.keep ((512 * (i 1).val) + 128) ((512 * (i 1).val) + 128))) (mat (φ := .f32) 256 128 (at2 H.keep ((512 * (i 1).val) + 256) ((512 * (i 1).val) + 256))) (k0_pay155 (BitVec.ofNat 32 (512 * (i 1).val)) (BitVec.ofNat 32 (512 * (i 1).val))) (mat (φ := .f32) 128 128 (at2 H.ls ((512 * (i 1).val) + 384) ((512 * (i 1).val) + 384))) (mat (φ := .f32) 128 128 (fun r c => ∑ d ∈ range (c + 1), H.keep ((512 * (i 1).val) + 384 + r) ((512 * (i 1).val) + 384 + d))) (seenM H (512 * (i 1).val) ((512 * (i 1).val) + 128)) := by
  unfold kernelRun0_A.sl.r_40
  rw [r_4, r_18, r_21, r_23, r_27, r_31, r_34 _ _ _ _ _ _ _ _ _ _ _ _ _ _ _ _ _ _ _ _ _ _ _ _ _ _ _ _ _ _ h1 h3]

theorem r_41 (h1 : k0_pay121 x5 x6 = dyM H (512 * (i 1).val)) (h3 : k0_pay123 x5 x6 = dyT H (512 * (i 1).val)) : kernelRun0_A.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.w (512 * (i 1).val) ((512 * (i 1).val) + 384)) := by
  unfold kernelRun0_A.sl.r_41
  rw [r_40 _ _ _ _ _ _ _ _ _ _ _ _ _ _ _ _ _ _ _ _ _ _ _ _ _ _ _ _ _ _ h1 h3]
  exact w3h _ _ H rfl rfl (ht i)

theorem r_42 (h1 : k0_pay121 x5 x6 = dyM H (512 * (i 1).val)) (h3 : k0_pay123 x5 x6 = dyT H (512 * (i 1).val)) : kernelRun0_A.sl.r_42 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 128 128 (at2 H.e ((512 * (i 1).val) + 384) ((512 * (i 1).val) + 384)) := by
  unfold kernelRun0_A.sl.r_42
  rw [r_28 _ _ _ _ _ _ _ _ _ _ h1 h3, r_39 _ _ _ _ _ _ _ _ _ _ _ _ _ _ _ _ _ _ _ _ _ _ _ _ _ _ _ _ _ _ h1 h3]
  exact e3 H

theorem r_43 (h1 : k0_pay121 x5 x6 = dyM H (512 * (i 1).val)) (h3 : k0_pay123 x5 x6 = dyT H (512 * (i 1).val)) : kernelRun0_A.sl.r_43 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 256 128 (fun r c => ∑ d ∈ range c, H.e ((512 * (i 1).val) + 256 + r) ((512 * (i 1).val) + 256 + d)) := by
  unfold kernelRun0_A.sl.r_43
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before2 H

theorem r_44 (h1 : k0_pay121 x5 x6 = dyM H (512 * (i 1).val)) (h3 : k0_pay123 x5 x6 = dyT H (512 * (i 1).val)) : kernelRun0_A.sl.r_44 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 128 128 (fun r c => ∑ d ∈ range c, H.e ((512 * (i 1).val) + 384 + r) ((512 * (i 1).val) + 384 + d)) := by
  unfold kernelRun0_A.sl.r_44
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before3 H

theorem r_45 (h1 : k0_pay121 x5 x6 = dyM H (512 * (i 1).val)) (h3 : k0_pay123 x5 x6 = dyT H (512 * (i 1).val)) : kernelRun0_A.sl.r_45 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.dz (512 * (i 1).val) ((512 * (i 1).val) + 0)) := by
  unfold kernelRun0_A.sl.r_45
  rw [r_7 _ _ _ _ _ _ _ _ _ _ _ _ _ _ _ _ _ _ _ _ _ _ _ _ _ _ _ _ _ _ h1 h3, r_11, r_13, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz0 _ _ H rfl rfl (ht i)

theorem r_46 (h1 : k0_pay121 x5 x6 = dyM H (512 * (i 1).val)) (h3 : k0_pay123 x5 x6 = dyT H (512 * (i 1).val)) : kernelRun0_A.sl.r_46 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = eseenM H (512 * (i 1).val) ((512 * (i 1).val) + 128) := by
  unfold kernelRun0_A.sl.r_46
  rw [r_7 _ _ _ _ _ _ _ _ _ _ _ _ _ _ _ _ _ _ _ _ _ _ _ _ _ _ _ _ _ _ h1 h3, r_33 _ _ _ _ _ _ _ _ _ _ _ _ _ _ _ _ _ _ _ _ _ _ _ _ _ _ _ _ _ _ h1 h3]
  exact eseen1 H

theorem r_47 (h1 : k0_pay121 x5 x6 = dyM H (512 * (i 1).val)) (h3 : k0_pay123 x5 x6 = dyT H (512 * (i 1).val)) : kernelRun0_A.sl.r_47 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .bf16) 512 128 (at2 H.dz (512 * (i 1).val) ((512 * (i 1).val) + 128)) := by
  unfold kernelRun0_A.sl.r_47
  rw [r_7 _ _ _ _ _ _ _ _ _ _ _ _ _ _ _ _ _ _ _ _ _ _ _ _ _ _ _ _ _ _ h1 h3, r_14, r_19, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz1 _ _ H rfl rfl (ht i)

theorem r_48 (h1 : k0_pay121 x5 x6 = dyM H (512 * (i 1).val)) (h3 : k0_pay123 x5 x6 = dyT H (512 * (i 1).val)) : kernelRun0_A.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = mat (φ := .f32) 512 128 (fun r d => (∑ s ∈ range (512 * (i 1).val), H.dz ((512 * (i 1).val) + r) s * H.k s d) + ∑ s ∈ range 512, H.dz ((512 * (i 1).val) + r) ((512 * (i 1).val) + s) * H.k ((512 * (i 1).val) + s) d) := by
  unfold kernelRun0_A.sl.r_48
  rw [r_5 _ _ _ _ _ _ _ _ _ _ _ _ _ _ _ _ _ _ _ _ _ _ _ _ _ _ _ _ _ _ h1 h3, r_8, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3]
  exact dq _ _ H rfl rfl (ht i) _

theorem r_49 (h1 : k0_pay121 x5 x6 = dyM H (512 * (i 1).val)) (h3 : k0_pay123 x5 x6 = dyT H (512 * (i 1).val)) : kernelRun0_A.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 = slab (fun d s => 0 + dkt H (512 * (i 1).val) (512 * (i 1).val) d s) := by
  unfold kernelRun0_A.sl.r_49
  rw [r_2, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3, v369 _ _ _ _ _ _ _ _ _ _ _ _ _ _ _ _ _ _ _ _ _ _ _ _ _ _ _ _ _ _ h1 h3]
  exact dk_acc _ _ H rfl rfl (ht i) _

/-! ## What the point leaves -/

theorem out7 (h1 : k0_pay121 x5 x6 = dyM H (512 * (i 1).val)) (h3 : k0_pay123 x5 x6 = dyT H (512 * (i 1).val)) (hc0 : cond0_0 i) (hc1 : ¬cond0_1 i) : out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6
    = mat (φ := .bf16) 512 128 (fun r d => ((∑ s ∈ range (512 * (i 1).val), H.dz ((512 * (i 1).val) + r) s * H.k s d) + ∑ s ∈ range 512, H.dz ((512 * (i 1).val) + r) ((512 * (i 1).val) + s) * H.k ((512 * (i 1).val) + s) d) * (Real.sqrt 128)⁻¹) := by
  unfold out0_A_7
  refine (View.read_writes_full (Val := Elt Ideal) (e := .bf16) (s := S512x128) VO0_7 _ inb_S512x128_S512x128_0_0 (k0_pay2 (kernelRun0_A.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6)) []).trans ?_
  rw [r_48 _ _ _ _ _ _ _ _ _ _ _ _ _ _ _ _ _ _ _ _ _ _ _ _ _ _ _ _ _ _ h1 h3, dq_out]

theorem out10 (hc0 : cond0_0 i) (hc1 : ¬cond0_1 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 = k0_pay119 x5 x6 x4 := by
  unfold out0_A_10
  change VO0_10.read (Elt Ideal) (VO0_10.writes (Elt Ideal) VO0_10.junk (kernelRun0_A.sl.H10_1 c arg6 harg6 arg7 harg7 arg8 harg8 x4 x5 x6)) = _
  unfold kernelRun0_A.sl.H10_1
  refine (View.read_writes_full (Val := Elt Ideal) (e := .bf16) (s := S512x128) VO0_10 _ _ _ []).trans ?_
  have ex5 : arg7.view.readAt (Elt Ideal) (Rect.unit ![0, 0] S512x128.size inb_S512x128_S512x128_0_0).toLoadRect (harg7.unread x5) = x5 := read_whole arg7.view _ _ (harg7.read_unread _) _
  have ex6 : arg8.view.readAt (Elt Ideal) (Rect.unit ![0, 0] S512x128.size inb_S512x128_S512x128_0_0).toLoadRect (harg8.unread x6) = x6 := read_whole arg8.view _ _ (harg8.read_unread _) _
  have ex4 : arg6.view.readAt (Elt Ideal) (Rect.unit ![0, 0] S512x128.size inb_S512x128_S512x128_0_0).toLoadRect (harg6.unread x4) = x4 := read_whole arg6.view _ _ (harg6.read_unread _) _
  exact congr3 _ ex5 ex6 ex4

theorem acc13 (h1 : k0_pay121 x5 x6 = dyM H (512 * (i 1).val)) (h3 : k0_pay123 x5 x6 = dyT H (512 * (i 1).val)) : arg13.view.read (Elt Ideal) (arg13.view.writes (Elt Ideal) arg13.view.junk
    ((⟨Rect.unit (s := S8x128x512) (k0_off6 i) S1x128x512.size (k0_off6_inb i), (kernelRun0_A.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6)⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (kernelRun0_A.sl.v70 i) (harg3.unread (mat (φ := .bf16) 4096 128 H.k)) (harg4.unread (mat (φ := .bf16) 4096 128 H.v)) (arg13.view.writes (Elt Ideal) arg13.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).2.1 ++ kernelRun0_A.sl.HS0_1)) (arg14.view.writes (Elt Ideal) arg14.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).2.2 ++ kernelRun0_A.sl.HS1_1)) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.1 ++ (((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) (arg13.view.junk) kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st))).2.1 ++ kernelRun0_A.sl.HS0_1 (F := Ideal)))))
    = cube (fun j d s => 0 + dkt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val (fun _ _ _ => 0) (fun j => dkt H (512 * (i 1).val) (512 * j)) fun j hj d s => dkt_zero H (by omega) d s)
  · rw [View.writes_append]; refine (loop c i arg2 harg2 arg3 harg3 arg4 harg4 arg5 harg5 arg6 harg6 arg7 harg7 arg8 harg8 arg9 harg9 arg10 harg10 arg11 harg11 arg12 harg12 arg13 harg13 arg14 harg14).dk.trans ?_
    rw [trips1']
  · exact r_49 _ _ _ _ _ _ _ _ _ _ _ _ _ _ _ _ _ _ _ _ _ _ _ _ _ _ _ _ _ _ h1 h3

theorem sout0 (h1 : k0_pay121 x5 x6 = dyM H (512 * (i 1).val)) (h3 : k0_pay123 x5 x6 = dyT H (512 * (i 1).val)) (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 = cube (fun j d s => 0 + dkt H (512 * (i 1).val) (512 * j) d s) :=
  (View.read_writes_of_cover VS0_0 _ arg13.view arg13.view.junk _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 _ _ _ _ x4 x5 x6)).trans
    (acc13 c i arg2 harg2 arg3 harg3 arg4 harg4 arg5 harg5 arg6 harg6 arg7 harg7 arg8 harg8 arg9 harg9 arg10 harg10 arg11 harg11 arg12 harg12 arg13 harg13 arg14 harg14 x5 x6 h1 h3)

theorem acc14 (h1 : k0_pay121 x5 x6 = dyM H (512 * (i 1).val)) (h3 : k0_pay123 x5 x6 = dyT H (512 * (i 1).val)) : arg14.view.read (Elt Ideal) (arg14.view.writes (Elt Ideal) arg14.view.junk
    ((⟨Rect.unit (s := S8x128x512) (k0_off6 i) S1x128x512.size (k0_off6_inb i), (k0_pay1 (kernelRun0_A.sl.r_3 (F := Ideal) c arg7 harg7 arg8 harg8 x5 x6) (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6) (kernelRun0_A.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6) (kernelRun0_A.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6) (kernelRun0_A.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6) (kernelRun0_A.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6))⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (kernelRun0_A.sl.v70 i) (harg3.unread (mat (φ := .bf16) 4096 128 H.k)) (harg4.unread (mat (φ := .bf16) 4096 128 H.v)) (arg13.view.writes (Elt Ideal) arg13.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).2.1 ++ kernelRun0_A.sl.HS0_1)) (arg14.view.writes (Elt Ideal) arg14.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).2.2 ++ kernelRun0_A.sl.HS1_1)) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) arg13.view.junk kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.2 ++ (((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_A.sl.r c arg2 harg2 (qM H (512 * (i 1).val))) (kernelRun0_A.sl.r_1 c arg7 harg7 arg8 harg8 x5 x6) (kernelRun0_A.sl.r_2 c arg2 harg2 (qM H (512 * (i 1).val))) (kernelRun0_A.sl.r_3 c arg7 harg7 arg8 harg8 x5 x6) (kernelRun0_A.sl.r_4 c arg5 harg5 (totM H (512 * (i 1).val))) k0_pay125 k0_pay126 (harg3.unread (mat (φ := .bf16) 4096 128 H.k)) (harg4.unread (mat (φ := .bf16) 4096 128 H.v)) (arg13.view.writes (Elt Ideal) (arg13.view.junk) kernelRun0_A.sl.HS0_1) (arg14.view.writes (Elt Ideal) arg14.view.junk kernelRun0_A.sl.HS1_1) (k0_pay129, k0_pay128, k0_pay128) (Scf.trips (k0_t1_loop i).lb (k0_t1_loop i).ub (k0_t1_loop i).st))).2.2 ++ kernelRun0_A.sl.HS1_1 (F := Ideal)))))
    = cube (fun j d s => 0 + dvt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val (fun _ _ _ => 0) (fun j => dvt H (512 * (i 1).val) (512 * j)) fun j hj d s => dvt_zero H (by omega) d s)
  · rw [View.writes_append]; refine (loop c i arg2 harg2 arg3 harg3 arg4 harg4 arg5 harg5 arg6 harg6 arg7 harg7 arg8 harg8 arg9 harg9 arg10 harg10 arg11 harg11 arg12 harg12 arg13 harg13 arg14 harg14).dv.trans ?_
    rw [trips1']
  · rw [r_32 _ _ _ _ _ _ _ _ _ _ _ _ _ _ _ _ _ _ _ _ _ _ _ _ _ _ _ _ _ _ h1 h3, r_35 _ _ _ _ _ _ _ _ _ _ _ _ _ _ _ _ _ _ _ _ _ _ _ _ _ _ _ _ _ _ h1 h3, r_37 _ _ _ _ _ _ _ _ _ _ _ _ _ _ _ _ _ _ _ _ _ _ _ _ _ _ _ _ _ _ h1 h3, r_41 _ _ _ _ _ _ _ _ _ _ _ _ _ _ _ _ _ _ _ _ _ _ _ _ _ _ _ _ _ _ h1 h3, v378 _ _ _ _ _ _ _ _ _ _ _ _ _ _ _ _ _ _ _ _ _ _ _ _ _ _ _ _ _ _ h1 h3]; exact dv_acc H (512 * (i 1).val) _

theorem sout1 (h1 : k0_pay121 x5 x6 = dyM H (512 * (i 1).val)) (h3 : k0_pay123 x5 x6 = dyT H (512 * (i 1).val)) (hc0 : cond0_0 i) (hc1 : ¬cond0_1 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 = cube (fun j d s => 0 + dvt H (512 * (i 1).val) (512 * j) d s) :=
  (View.read_writes_of_cover VS0_1 _ arg14.view arg14.view.junk _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 _ _ _ _ x4 x5 x6)).trans
    (acc14 c i arg2 harg2 arg3 harg3 arg4 harg4 arg5 harg5 arg6 harg6 arg7 harg7 arg8 harg8 arg9 harg9 arg10 harg10 arg11 harg11 arg12 harg12 arg13 harg13 arg14 harg14 x5 x6 h1 h3)

end

end Cert.PointA
-- ==== Proof.PointB.lean ====
module

public import proofs.«01_k».proof.Proof.Span
public import proofs.«01_k».proof.Proof.Gen.KernelIdeal.Frame

@[expose] public section

set_option maxRecDepth 16384

/-! A point between the first and the last of a head. -/

noncomputable section

namespace Cert.PointB

open Idealize.ShloMosaic Idealize.ShloMosaic.TcCoe
open Cert.KernelIdeal Cert.KernelIdeal.Gen Cert.Mat Cert.Trip Cert.Diag Cert.Loop Cert.Span Finset

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S512x128 .bf16) (harg12 : arg12.IsWhole) (arg13 : Memref sig .tc .vmem S8x128x512 .f32) (harg13 : arg13.IsWhole) (arg14 : Memref sig .tc .vmem S8x128x512 .f32) (harg14 : arg14.IsWhole)
  (x4 x5 x6 : Vec Ideal S512x128 .f32) {H : Head} {g13 g14 : ℕ → ℕ → ℕ → ℝ}

theorem r : kernelRun0_B.sl.r (F := Ideal) c arg2 harg2 (qM H (512 * (i 1).val)) = qM H (512 * (i 1).val) := read_whole _ _ _ (harg2.read_unread _) _

theorem r_1 (h1 : k0_pay121 x5 x6 = dyM H (512 * (i 1).val)) (h3 : k0_pay123 x5 x6 = dyT H (512 * (i 1).val)) : kernelRun0_B.sl.r_1 (F := Ideal) c arg7 harg7 arg8 harg8 x5 x6 = dyM H (512 * (i 1).val) := by
  unfold kernelRun0_B.sl.r_1
  rw [read_whole _ _ _ (harg7.read_unread _), read_whole _ _ _ (harg8.read_unread _), h1]

theorem r_2 : kernelRun0_B.sl.r_2 (F := Ideal) c arg2 harg2 (qM H (512 * (i 1).val)) = qT H (512 * (i 1).val) := by
  unfold kernelRun0_B.sl.r_2
  rw [read_whole _ _ _ (harg2.read_unread _), pay122_eq]

theorem r_3 (h1 : k0_pay121 x5 x6 = dyM H (512 * (i 1).val)) (h3 : k0_pay123 x5 x6 = dyT H (512 * (i 1).val)) : kernelRun0_B.sl.r_3 (F := Ideal) c arg7 harg7 arg8 harg8 x5 x6 = dyT H (512 * (i 1).val) := by
  unfold kernelRun0_B.sl.r_3
  rw [read_whole _ _ _ (harg7.read_unread _), read_whole _ _ _ (harg8.read_unread _), h3]

theorem r_4 : kernelRun0_B.sl.r_4 (F := Ideal) c arg5 harg5 (totM H (512 * (i 1).val)) = totM H (512 * (i 1).val) := by
  unfold kernelRun0_B.sl.r_4
  rw [read_whole _ _ _ (harg5.read_unread _), pay124_eq]

theorem v73 : kernelRun0_B.sl.v73 i = BitVec.ofNat 32 (512 * (i 1).val) :=
  (by decide +kernel : ∀ n : Fin 8, kernelRun0_B.sl.v73 (row n) = BitVec.ofNat 32 (512 * n.val)) (i 1)

theorem v77 : kernelRun0_B.sl.v77 i = BitVec.ofNat 32 (512 * (i 1).val) :=
  (by decide +kernel : ∀ n : Fin 8, kernelRun0_B.sl.v77 (row n) = BitVec.ofNat 32 (512 * n.val)) (i 1)

theorem start13 : arg13.view.read (Elt Ideal) (harg13.unread (cube g13)) = cube g13 := harg13.read_unread _

theorem start14 : arg14.view.read (Elt Ideal) (harg14.unread (cube g14)) = cube g14 := harg14.read_unread _

theorem loop : Before c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg3.unread (mat (φ := .bf16) 4096 128 H.k)) (harg4.unread (mat (φ := .bf16) 4096 128 H.v))
    (harg13.unread (cube g13)) (harg14.unread (cube g14)) H g13 g14 (Scf.trips (k0_t1_loop i).lb (k0_t1_loop i).ub (k0_t1_loop i).st) :=
  before_all c i arg2 harg2 arg3 harg3 arg4 harg4 arg5 harg5 arg6 harg6 arg7 harg7 arg8 harg8 arg9 harg9 arg10 harg10 arg11 harg11 arg12 harg12 arg13 harg13 arg14 harg14 _ _ _ _ _ H _ _ (harg3.read_unread _) (harg4.read_unread _) (start13 arg13 harg13) (start14 arg14 harg14) _ (le_refl _)

theorem trips1' : Scf.trips (k0_t1_loop i).lb (k0_t1_loop i).ub (k0_t1_loop i).st = (i 1).val := trips1 i

theorem r_5 (h1 : k0_pay121 x5 x6 = dyM H (512 * (i 1).val)) (h3 : k0_pay123 x5 x6 = dyT H (512 * (i 1).val)) : kernelRun0_B.sl.r_5 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (fun r d => ∑ s ∈ range (512 * (i 1).val), H.dz ((512 * (i 1).val) + r) s * H.k s d) := by
  unfold kernelRun0_B.sl.r_5
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_6 (h1 : k0_pay121 x5 x6 = dyM H (512 * (i 1).val)) (h3 : k0_pay123 x5 x6 = dyT H (512 * (i 1).val)) : kernelRun0_B.sl.r_6 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = seenM H (512 * (i 1).val) (512 * (i 1).val) := by
  unfold kernelRun0_B.sl.r_6
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_7 (h1 : k0_pay121 x5 x6 = dyM H (512 * (i 1).val)) (h3 : k0_pay123 x5 x6 = dyT H (512 * (i 1).val)) : kernelRun0_B.sl.r_7 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = eseenM H (512 * (i 1).val) (512 * (i 1).val) := by
  unfold kernelRun0_B.sl.r_7
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.2) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_8 : kernelRun0_B.sl.r_8 (F := Ideal) i arg3 harg3 (mat (φ := .bf16) 4096 128 H.k) = kM H.k (512 * (i 1).val) := by
  unfold kernelRun0_B.sl.r_8
  exact read_kM _ _ _ (harg3.read_unread _) _ (i 1).val (off5 i)

theorem vb : arg4.view.readAt (Elt Ideal) (Rect.unit (s := S4096x128) (k0_off5 i) S512x128.size (k0_off5_inb i)).toLoadRect (harg4.unread (mat (φ := .bf16) 4096 128 H.v)) = kM H.v (512 * (i 1).val) :=
  read_kM _ _ _ (harg4.read_unread _) _ (i 1).val (off5 i)

theorem r_9 : kernelRun0_B.sl.r_9 (F := Ideal) c i arg2 harg2 arg3 harg3 (qM H (512 * (i 1).val)) (mat (φ := .bf16) 4096 128 H.k) = k0_pay136 (qM H (512 * (i 1).val)) (kM H.k (512 * (i 1).val)) := by
  unfold kernelRun0_B.sl.r_9
  rw [r, read_kM _ _ _ (harg3.read_unread _) _ (i 1).val (off5 i)]

theorem v369 (h1 : k0_pay121 x5 x6 = dyM H (512 * (i 1).val)) (h3 : k0_pay123 x5 x6 = dyT H (512 * (i 1).val)) : kernelRun0_B.sl.v369 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (g13 (i 1).val) := by
  unfold kernelRun0_B.sl.v369
  rw [r, r_1 _ _ _ _ _ _ _ _ h1 h3, r_2, r_3 _ _ _ _ _ _ _ _ h1 h3, r_4, pay125_eq, trips2]
  unfold st_k0_t2
  dsimp only
  rw [List.nil_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dk _ (i 1).val (off6 i)).trans ?_
  rw [trips1']
  exact slab_self _ g13 (fun j => dkt H (512 * (i 1).val) (512 * j))

theorem v378 (h1 : k0_pay121 x5 x6 = dyM H (512 * (i 1).val)) (h3 : k0_pay123 x5 x6 = dyT H (512 * (i 1).val)) : kernelRun0_B.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (g14 (i 1).val) := by
  unfold kernelRun0_B.sl.v378
  rw [r, r_1 _ _ _ _ _ _ _ _ h1 h3, r_2, r_3 _ _ _ _ _ _ _ _ h1 h3, r_4, pay125_eq, trips2]
  unfold st_k0_t2
  dsimp only
  rw [List.nil_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dv _ (i 1).val (off6 i)).trans ?_
  rw [trips1']
  exact slab_self _ g14 (fun j => dvt H (512 * (i 1).val) (512 * j))

theorem r_10 : kernelRun0_B.sl.r_10 (F := Ideal) c i arg2 harg2 arg3 harg3 (qM H (512 * (i 1).val)) (mat (φ := .bf16) 4096 128 H.k) = (mat (φ := .f32) 512 512 (at2 H.z (512 * (i 1).val) (512 * (i 1).val))) := by
  unfold kernelRun0_B.sl.r_10
  rw [r_9]
  exact z_eq H

theorem r_11 : kernelRun0_B.sl.r_11 i = k0_pay138 (BitVec.ofNat 32 (512 * (i 1).val)) (BitVec.ofNat 32 (512 * (i 1).val)) := by
  unfold kernelRun0_B.sl.r_11
  rw [v73, v77]

theorem r_12 : kernelRun0_B.sl.r_12 (F := Ideal) c i arg2 harg2 arg3 harg3 (qM H (512 * (i 1).val)) (mat (φ := .bf16) 4096 128 H.k) = mat (φ := .f32) 512 128 (at2 H.keep ((512 * (i 1).val)) ((512 * (i 1).val))) := by
  unfold kernelRun0_B.sl.r_12
  rw [v73, v77, r_9]
  exact keep0 _ _ H rfl rfl (ht i)

theorem r_13 : kernelRun0_B.sl.r_13 (F := Ideal) c i arg2 harg2 arg3 harg3 (qM H (512 * (i 1).val)) (mat (φ := .bf16) 4096 128 H.k) = mat (φ := .f32) 512 128 (at2 H.ls ((512 * (i 1).val)) ((512 * (i 1).val))) := by
  unfold kernelRun0_B.sl.r_13
  rw [r_9]
  exact ls0 H

theorem r_14 : kernelRun0_B.sl.r_14 i = k0_pay143 (BitVec.ofNat 32 (512 * (i 1).val)) (BitVec.ofNat 32 (512 * (i 1).val)) := by
  unfold kernelRun0_B.sl.r_14
  rw [v73, v77]

theorem r_15 : kernelRun0_B.sl.r_15 (F := Ideal) c i arg2 harg2 arg3 harg3 (qM H (512 * (i 1).val)) (mat (φ := .bf16) 4096 128 H.k) = k0_pay144 (k0_pay136 (F := Ideal) (qM H (512 * (i 1).val)) (kM H.k (512 * (i 1).val))) cs := by
  unfold kernelRun0_B.sl.r_15
  rw [r_9]
  rfl

theorem r_16 : kernelRun0_B.sl.r_16 (F := Ideal) c i arg2 harg2 arg3 harg3 (qM H (512 * (i 1).val)) (mat (φ := .bf16) 4096 128 H.k) = k0_pay145 (k0_pay136 (F := Ideal) (qM H (512 * (i 1).val)) (kM H.k (512 * (i 1).val))) cs := by
  unfold kernelRun0_B.sl.r_16
  rw [r_9]
  rfl

theorem r_17 : kernelRun0_B.sl.r_17 (F := Ideal) c i arg2 harg2 arg3 harg3 (qM H (512 * (i 1).val)) (mat (φ := .bf16) 4096 128 H.k) = k0_pay146 (k0_pay136 (F := Ideal) (qM H (512 * (i 1).val)) (kM H.k (512 * (i 1).val))) cs := by
  unfold kernelRun0_B.sl.r_17
  rw [r_9]
  rfl

theorem r_18 : kernelRun0_B.sl.r_18 (F := Ideal) c i arg2 harg2 arg3 harg3 (qM H (512 * (i 1).val)) (mat (φ := .bf16) 4096 128 H.k) = mat (φ := .f32) 384 128 (at2 H.keep ((512 * (i 1).val) + 128) ((512 * (i 1).val) + 128)) := by
  unfold kernelRun0_B.sl.r_18
  rw [r_14, r_16, r_17]
  exact keep1 _ _ H rfl rfl (ht i)

theorem r_19 : kernelRun0_B.sl.r_19 (F := Ideal) c i arg2 harg2 arg3 harg3 (qM H (512 * (i 1).val)) (mat (φ := .bf16) 4096 128 H.k) = mat (φ := .f32) 384 128 (at2 H.ls ((512 * (i 1).val) + 128) ((512 * (i 1).val) + 128)) := by
  unfold kernelRun0_B.sl.r_19
  rw [r_15, r_16, r_17]
  exact ls1 H

theorem r_20 : kernelRun0_B.sl.r_20 i = k0_pay150 (BitVec.ofNat 32 (512 * (i 1).val)) (BitVec.ofNat 32 (512 * (i 1).val)) := by
  unfold kernelRun0_B.sl.r_20
  rw [v73, v77]

theorem r_21 : kernelRun0_B.sl.r_21 (F := Ideal) c i arg2 harg2 arg3 harg3 (qM H (512 * (i 1).val)) (mat (φ := .bf16) 4096 128 H.k) = mat (φ := .f32) 256 128 (at2 H.keep ((512 * (i 1).val) + 256) ((512 * (i 1).val) + 256)) := by
  unfold kernelRun0_B.sl.r_21
  rw [v73, v77, r_10]
  exact keep2 _ _ H rfl rfl (ht i)

theorem r_22 : kernelRun0_B.sl.r_22 (F := Ideal) c i arg2 harg2 arg3 harg3 (qM H (512 * (i 1).val)) (mat (φ := .bf16) 4096 128 H.k) = mat (φ := .f32) 256 128 (at2 H.ls ((512 * (i 1).val) + 256) ((512 * (i 1).val) + 256)) := by
  unfold kernelRun0_B.sl.r_22
  rw [r_10]
  exact ls2 H

theorem r_23 : kernelRun0_B.sl.r_23 i = k0_pay155 (BitVec.ofNat 32 (512 * (i 1).val)) (BitVec.ofNat 32 (512 * (i 1).val)) := by
  unfold kernelRun0_B.sl.r_23
  rw [v73, v77]

theorem r_24 : kernelRun0_B.sl.r_24 (F := Ideal) c i arg2 harg2 arg3 harg3 (qM H (512 * (i 1).val)) (mat (φ := .bf16) 4096 128 H.k) = k0_pay156 (mat (φ := .f32) 512 512 (at2 H.z (512 * (i 1).val) (512 * (i 1).val))) := by
  unfold kernelRun0_B.sl.r_24
  rw [r_10]

theorem r_25 : kernelRun0_B.sl.r_25 (F := Ideal) c i arg2 harg2 arg3 harg3 (qM H (512 * (i 1).val)) (mat (φ := .bf16) 4096 128 H.k) = k0_pay157 (mat (φ := .f32) 512 512 (at2 H.z (512 * (i 1).val) (512 * (i 1).val))) := by
  unfold kernelRun0_B.sl.r_25
  rw [r_10]

theorem r_26 : kernelRun0_B.sl.r_26 (F := Ideal) c i arg2 harg2 arg3 harg3 (qM H (512 * (i 1).val)) (mat (φ := .bf16) 4096 128 H.k) = k0_pay158 (mat (φ := .f32) 512 512 (at2 H.z (512 * (i 1).val) (512 * (i 1).val))) := by
  unfold kernelRun0_B.sl.r_26
  rw [r_10]

theorem r_27 : kernelRun0_B.sl.r_27 (F := Ideal) c i arg2 harg2 arg3 harg3 (qM H (512 * (i 1).val)) (mat (φ := .bf16) 4096 128 H.k) = mat (φ := .f32) 128 128 (at2 H.ls ((512 * (i 1).val) + 384) ((512 * (i 1).val) + 384)) := by
  unfold kernelRun0_B.sl.r_27
  rw [r_24, r_25, r_26]
  exact ls3 H

theorem r_28 (h1 : k0_pay121 x5 x6 = dyM H (512 * (i 1).val)) (h3 : k0_pay123 x5 x6 = dyT H (512 * (i 1).val)) : kernelRun0_B.sl.r_28 (F := Ideal) c i arg4 harg4 arg7 harg7 arg8 harg8 (mat (φ := .bf16) 4096 128 H.v) x5 x6 = k0_pay161 (F := Ideal) (dyM H (512 * (i 1).val)) (kM H.v (512 * (i 1).val)) := by
  unfold kernelRun0_B.sl.r_28
  rw [r_1 _ _ _ _ _ _ _ _ h1 h3, vb]

theorem r_29 : kernelRun0_B.sl.r_29 (F := Ideal) c i arg2 harg2 arg3 harg3 (qM H (512 * (i 1).val)) (mat (φ := .bf16) 4096 128 H.k) = mat (φ := .f32) 384 128 (fun r c => ∑ d ∈ range (c + 1), H.keep ((512 * (i 1).val) + 128 + r) ((512 * (i 1).val) + 128 + d)) := by
  unfold kernelRun0_B.sl.r_29
  rw [r_12, r_18, r_21, r_23, r_25, r_26, pay125_eq]
  exact up1 _ _ H rfl rfl (ht i)

theorem r_30 : kernelRun0_B.sl.r_30 (F := Ideal) c i arg2 harg2 arg3 harg3 (qM H (512 * (i 1).val)) (mat (φ := .bf16) 4096 128 H.k) = mat (φ := .f32) 256 128 (fun r c => ∑ d ∈ range (c + 1), H.keep ((512 * (i 1).val) + 256 + r) ((512 * (i 1).val) + 256 + d)) := by
  unfold kernelRun0_B.sl.r_30
  rw [r_12, r_18, r_21, r_23, r_25, r_26, pay125_eq]
  exact up2 _ _ H rfl rfl (ht i)

theorem r_31 : kernelRun0_B.sl.r_31 (F := Ideal) c i arg2 harg2 arg3 harg3 (qM H (512 * (i 1).val)) (mat (φ := .bf16) 4096 128 H.k) = mat (φ := .f32) 128 128 (fun r c => ∑ d ∈ range (c + 1), H.keep ((512 * (i 1).val) + 384 + r) ((512 * (i 1).val) + 384 + d)) := by
  unfold kernelRun0_B.sl.r_31
  rw [r_12, r_18, r_21, r_23, r_25, r_26, pay125_eq]
  exact up3 _ _ H rfl rfl (ht i)

theorem r_32 (h1 : k0_pay121 x5 x6 = dyM H (512 * (i 1).val)) (h3 : k0_pay123 x5 x6 = dyT H (512 * (i 1).val)) : kernelRun0_B.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 0)) := by
  unfold kernelRun0_B.sl.r_32
  rw [r_4, r_6 _ _ _ _ _ _ _ _ _ _ _ _ _ _ _ _ _ _ _ _ _ _ _ _ _ _ _ _ _ _ h1 h3, r_11, r_12, r_13, r_18, r_21, r_23, r_25, r_26, pay125_eq]
  exact w0h _ _ H rfl rfl (ht i)

theorem r_33 (h1 : k0_pay121 x5 x6 = dyM H (512 * (i 1).val)) (h3 : k0_pay123 x5 x6 = dyT H (512 * (i 1).val)) : kernelRun0_B.sl.r_33 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (at2 H.e ((512 * (i 1).val)) ((512 * (i 1).val))) := by
  unfold kernelRun0_B.sl.r_33
  rw [r_1 _ _ _ _ _ _ _ _ h1 h3, r_4, r_6 _ _ _ _ _ _ _ _ _ _ _ _ _ _ _ _ _ _ _ _ _ _ _ _ _ _ _ _ _ _ h1 h3, r_11, r_12, r_13, r_18, r_21, r_23, r_25, r_26, pay125_eq, vb]
  exact e0 _ _ H rfl rfl (ht i)

theorem r_34 (h1 : k0_pay121 x5 x6 = dyM H (512 * (i 1).val)) (h3 : k0_pay123 x5 x6 = dyT H (512 * (i 1).val)) : kernelRun0_B.sl.r_34 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = seenM H (512 * (i 1).val) ((512 * (i 1).val) + 128) := by
  unfold kernelRun0_B.sl.r_34
  rw [r_6 _ _ _ _ _ _ _ _ _ _ _ _ _ _ _ _ _ _ _ _ _ _ _ _ _ _ _ _ _ _ h1 h3, r_12]
  exact seen1 H

theorem r_35 (h1 : k0_pay121 x5 x6 = dyM H (512 * (i 1).val)) (h3 : k0_pay123 x5 x6 = dyT H (512 * (i 1).val)) : kernelRun0_B.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 128)) := by
  unfold kernelRun0_B.sl.r_35
  rw [r_4, r_14, r_19, r_29, r_34 _ _ _ _ _ _ _ _ _ _ _ _ _ _ _ _ _ _ _ _ _ _ _ _ _ _ _ _ _ _ h1 h3]
  exact w1h _ _ H rfl rfl (ht i)

theorem r_36 (h1 : k0_pay121 x5 x6 = dyM H (512 * (i 1).val)) (h3 : k0_pay123 x5 x6 = dyT H (512 * (i 1).val)) : kernelRun0_B.sl.r_36 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 384 128 (at2 H.e ((512 * (i 1).val) + 128) ((512 * (i 1).val) + 128)) := by
  unfold kernelRun0_B.sl.r_36
  rw [r_4, r_14, r_19, r_28 _ _ _ _ _ _ _ _ _ _ h1 h3, r_29, r_34 _ _ _ _ _ _ _ _ _ _ _ _ _ _ _ _ _ _ _ _ _ _ _ _ _ _ _ _ _ _ h1 h3]
  exact e1 _ _ H rfl rfl (ht i)

theorem r_37 (h1 : k0_pay121 x5 x6 = dyM H (512 * (i 1).val)) (h3 : k0_pay123 x5 x6 = dyT H (512 * (i 1).val)) : kernelRun0_B.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 256)) := by
  unfold kernelRun0_B.sl.r_37
  rw [r_4, r_18, r_20, r_22, r_30, r_34 _ _ _ _ _ _ _ _ _ _ _ _ _ _ _ _ _ _ _ _ _ _ _ _ _ _ _ _ _ _ h1 h3]
  exact w2h _ _ H rfl rfl (ht i)

theorem r_38 (h1 : k0_pay121 x5 x6 = dyM H (512 * (i 1).val)) (h3 : k0_pay123 x5 x6 = dyT H (512 * (i 1).val)) : kernelRun0_B.sl.r_38 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 256 128 (at2 H.e ((512 * (i 1).val) + 256) ((512 * (i 1).val) + 256)) := by
  unfold kernelRun0_B.sl.r_38
  rw [r_4, r_18, r_20, r_22, r_28 _ _ _ _ _ _ _ _ _ _ h1 h3, r_30, r_34 _ _ _ _ _ _ _ _ _ _ _ _ _ _ _ _ _ _ _ _ _ _ _ _ _ _ _ _ _ _ h1 h3]
  exact e2 _ _ H rfl rfl (ht i)

theorem r_39 (h1 : k0_pay121 x5 x6 = dyM H (512 * (i 1).val)) (h3 : k0_pay123 x5 x6 = dyT H (512 * (i 1).val)) : kernelRun0_B.sl.r_39 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (at2 H.w ((512 * (i 1).val) + 384) ((512 * (i 1).val) + 384)) := by
  unfold kernelRun0_B.sl.r_39
  rw [r_4, r_18, r_21, r_23, r_27, r_31, r_34 _ _ _ _ _ _ _ _ _ _ _ _ _ _ _ _ _ _ _ _ _ _ _ _ _ _ _ _ _ _ h1 h3]
  exact w3 _ _ H rfl rfl (ht i)

theorem r_40 (h1 : k0_pay121 x5 x6 = dyM H (512 * (i 1).val)) (h3 : k0_pay123 x5 x6 = dyT H (512 * (i 1).val)) : kernelRun0_B.sl.r_40 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = k0_pay178 (totM H (512 * (i 1).val)) (mat (φ := .f32) 384 128 (at2 H.keep ((512 * (i 1).val) + 128) ((512 * (i 1).val) + 128))) (mat (φ := .f32) 256 128 (at2 H.keep ((512 * (i 1).val) + 256) ((512 * (i 1).val) + 256))) (k0_pay155 (BitVec.ofNat 32 (512 * (i 1).val)) (BitVec.ofNat 32 (512 * (i 1).val))) (mat (φ := .f32) 128 128 (at2 H.ls ((512 * (i 1).val) + 384) ((512 * (i 1).val) + 384))) (mat (φ := .f32) 128 128 (fun r c => ∑ d ∈ range (c + 1), H.keep ((512 * (i 1).val) + 384 + r) ((512 * (i 1).val) + 384 + d))) (seenM H (512 * (i 1).val) ((512 * (i 1).val) + 128)) := by
  unfold kernelRun0_B.sl.r_40
  rw [r_4, r_18, r_21, r_23, r_27, r_31, r_34 _ _ _ _ _ _ _ _ _ _ _ _ _ _ _ _ _ _ _ _ _ _ _ _ _ _ _ _ _ _ h1 h3]

theorem r_41 (h1 : k0_pay121 x5 x6 = dyM H (512 * (i 1).val)) (h3 : k0_pay123 x5 x6 = dyT H (512 * (i 1).val)) : kernelRun0_B.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 384)) := by
  unfold kernelRun0_B.sl.r_41
  rw [r_40 _ _ _ _ _ _ _ _ _ _ _ _ _ _ _ _ _ _ _ _ _ _ _ _ _ _ _ _ _ _ h1 h3]
  exact w3h _ _ H rfl rfl (ht i)

theorem r_42 (h1 : k0_pay121 x5 x6 = dyM H (512 * (i 1).val)) (h3 : k0_pay123 x5 x6 = dyT H (512 * (i 1).val)) : kernelRun0_B.sl.r_42 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (at2 H.e ((512 * (i 1).val) + 384) ((512 * (i 1).val) + 384)) := by
  unfold kernelRun0_B.sl.r_42
  rw [r_28 _ _ _ _ _ _ _ _ _ _ h1 h3, r_39 _ _ _ _ _ _ _ _ _ _ _ _ _ _ _ _ _ _ _ _ _ _ _ _ _ _ _ _ _ _ h1 h3]
  exact e3 H

theorem r_43 (h1 : k0_pay121 x5 x6 = dyM H (512 * (i 1).val)) (h3 : k0_pay123 x5 x6 = dyT H (512 * (i 1).val)) : kernelRun0_B.sl.r_43 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 256 128 (fun r c => ∑ d ∈ range c, H.e ((512 * (i 1).val) + 256 + r) ((512 * (i 1).val) + 256 + d)) := by
  unfold kernelRun0_B.sl.r_43
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before2 H

theorem r_44 (h1 : k0_pay121 x5 x6 = dyM H (512 * (i 1).val)) (h3 : k0_pay123 x5 x6 = dyT H (512 * (i 1).val)) : kernelRun0_B.sl.r_44 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (fun r c => ∑ d ∈ range c, H.e ((512 * (i 1).val) + 384 + r) ((512 * (i 1).val) + 384 + d)) := by
  unfold kernelRun0_B.sl.r_44
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before3 H

theorem r_45 (h1 : k0_pay121 x5 x6 = dyM H (512 * (i 1).val)) (h3 : k0_pay123 x5 x6 = dyT H (512 * (i 1).val)) : kernelRun0_B.sl.r_45 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.dz (512 * (i 1).val) ((512 * (i 1).val) + 0)) := by
  unfold kernelRun0_B.sl.r_45
  rw [r_7 _ _ _ _ _ _ _ _ _ _ _ _ _ _ _ _ _ _ _ _ _ _ _ _ _ _ _ _ _ _ h1 h3, r_11, r_13, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz0 _ _ H rfl rfl (ht i)

theorem r_46 (h1 : k0_pay121 x5 x6 = dyM H (512 * (i 1).val)) (h3 : k0_pay123 x5 x6 = dyT H (512 * (i 1).val)) : kernelRun0_B.sl.r_46 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = eseenM H (512 * (i 1).val) ((512 * (i 1).val) + 128) := by
  unfold kernelRun0_B.sl.r_46
  rw [r_7 _ _ _ _ _ _ _ _ _ _ _ _ _ _ _ _ _ _ _ _ _ _ _ _ _ _ _ _ _ _ h1 h3, r_33 _ _ _ _ _ _ _ _ _ _ _ _ _ _ _ _ _ _ _ _ _ _ _ _ _ _ _ _ _ _ h1 h3]
  exact eseen1 H

theorem r_47 (h1 : k0_pay121 x5 x6 = dyM H (512 * (i 1).val)) (h3 : k0_pay123 x5 x6 = dyT H (512 * (i 1).val)) : kernelRun0_B.sl.r_47 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.dz (512 * (i 1).val) ((512 * (i 1).val) + 128)) := by
  unfold kernelRun0_B.sl.r_47
  rw [r_7 _ _ _ _ _ _ _ _ _ _ _ _ _ _ _ _ _ _ _ _ _ _ _ _ _ _ _ _ _ _ h1 h3, r_14, r_19, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz1 _ _ H rfl rfl (ht i)

theorem r_48 (h1 : k0_pay121 x5 x6 = dyM H (512 * (i 1).val)) (h3 : k0_pay123 x5 x6 = dyT H (512 * (i 1).val)) : kernelRun0_B.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (fun r d => (∑ s ∈ range (512 * (i 1).val), H.dz ((512 * (i 1).val) + r) s * H.k s d) + ∑ s ∈ range 512, H.dz ((512 * (i 1).val) + r) ((512 * (i 1).val) + s) * H.k ((512 * (i 1).val) + s) d) := by
  unfold kernelRun0_B.sl.r_48
  rw [r_5 _ _ _ _ _ _ _ _ _ _ _ _ _ _ _ _ _ _ _ _ _ _ _ _ _ _ _ _ _ _ h1 h3, r_8, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3]
  exact dq _ _ H rfl rfl (ht i) _

theorem r_49 (h1 : k0_pay121 x5 x6 = dyM H (512 * (i 1).val)) (h3 : k0_pay123 x5 x6 = dyT H (512 * (i 1).val)) : kernelRun0_B.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (fun d s => g13 (i 1).val d s + dkt H (512 * (i 1).val) (512 * (i 1).val) d s) := by
  unfold kernelRun0_B.sl.r_49
  rw [r_2, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3, v369 _ _ _ _ _ _ _ _ _ _ _ _ _ _ _ _ _ _ _ _ _ _ _ _ _ _ _ _ _ _ h1 h3]
  exact dk_acc _ _ H rfl rfl (ht i) _

/-! ## What the point leaves -/

theorem out7 (h1 : k0_pay121 x5 x6 = dyM H (512 * (i 1).val)) (h3 : k0_pay123 x5 x6 = dyT H (512 * (i 1).val)) (hc0 : ¬cond0_0 i) (hc1 : ¬cond0_1 i) : out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14)
    = mat (φ := .bf16) 512 128 (fun r d => ((∑ s ∈ range (512 * (i 1).val), H.dz ((512 * (i 1).val) + r) s * H.k s d) + ∑ s ∈ range 512, H.dz ((512 * (i 1).val) + r) ((512 * (i 1).val) + s) * H.k ((512 * (i 1).val) + s) d) * (Real.sqrt 128)⁻¹) := by
  unfold out0_B_7
  refine (View.read_writes_full (Val := Elt Ideal) (e := .bf16) (s := S512x128) VO0_7 _ inb_S512x128_S512x128_0_0 (k0_pay2 (kernelRun0_B.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14))) []).trans ?_
  rw [r_48 _ _ _ _ _ _ _ _ _ _ _ _ _ _ _ _ _ _ _ _ _ _ _ _ _ _ _ _ _ _ h1 h3, dq_out]

theorem out10 (hc0 : ¬cond0_0 i) (hc1 : ¬cond0_1 i) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = k0_pay119 x5 x6 x4 := by
  unfold out0_B_10
  change VO0_10.read (Elt Ideal) (VO0_10.writes (Elt Ideal) VO0_10.junk (kernelRun0_B.sl.H10_1 c arg6 harg6 arg7 harg7 arg8 harg8 x4 x5 x6)) = _
  unfold kernelRun0_B.sl.H10_1
  refine (View.read_writes_full (Val := Elt Ideal) (e := .bf16) (s := S512x128) VO0_10 _ _ _ []).trans ?_
  have ex5 : arg7.view.readAt (Elt Ideal) (Rect.unit ![0, 0] S512x128.size inb_S512x128_S512x128_0_0).toLoadRect (harg7.unread x5) = x5 := read_whole arg7.view _ _ (harg7.read_unread _) _
  have ex6 : arg8.view.readAt (Elt Ideal) (Rect.unit ![0, 0] S512x128.size inb_S512x128_S512x128_0_0).toLoadRect (harg8.unread x6) = x6 := read_whole arg8.view _ _ (harg8.read_unread _) _
  have ex4 : arg6.view.readAt (Elt Ideal) (Rect.unit ![0, 0] S512x128.size inb_S512x128_S512x128_0_0).toLoadRect (harg6.unread x4) = x4 := read_whole arg6.view _ _ (harg6.read_unread _) _
  exact congr3 _ ex5 ex6 ex4

theorem acc13 (h1 : k0_pay121 x5 x6 = dyM H (512 * (i 1).val)) (h3 : k0_pay123 x5 x6 = dyT H (512 * (i 1).val)) : arg13.view.read (Elt Ideal) (arg13.view.writes (Elt Ideal) (harg13.unread (cube g13))
    ((⟨Rect.unit (s := S8x128x512) (k0_off6 i) S1x128x512.size (k0_off6_inb i), (kernelRun0_B.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14))⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (kernelRun0_B.sl.v70 i) (harg3.unread (mat (φ := .bf16) 4096 128 H.k)) (harg4.unread (mat (φ := .bf16) 4096 128 H.v)) (arg13.view.writes (Elt Ideal) (harg13.unread (cube g13)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.1) (arg14.view.writes (Elt Ideal) (harg14.unread (cube g14)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.2) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.1 ++ ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st))).2.1)))
    = cube (fun j d s => g13 j d s + dkt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val g13 (fun j => dkt H (512 * (i 1).val) (512 * j)) fun j hj d s => dkt_zero H (by omega) d s)
  · refine (loop c i arg2 harg2 arg3 harg3 arg4 harg4 arg5 harg5 arg6 harg6 arg7 harg7 arg8 harg8 arg9 harg9 arg10 harg10 arg11 harg11 arg12 harg12 arg13 harg13 arg14 harg14).dk.trans ?_
    rw [trips1']
  · exact r_49 _ _ _ _ _ _ _ _ _ _ _ _ _ _ _ _ _ _ _ _ _ _ _ _ _ _ _ _ _ _ h1 h3

theorem sout0 (h1 : k0_pay121 x5 x6 = dyM H (512 * (i 1).val)) (h3 : k0_pay123 x5 x6 = dyT H (512 * (i 1).val)) (hc0 : ¬cond0_0 i) (hc1 : ¬cond0_1 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = cube (fun j d s => g13 j d s + dkt H (512 * (i 1).val) (512 * j) d s) :=
  acc13 c i arg2 harg2 arg3 harg3 arg4 harg4 arg5 harg5 arg6 harg6 arg7 harg7 arg8 harg8 arg9 harg9 arg10 harg10 arg11 harg11 arg12 harg12 arg13 harg13 arg14 harg14 x5 x6 h1 h3

theorem acc14 (h1 : k0_pay121 x5 x6 = dyM H (512 * (i 1).val)) (h3 : k0_pay123 x5 x6 = dyT H (512 * (i 1).val)) : arg14.view.read (Elt Ideal) (arg14.view.writes (Elt Ideal) (harg14.unread (cube g14))
    ((⟨Rect.unit (s := S8x128x512) (k0_off6 i) S1x128x512.size (k0_off6_inb i), (k0_pay1 (kernelRun0_B.sl.r_3 (F := Ideal) c arg7 harg7 arg8 harg8 x5 x6) (kernelRun0_B.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_B.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_B.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_B.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_B.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)))⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (kernelRun0_B.sl.v70 i) (harg3.unread (mat (φ := .bf16) 4096 128 H.k)) (harg4.unread (mat (φ := .bf16) 4096 128 H.v)) (arg13.view.writes (Elt Ideal) (harg13.unread (cube g13)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.1) (arg14.view.writes (Elt Ideal) (harg14.unread (cube g14)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.2) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.2 ++ ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_B.sl.r c arg2 harg2 (qM H (512 * (i 1).val))) (kernelRun0_B.sl.r_1 c arg7 harg7 arg8 harg8 x5 x6) (kernelRun0_B.sl.r_2 c arg2 harg2 (qM H (512 * (i 1).val))) (kernelRun0_B.sl.r_3 c arg7 harg7 arg8 harg8 x5 x6) (kernelRun0_B.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st))).2.2)))
    = cube (fun j d s => g14 j d s + dvt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val g14 (fun j => dvt H (512 * (i 1).val) (512 * j)) fun j hj d s => dvt_zero H (by omega) d s)
  · refine (loop c i arg2 harg2 arg3 harg3 arg4 harg4 arg5 harg5 arg6 harg6 arg7 harg7 arg8 harg8 arg9 harg9 arg10 harg10 arg11 harg11 arg12 harg12 arg13 harg13 arg14 harg14).dv.trans ?_
    rw [trips1']
  · rw [r_32 _ _ _ _ _ _ _ _ _ _ _ _ _ _ _ _ _ _ _ _ _ _ _ _ _ _ _ _ _ _ h1 h3, r_35 _ _ _ _ _ _ _ _ _ _ _ _ _ _ _ _ _ _ _ _ _ _ _ _ _ _ _ _ _ _ h1 h3, r_37 _ _ _ _ _ _ _ _ _ _ _ _ _ _ _ _ _ _ _ _ _ _ _ _ _ _ _ _ _ _ h1 h3, r_41 _ _ _ _ _ _ _ _ _ _ _ _ _ _ _ _ _ _ _ _ _ _ _ _ _ _ _ _ _ _ h1 h3, v378 _ _ _ _ _ _ _ _ _ _ _ _ _ _ _ _ _ _ _ _ _ _ _ _ _ _ _ _ _ _ h1 h3]; exact dv_acc H (512 * (i 1).val) _

theorem sout1 (h1 : k0_pay121 x5 x6 = dyM H (512 * (i 1).val)) (h3 : k0_pay123 x5 x6 = dyT H (512 * (i 1).val)) (hc0 : ¬cond0_0 i) (hc1 : ¬cond0_1 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = cube (fun j d s => g14 j d s + dvt H (512 * (i 1).val) (512 * j) d s) :=
  acc14 c i arg2 harg2 arg3 harg3 arg4 harg4 arg5 harg5 arg6 harg6 arg7 harg7 arg8 harg8 arg9 harg9 arg10 harg10 arg11 harg11 arg12 harg12 arg13 harg13 arg14 harg14 x5 x6 h1 h3

end

end Cert.PointB
-- ==== Proof.PointC.lean ====
module

public import proofs.«01_k».proof.Proof.Span
public import proofs.«01_k».proof.Proof.Gen.KernelIdeal.Frame

@[expose] public section

set_option maxRecDepth 16384

/-! The last point of a head: the gradients of the keys and the values go out. -/

noncomputable section

namespace Cert.PointC

open Idealize.ShloMosaic Idealize.ShloMosaic.TcCoe
open Cert.KernelIdeal Cert.KernelIdeal.Gen Cert.Mat Cert.Trip Cert.Diag Cert.Loop Cert.Span Finset

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S512x128 .bf16) (harg12 : arg12.IsWhole) (arg13 : Memref sig .tc .vmem S8x128x512 .f32) (harg13 : arg13.IsWhole) (arg14 : Memref sig .tc .vmem S8x128x512 .f32) (harg14 : arg14.IsWhole)
  (x4 x5 x6 : Vec Ideal S512x128 .f32) {H : Head} {g13 g14 : ℕ → ℕ → ℕ → ℝ}

theorem r : kernelRun0_C.sl.r (F := Ideal) c arg2 harg2 (qM H (512 * (i 1).val)) = qM H (512 * (i 1).val) := read_whole _ _ _ (harg2.read_unread _) _

theorem r_1 (h1 : k0_pay121 x5 x6 = dyM H (512 * (i 1).val)) (h3 : k0_pay123 x5 x6 = dyT H (512 * (i 1).val)) : kernelRun0_C.sl.r_1 (F := Ideal) c arg7 harg7 arg8 harg8 x5 x6 = dyM H (512 * (i 1).val) := by
  unfold kernelRun0_C.sl.r_1
  rw [read_whole _ _ _ (harg7.read_unread _), read_whole _ _ _ (harg8.read_unread _), h1]

theorem r_2 : kernelRun0_C.sl.r_2 (F := Ideal) c arg2 harg2 (qM H (512 * (i 1).val)) = qT H (512 * (i 1).val) := by
  unfold kernelRun0_C.sl.r_2
  rw [read_whole _ _ _ (harg2.read_unread _), pay122_eq]

theorem r_3 (h1 : k0_pay121 x5 x6 = dyM H (512 * (i 1).val)) (h3 : k0_pay123 x5 x6 = dyT H (512 * (i 1).val)) : kernelRun0_C.sl.r_3 (F := Ideal) c arg7 harg7 arg8 harg8 x5 x6 = dyT H (512 * (i 1).val) := by
  unfold kernelRun0_C.sl.r_3
  rw [read_whole _ _ _ (harg7.read_unread _), read_whole _ _ _ (harg8.read_unread _), h3]

theorem r_4 : kernelRun0_C.sl.r_4 (F := Ideal) c arg5 harg5 (totM H (512 * (i 1).val)) = totM H (512 * (i 1).val) := by
  unfold kernelRun0_C.sl.r_4
  rw [read_whole _ _ _ (harg5.read_unread _), pay124_eq]

theorem v73 : kernelRun0_C.sl.v73 i = BitVec.ofNat 32 (512 * (i 1).val) :=
  (by decide +kernel : ∀ n : Fin 8, kernelRun0_C.sl.v73 (row n) = BitVec.ofNat 32 (512 * n.val)) (i 1)

theorem v77 : kernelRun0_C.sl.v77 i = BitVec.ofNat 32 (512 * (i 1).val) :=
  (by decide +kernel : ∀ n : Fin 8, kernelRun0_C.sl.v77 (row n) = BitVec.ofNat 32 (512 * n.val)) (i 1)

theorem start13 : arg13.view.read (Elt Ideal) (harg13.unread (cube g13)) = cube g13 := harg13.read_unread _

theorem start14 : arg14.view.read (Elt Ideal) (harg14.unread (cube g14)) = cube g14 := harg14.read_unread _

theorem loop : Before c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (harg3.unread (mat (φ := .bf16) 4096 128 H.k)) (harg4.unread (mat (φ := .bf16) 4096 128 H.v))
    (harg13.unread (cube g13)) (harg14.unread (cube g14)) H g13 g14 (Scf.trips (k0_t1_loop i).lb (k0_t1_loop i).ub (k0_t1_loop i).st) :=
  before_all c i arg2 harg2 arg3 harg3 arg4 harg4 arg5 harg5 arg6 harg6 arg7 harg7 arg8 harg8 arg9 harg9 arg10 harg10 arg11 harg11 arg12 harg12 arg13 harg13 arg14 harg14 _ _ _ _ _ H _ _ (harg3.read_unread _) (harg4.read_unread _) (start13 arg13 harg13) (start14 arg14 harg14) _ (le_refl _)

theorem trips1' : Scf.trips (k0_t1_loop i).lb (k0_t1_loop i).ub (k0_t1_loop i).st = (i 1).val := trips1 i

theorem r_5 (h1 : k0_pay121 x5 x6 = dyM H (512 * (i 1).val)) (h3 : k0_pay123 x5 x6 = dyT H (512 * (i 1).val)) : kernelRun0_C.sl.r_5 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (fun r d => ∑ s ∈ range (512 * (i 1).val), H.dz ((512 * (i 1).val) + r) s * H.k s d) := by
  unfold kernelRun0_C.sl.r_5
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_6 (h1 : k0_pay121 x5 x6 = dyM H (512 * (i 1).val)) (h3 : k0_pay123 x5 x6 = dyT H (512 * (i 1).val)) : kernelRun0_C.sl.r_6 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = seenM H (512 * (i 1).val) (512 * (i 1).val) := by
  unfold kernelRun0_C.sl.r_6
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.1) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_7 (h1 : k0_pay121 x5 x6 = dyM H (512 * (i 1).val)) (h3 : k0_pay123 x5 x6 = dyT H (512 * (i 1).val)) : kernelRun0_C.sl.r_7 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = eseenM H (512 * (i 1).val) (512 * (i 1).val) := by
  unfold kernelRun0_C.sl.r_7
  rw [r, r_1 _ _ _ _ _ _ _ _ h1 h3, r_2, r_3 _ _ _ _ _ _ _ _ h1 h3, r_4, pay125_eq, trips2]
  unfold st_k0_t2
  dsimp only
  refine (congrArg (fun z : FVec Ideal S512x128 .f32 × FVec Ideal S512x1 .f32 × FVec Ideal S512x1 .f32 => z.2.2) (loop c i arg2 harg2 arg3 harg3 arg4 harg4 arg5 harg5 arg6 harg6 arg7 harg7 arg8 harg8 arg9 harg9 arg10 harg10 arg11 harg11 arg12 harg12 arg13 harg13 arg14 harg14).carried).trans ?_
  rw [trips1']
  rfl

theorem r_8 : kernelRun0_C.sl.r_8 (F := Ideal) i arg3 harg3 (mat (φ := .bf16) 4096 128 H.k) = kM H.k (512 * (i 1).val) := by
  unfold kernelRun0_C.sl.r_8
  exact read_kM _ _ _ (harg3.read_unread _) _ (i 1).val (off5 i)

theorem vb : arg4.view.readAt (Elt Ideal) (Rect.unit (s := S4096x128) (k0_off5 i) S512x128.size (k0_off5_inb i)).toLoadRect (harg4.unread (mat (φ := .bf16) 4096 128 H.v)) = kM H.v (512 * (i 1).val) :=
  read_kM _ _ _ (harg4.read_unread _) _ (i 1).val (off5 i)

theorem r_9 : kernelRun0_C.sl.r_9 (F := Ideal) c i arg2 harg2 arg3 harg3 (qM H (512 * (i 1).val)) (mat (φ := .bf16) 4096 128 H.k) = k0_pay136 (qM H (512 * (i 1).val)) (kM H.k (512 * (i 1).val)) := by
  unfold kernelRun0_C.sl.r_9
  rw [r, read_kM _ _ _ (harg3.read_unread _) _ (i 1).val (off5 i)]

theorem v369 (h1 : k0_pay121 x5 x6 = dyM H (512 * (i 1).val)) (h3 : k0_pay123 x5 x6 = dyT H (512 * (i 1).val)) : kernelRun0_C.sl.v369 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (g13 (i 1).val) := by
  unfold kernelRun0_C.sl.v369
  rw [r, r_1 _ _ _ _ _ _ _ _ h1 h3, r_2, r_3 _ _ _ _ _ _ _ _ h1 h3, r_4, pay125_eq, trips2]
  unfold st_k0_t2
  dsimp only
  rw [List.nil_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dk _ (i 1).val (off6 i)).trans ?_
  rw [trips1']
  exact slab_self _ g13 (fun j => dkt H (512 * (i 1).val) (512 * j))

theorem v378 (h1 : k0_pay121 x5 x6 = dyM H (512 * (i 1).val)) (h3 : k0_pay123 x5 x6 = dyT H (512 * (i 1).val)) : kernelRun0_C.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (g14 (i 1).val) := by
  unfold kernelRun0_C.sl.v378
  rw [r, r_1 _ _ _ _ _ _ _ _ h1 h3, r_2, r_3 _ _ _ _ _ _ _ _ h1 h3, r_4, pay125_eq, trips2]
  unfold st_k0_t2
  dsimp only
  rw [List.nil_append]
  refine (read_slab _ _ _ (loop c i arg2 harg2 arg3 harg3 arg4 harg4 arg5 harg5 arg6 harg6 arg7 harg7 arg8 harg8 arg9 harg9 arg10 harg10 arg11 harg11 arg12 harg12 arg13 harg13 arg14 harg14).dv _ (i 1).val (off6 i)).trans ?_
  rw [trips1']
  exact slab_self _ g14 (fun j => dvt H (512 * (i 1).val) (512 * j))

theorem r_10 : kernelRun0_C.sl.r_10 (F := Ideal) c i arg2 harg2 arg3 harg3 (qM H (512 * (i 1).val)) (mat (φ := .bf16) 4096 128 H.k) = (mat (φ := .f32) 512 512 (at2 H.z (512 * (i 1).val) (512 * (i 1).val))) := by
  unfold kernelRun0_C.sl.r_10
  rw [r_9]
  exact z_eq H

theorem r_11 : kernelRun0_C.sl.r_11 i = k0_pay138 (BitVec.ofNat 32 (512 * (i 1).val)) (BitVec.ofNat 32 (512 * (i 1).val)) := by
  unfold kernelRun0_C.sl.r_11
  rw [v73, v77]

theorem r_12 : kernelRun0_C.sl.r_12 (F := Ideal) c i arg2 harg2 arg3 harg3 (qM H (512 * (i 1).val)) (mat (φ := .bf16) 4096 128 H.k) = mat (φ := .f32) 512 128 (at2 H.keep ((512 * (i 1).val)) ((512 * (i 1).val))) := by
  unfold kernelRun0_C.sl.r_12
  rw [v73, v77, r_9]
  exact keep0 _ _ H rfl rfl (ht i)

theorem r_13 : kernelRun0_C.sl.r_13 (F := Ideal) c i arg2 harg2 arg3 harg3 (qM H (512 * (i 1).val)) (mat (φ := .bf16) 4096 128 H.k) = mat (φ := .f32) 512 128 (at2 H.ls ((512 * (i 1).val)) ((512 * (i 1).val))) := by
  unfold kernelRun0_C.sl.r_13
  rw [r_9]
  exact ls0 H

theorem r_14 : kernelRun0_C.sl.r_14 i = k0_pay143 (BitVec.ofNat 32 (512 * (i 1).val)) (BitVec.ofNat 32 (512 * (i 1).val)) := by
  unfold kernelRun0_C.sl.r_14
  rw [v73, v77]

theorem r_15 : kernelRun0_C.sl.r_15 (F := Ideal) c i arg2 harg2 arg3 harg3 (qM H (512 * (i 1).val)) (mat (φ := .bf16) 4096 128 H.k) = k0_pay144 (k0_pay136 (F := Ideal) (qM H (512 * (i 1).val)) (kM H.k (512 * (i 1).val))) cs := by
  unfold kernelRun0_C.sl.r_15
  rw [r_9]
  rfl

theorem r_16 : kernelRun0_C.sl.r_16 (F := Ideal) c i arg2 harg2 arg3 harg3 (qM H (512 * (i 1).val)) (mat (φ := .bf16) 4096 128 H.k) = k0_pay145 (k0_pay136 (F := Ideal) (qM H (512 * (i 1).val)) (kM H.k (512 * (i 1).val))) cs := by
  unfold kernelRun0_C.sl.r_16
  rw [r_9]
  rfl

theorem r_17 : kernelRun0_C.sl.r_17 (F := Ideal) c i arg2 harg2 arg3 harg3 (qM H (512 * (i 1).val)) (mat (φ := .bf16) 4096 128 H.k) = k0_pay146 (k0_pay136 (F := Ideal) (qM H (512 * (i 1).val)) (kM H.k (512 * (i 1).val))) cs := by
  unfold kernelRun0_C.sl.r_17
  rw [r_9]
  rfl

theorem r_18 : kernelRun0_C.sl.r_18 (F := Ideal) c i arg2 harg2 arg3 harg3 (qM H (512 * (i 1).val)) (mat (φ := .bf16) 4096 128 H.k) = mat (φ := .f32) 384 128 (at2 H.keep ((512 * (i 1).val) + 128) ((512 * (i 1).val) + 128)) := by
  unfold kernelRun0_C.sl.r_18
  rw [r_14, r_16, r_17]
  exact keep1 _ _ H rfl rfl (ht i)

theorem r_19 : kernelRun0_C.sl.r_19 (F := Ideal) c i arg2 harg2 arg3 harg3 (qM H (512 * (i 1).val)) (mat (φ := .bf16) 4096 128 H.k) = mat (φ := .f32) 384 128 (at2 H.ls ((512 * (i 1).val) + 128) ((512 * (i 1).val) + 128)) := by
  unfold kernelRun0_C.sl.r_19
  rw [r_15, r_16, r_17]
  exact ls1 H

theorem r_20 : kernelRun0_C.sl.r_20 i = k0_pay150 (BitVec.ofNat 32 (512 * (i 1).val)) (BitVec.ofNat 32 (512 * (i 1).val)) := by
  unfold kernelRun0_C.sl.r_20
  rw [v73, v77]

theorem r_21 : kernelRun0_C.sl.r_21 (F := Ideal) c i arg2 harg2 arg3 harg3 (qM H (512 * (i 1).val)) (mat (φ := .bf16) 4096 128 H.k) = mat (φ := .f32) 256 128 (at2 H.keep ((512 * (i 1).val) + 256) ((512 * (i 1).val) + 256)) := by
  unfold kernelRun0_C.sl.r_21
  rw [v73, v77, r_10]
  exact keep2 _ _ H rfl rfl (ht i)

theorem r_22 : kernelRun0_C.sl.r_22 (F := Ideal) c i arg2 harg2 arg3 harg3 (qM H (512 * (i 1).val)) (mat (φ := .bf16) 4096 128 H.k) = mat (φ := .f32) 256 128 (at2 H.ls ((512 * (i 1).val) + 256) ((512 * (i 1).val) + 256)) := by
  unfold kernelRun0_C.sl.r_22
  rw [r_10]
  exact ls2 H

theorem r_23 : kernelRun0_C.sl.r_23 i = k0_pay155 (BitVec.ofNat 32 (512 * (i 1).val)) (BitVec.ofNat 32 (512 * (i 1).val)) := by
  unfold kernelRun0_C.sl.r_23
  rw [v73, v77]

theorem r_24 : kernelRun0_C.sl.r_24 (F := Ideal) c i arg2 harg2 arg3 harg3 (qM H (512 * (i 1).val)) (mat (φ := .bf16) 4096 128 H.k) = k0_pay156 (mat (φ := .f32) 512 512 (at2 H.z (512 * (i 1).val) (512 * (i 1).val))) := by
  unfold kernelRun0_C.sl.r_24
  rw [r_10]

theorem r_25 : kernelRun0_C.sl.r_25 (F := Ideal) c i arg2 harg2 arg3 harg3 (qM H (512 * (i 1).val)) (mat (φ := .bf16) 4096 128 H.k) = k0_pay157 (mat (φ := .f32) 512 512 (at2 H.z (512 * (i 1).val) (512 * (i 1).val))) := by
  unfold kernelRun0_C.sl.r_25
  rw [r_10]

theorem r_26 : kernelRun0_C.sl.r_26 (F := Ideal) c i arg2 harg2 arg3 harg3 (qM H (512 * (i 1).val)) (mat (φ := .bf16) 4096 128 H.k) = k0_pay158 (mat (φ := .f32) 512 512 (at2 H.z (512 * (i 1).val) (512 * (i 1).val))) := by
  unfold kernelRun0_C.sl.r_26
  rw [r_10]

theorem r_27 : kernelRun0_C.sl.r_27 (F := Ideal) c i arg2 harg2 arg3 harg3 (qM H (512 * (i 1).val)) (mat (φ := .bf16) 4096 128 H.k) = mat (φ := .f32) 128 128 (at2 H.ls ((512 * (i 1).val) + 384) ((512 * (i 1).val) + 384)) := by
  unfold kernelRun0_C.sl.r_27
  rw [r_24, r_25, r_26]
  exact ls3 H

theorem r_28 (h1 : k0_pay121 x5 x6 = dyM H (512 * (i 1).val)) (h3 : k0_pay123 x5 x6 = dyT H (512 * (i 1).val)) : kernelRun0_C.sl.r_28 (F := Ideal) c i arg4 harg4 arg7 harg7 arg8 harg8 (mat (φ := .bf16) 4096 128 H.v) x5 x6 = k0_pay161 (F := Ideal) (dyM H (512 * (i 1).val)) (kM H.v (512 * (i 1).val)) := by
  unfold kernelRun0_C.sl.r_28
  rw [r_1 _ _ _ _ _ _ _ _ h1 h3, vb]

theorem r_29 : kernelRun0_C.sl.r_29 (F := Ideal) c i arg2 harg2 arg3 harg3 (qM H (512 * (i 1).val)) (mat (φ := .bf16) 4096 128 H.k) = mat (φ := .f32) 384 128 (fun r c => ∑ d ∈ range (c + 1), H.keep ((512 * (i 1).val) + 128 + r) ((512 * (i 1).val) + 128 + d)) := by
  unfold kernelRun0_C.sl.r_29
  rw [r_12, r_18, r_21, r_23, r_25, r_26, pay125_eq]
  exact up1 _ _ H rfl rfl (ht i)

theorem r_30 : kernelRun0_C.sl.r_30 (F := Ideal) c i arg2 harg2 arg3 harg3 (qM H (512 * (i 1).val)) (mat (φ := .bf16) 4096 128 H.k) = mat (φ := .f32) 256 128 (fun r c => ∑ d ∈ range (c + 1), H.keep ((512 * (i 1).val) + 256 + r) ((512 * (i 1).val) + 256 + d)) := by
  unfold kernelRun0_C.sl.r_30
  rw [r_12, r_18, r_21, r_23, r_25, r_26, pay125_eq]
  exact up2 _ _ H rfl rfl (ht i)

theorem r_31 : kernelRun0_C.sl.r_31 (F := Ideal) c i arg2 harg2 arg3 harg3 (qM H (512 * (i 1).val)) (mat (φ := .bf16) 4096 128 H.k) = mat (φ := .f32) 128 128 (fun r c => ∑ d ∈ range (c + 1), H.keep ((512 * (i 1).val) + 384 + r) ((512 * (i 1).val) + 384 + d)) := by
  unfold kernelRun0_C.sl.r_31
  rw [r_12, r_18, r_21, r_23, r_25, r_26, pay125_eq]
  exact up3 _ _ H rfl rfl (ht i)

theorem r_32 (h1 : k0_pay121 x5 x6 = dyM H (512 * (i 1).val)) (h3 : k0_pay123 x5 x6 = dyT H (512 * (i 1).val)) : kernelRun0_C.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 0)) := by
  unfold kernelRun0_C.sl.r_32
  rw [r_4, r_6 _ _ _ _ _ _ _ _ _ _ _ _ _ _ _ _ _ _ _ _ _ _ _ _ _ _ _ _ _ _ h1 h3, r_11, r_12, r_13, r_18, r_21, r_23, r_25, r_26, pay125_eq]
  exact w0h _ _ H rfl rfl (ht i)

theorem r_33 (h1 : k0_pay121 x5 x6 = dyM H (512 * (i 1).val)) (h3 : k0_pay123 x5 x6 = dyT H (512 * (i 1).val)) : kernelRun0_C.sl.r_33 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (at2 H.e ((512 * (i 1).val)) ((512 * (i 1).val))) := by
  unfold kernelRun0_C.sl.r_33
  rw [r_1 _ _ _ _ _ _ _ _ h1 h3, r_4, r_6 _ _ _ _ _ _ _ _ _ _ _ _ _ _ _ _ _ _ _ _ _ _ _ _ _ _ _ _ _ _ h1 h3, r_11, r_12, r_13, r_18, r_21, r_23, r_25, r_26, pay125_eq, vb]
  exact e0 _ _ H rfl rfl (ht i)

theorem r_34 (h1 : k0_pay121 x5 x6 = dyM H (512 * (i 1).val)) (h3 : k0_pay123 x5 x6 = dyT H (512 * (i 1).val)) : kernelRun0_C.sl.r_34 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = seenM H (512 * (i 1).val) ((512 * (i 1).val) + 128) := by
  unfold kernelRun0_C.sl.r_34
  rw [r_6 _ _ _ _ _ _ _ _ _ _ _ _ _ _ _ _ _ _ _ _ _ _ _ _ _ _ _ _ _ _ h1 h3, r_12]
  exact seen1 H

theorem r_35 (h1 : k0_pay121 x5 x6 = dyM H (512 * (i 1).val)) (h3 : k0_pay123 x5 x6 = dyT H (512 * (i 1).val)) : kernelRun0_C.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 128)) := by
  unfold kernelRun0_C.sl.r_35
  rw [r_4, r_14, r_19, r_29, r_34 _ _ _ _ _ _ _ _ _ _ _ _ _ _ _ _ _ _ _ _ _ _ _ _ _ _ _ _ _ _ h1 h3]
  exact w1h _ _ H rfl rfl (ht i)

theorem r_36 (h1 : k0_pay121 x5 x6 = dyM H (512 * (i 1).val)) (h3 : k0_pay123 x5 x6 = dyT H (512 * (i 1).val)) : kernelRun0_C.sl.r_36 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 384 128 (at2 H.e ((512 * (i 1).val) + 128) ((512 * (i 1).val) + 128)) := by
  unfold kernelRun0_C.sl.r_36
  rw [r_4, r_14, r_19, r_28 _ _ _ _ _ _ _ _ _ _ h1 h3, r_29, r_34 _ _ _ _ _ _ _ _ _ _ _ _ _ _ _ _ _ _ _ _ _ _ _ _ _ _ _ _ _ _ h1 h3]
  exact e1 _ _ H rfl rfl (ht i)

theorem r_37 (h1 : k0_pay121 x5 x6 = dyM H (512 * (i 1).val)) (h3 : k0_pay123 x5 x6 = dyT H (512 * (i 1).val)) : kernelRun0_C.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 256)) := by
  unfold kernelRun0_C.sl.r_37
  rw [r_4, r_18, r_20, r_22, r_30, r_34 _ _ _ _ _ _ _ _ _ _ _ _ _ _ _ _ _ _ _ _ _ _ _ _ _ _ _ _ _ _ h1 h3]
  exact w2h _ _ H rfl rfl (ht i)

theorem r_38 (h1 : k0_pay121 x5 x6 = dyM H (512 * (i 1).val)) (h3 : k0_pay123 x5 x6 = dyT H (512 * (i 1).val)) : kernelRun0_C.sl.r_38 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 256 128 (at2 H.e ((512 * (i 1).val) + 256) ((512 * (i 1).val) + 256)) := by
  unfold kernelRun0_C.sl.r_38
  rw [r_4, r_18, r_20, r_22, r_28 _ _ _ _ _ _ _ _ _ _ h1 h3, r_30, r_34 _ _ _ _ _ _ _ _ _ _ _ _ _ _ _ _ _ _ _ _ _ _ _ _ _ _ _ _ _ _ h1 h3]
  exact e2 _ _ H rfl rfl (ht i)

theorem r_39 (h1 : k0_pay121 x5 x6 = dyM H (512 * (i 1).val)) (h3 : k0_pay123 x5 x6 = dyT H (512 * (i 1).val)) : kernelRun0_C.sl.r_39 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (at2 H.w ((512 * (i 1).val) + 384) ((512 * (i 1).val) + 384)) := by
  unfold kernelRun0_C.sl.r_39
  rw [r_4, r_18, r_21, r_23, r_27, r_31, r_34 _ _ _ _ _ _ _ _ _ _ _ _ _ _ _ _ _ _ _ _ _ _ _ _ _ _ _ _ _ _ h1 h3]
  exact w3 _ _ H rfl rfl (ht i)

theorem r_40 (h1 : k0_pay121 x5 x6 = dyM H (512 * (i 1).val)) (h3 : k0_pay123 x5 x6 = dyT H (512 * (i 1).val)) : kernelRun0_C.sl.r_40 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = k0_pay178 (totM H (512 * (i 1).val)) (mat (φ := .f32) 384 128 (at2 H.keep ((512 * (i 1).val) + 128) ((512 * (i 1).val) + 128))) (mat (φ := .f32) 256 128 (at2 H.keep ((512 * (i 1).val) + 256) ((512 * (i 1).val) + 256))) (k0_pay155 (BitVec.ofNat 32 (512 * (i 1).val)) (BitVec.ofNat 32 (512 * (i 1).val))) (mat (φ := .f32) 128 128 (at2 H.ls ((512 * (i 1).val) + 384) ((512 * (i 1).val) + 384))) (mat (φ := .f32) 128 128 (fun r c => ∑ d ∈ range (c + 1), H.keep ((512 * (i 1).val) + 384 + r) ((512 * (i 1).val) + 384 + d))) (seenM H (512 * (i 1).val) ((512 * (i 1).val) + 128)) := by
  unfold kernelRun0_C.sl.r_40
  rw [r_4, r_18, r_21, r_23, r_27, r_31, r_34 _ _ _ _ _ _ _ _ _ _ _ _ _ _ _ _ _ _ _ _ _ _ _ _ _ _ _ _ _ _ h1 h3]

theorem r_41 (h1 : k0_pay121 x5 x6 = dyM H (512 * (i 1).val)) (h3 : k0_pay123 x5 x6 = dyT H (512 * (i 1).val)) : kernelRun0_C.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.w (512 * (i 1).val) ((512 * (i 1).val) + 384)) := by
  unfold kernelRun0_C.sl.r_41
  rw [r_40 _ _ _ _ _ _ _ _ _ _ _ _ _ _ _ _ _ _ _ _ _ _ _ _ _ _ _ _ _ _ h1 h3]
  exact w3h _ _ H rfl rfl (ht i)

theorem r_42 (h1 : k0_pay121 x5 x6 = dyM H (512 * (i 1).val)) (h3 : k0_pay123 x5 x6 = dyT H (512 * (i 1).val)) : kernelRun0_C.sl.r_42 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (at2 H.e ((512 * (i 1).val) + 384) ((512 * (i 1).val) + 384)) := by
  unfold kernelRun0_C.sl.r_42
  rw [r_28 _ _ _ _ _ _ _ _ _ _ h1 h3, r_39 _ _ _ _ _ _ _ _ _ _ _ _ _ _ _ _ _ _ _ _ _ _ _ _ _ _ _ _ _ _ h1 h3]
  exact e3 H

theorem r_43 (h1 : k0_pay121 x5 x6 = dyM H (512 * (i 1).val)) (h3 : k0_pay123 x5 x6 = dyT H (512 * (i 1).val)) : kernelRun0_C.sl.r_43 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 256 128 (fun r c => ∑ d ∈ range c, H.e ((512 * (i 1).val) + 256 + r) ((512 * (i 1).val) + 256 + d)) := by
  unfold kernelRun0_C.sl.r_43
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before2 H

theorem r_44 (h1 : k0_pay121 x5 x6 = dyM H (512 * (i 1).val)) (h3 : k0_pay123 x5 x6 = dyT H (512 * (i 1).val)) : kernelRun0_C.sl.r_44 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 128 128 (fun r c => ∑ d ∈ range c, H.e ((512 * (i 1).val) + 384 + r) ((512 * (i 1).val) + 384 + d)) := by
  unfold kernelRun0_C.sl.r_44
  rw [r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact before3 H

theorem r_45 (h1 : k0_pay121 x5 x6 = dyM H (512 * (i 1).val)) (h3 : k0_pay123 x5 x6 = dyT H (512 * (i 1).val)) : kernelRun0_C.sl.r_45 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.dz (512 * (i 1).val) ((512 * (i 1).val) + 0)) := by
  unfold kernelRun0_C.sl.r_45
  rw [r_7 _ _ _ _ _ _ _ _ _ _ _ _ _ _ _ _ _ _ _ _ _ _ _ _ _ _ _ _ _ _ h1 h3, r_11, r_13, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz0 _ _ H rfl rfl (ht i)

theorem r_46 (h1 : k0_pay121 x5 x6 = dyM H (512 * (i 1).val)) (h3 : k0_pay123 x5 x6 = dyT H (512 * (i 1).val)) : kernelRun0_C.sl.r_46 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = eseenM H (512 * (i 1).val) ((512 * (i 1).val) + 128) := by
  unfold kernelRun0_C.sl.r_46
  rw [r_7 _ _ _ _ _ _ _ _ _ _ _ _ _ _ _ _ _ _ _ _ _ _ _ _ _ _ _ _ _ _ h1 h3, r_33 _ _ _ _ _ _ _ _ _ _ _ _ _ _ _ _ _ _ _ _ _ _ _ _ _ _ _ _ _ _ h1 h3]
  exact eseen1 H

theorem r_47 (h1 : k0_pay121 x5 x6 = dyM H (512 * (i 1).val)) (h3 : k0_pay123 x5 x6 = dyT H (512 * (i 1).val)) : kernelRun0_C.sl.r_47 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .bf16) 512 128 (at2 H.dz (512 * (i 1).val) ((512 * (i 1).val) + 128)) := by
  unfold kernelRun0_C.sl.r_47
  rw [r_7 _ _ _ _ _ _ _ _ _ _ _ _ _ _ _ _ _ _ _ _ _ _ _ _ _ _ _ _ _ _ h1 h3, r_14, r_19, r_28 _ _ _ _ _ _ _ _ _ _ h1 h3, r_33 _ _ _ _ _ _ _ _ _ _ _ _ _ _ _ _ _ _ _ _ _ _ _ _ _ _ _ _ _ _ h1 h3, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_39 _ _ _ _ _ _ _ _ _ _ _ _ _ _ _ _ _ _ _ _ _ _ _ _ _ _ _ _ _ _ h1 h3, pay127_eq]
  exact dz1 _ _ H rfl rfl (ht i)

theorem r_48 (h1 : k0_pay121 x5 x6 = dyM H (512 * (i 1).val)) (h3 : k0_pay123 x5 x6 = dyT H (512 * (i 1).val)) : kernelRun0_C.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = mat (φ := .f32) 512 128 (fun r d => (∑ s ∈ range (512 * (i 1).val), H.dz ((512 * (i 1).val) + r) s * H.k s d) + ∑ s ∈ range 512, H.dz ((512 * (i 1).val) + r) ((512 * (i 1).val) + s) * H.k ((512 * (i 1).val) + s) d) := by
  unfold kernelRun0_C.sl.r_48
  rw [r_5 _ _ _ _ _ _ _ _ _ _ _ _ _ _ _ _ _ _ _ _ _ _ _ _ _ _ _ _ _ _ h1 h3, r_8, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3]
  exact dq _ _ H rfl rfl (ht i) _

theorem r_49 (h1 : k0_pay121 x5 x6 = dyM H (512 * (i 1).val)) (h3 : k0_pay123 x5 x6 = dyT H (512 * (i 1).val)) : kernelRun0_C.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14) = slab (fun d s => g13 (i 1).val d s + dkt H (512 * (i 1).val) (512 * (i 1).val) d s) := by
  unfold kernelRun0_C.sl.r_49
  rw [r_2, r_20, r_22, r_23, r_27, r_36 _ _ _ _ _ _ _ _ _ _ _ _ _ _ _ _ _ _ _ _ _ _ _ _ _ _ _ _ _ _ h1 h3, r_38 _ _ _ _ _ _ _ _ _ _ _ _ _ _ _ _ _ _ _ _ _ _ _ _ _ _ _ _ _ _ h1 h3, r_42 _ _ _ _ _ _ _ _ _ _ _ _ _ _ _ _ _ _ _ _ _ _ _ _ _ _ _ _ _ _ h1 h3, r_43 _ _ _ _ _ _ _ _ _ _ _ _ _ _ _ _ _ _ _ _ _ _ _ _ _ _ _ _ _ _ h1 h3, r_44 _ _ _ _ _ _ _ _ _ _ _ _ _ _ _ _ _ _ _ _ _ _ _ _ _ _ _ _ _ _ h1 h3, r_45 _ _ _ _ _ _ _ _ _ _ _ _ _ _ _ _ _ _ _ _ _ _ _ _ _ _ _ _ _ _ h1 h3, r_46 _ _ _ _ _ _ _ _ _ _ _ _ _ _ _ _ _ _ _ _ _ _ _ _ _ _ _ _ _ _ h1 h3, r_47 _ _ _ _ _ _ _ _ _ _ _ _ _ _ _ _ _ _ _ _ _ _ _ _ _ _ _ _ _ _ h1 h3, v369 _ _ _ _ _ _ _ _ _ _ _ _ _ _ _ _ _ _ _ _ _ _ _ _ _ _ _ _ _ _ h1 h3]
  exact dk_acc _ _ H rfl rfl (ht i) _

/-! ## What the point leaves -/

theorem out7 (h1 : k0_pay121 x5 x6 = dyM H (512 * (i 1).val)) (h3 : k0_pay123 x5 x6 = dyT H (512 * (i 1).val)) (hc0 : ¬cond0_0 i) (hc1 : cond0_1 i) : out0_C_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14)
    = mat (φ := .bf16) 512 128 (fun r d => ((∑ s ∈ range (512 * (i 1).val), H.dz ((512 * (i 1).val) + r) s * H.k s d) + ∑ s ∈ range 512, H.dz ((512 * (i 1).val) + r) ((512 * (i 1).val) + s) * H.k ((512 * (i 1).val) + s) d) * (Real.sqrt 128)⁻¹) := by
  unfold out0_C_7
  refine (View.read_writes_full (Val := Elt Ideal) (e := .bf16) (s := S512x128) VO0_7 _ inb_S512x128_S512x128_0_0 (k0_pay2 (kernelRun0_C.sl.r_48 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14))) []).trans ?_
  rw [r_48 _ _ _ _ _ _ _ _ _ _ _ _ _ _ _ _ _ _ _ _ _ _ _ _ _ _ _ _ _ _ h1 h3, dq_out]

theorem out10 (hc0 : ¬cond0_0 i) (hc1 : cond0_1 i) : out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = k0_pay119 x5 x6 x4 := by
  unfold out0_C_10
  change VO0_10.read (Elt Ideal) (VO0_10.writes (Elt Ideal) VO0_10.junk (kernelRun0_C.sl.H10_1 c arg6 harg6 arg7 harg7 arg8 harg8 x4 x5 x6)) = _
  unfold kernelRun0_C.sl.H10_1
  refine (View.read_writes_full (Val := Elt Ideal) (e := .bf16) (s := S512x128) VO0_10 _ _ _ []).trans ?_
  have ex5 : arg7.view.readAt (Elt Ideal) (Rect.unit ![0, 0] S512x128.size inb_S512x128_S512x128_0_0).toLoadRect (harg7.unread x5) = x5 := read_whole arg7.view _ _ (harg7.read_unread _) _
  have ex6 : arg8.view.readAt (Elt Ideal) (Rect.unit ![0, 0] S512x128.size inb_S512x128_S512x128_0_0).toLoadRect (harg8.unread x6) = x6 := read_whole arg8.view _ _ (harg8.read_unread _) _
  have ex4 : arg6.view.readAt (Elt Ideal) (Rect.unit ![0, 0] S512x128.size inb_S512x128_S512x128_0_0).toLoadRect (harg6.unread x4) = x4 := read_whole arg6.view _ _ (harg6.read_unread _) _
  exact congr3 _ ex5 ex6 ex4

theorem acc13 (h1 : k0_pay121 x5 x6 = dyM H (512 * (i 1).val)) (h3 : k0_pay123 x5 x6 = dyT H (512 * (i 1).val)) : arg13.view.read (Elt Ideal) (arg13.view.writes (Elt Ideal) (harg13.unread (cube g13))
    ((⟨Rect.unit (s := S8x128x512) (k0_off6 i) S1x128x512.size (k0_off6_inb i), (kernelRun0_C.sl.r_49 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14))⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (kernelRun0_C.sl.v70 i) (harg3.unread (mat (φ := .bf16) 4096 128 H.k)) (harg4.unread (mat (φ := .bf16) 4096 128 H.v)) (arg13.view.writes (Elt Ideal) (harg13.unread (cube g13)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.1) (arg14.view.writes (Elt Ideal) (harg14.unread (cube g14)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.2) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.1 ++ ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st))).2.1)))
    = cube (fun j d s => g13 j d s + dkt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val g13 (fun j => dkt H (512 * (i 1).val) (512 * j)) fun j hj d s => dkt_zero H (by omega) d s)
  · refine (loop c i arg2 harg2 arg3 harg3 arg4 harg4 arg5 harg5 arg6 harg6 arg7 harg7 arg8 harg8 arg9 harg9 arg10 harg10 arg11 harg11 arg12 harg12 arg13 harg13 arg14 harg14).dk.trans ?_
    rw [trips1']
  · exact r_49 _ _ _ _ _ _ _ _ _ _ _ _ _ _ _ _ _ _ _ _ _ _ _ _ _ _ _ _ _ _ h1 h3

theorem sout0 (h1 : k0_pay121 x5 x6 = dyM H (512 * (i 1).val)) (h3 : k0_pay123 x5 x6 = dyT H (512 * (i 1).val)) (hc0 : ¬cond0_0 i) (hc1 : cond0_1 i) : sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = cube (fun j d s => g13 j d s + dkt H (512 * (i 1).val) (512 * j) d s) :=
  acc13 c i arg2 harg2 arg3 harg3 arg4 harg4 arg5 harg5 arg6 harg6 arg7 harg7 arg8 harg8 arg9 harg9 arg10 harg10 arg11 harg11 arg12 harg12 arg13 harg13 arg14 harg14 x5 x6 h1 h3

theorem acc14 (h1 : k0_pay121 x5 x6 = dyM H (512 * (i 1).val)) (h3 : k0_pay123 x5 x6 = dyT H (512 * (i 1).val)) : arg14.view.read (Elt Ideal) (arg14.view.writes (Elt Ideal) (harg14.unread (cube g14))
    ((⟨Rect.unit (s := S8x128x512) (k0_off6 i) S1x128x512.size (k0_off6_inb i), (k0_pay1 (kernelRun0_C.sl.r_3 (F := Ideal) c arg7 harg7 arg8 harg8 x5 x6) (kernelRun0_C.sl.r_32 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_C.sl.r_35 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_C.sl.r_37 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_C.sl.r_41 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)) (kernelRun0_C.sl.v378 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)))⟩ : View.Piece (Elt Ideal) S8x128x512 .f32) :: (((st_k0_t2 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (kernelRun0_C.sl.v70 i) (harg3.unread (mat (φ := .bf16) 4096 128 H.k)) (harg4.unread (mat (φ := .bf16) 4096 128 H.v)) (arg13.view.writes (Elt Ideal) (harg13.unread (cube g13)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.1) (arg14.view.writes (Elt Ideal) (harg14.unread (cube g14)) (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).2.2) ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.1, (st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st)).1.2.2) (Scf.trips (k0_t2_loop i).lb (k0_t2_loop i).ub (k0_t2_loop i).st))).2.2 ++ ((st_k0_t1 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun0_C.sl.r c arg2 harg2 (qM H (512 * (i 1).val))) (kernelRun0_C.sl.r_1 c arg7 harg7 arg8 harg8 x5 x6) (kernelRun0_C.sl.r_2 c arg2 harg2 (qM H (512 * (i 1).val))) (kernelRun0_C.sl.r_3 c arg7 harg7 arg8 harg8 x5 x6) (kernelRun0_C.sl.r_4 c arg5 harg5 (totM H (512 * (i 1).val))) k0_pay125 k0_pay126 (harg3.unread (mat (φ := .bf16) 4096 128 H.k)) (harg4.unread (mat (φ := .bf16) 4096 128 H.v)) (harg13.unread (cube g13)) (harg14.unread (cube g14)) (k0_pay129, k0_pay128, k0_pay128) (Scf.trips (k0_t1_loop i).lb (k0_t1_loop i).ub (k0_t1_loop i).st))).2.2)))
    = cube (fun j d s => g14 j d s + dvt H (512 * (i 1).val) (512 * j) d s) := by
  rw [r, r_1 _ _ _ _ _ _ _ _ h1 h3, r_2, r_3 _ _ _ _ _ _ _ _ h1 h3, r_4, pay125_eq, trips2]
  unfold st_k0_t2
  dsimp only
  rw [List.nil_append]
  refine (write_slab _ _ _ _ ?_ _ (i 1).val (off6 i) _ _ ?_).trans (cube_after (i 1).val g14 (fun j => dvt H (512 * (i 1).val) (512 * j)) fun j hj d s => dvt_zero H (by omega) d s)
  · refine (loop c i arg2 harg2 arg3 harg3 arg4 harg4 arg5 harg5 arg6 harg6 arg7 harg7 arg8 harg8 arg9 harg9 arg10 harg10 arg11 harg11 arg12 harg12 arg13 harg13 arg14 harg14).dv.trans ?_
    rw [trips1']
  · rw [r_32 _ _ _ _ _ _ _ _ _ _ _ _ _ _ _ _ _ _ _ _ _ _ _ _ _ _ _ _ _ _ h1 h3, r_35 _ _ _ _ _ _ _ _ _ _ _ _ _ _ _ _ _ _ _ _ _ _ _ _ _ _ _ _ _ _ h1 h3, r_37 _ _ _ _ _ _ _ _ _ _ _ _ _ _ _ _ _ _ _ _ _ _ _ _ _ _ _ _ _ _ h1 h3, r_41 _ _ _ _ _ _ _ _ _ _ _ _ _ _ _ _ _ _ _ _ _ _ _ _ _ _ _ _ _ _ h1 h3, v378 _ _ _ _ _ _ _ _ _ _ _ _ _ _ _ _ _ _ _ _ _ _ _ _ _ _ _ _ _ _ h1 h3]; exact dv_acc H (512 * (i 1).val) _

theorem sout1 (h1 : k0_pay121 x5 x6 = dyM H (512 * (i 1).val)) (h3 : k0_pay123 x5 x6 = dyT H (512 * (i 1).val)) (hc0 : ¬cond0_0 i) (hc1 : cond0_1 i) : sout0_C_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14) = cube (fun j d s => g14 j d s + dvt H (512 * (i 1).val) (512 * j) d s) :=
  acc14 c i arg2 harg2 arg3 harg3 arg4 harg4 arg5 harg5 arg6 harg6 arg7 harg7 arg8 harg8 arg9 harg9 arg10 harg10 arg11 harg11 arg12 harg12 arg13 harg13 arg14 harg14 x5 x6 h1 h3

theorem fin13 (h1 : k0_pay121 x5 x6 = dyM H (512 * (i 1).val)) (h3 : k0_pay123 x5 x6 = dyT H (512 * (i 1).val)) (n : ℕ) {off : Fin 3 → ℕ} (inb : ∀ a, off a + S1x128x512.size a ≤ S8x128x512.size a) (hn : off = ![n, 0, 0]) :
    arg13.view.readAt (Elt Ideal) (Rect.unit (s := S8x128x512) off S1x128x512.size inb).toLoadRect (arg13.view.writes (Elt Ideal) (harg13.unread (cube g13)) (kernelRun0_C.sl.HS0_1 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)))
    = slab (fun d s => g13 n d s + dkt H (512 * (i 1).val) (512 * n) d s) :=
  read_slab _ _ _ (acc13 c i arg2 harg2 arg3 harg3 arg4 harg4 arg5 harg5 arg6 harg6 arg7 harg7 arg8 harg8 arg9 harg9 arg10 harg10 arg11 harg11 arg12 harg12 arg13 harg13 arg14 harg14 x5 x6 h1 h3) inb n hn

theorem out8 (h1 : k0_pay121 x5 x6 = dyM H (512 * (i 1).val)) (h3 : k0_pay123 x5 x6 = dyT H (512 * (i 1).val)) (hc0 : ¬cond0_0 i) (hc1 : cond0_1 i) : out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14)
    = mat (φ := .bf16) 4096 128 (byBlock (fun j s d => (g13 j d s + dkt H (512 * (i 1).val) (512 * j) d s) * (Real.sqrt 128)⁻¹)) := by
  funext y
  refine View.read_writes_apply_of_pieces VO0_8 _ _ _ ?_ y (cover0_C_8 c i arg2 harg2 arg3 harg3 arg4 harg4 arg5 harg5 arg6 harg6 arg7 harg7 arg8 harg8 arg9 harg9 arg10 harg10 arg11 harg11 arg12 harg12 arg13 harg13 arg14 harg14 hc0 hc1 _ _ _ _ x4 x5 x6 _ _ y)
  unfold kernelRun0_C
  dsimp only
  simp only [List.forall_mem_cons, List.not_mem_nil, false_imp_iff, implies_true, and_true]
  refine ⟨?_, ?_, ?_, ?_, ?_, ?_, ?_, ?_⟩
  · refine piece_mat (fun j s d => (g13 j d s + dkt H (512 * (i 1).val) (512 * j) d s) * (Real.sqrt 128)⁻¹) _ 7 rfl _ ?_
    exact (congrArg (fun z => k0_pay3 (F := Ideal) (k0_pay116 z)) (fin13 c i arg2 harg2 arg3 harg3 arg4 harg4 arg5 harg5 arg6 harg6 arg7 harg7 arg8 harg8 arg9 harg9 arg10 harg10 arg11 harg11 arg12 harg12 arg13 harg13 arg14 harg14 x5 x6 h1 h3 7 _ rfl)).trans (dk_out _)
  · refine piece_mat (fun j s d => (g13 j d s + dkt H (512 * (i 1).val) (512 * j) d s) * (Real.sqrt 128)⁻¹) _ 6 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 6 _ rfl)).trans (dk_out' _)
  · refine piece_mat (fun j s d => (g13 j d s + dkt H (512 * (i 1).val) (512 * j) d s) * (Real.sqrt 128)⁻¹) _ 5 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 5 _ rfl)).trans (dk_out' _)
  · refine piece_mat (fun j s d => (g13 j d s + dkt H (512 * (i 1).val) (512 * j) d s) * (Real.sqrt 128)⁻¹) _ 4 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 4 _ rfl)).trans (dk_out' _)
  · refine piece_mat (fun j s d => (g13 j d s + dkt H (512 * (i 1).val) (512 * j) d s) * (Real.sqrt 128)⁻¹) _ 3 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 3 _ rfl)).trans (dk_out' _)
  · refine piece_mat (fun j s d => (g13 j d s + dkt H (512 * (i 1).val) (512 * j) d s) * (Real.sqrt 128)⁻¹) _ 2 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 2 _ rfl)).trans (dk_out' _)
  · refine piece_mat (fun j s d => (g13 j d s + dkt H (512 * (i 1).val) (512 * j) d s) * (Real.sqrt 128)⁻¹) _ 1 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 1 _ rfl)).trans (dk_out' _)
  · refine piece_mat (fun j s d => (g13 j d s + dkt H (512 * (i 1).val) (512 * j) d s) * (Real.sqrt 128)⁻¹) _ 0 rfl _ ?_
    exact (congrArg _ (fin13 c i arg2 harg2 arg3 harg3 arg4 harg4 arg5 harg5 arg6 harg6 arg7 harg7 arg8 harg8 arg9 harg9 arg10 harg10 arg11 harg11 arg12 harg12 arg13 harg13 arg14 harg14 x5 x6 h1 h3 0 _ rfl)).trans (dk_out' _)

theorem fin14 (h1 : k0_pay121 x5 x6 = dyM H (512 * (i 1).val)) (h3 : k0_pay123 x5 x6 = dyT H (512 * (i 1).val)) (n : ℕ) {off : Fin 3 → ℕ} (inb : ∀ a, off a + S1x128x512.size a ≤ S8x128x512.size a) (hn : off = ![n, 0, 0]) :
    arg14.view.readAt (Elt Ideal) (Rect.unit (s := S8x128x512) off S1x128x512.size inb).toLoadRect (arg14.view.writes (Elt Ideal) (harg14.unread (cube g14)) (kernelRun0_C.sl.HS1_1 (F := Ideal) c i arg2 harg2 arg3 harg3 arg4 harg4 arg5 harg5 arg6 harg6 arg7 harg7 arg8 harg8 arg9 harg9 arg10 harg10 arg11 harg11 arg12 harg12 arg13 harg13 arg14 harg14 (qM H (512 * (i 1).val)) (mat (φ := .bf16) 4096 128 H.k) (mat (φ := .bf16) 4096 128 H.v) (totM H (512 * (i 1).val)) x5 x6 (cube g13) (cube g14)))
    = slab (fun d s => g14 n d s + dvt H (512 * (i 1).val) (512 * n) d s) :=
  read_slab _ _ _ (acc14 c i arg2 harg2 arg3 harg3 arg4 harg4 arg5 harg5 arg6 harg6 arg7 harg7 arg8 harg8 arg9 harg9 arg10 harg10 arg11 harg11 arg12 harg12 arg13 harg13 arg14 harg14 x5 x6 h1 h3) inb n hn

theorem out9 (h1 : k0_pay121 x5 x6 = dyM H (512 * (i 1).val)) (h3 : k0_pay123 x5 x6 = dyT H (512 * (i 1).val)) (hc0 : ¬cond0_0 i) (hc1 : cond0_1 i) : out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 (qM H (512 * (i 1).val)) (mat (φ := .bf16) 4096 128 H.k) (mat (φ := .bf16) 4096 128 H.v) (totM H (512 * (i 1).val)) x4 x5 x6 (cube g13) (cube g14)
    = mat (φ := .bf16) 4096 128 (byBlock (fun j s d => (g14 j d s + dvt H (512 * (i 1).val) (512 * j) d s))) := by
  funext y
  refine View.read_writes_apply_of_pieces VO0_9 _ _ _ ?_ y (cover0_C_9 c i arg2 harg2 arg3 harg3 arg4 harg4 arg5 harg5 arg6 harg6 arg7 harg7 arg8 harg8 arg9 harg9 arg10 harg10 arg11 harg11 arg12 harg12 arg13 harg13 arg14 harg14 hc0 hc1 _ _ _ _ x4 x5 x6 _ _ y)
  unfold kernelRun0_C
  dsimp only
  simp only [List.forall_mem_cons, List.not_mem_nil, false_imp_iff, implies_true, and_true]
  refine ⟨?_, ?_, ?_, ?_, ?_, ?_, ?_, ?_⟩
  · refine piece_mat (fun j s d => (g14 j d s + dvt H (512 * (i 1).val) (512 * j) d s)) _ 7 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 7 _ rfl)).trans (dv_out _)
  · refine piece_mat (fun j s d => (g14 j d s + dvt H (512 * (i 1).val) (512 * j) d s)) _ 6 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 6 _ rfl)).trans (dv_out' _)
  · refine piece_mat (fun j s d => (g14 j d s + dvt H (512 * (i 1).val) (512 * j) d s)) _ 5 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 5 _ rfl)).trans (dv_out' _)
  · refine piece_mat (fun j s d => (g14 j d s + dvt H (512 * (i 1).val) (512 * j) d s)) _ 4 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 4 _ rfl)).trans (dv_out' _)
  · refine piece_mat (fun j s d => (g14 j d s + dvt H (512 * (i 1).val) (512 * j) d s)) _ 3 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 3 _ rfl)).trans (dv_out' _)
  · refine piece_mat (fun j s d => (g14 j d s + dvt H (512 * (i 1).val) (512 * j) d s)) _ 2 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 2 _ rfl)).trans (dv_out' _)
  · refine piece_mat (fun j s d => (g14 j d s + dvt H (512 * (i 1).val) (512 * j) d s)) _ 1 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 1 _ rfl)).trans (dv_out' _)
  · refine piece_mat (fun j s d => (g14 j d s + dvt H (512 * (i 1).val) (512 * j) d s)) _ 0 rfl _ ?_
    exact (congrArg _ (fin14 c i arg2 harg2 arg3 harg3 arg4 harg4 arg5 harg5 arg6 harg6 arg7 harg7 arg8 harg8 arg9 harg9 arg10 harg10 arg11 harg11 arg12 harg12 arg13 harg13 arg14 harg14 x5 x6 h1 h3 0 _ rfl)).trans (dv_out' _)

end

end Cert.PointC
-- ==== Proof.Grid.lean ====
module

public import proofs.«01_k».proof.Proof.PointA
public import proofs.«01_k».proof.Proof.PointB
public import proofs.«01_k».proof.Proof.PointC
public import proofs.«01_k».proof.Proof.Gen.KernelIdeal.Value

@[expose] public section

set_option maxRecDepth 16384

/-! From the points of the grid to the four gradients. -/

noncomputable section

open Idealize.ShloMosaic Idealize.ShloMosaic.TcCoe
open Cert.KernelIdeal Cert.KernelIdeal.Gen Cert.Mat Cert.Trip Cert.Diag Cert.Loop Cert.Span Cert.KernelIdeal.Value Finset

namespace Cert.Grid

/-! ## The gradients of a head -/

theorem sum_blocks (f : ℕ → ℝ) (n : ℕ) : ∑ i ∈ range n, ∑ r ∈ range 512, f (512 * i + r) = ∑ t ∈ range (512 * n), f t := by
  induction n with
  | zero => rfl
  | succ n ih => rw [sum_range_succ, ih, Nat.mul_succ, sum_range_add]

end Cert.Grid

namespace Cert.Mat.Head

open Cert.Diag

variable (H : Head)

/-- The gradient of the queries. -/
def gq (t d : ℕ) : ℝ := (∑ s ∈ range 4096, H.dz t s * H.k s d) * (Real.sqrt 128)⁻¹

/-- The gradient of the keys. -/
def gk (s d : ℕ) : ℝ := (∑ t ∈ range 4096, H.q t d * H.dz t s) * (Real.sqrt 128)⁻¹

/-- The gradient of the values. -/
def gv (s d : ℕ) : ℝ := ∑ t ∈ range 4096, H.dy t d * H.w t s

theorem gq_block (t d n : ℕ) (h : t < n + 512) (hn : n + 512 ≤ 4096) :
    ((∑ s ∈ range n, H.dz t s * H.k s d) + ∑ s ∈ range 512, H.dz t (n + s) * H.k (n + s) d) * (Real.sqrt 128)⁻¹ = H.gq t d := by
  unfold gq
  rw [← sum_range_add (fun s => H.dz t s * H.k s d) n 512]
  congr 1
  refine sum_subset (range_subset_range.2 hn) fun s _ hs => ?_
  rw [H.dz_of_le (by have := mt mem_range.2 hs; omega), zero_mul]

theorem gk_blocks (s d : ℕ) :
    (∑ i ∈ range 8, dkt H (512 * i) (512 * (s / 512)) d (s % 512)) * (Real.sqrt 128)⁻¹ = H.gk s d := by
  unfold gk dkt
  rw [Nat.div_add_mod]
  congr 1
  exact Cert.Grid.sum_blocks (fun t => H.q t d * H.dz t s) 8

theorem gv_blocks (s d : ℕ) :
    ∑ i ∈ range 8, dvt H (512 * i) (512 * (s / 512)) d (s % 512) = H.gv s d := by
  unfold gv dvt
  rw [Nat.div_add_mod]
  exact Cert.Grid.sum_blocks (fun t => H.dy t d * H.w t s) 8

end Cert.Mat.Head

namespace Cert.Grid

/-! ## The points of the grid -/

variable (m : (ℓ : Loc nD τ sig) → Buf (Elt Ideal) ℓ) (c : Dev nD)

theorem coords_val : ∀ t : Fin cfg0.N, ((grid0.coords t) 1).val = t.val % 8 :=
  (by decide +kernel : ∀ t : Fin grid0.N, ((grid0.coords t) 1).val = t.val % 8)

/-- The windows' blocks at their types. -/
abbrev gB (t : Fin cfg0.N) : FVec Ideal S512x128 .f32 := iblk m c 5 t
abbrev uB (t : Fin cfg0.N) : FVec Ideal S512x128 .f32 := iblk m c 6 t
abbrev yB (t : Fin cfg0.N) : FVec Ideal S512x128 .f32 := iblk m c 4 t

/-- The blocks a point reads are those of its head. -/
structure Blocks (Hd : ℕ → Head) : Prop where
  q : ∀ t : Fin cfg0.N, (show FVec Ideal S512x128 .bf16 from iblk m c 0 t) = qM (Hd (t.val / 8)) (512 * ((grid0.coords t) 1).val)
  k : ∀ t : Fin cfg0.N, (show FVec Ideal S4096x128 .bf16 from iblk m c 1 t) = mat 4096 128 (Hd (t.val / 8)).k
  v : ∀ t : Fin cfg0.N, (show FVec Ideal S4096x128 .bf16 from iblk m c 2 t) = mat 4096 128 (Hd (t.val / 8)).v
  tot : ∀ t : Fin cfg0.N, (show FVec Ideal S512x128 .f32 from iblk m c 3 t) = totM (Hd (t.val / 8)) (512 * ((grid0.coords t) 1).val)
  dy : ∀ t : Fin cfg0.N, k0_pay121 (gB m c t) (uB m c t)
    = dyM (Hd (t.val / 8)) (512 * ((grid0.coords t) 1).val)
  dyt : ∀ t : Fin cfg0.N, k0_pay123 (gB m c t) (uB m c t)
    = dyT (Hd (t.val / 8)) (512 * ((grid0.coords t) 1).val)

variable {Hd : ℕ → Head} (hB : Blocks m c Hd)
include hB

/-- What the accumulators hold after `n` points of a head. -/
def sumK (H : Head) (n : ℕ) : ℕ → ℕ → ℕ → ℝ := fun j d s => ∑ i ∈ range n, dkt H (512 * i) (512 * j) d s
def sumV (H : Head) (n : ℕ) : ℕ → ℕ → ℕ → ℝ := fun j d s => ∑ i ∈ range n, dvt H (512 * i) (512 * j) d s

theorem A_out_7 (t : Fin cfg0.N) (h0 : t.val % 8 = 0) (h1 : ¬t.val % 8 = 7) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
    = mat (φ := .bf16) 512 128 (fun r d => ((∑ s ∈ range (512 * ((grid0.coords t) 1).val), (Hd (t.val / 8)).dz ((512 * ((grid0.coords t) 1).val) + r) s * (Hd (t.val / 8)).k s d) + ∑ s ∈ range 512, (Hd (t.val / 8)).dz ((512 * ((grid0.coords t) 1).val) + r) ((512 * ((grid0.coords t) 1).val) + s) * (Hd (t.val / 8)).k ((512 * ((grid0.coords t) 1).val) + s) d) * (Real.sqrt 128)⁻¹) := by
  have := PointA.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (hB.dy t) (hB.dyt t) ((hcond0_0 t).mpr h0) (fun h => h1 ((hcond0_1 t).mp h))
  rw [← hB.q t, ← hB.k t, ← hB.v t, ← hB.tot t] at this
  exact this

theorem A_out_10 (t : Fin cfg0.N) (h0 : t.val % 8 = 0) (h1 : ¬t.val % 8 = 7) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
    = k0_pay119 (F := Ideal) (gB m c t) (uB m c t) (yB m c t) := by
  have := PointA.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) ((hcond0_0 t).mpr h0) (fun h => h1 ((hcond0_1 t).mp h))
  rw [← hB.q t, ← hB.k t, ← hB.v t, ← hB.tot t] at this
  exact this

theorem A_sout_0 (t : Fin cfg0.N) (h0 : t.val % 8 = 0) (h1 : ¬t.val % 8 = 7) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
    = cube (fun j d s => 0 + dkt (Hd (t.val / 8)) (512 * ((grid0.coords t) 1).val) (512 * j) d s) := by
  have := PointA.sout0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (hB.dy t) (hB.dyt t) ((hcond0_0 t).mpr h0) (fun h => h1 ((hcond0_1 t).mp h))
  rw [← hB.q t, ← hB.k t, ← hB.v t, ← hB.tot t] at this
  exact this

theorem A_sout_1 (t : Fin cfg0.N) (h0 : t.val % 8 = 0) (h1 : ¬t.val % 8 = 7) :
    sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
    = cube (fun j d s => 0 + dvt (Hd (t.val / 8)) (512 * ((grid0.coords t) 1).val) (512 * j) d s) := by
  have := PointA.sout1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (hB.dy t) (hB.dyt t) ((hcond0_0 t).mpr h0) (fun h => h1 ((hcond0_1 t).mp h))
  rw [← hB.q t, ← hB.k t, ← hB.v t, ← hB.tot t] at this
  exact this

theorem B_out_7 (t : Fin cfg0.N) (h0 : ¬t.val % 8 = 0) (h1 : ¬t.val % 8 = 7) (g13 g14 : ℕ → ℕ → ℕ → ℝ) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (cube g13) (cube g14)
    = mat (φ := .bf16) 512 128 (fun r d => ((∑ s ∈ range (512 * ((grid0.coords t) 1).val), (Hd (t.val / 8)).dz ((512 * ((grid0.coords t) 1).val) + r) s * (Hd (t.val / 8)).k s d) + ∑ s ∈ range 512, (Hd (t.val / 8)).dz ((512 * ((grid0.coords t) 1).val) + r) ((512 * ((grid0.coords t) 1).val) + s) * (Hd (t.val / 8)).k ((512 * ((grid0.coords t) 1).val) + s) d) * (Real.sqrt 128)⁻¹) := by
  have := PointB.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) (fun h => h1 ((hcond0_1 t).mp h))
  rw [← hB.q t, ← hB.k t, ← hB.v t, ← hB.tot t] at this
  exact this

theorem B_out_10 (t : Fin cfg0.N) (h0 : ¬t.val % 8 = 0) (h1 : ¬t.val % 8 = 7) (g13 g14 : ℕ → ℕ → ℕ → ℝ) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (cube g13) (cube g14)
    = k0_pay119 (F := Ideal) (gB m c t) (uB m c t) (yB m c t) := by
  have := PointB.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (fun h => h0 ((hcond0_0 t).mp h)) (fun h => h1 ((hcond0_1 t).mp h))
  rw [← hB.q t, ← hB.k t, ← hB.v t, ← hB.tot t] at this
  exact this

theorem B_sout_0 (t : Fin cfg0.N) (h0 : ¬t.val % 8 = 0) (h1 : ¬t.val % 8 = 7) (g13 g14 : ℕ → ℕ → ℕ → ℝ) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (cube g13) (cube g14)
    = cube (fun j d s => g13 j d s + dkt (Hd (t.val / 8)) (512 * ((grid0.coords t) 1).val) (512 * j) d s) := by
  have := PointB.sout0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) (fun h => h1 ((hcond0_1 t).mp h))
  rw [← hB.q t, ← hB.k t, ← hB.v t, ← hB.tot t] at this
  exact this

theorem B_sout_1 (t : Fin cfg0.N) (h0 : ¬t.val % 8 = 0) (h1 : ¬t.val % 8 = 7) (g13 g14 : ℕ → ℕ → ℕ → ℝ) :
    sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (cube g13) (cube g14)
    = cube (fun j d s => g14 j d s + dvt (Hd (t.val / 8)) (512 * ((grid0.coords t) 1).val) (512 * j) d s) := by
  have := PointB.sout1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) (fun h => h1 ((hcond0_1 t).mp h))
  rw [← hB.q t, ← hB.k t, ← hB.v t, ← hB.tot t] at this
  exact this

theorem C_out_7 (t : Fin cfg0.N) (h0 : ¬t.val % 8 = 0) (h1 : t.val % 8 = 7) (g13 g14 : ℕ → ℕ → ℕ → ℝ) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = mat (φ := .bf16) 512 128 (fun r d => ((∑ s ∈ range (512 * ((grid0.coords t) 1).val), (Hd (t.val / 8)).dz ((512 * ((grid0.coords t) 1).val) + r) s * (Hd (t.val / 8)).k s d) + ∑ s ∈ range 512, (Hd (t.val / 8)).dz ((512 * ((grid0.coords t) 1).val) + r) ((512 * ((grid0.coords t) 1).val) + s) * (Hd (t.val / 8)).k ((512 * ((grid0.coords t) 1).val) + s) d) * (Real.sqrt 128)⁻¹) := by
  have := PointC.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) ((hcond0_1 t).mpr h1)
  rw [← hB.q t, ← hB.k t, ← hB.v t, ← hB.tot t] at this
  exact this

theorem C_out_10 (t : Fin cfg0.N) (h0 : ¬t.val % 8 = 0) (h1 : t.val % 8 = 7) (g13 g14 : ℕ → ℕ → ℕ → ℝ) :
    out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = k0_pay119 (F := Ideal) (gB m c t) (uB m c t) (yB m c t) := by
  have := PointC.out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (fun h => h0 ((hcond0_0 t).mp h)) ((hcond0_1 t).mpr h1)
  rw [← hB.q t, ← hB.k t, ← hB.v t, ← hB.tot t] at this
  exact this

theorem C_sout_0 (t : Fin cfg0.N) (h0 : ¬t.val % 8 = 0) (h1 : t.val % 8 = 7) (g13 g14 : ℕ → ℕ → ℕ → ℝ) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = cube (fun j d s => g13 j d s + dkt (Hd (t.val / 8)) (512 * ((grid0.coords t) 1).val) (512 * j) d s) := by
  have := PointC.sout0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) ((hcond0_1 t).mpr h1)
  rw [← hB.q t, ← hB.k t, ← hB.v t, ← hB.tot t] at this
  exact this

theorem C_sout_1 (t : Fin cfg0.N) (h0 : ¬t.val % 8 = 0) (h1 : t.val % 8 = 7) (g13 g14 : ℕ → ℕ → ℕ → ℝ) :
    sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = cube (fun j d s => g14 j d s + dvt (Hd (t.val / 8)) (512 * ((grid0.coords t) 1).val) (512 * j) d s) := by
  have := PointC.sout1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) ((hcond0_1 t).mpr h1)
  rw [← hB.q t, ← hB.k t, ← hB.v t, ← hB.tot t] at this
  exact this

theorem C_out_8 (t : Fin cfg0.N) (h0 : ¬t.val % 8 = 0) (h1 : t.val % 8 = 7) (g13 g14 : ℕ → ℕ → ℕ → ℝ) :
    out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = mat (φ := .bf16) 4096 128 (byBlock (fun j s d => (g13 j d s + dkt (Hd (t.val / 8)) (512 * ((grid0.coords t) 1).val) (512 * j) d s) * (Real.sqrt 128)⁻¹)) := by
  have := PointC.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) ((hcond0_1 t).mpr h1)
  rw [← hB.q t, ← hB.k t, ← hB.v t, ← hB.tot t] at this
  exact this

theorem C_out_9 (t : Fin cfg0.N) (h0 : ¬t.val % 8 = 0) (h1 : t.val % 8 = 7) (g13 g14 : ℕ → ℕ → ℕ → ℝ) :
    out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (cube g13) (cube g14)
    = mat (φ := .bf16) 4096 128 (byBlock (fun j s d => (g14 j d s + dvt (Hd (t.val / 8)) (512 * ((grid0.coords t) 1).val) (512 * j) d s))) := by
  have := PointC.out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (yB m c t) (gB m c t) (uB m c t) (H := (Hd (t.val / 8))) (g13 := g13) (g14 := g14) (hB.dy t) (hB.dyt t) (fun h => h0 ((hcond0_0 t).mp h)) ((hcond0_1 t).mpr h1)
  rw [← hB.q t, ← hB.k t, ← hB.v t, ← hB.tot t] at this
  exact this

theorem step_A (t : Fin cfg0.N) (h0 : t.val % 8 = 0) (h1 : ¬t.val % 8 = 7) :
    (outsAt0 m c t.val t.isLt).2.2.2.2.1 = cube (sumK (Hd (t.val / 8)) (t.val % 8 + 1)) ∧ (outsAt0 m c t.val t.isLt).2.2.2.2.2 = cube (sumV (Hd (t.val / 8)) (t.val % 8 + 1)) := by
  have e := outsAt0_A m c t h0 h1
  have e0 := A_sout_0 m c hB t h0 h1
  have e1 := A_sout_1 m c hB t h0 h1
  rw [coords_val] at e0 e1
  rw [e]
  dsimp only
  refine ⟨e0.trans (cube_congr fun j _ d _ s _ => ?_), e1.trans (cube_congr fun j _ d _ s _ => ?_)⟩
  · unfold sumK; rw [h0, sum_range_one, zero_add]
  · unfold sumV; rw [h0, sum_range_one, zero_add]

theorem step_B (t : Fin cfg0.N) (h0 : ¬t.val % 8 = 0) (h1 : ¬t.val % 8 = 7)
    (i0 : (outsAt0 m c (t.val - 1) (Nat.lt_of_le_of_lt (Nat.sub_le _ _) t.isLt)).2.2.2.2.1 = cube (sumK (Hd (t.val / 8)) (t.val % 8)))
    (i1 : (outsAt0 m c (t.val - 1) (Nat.lt_of_le_of_lt (Nat.sub_le _ _) t.isLt)).2.2.2.2.2 = cube (sumV (Hd (t.val / 8)) (t.val % 8))) :
    (outsAt0 m c t.val t.isLt).2.2.2.2.1 = cube (sumK (Hd (t.val / 8)) (t.val % 8 + 1)) ∧ (outsAt0 m c t.val t.isLt).2.2.2.2.2 = cube (sumV (Hd (t.val / 8)) (t.val % 8 + 1)) := by
  have e := outsAt0_B m c t h0 h1
  rw [i0, i1] at e
  have e0 := B_sout_0 m c hB t h0 h1 (sumK (Hd (t.val / 8)) (t.val % 8)) (sumV (Hd (t.val / 8)) (t.val % 8))
  have e1 := B_sout_1 m c hB t h0 h1 (sumK (Hd (t.val / 8)) (t.val % 8)) (sumV (Hd (t.val / 8)) (t.val % 8))
  rw [coords_val] at e0 e1
  rw [e]
  dsimp only
  refine ⟨e0.trans (cube_congr fun j _ d _ s _ => ?_), e1.trans (cube_congr fun j _ d _ s _ => ?_)⟩
  · unfold sumK; rw [sum_range_succ]
  · unfold sumV; rw [sum_range_succ]

theorem step_C (t : Fin cfg0.N) (h0 : ¬t.val % 8 = 0) (h1 : t.val % 8 = 7)
    (i0 : (outsAt0 m c (t.val - 1) (Nat.lt_of_le_of_lt (Nat.sub_le _ _) t.isLt)).2.2.2.2.1 = cube (sumK (Hd (t.val / 8)) (t.val % 8)))
    (i1 : (outsAt0 m c (t.val - 1) (Nat.lt_of_le_of_lt (Nat.sub_le _ _) t.isLt)).2.2.2.2.2 = cube (sumV (Hd (t.val / 8)) (t.val % 8))) :
    (outsAt0 m c t.val t.isLt).2.2.2.2.1 = cube (sumK (Hd (t.val / 8)) (t.val % 8 + 1)) ∧ (outsAt0 m c t.val t.isLt).2.2.2.2.2 = cube (sumV (Hd (t.val / 8)) (t.val % 8 + 1)) := by
  have e := outsAt0_C m c t h0 h1
  rw [i0, i1] at e
  have e0 := C_sout_0 m c hB t h0 h1 (sumK (Hd (t.val / 8)) (t.val % 8)) (sumV (Hd (t.val / 8)) (t.val % 8))
  have e1 := C_sout_1 m c hB t h0 h1 (sumK (Hd (t.val / 8)) (t.val % 8)) (sumV (Hd (t.val / 8)) (t.val % 8))
  rw [coords_val] at e0 e1
  rw [e]
  dsimp only
  refine ⟨e0.trans (cube_congr fun j _ d _ s _ => ?_), e1.trans (cube_congr fun j _ d _ s _ => ?_)⟩
  · unfold sumK; rw [sum_range_succ]
  · unfold sumV; rw [sum_range_succ]

/-- The accumulators after every point. -/
theorem scratch (n : ℕ) (hn : n < cfg0.N) :
    (outsAt0 m c n hn).2.2.2.2.1 = cube (sumK (Hd (n / 8)) (n % 8 + 1)) ∧ (outsAt0 m c n hn).2.2.2.2.2 = cube (sumV (Hd (n / 8)) (n % 8 + 1)) := by
  induction n with
  | zero => exact step_A m c hB ⟨0, hn⟩ (Nat.zero_mod 8) (by rw [Nat.zero_mod]; omega)
  | succ n ih =>
    by_cases h0 : (n + 1) % 8 = 0
    · exact step_A m c hB ⟨n + 1, hn⟩ h0 (by dsimp only; omega)
    · obtain ⟨i0, i1⟩ := ih (Nat.lt_of_succ_lt hn)
      have hd : (n + 1) / 8 = n / 8 := by omega
      have hm : (n + 1) % 8 = n % 8 + 1 := by omega
      rw [← hd, ← hm] at i0 i1
      by_cases h1 : (n + 1) % 8 = 7
      · exact step_C m c hB ⟨n + 1, hn⟩ h0 h1 i0 i1
      · exact step_B m c hB ⟨n + 1, hn⟩ h0 h1 i0 i1

/-- The gradient of the queries a point writes. -/
theorem point7 (t : Fin cfg0.N) : (outsAt0 m c t.val t.isLt).1 = mat (φ := .bf16) 512 128 (fun r d => (Hd (t.val / 8)).gq (512 * (t.val % 8) + r) d) := by
  have key : (outsAt0 m c t.val t.isLt).1 = mat (φ := .bf16) 512 128 (fun r d => ((∑ s ∈ range (512 * ((grid0.coords t) 1).val), (Hd (t.val / 8)).dz ((512 * ((grid0.coords t) 1).val) + r) s * (Hd (t.val / 8)).k s d) + ∑ s ∈ range 512, (Hd (t.val / 8)).dz ((512 * ((grid0.coords t) 1).val) + r) ((512 * ((grid0.coords t) 1).val) + s) * (Hd (t.val / 8)).k ((512 * ((grid0.coords t) 1).val) + s) d) * (Real.sqrt 128)⁻¹) := by
    by_cases h0 : t.val % 8 = 0
    · have h1 : ¬t.val % 8 = 7 := by omega
      rw [outsAt0_A m c t h0 h1]; dsimp only; exact A_out_7 m c hB t h0 h1
    · obtain ⟨i0, i1⟩ := scratch m c hB (t.val - 1) (Nat.lt_of_le_of_lt (Nat.sub_le _ _) t.isLt)
      by_cases h1 : t.val % 8 = 7
      · have e := outsAt0_C m c t h0 h1
        rw [i0, i1] at e
        rw [e]; dsimp only; exact C_out_7 m c hB t h0 h1 (sumK (Hd ((t.val - 1) / 8)) ((t.val - 1) % 8 + 1)) (sumV (Hd ((t.val - 1) / 8)) ((t.val - 1) % 8 + 1))
      · have e := outsAt0_B m c t h0 h1
        rw [i0, i1] at e
        rw [e]; dsimp only; exact B_out_7 m c hB t h0 h1 (sumK (Hd ((t.val - 1) / 8)) ((t.val - 1) % 8 + 1)) (sumV (Hd ((t.val - 1) / 8)) ((t.val - 1) % 8 + 1))
  rw [key, coords_val]
  refine mat_congr fun r hr d _ => ?_
  exact (Hd (t.val / 8)).gq_block _ d _ (by omega) (by omega)

/-- The gradient of the gate a point writes. -/
theorem point10 (t : Fin cfg0.N) : (outsAt0 m c t.val t.isLt).2.2.2.1 = k0_pay119 (F := Ideal) (gB m c t) (uB m c t) (yB m c t) := by
  by_cases h0 : t.val % 8 = 0
  · have h1 : ¬t.val % 8 = 7 := by omega
    rw [outsAt0_A m c t h0 h1]; dsimp only; exact A_out_10 m c hB t h0 h1
  · obtain ⟨i0, i1⟩ := scratch m c hB (t.val - 1) (Nat.lt_of_le_of_lt (Nat.sub_le _ _) t.isLt)
    by_cases h1 : t.val % 8 = 7
    · have e := outsAt0_C m c t h0 h1
      rw [i0, i1] at e
      rw [e]; dsimp only; exact C_out_10 m c hB t h0 h1 (sumK (Hd ((t.val - 1) / 8)) ((t.val - 1) % 8 + 1)) (sumV (Hd ((t.val - 1) / 8)) ((t.val - 1) % 8 + 1))
    · have e := outsAt0_B m c t h0 h1
      rw [i0, i1] at e
      rw [e]; dsimp only; exact B_out_10 m c hB t h0 h1 (sumK (Hd ((t.val - 1) / 8)) ((t.val - 1) % 8 + 1)) (sumV (Hd ((t.val - 1) / 8)) ((t.val - 1) % 8 + 1))

/-- The gradient of the keys, at the last point of a head. -/
theorem point8 (t : Fin cfg0.N) (h1 : t.val % 8 = 7) : (outsAt0 m c t.val t.isLt).2.1 = mat (φ := .bf16) 4096 128 (Hd (t.val / 8)).gk := by
  have h0 : ¬t.val % 8 = 0 := by omega
  obtain ⟨i0, i1⟩ := scratch m c hB (t.val - 1) (Nat.lt_of_le_of_lt (Nat.sub_le _ _) t.isLt)
  have e := outsAt0_C m c t h0 h1
  rw [i0, i1] at e
  have e' := C_out_8 m c hB t h0 h1 (sumK (Hd ((t.val - 1) / 8)) ((t.val - 1) % 8 + 1)) (sumV (Hd ((t.val - 1) / 8)) ((t.val - 1) % 8 + 1))
  rw [coords_val] at e'
  rw [e]
  dsimp only
  refine e'.trans (mat_congr fun s hs d _ => ?_)
  rw [h1, show (t.val - 1) / 8 = t.val / 8 from by omega, show (t.val - 1) % 8 + 1 = 7 from by omega]
  refine Eq.trans ?_ ((Hd (t.val / 8)).gk_blocks s d)
  unfold byBlock sumK
  rw [sum_range_succ _ 7]

/-- The gradient of the values, at the last point of a head. -/
theorem point9 (t : Fin cfg0.N) (h1 : t.val % 8 = 7) : (outsAt0 m c t.val t.isLt).2.2.1 = mat (φ := .bf16) 4096 128 (Hd (t.val / 8)).gv := by
  have h0 : ¬t.val % 8 = 0 := by omega
  obtain ⟨i0, i1⟩ := scratch m c hB (t.val - 1) (Nat.lt_of_le_of_lt (Nat.sub_le _ _) t.isLt)
  have e := outsAt0_C m c t h0 h1
  rw [i0, i1] at e
  have e' := C_out_9 m c hB t h0 h1 (sumK (Hd ((t.val - 1) / 8)) ((t.val - 1) % 8 + 1)) (sumV (Hd ((t.val - 1) / 8)) ((t.val - 1) % 8 + 1))
  rw [coords_val] at e'
  rw [e]
  dsimp only
  refine e'.trans (mat_congr fun s hs d _ => ?_)
  rw [h1, show (t.val - 1) / 8 = t.val / 8 from by omega, show (t.val - 1) % 8 + 1 = 7 from by omega]
  refine Eq.trans ?_ ((Hd (t.val / 8)).gv_blocks s d)
  unfold byBlock sumV
  rw [sum_range_succ _ 7]

/-! ## The four arrays -/

theorem final_q : G7 m c = fun i : S4096x2048.Idx => (((Hd ((i 1).val / 128)).gq (i 0).val ((i 1).val % 128) : ℝ) : EReal) := by
  funext i
  have hi0 : (i 0).val < 4096 := (i 0).isLt
  have hi1 : (i 1).val < 2048 := (i 1).isLt
  have hp : pt7Of i < cfg0.N := by rw [show cfg0.N = 128 from N_0]; unfold pt7Of run7Of; omega
  unfold G7
  rw [dif_pos hp, ← outsAt0_sweep]
  refine (congrFun (point7 m c hB ⟨pt7Of i, hp⟩) (loc7Of i)).trans ?_
  show (((Hd (pt7Of i / 8)).gq (512 * (pt7Of i % 8) + (i 0).val % 512) ((i 1).val % 128) : ℝ) : EReal) = _
  rw [show pt7Of i / 8 = (i 1).val / 128 from by unfold pt7Of run7Of; omega, show 512 * (pt7Of i % 8) + (i 0).val % 512 = (i 0).val from by unfold pt7Of run7Of; omega]

theorem final_k : G8 m c = fun i : S4096x2048.Idx => (((Hd ((i 1).val / 128)).gk (i 0).val ((i 1).val % 128) : ℝ) : EReal) := by
  funext i
  have hi0 : (i 0).val < 4096 := (i 0).isLt
  have hi1 : (i 1).val < 2048 := (i 1).isLt
  have hp : pt8Of i < cfg0.N := by rw [show cfg0.N = 128 from N_0]; unfold pt8Of run8Of; omega
  unfold G8
  rw [dif_pos hp, ← outsAt0_sweep]
  refine (congrFun (point8 m c hB ⟨pt8Of i, hp⟩ (by unfold pt8Of run8Of; dsimp only; omega)) (loc8Of i)).trans ?_
  show (((Hd (pt8Of i / 8)).gk ((i 0).val % 4096) ((i 1).val % 128) : ℝ) : EReal) = _
  rw [show pt8Of i / 8 = (i 1).val / 128 from by unfold pt8Of run8Of; omega, Nat.mod_eq_of_lt hi0]

theorem final_v : G9 m c = fun i : S4096x2048.Idx => (((Hd ((i 1).val / 128)).gv (i 0).val ((i 1).val % 128) : ℝ) : EReal) := by
  funext i
  have hi0 : (i 0).val < 4096 := (i 0).isLt
  have hi1 : (i 1).val < 2048 := (i 1).isLt
  have hp : pt9Of i < cfg0.N := by rw [show cfg0.N = 128 from N_0]; unfold pt9Of run9Of; omega
  unfold G9
  rw [dif_pos hp, ← outsAt0_sweep]
  refine (congrFun (point9 m c hB ⟨pt9Of i, hp⟩ (by unfold pt9Of run9Of; dsimp only; omega)) (loc9Of i)).trans ?_
  show (((Hd (pt9Of i / 8)).gv ((i 0).val % 4096) ((i 1).val % 128) : ℝ) : EReal) = _
  rw [show pt9Of i / 8 = (i 1).val / 128 from by unfold pt9Of run9Of; omega, Nat.mod_eq_of_lt hi0]

/-- The gradient of the gate, entry by entry. -/
theorem final_g (f : ℕ → ℕ → ℝ)
    (hf : ∀ t : Fin cfg0.N, k0_pay119 (F := Ideal) (gB m c t) (uB m c t) (yB m c t)
      = mat (φ := .bf16) 512 128 (at2 f (512 * (t.val % 8)) (128 * (t.val / 8)))) :
    G10 m c = fun i : S4096x2048.Idx => ((f (i 0).val (i 1).val : ℝ) : EReal) := by
  funext i
  have hi0 : (i 0).val < 4096 := (i 0).isLt
  have hi1 : (i 1).val < 2048 := (i 1).isLt
  have hp : pt10Of i < cfg0.N := by rw [show cfg0.N = 128 from N_0]; unfold pt10Of run10Of; omega
  unfold G10
  rw [dif_pos hp, ← outsAt0_sweep]
  refine (congrFun ((point10 m c hB ⟨pt10Of i, hp⟩).trans (hf ⟨pt10Of i, hp⟩)) (loc10Of i)).trans ?_
  show ((f (512 * (pt10Of i % 8) + (i 0).val % 512) (128 * (pt10Of i / 8) + (i 1).val % 128) : ℝ) : EReal) = _
  rw [show 512 * (pt10Of i % 8) + (i 0).val % 512 = (i 0).val from by unfold pt10Of run10Of; omega, show 128 * (pt10Of i / 8) + (i 1).val % 128 = (i 1).val from by unfold pt10Of run10Of; omega]

end Cert.Grid
-- ==== Proof.Agree.lean ====
module

public import proofs.«01_k».proof.Proof.RefB
public import proofs.«01_k».proof.Proof.Grid

@[expose] public section

set_option maxRecDepth 16384

noncomputable section

open Idealize.ShloMosaic Idealize.ShloMosaic.TcCoe
open Cert.Mat Finset

namespace Cert.Ref

/-! ## The kernel's heads and the reference's lines are the same functions -/

variable (Q K V G U : ℕ → ℕ → ℝ)

/-- Head `h` of the arguments; the softplus sums are those the forward pass saves. -/
def hd (h : ℕ) : Head where
  q t d := Q t (128 * h + d)
  k s d := K s (128 * h + d)
  v s d := V s (128 * h + d)
  dy t d := dyr G U t (128 * h + d)
  tot t := (∑ s ∈ range 4096, -lk Q K h t s) * (Real.log 2)⁻¹

theorem z_eq (h t s : ℕ) : (hd Q K V G U h).z t s = lg Q K h t s * (Real.log 2)⁻¹ := (mul_assoc _ _ _).symm

theorem keep_eq (h t s : ℕ) : (hd Q K V G U h).keep t s = -lk Q K h t s * (Real.log 2)⁻¹ := by
  rw [Head.keep, z_eq, sp_base, lk]
  split_ifs <;> ring

theorem seen_eq (h t n : ℕ) : (hd Q K V G U h).seen t n = (∑ s ∈ range n, -lk Q K h t s) * (Real.log 2)⁻¹ := by
  rw [Head.seen, sum_mul]
  exact sum_congr rfl fun s _ => keep_eq Q K V G U h t s

theorem ls_eq (h t s : ℕ) : (hd Q K V G U h).ls t s = (lg Q K h t s - sp (lg Q K h t s)) * (Real.log 2)⁻¹ := by
  rw [Head.ls, z_eq, sp_base]
  ring

theorem w_eq (h t : ℕ) {s : ℕ} (hs : s < 4096) : (hd Q K V G U h).w t s = wt Q K h t s := by
  rw [Head.w, wt, gt, later_eq (lk Q K h t) hs, ls_eq, seen_eq, sp_neg, ← pow_base]
  congr 2
  show _ - ((∑ s ∈ range 4096, -lk Q K h t s) * (Real.log 2)⁻¹ - _) = _
  rw [sum_neg_distrib, sum_neg_distrib, sum_range_succ (fun x => lk Q K h t x) s]
  ring

theorem dw_eq (h t s : ℕ) : (hd Q K V G U h).dw t s = dwr V G U h t s := rfl

theorem e_eq (h t : ℕ) {s : ℕ} (hs : s < 4096) : (hd Q K V G U h).e t s = er Q K V G U h t s := by
  rw [Head.e, w_eq Q K V G U h t hs, dw_eq, er, wt]
  split_ifs <;> ring

theorem eseen_eq (h t : ℕ) {n : ℕ} (hn : n ≤ 4096) : (hd Q K V G U h).eseen t n = ∑ s ∈ range n, er Q K V G U h t s := by
  rw [Head.eseen]
  exact sum_congr rfl fun s hs => e_eq Q K V G U h t ((mem_range.1 hs).trans_le hn)

theorem dz_eq (h t : ℕ) {s : ℕ} (hs : s < 4096) : (hd Q K V G U h).dz t s = dzr Q K V G U h t s := by
  rw [Head.dz, dzr, lr, earlier_eq (er Q K V G U h t) hs, exp_slopes, sum_range_succ, ls_eq, pow_base, e_eq Q K V G U h t hs, eseen_eq Q K V G U h t hs.le]
  by_cases h' : s < t
  · simp only [if_pos h']
    ring
  · have e0 : er Q K V G U h t s = 0 := by rw [er, if_neg h', zero_mul]
    simp only [if_neg h', e0]
    ring

theorem gq_eq (h t d : ℕ) : (hd Q K V G U h).gq t d = ∑ s ∈ range 4096, dzr Q K V G U h t s * (Real.sqrt 128)⁻¹ * K s (128 * h + d) := by
  rw [Head.gq, sum_mul]
  refine sum_congr rfl fun s hs => ?_
  rw [dz_eq Q K V G U h t (mem_range.1 hs)]
  show _ * K s (128 * h + d) * _ = _
  ring

theorem gk_eq (h d : ℕ) {s : ℕ} (hs : s < 4096) : (hd Q K V G U h).gk s d = ∑ t ∈ range 4096, dzr Q K V G U h t s * (Real.sqrt 128)⁻¹ * Q t (128 * h + d) := by
  rw [Head.gk, sum_mul]
  refine sum_congr rfl fun t _ => ?_
  rw [dz_eq Q K V G U h t hs]
  show Q t (128 * h + d) * _ * _ = _
  ring

theorem gv_eq (h d : ℕ) {s : ℕ} (hs : s < 4096) : (hd Q K V G U h).gv s d = ∑ t ∈ range 4096, dyr G U t (128 * h + d) * wt Q K h t s := by
  rw [Head.gv]
  refine sum_congr rfl fun t _ => ?_
  rw [w_eq Q K V G U h t hs]
  rfl

end Cert.Ref
-- ==== Proof.HostV.lean ====
module
public import proofs.«01_k».proof.Proof.Gen.KernelIdeal.Value
public import proofs.«01_k».proof.Proof.Gen.ReferenceIdeal.Read
public import Idealize.ShloMosaic.Lib.StableHlo.RunRead
public import Idealize.ShloMosaic.Lib.Pipeline.ValueKit
@[expose] public section
set_option maxRecDepth 16384
noncomputable section
open Idealize.ShloMosaic Idealize.ShloMosaic.TcCoe
open Cert.KernelIdeal Cert.KernelIdeal.Gen
namespace Cert.HostV
variable (m : (ℓ : Loc nD τ sig) → Buf (Elt Ideal) ℓ) (c : Dev nD)

set_option maxHeartbeats 4000000 in
/-- The attention's output operand: the reference's own line for it. -/
theorem y_eq : V m c main_v37 = Cert.ReferenceIdeal.Read.val_main_v30 (F := Ideal)
    (m ((c : Thread nD τ).loc main_arg0)) (m ((c : Thread nD τ).loc main_arg1)) (m ((c : Thread nD τ).loc main_arg2)) := by
  unfold V
  simp only [List.flatten_cons, List.flatten_nil, List.append_nil, List.cons_append, List.nil_append]
  after_reads_simp
  rfl

set_option maxHeartbeats 4000000 in
/-- The softplus sums' operand: the reference's own row sums, divided by the logarithm of two and spread over a head's columns. -/
theorem tot_eq : V m c main_v36 = shapeCast S4096x2048 (broadcastInDim S4096x16x128 ![0, 1, 2] bcast_S4096x16x1_S4096x16x128_0_1_2
    (broadcastInDim S4096x16x1 ![0, 1] bcast_S4096x16_S4096x16x1_0_1 (transpose S4096x16 [1, 0]
      (Host.divf (F := Ideal) (Cert.ReferenceIdeal.Read.val_main_v29 (F := Ideal) (m ((c : Thread nD τ).loc main_arg0)) (m ((c : Thread nD τ).loc main_arg1)))
        (broadcastInDim S16x4096 ![] bcast_S_S16x4096 (Host.log (F := Ideal) (constant (F := Ideal) S_ .f32 0x40000000#32))))
      transposes_S16x4096_S4096x16_1_0))) shapeCasts_S4096x16x128_S4096x2048 := by
  unfold V
  simp only [List.flatten_cons, List.flatten_nil, List.append_nil, List.cons_append, List.nil_append]
  after_reads_simp
  rfl

end Cert.HostV
-- ==== Proof.KHost.lean ====
module
public import proofs.«01_k».proof.Proof.Agree
public import proofs.«01_k».proof.Proof.Grid
public import proofs.«01_k».proof.Proof.HostV
public import proofs.«01_k».proof.Proof.RefB
public import Idealize.ShloMosaic.Lib.Pipeline.ValueKit
@[expose] public section
set_option maxRecDepth 16384
noncomputable section
open Idealize.ShloMosaic Idealize.ShloMosaic.TcCoe
open Cert.KernelIdeal Cert.KernelIdeal.Gen Cert.Mat Cert.Trip Cert.Diag Cert.Loop Cert.Grid Cert.KernelIdeal.Value Finset

namespace Cert.KHost

/-- The arrays' blocks at a point of the grid: its place among the heads and among the rows. -/
theorem idx : ∀ t : Fin cfg0.N,
    (win0_0.index t 0 = t.val % 8 ∧ win0_0.index t 1 = t.val / 8) ∧ (win0_1.index t 0 = 0 ∧ win0_1.index t 1 = t.val / 8)
    ∧ (win0_2.index t 0 = 0 ∧ win0_2.index t 1 = t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8)
    ∧ (win0_6.index t 0 = t.val % 8 ∧ win0_6.index t 1 = t.val / 8) :=
  (by decide +kernel : ∀ t : Fin grid0.N,
    (win0_0.index t 0 = t.val % 8 ∧ win0_0.index t 1 = t.val / 8) ∧ (win0_1.index t 0 = 0 ∧ win0_1.index t 1 = t.val / 8)
    ∧ (win0_2.index t 0 = 0 ∧ win0_2.index t 1 = t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8)
    ∧ (win0_6.index t 0 = t.val % 8 ∧ win0_6.index t 1 = t.val / 8))

variable (m : (ℓ : Loc nD τ sig) → Buf (Elt Ideal) ℓ) (c : Dev nD)

theorem blk_0 (f : ℕ → ℕ → ℝ) (h : V m c main_arg0 = mat (φ := .bf16) 4096 2048 f) (t : Fin cfg0.N) :
    (show FVec Ideal S512x128 .bf16 from iblk m c 0 t) = mat 512 128 (at2 f (512 * (t.val % 8)) (128 * (t.val / 8))) := by
  funext x
  show (show FVec Ideal S512x128 .bf16 from iblk m c 0 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

theorem blk_1 (f : ℕ → ℕ → ℝ) (h : V m c main_arg1 = mat (φ := .bf16) 4096 2048 f) (t : Fin cfg0.N) :
    (show FVec Ideal S4096x128 .bf16 from iblk m c 1 t) = mat 4096 128 (fun s d => f s (128 * (t.val / 8) + d)) := by
  funext x
  show (show FVec Ideal S4096x128 .bf16 from iblk m c 1 t) x = ((f ((x 0).val) (128 * (t.val / 8) + (x 1).val) : ℝ) : EReal)
  blk_simp [iblk, idx t]
  rw [h]
  show ((f _ _ : ℝ) : EReal) = _
  blk_simp [idx t]
  rw [mul_comm (t.val / 8)]

theorem blk_2 (f : ℕ → ℕ → ℝ) (h : V m c main_arg2 = mat (φ := .bf16) 4096 2048 f) (t : Fin cfg0.N) :
    (show FVec Ideal S4096x128 .bf16 from iblk m c 2 t) = mat 4096 128 (fun s d => f s (128 * (t.val / 8) + d)) := by
  funext x
  show (show FVec Ideal S4096x128 .bf16 from iblk m c 2 t) x = ((f ((x 0).val) (128 * (t.val / 8) + (x 1).val) : ℝ) : EReal)
  blk_simp [iblk, idx t]
  rw [h]
  show ((f _ _ : ℝ) : EReal) = _
  blk_simp [idx t]
  rw [mul_comm (t.val / 8)]

theorem blk_3 (f : ℕ → ℕ → ℝ) (h : V m c main_v36 = mat (φ := .f32) 4096 2048 f) (t : Fin cfg0.N) :
    (show FVec Ideal S512x128 .f32 from iblk m c 3 t) = mat 512 128 (at2 f (512 * (t.val % 8)) (128 * (t.val / 8))) := by
  funext x
  show (show FVec Ideal S512x128 .f32 from iblk m c 3 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

theorem blk_4 (f : ℕ → ℕ → ℝ) (h : V m c main_v37 = mat (φ := .f32) 4096 2048 f) (t : Fin cfg0.N) :
    (show FVec Ideal S512x128 .f32 from iblk m c 4 t) = mat 512 128 (at2 f (512 * (t.val % 8)) (128 * (t.val / 8))) := by
  funext x
  show (show FVec Ideal S512x128 .f32 from iblk m c 4 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

theorem blk_5 (f : ℕ → ℕ → ℝ) (h : V m c main_arg3 = mat (φ := .f32) 4096 2048 f) (t : Fin cfg0.N) :
    (show FVec Ideal S512x128 .f32 from iblk m c 5 t) = mat 512 128 (at2 f (512 * (t.val % 8)) (128 * (t.val / 8))) := by
  funext x
  show (show FVec Ideal S512x128 .f32 from iblk m c 5 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

theorem blk_6 (f : ℕ → ℕ → ℝ) (h : V m c main_arg4 = mat (φ := .f32) 4096 2048 f) (t : Fin cfg0.N) :
    (show FVec Ideal S512x128 .f32 from iblk m c 6 t) = mat 512 128 (at2 f (512 * (t.val % 8)) (128 * (t.val / 8))) := by
  funext x
  show (show FVec Ideal S512x128 .f32 from iblk m c 6 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

/-- The host's sums operand, at its entries. -/
theorem tot_mat (Q K : ℕ → ℕ → ℝ) (hq : m ((c : Thread nD τ).loc main_arg0) = mat (φ := .bf16) 4096 2048 Q)
    (hk : m ((c : Thread nD τ).loc main_arg1) = mat (φ := .bf16) 4096 2048 K) :
    V m c main_v36 = mat (φ := .f32) 4096 2048 (fun t j => (∑ s ∈ range 4096, -Cert.Ref.lk Q K (j / 128) t s) * (Real.log 2)⁻¹) := by
  refine (Cert.HostV.tot_eq m c).trans ?_
  rw [hq, hk, Cert.Ref.v29_eq]
  funext i
  pointwise
  have h1 : (i 1).val < 2048 := (i 1).isLt
  have hl : Ideal.log (Ideal.ofBits .f32 0x40000000#32) = ((Real.log 2 : ℝ) : EReal) := by
    rw [show Ideal.ofBits .f32 0x40000000#32 = ((2 : ℝ) : EReal) from by simp [Ideal.ofBits, Ideal.ieee, -EReal.coe_mul]; norm_num]
    exact (Ideal.log_coe _).trans (if_neg (by norm_num))
  rw [show (1073741824#32 : BitVec 32) = 0x40000000#32 from rfl, hl, Ideal.div_coe (log_two_pos).ne', one_div]
  exact (EReal.coe_mul _ _).symm

section
variable (Q K W G U : ℕ → ℕ → ℝ)
variable (hq : m ((c : Thread nD τ).loc main_arg0) = mat (φ := .bf16) 4096 2048 Q)
  (hk : m ((c : Thread nD τ).loc main_arg1) = mat (φ := .bf16) 4096 2048 K)
  (hv : m ((c : Thread nD τ).loc main_arg2) = mat (φ := .bf16) 4096 2048 W)
  (hg : m ((c : Thread nD τ).loc main_arg3) = mat (φ := .f32) 4096 2048 G)
  (hu : m ((c : Thread nD τ).loc main_arg4) = mat (φ := .f32) 4096 2048 U)
include hq hk hv hg hu

set_option maxHeartbeats 1600000 in
theorem blocks : Blocks m c (Cert.Ref.hd Q K W G U) where
  q t := by
    rw [coords_val]
    exact (blk_0 m c Q hq t).trans (mat_congr fun r _ d _ => by
      show Q _ (128 * (t.val / 8) + d) = Q _ (128 * (t.val / 8) + (0 + d))
      rw [zero_add])
  k t := (blk_1 m c K hk t).trans (mat_congr fun r _ d _ => rfl)
  v t := (blk_2 m c W hv t).trans (mat_congr fun r _ d _ => rfl)
  tot t := by
    rw [coords_val]
    refine (blk_3 m c _ (tot_mat m c Q K hq hk) t).trans (mat_congr fun r _ d hd => ?_)
    show (∑ s ∈ range 4096, -Cert.Ref.lk Q K ((128 * (t.val / 8) + d) / 128) _ s) * _ = (∑ s ∈ range 4096, -Cert.Ref.lk Q K (t.val / 8) _ s) * _
    rw [show (128 * (t.val / 8) + d) / 128 = t.val / 8 from by omega]
  dy t := by
    rw [coords_val, show gB m c t = _ from blk_5 m c G hg t, show uB m c t = _ from blk_6 m c U hu t]
    unfold k0_pay121 k0_pay120
    dsimp only
    rw [mat_logistic, mat_mul, mat_mul, mat_truncf]
    refine mat_congr fun r _ d _ => ?_
    show _ = Cert.Ref.dyr G U _ (128 * (t.val / 8) + (0 + d))
    rw [zero_add]
    rfl
  dyt t := by
    rw [coords_val, show gB m c t = _ from blk_5 m c G hg t, show uB m c t = _ from blk_6 m c U hu t]
    unfold k0_pay123 k0_pay120
    dsimp only
    rw [mat_logistic, mat_mul, mat_mul, mat_transpose, mat_truncf]
    unfold dyT
    refine mat_congr fun r _ d _ => ?_
    show _ = Cert.Ref.dyr G U _ (128 * (t.val / 8) + r)
    rfl

theorem gate_blk (t : Fin cfg0.N) : k0_pay119 (F := Ideal) (gB m c t) (uB m c t) (yB m c t)
    = mat (φ := .bf16) 512 128 (at2 (Cert.Ref.dgr Q K W G U) (512 * (t.val % 8)) (128 * (t.val / 8))) := by
  have hy : V m c main_v37 = mat (φ := .f32) 4096 2048 (Cert.Ref.yy Q K W) := by
    rw [Cert.HostV.y_eq, hq, hk, hv, Cert.Ref.v30_eq]
  rw [show gB m c t = _ from blk_5 m c G hg t, show uB m c t = _ from blk_6 m c U hu t, show yB m c t = _ from blk_4 m c _ hy t]
  unfold k0_pay119
  dsimp only
  rw [shapeCast_self, mat_logistic, mat_one, mat_sub, mat_mul, mat_mul, mat_add, mat_mul, mat_mul, mat_truncf]
  refine mat_congr fun r _ d _ => ?_
  show _ = Cert.Ref.dgr Q K W G U _ _
  unfold Cert.Ref.dgr Cert.Ref.sg at2
  ring
end

end Cert.KHost
-- ==== Proof.Fin.lean ====
module
public import proofs.«01_k».proof.Proof.Mat
public import proofs.«01_k».proof.Defs
public import Idealize.ShloMosaic.Lib.ReduceAll
public import Idealize.ShloMosaic.Lib.KernelVsHost
@[expose] public section
set_option maxRecDepth 16384
noncomputable section
open Idealize.ShloMosaic Idealize.ShloMosaic.TcCoe
open Cert.Mat Finset

namespace Cert.Finite

abbrev SA : Shape := ⟨2, ![4096, 2048]⟩
abbrev S0 : Shape := ⟨0, ![]⟩

instance facts : Cert.Pre_all_finite.Facts where
  bcast_S_S4096x2048 := by decide
  reducesTo_S4096x2048_S_d0_1 := by decide
  h_S_ := by decide

/-- The matrix of an array's real entries. -/
def re {φ : FTy} (x : FVec Ideal SA φ) : ℕ → ℕ → ℝ := fun r j => if h : r < 4096 ∧ j < 2048 then
  (show EReal from x (ix2 ⟨r, h.1⟩ ⟨j, h.2⟩)).toReal else 0

theorem real_of {φ : FTy} (x : FVec Ideal SA φ) (h : ∀ i, max (show EReal from x i) (-(show EReal from x i)) < ⊤) : x = mat 4096 2048 (re x) := by
  funext i
  have h0 : (i 0).val < 4096 := (i 0).isLt
  have h1 : (i 1).val < 2048 := (i 1).isLt
  show x i = ((re x (i 0).val (i 1).val : ℝ) : EReal)
  unfold re
  rw [dif_pos ⟨h0, h1⟩]
  have e : (ix2 ⟨(i 0).val, h0⟩ ⟨(i 1).val, h1⟩ : SA.Idx) = i := by
    funext a
    fin_cases a <;> rfl
  rw [e]
  have hh := max_lt_iff.1 (h i)
  refine (EReal.coe_toReal hh.1.ne ?_).symm
  intro hb
  exact absurd hh.2 (by rw [hb]; simp)

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

theorem lt_of_cmp {a b : EReal} (h : Ideal.cmp .olt a b = 1#1) : a < b := by
  unfold Ideal.cmp at h
  by_contra hn
  simp [hn] at h

theorem and_one {a b : IVec S0 1} {i : S0.Idx} (h : andi a b i = 1#1) : a i = 1#1 ∧ b i = 1#1 := by
  have e : ∀ u v : BitVec 1, IntOp.andi u v = 1#1 → u = 1#1 ∧ v = 1#1 := by decide
  exact e _ _ h

instance : Subsingleton S0.Idx := ⟨fun a b => funext fun i => i.elim0⟩

/-- A finite array is that of its real entries. -/
theorem finite_f32 (x : FVec Ideal SA .f32) (init : IVec S0 1) (h0 h1) (i : S0.Idx)
    (h : Host.reduce IntOp.andi (cmpf .olt (Host.absf x) (broadcastInDim SA ![] h0 (constant (F := Ideal) S0 .f32 0x7F800000#32))) init
      Cert.Pre_all_finite.Facts.reducesTo_S4096x2048_S_d0_1 h1 i = 1#1) : x = mat 4096 2048 (re x) := by
  refine real_of x fun j => ?_
  have e := Host.reduce_andi_all _ _ _ _ _ h j
  have e' : Ideal.cmp .olt (max (show EReal from x j) (-(show EReal from x j))) (Ideal.ofBits .f32 0x7F800000#32) = 1#1 := e
  rw [top_f32] at e'
  exact lt_of_cmp e'

theorem finite_bf16 (x : FVec Ideal SA .bf16) (init : IVec S0 1) (h0 h1) (i : S0.Idx)
    (h : Host.reduce IntOp.andi (cmpf .olt (Host.absf x) (broadcastInDim SA ![] h0 (constant (F := Ideal) S0 .bf16 0x7F80#16))) init
      Cert.Pre_all_finite.Facts.reducesTo_S4096x2048_S_d0_1 h1 i = 1#1) : x = mat 4096 2048 (re x) := by
  refine real_of x fun j => ?_
  have e := Host.reduce_andi_all _ _ _ _ _ h j
  have e' : Ideal.cmp .olt (max (show EReal from x j) (-(show EReal from x j))) (Ideal.ofBits .bf16 0x7F80#16) = 1#1 := e
  rw [top_bf16] at e'
  exact lt_of_cmp e'

theorem all_real (q k v : FVec Ideal SA .bf16) (g u : FVec Ideal SA .f32)
    (h : Cert.Pre_all_finite.fn (F := Ideal) q k v g u = fun _ => 1#1) :
    q = mat 4096 2048 (re q) ∧ k = mat 4096 2048 (re k) ∧ v = mat 4096 2048 (re v) ∧ g = mat 4096 2048 (re g) ∧ u = mat 4096 2048 (re u) := by
  unfold Cert.Pre_all_finite.fn Cert.Pre_all_finite.fn_part1 at h
  dsimp only at h
  have h' := congrFun h (fun a => a.elim0)
  obtain ⟨h', hu⟩ := and_one h'
  obtain ⟨h', hg⟩ := and_one h'
  obtain ⟨h', hv⟩ := and_one h'
  obtain ⟨hq, hk⟩ := and_one h'
  exact ⟨finite_bf16 q _ _ _ _ hq, finite_bf16 k _ _ _ _ hk, finite_bf16 v _ _ _ _ hv, finite_f32 g _ _ _ _ hg, finite_f32 u _ _ _ _ hu⟩

end Cert.Finite
-- ==== Proof.Same.lean ====
/- The kernel's four arrays are the reference's. -/
module
public import proofs.«01_k».proof.Proof.KHost
public import proofs.«01_k».proof.Proof.Fin
public import proofs.«01_k».proof.Proof.Frames
public import proofs.«01_k».proof.Proof.Gen.ReferenceIdeal.Run
@[expose] public section
set_option maxRecDepth 16384
noncomputable section
open Idealize.ShloMosaic Idealize.ShloMosaic.TcCoe
open Cert.KernelIdeal Cert.KernelIdeal.Gen Cert.Mat Cert.Grid Cert.KernelIdeal.Value Finset

namespace Cert.Same

variable (m : (ℓ : Loc nD τ sig) → Buf (Elt Ideal) ℓ) (c : Dev nD)

/-- The device's arrays at their types. -/
abbrev aq : FVec Ideal S4096x2048 .bf16 := m ((c : Thread nD τ).loc main_arg0)
abbrev ak : FVec Ideal S4096x2048 .bf16 := m ((c : Thread nD τ).loc main_arg1)
abbrev av : FVec Ideal S4096x2048 .bf16 := m ((c : Thread nD τ).loc main_arg2)
abbrev ag : FVec Ideal S4096x2048 .f32 := m ((c : Thread nD τ).loc main_arg3)
abbrev au : FVec Ideal S4096x2048 .f32 := m ((c : Thread nD τ).loc main_arg4)

section
variable (Q K W G U : ℕ → ℕ → ℝ)
variable (hq : m ((c : Thread nD τ).loc main_arg0) = mat (φ := .bf16) 4096 2048 Q)
  (hk : m ((c : Thread nD τ).loc main_arg1) = mat (φ := .bf16) 4096 2048 K)
  (hv : m ((c : Thread nD τ).loc main_arg2) = mat (φ := .bf16) 4096 2048 W)
  (hg : m ((c : Thread nD τ).loc main_arg3) = mat (φ := .f32) 4096 2048 G)
  (hu : m ((c : Thread nD τ).loc main_arg4) = mat (φ := .f32) 4096 2048 U)
include hq hk hv hg hu

theorem same_q : G7 m c = Cert.ReferenceIdeal.Read.val_main_v60 (F := Ideal) (aq m c) (ak m c) (av m c) (ag m c) (au m c) := by
  rw [show aq m c = _ from hq, show ak m c = _ from hk, show av m c = _ from hv, show ag m c = _ from hg, show au m c = _ from hu, Cert.Ref.v60_eq]
  refine (final_q m c (Cert.KHost.blocks m c Q K W G U hq hk hv hg hu)).trans ?_
  funext i
  rw [Cert.Ref.gq_eq, Nat.div_add_mod]
  rfl

theorem same_k : G8 m c = Cert.ReferenceIdeal.Read.val_main_v61 (F := Ideal) (aq m c) (ak m c) (av m c) (ag m c) (au m c) := by
  rw [show aq m c = _ from hq, show ak m c = _ from hk, show av m c = _ from hv, show ag m c = _ from hg, show au m c = _ from hu, Cert.Ref.v61_eq]
  refine (final_k m c (Cert.KHost.blocks m c Q K W G U hq hk hv hg hu)).trans ?_
  funext i
  rw [Cert.Ref.gk_eq _ _ _ _ _ _ _ (i 0).isLt, Nat.div_add_mod]
  rfl

theorem same_v : G9 m c = Cert.ReferenceIdeal.Read.val_main_v62 (F := Ideal) (aq m c) (ak m c) (ag m c) (au m c) := by
  rw [show aq m c = _ from hq, show ak m c = _ from hk, show ag m c = _ from hg, show au m c = _ from hu, Cert.Ref.v62_eq]
  refine (final_v m c (Cert.KHost.blocks m c Q K W G U hq hk hv hg hu)).trans ?_
  funext i
  rw [Cert.Ref.gv_eq _ _ _ _ _ _ _ (i 0).isLt, Nat.div_add_mod]
  rfl

theorem same_g : G10 m c = Cert.ReferenceIdeal.Read.val_main_v63 (F := Ideal) (aq m c) (ak m c) (av m c) (ag m c) (au m c) := by
  rw [show aq m c = _ from hq, show ak m c = _ from hk, show av m c = _ from hv, show ag m c = _ from hg, show au m c = _ from hu, Cert.Ref.v63_eq]
  exact final_g m c (Cert.KHost.blocks m c Q K W G U hq hk hv hg hu) _ (Cert.KHost.gate_blk m c Q K W G U hq hk hv hg hu)
end

/-- On finite arrays, each of the four is the reference's stage. -/
theorem same (h : Cert.Pre_all_finite.fn (F := Ideal) (aq m c) (ak m c) (av m c) (ag m c) (au m c) = fun _ => 1#1) :
    G7 m c = Cert.ReferenceIdeal.Read.val_main_v60 (F := Ideal) (aq m c) (ak m c) (av m c) (ag m c) (au m c)
    ∧ G8 m c = Cert.ReferenceIdeal.Read.val_main_v61 (F := Ideal) (aq m c) (ak m c) (av m c) (ag m c) (au m c)
    ∧ G9 m c = Cert.ReferenceIdeal.Read.val_main_v62 (F := Ideal) (aq m c) (ak m c) (ag m c) (au m c)
    ∧ G10 m c = Cert.ReferenceIdeal.Read.val_main_v63 (F := Ideal) (aq m c) (ak m c) (av m c) (ag m c) (au m c) := by
  obtain ⟨hq, hk, hv, hg, hu⟩ := Cert.Finite.all_real _ _ _ _ _ h
  exact ⟨same_q m c _ _ _ _ _ hq hk hv hg hu, same_k m c _ _ _ _ _ hq hk hv hg hu, same_v m c _ _ _ _ _ hq hk hv hg hu, same_g m c _ _ _ _ _ hq hk hv hg hu⟩

theorem algebraic : Cert.algebraic_KernelIdeal_ReferenceIdeal_pre_all_finite (hKernelIdeal := Cert.KernelIdeal.Gen.facts)
    (hReferenceIdeal := Cert.ReferenceIdeal.Gen.facts) (hPre_all_finite := Cert.Finite.facts) := by
  intro m g m' g' hpre hag
  refine ⟨G7 m, G8 m, G9 m, G10 m, Cert.KernelIdeal.Value.run m g, ?_⟩
  refine (θ_run Cert.ReferenceIdeal.defs _ _).mono (fun r h c => ?_) (Cert.ReferenceIdeal.Value.run (F := Ideal) m' g')
  obtain ⟨h0, h1, h2, h3, h4⟩ := h c
  obtain ⟨a0, a1, a2, a3, a4⟩ := hag c
  obtain ⟨s0, s1, s2, s3⟩ := same m c (hpre c)
  refine ⟨?_, ?_, ?_, ?_, h4⟩
  · refine h0.trans ((Cert.ReferenceIdeal.Read.val_main_v60_eq _).trans (Eq.trans ?_ s0.symm))
    exact congr (congr (congr (congr (congrArg _ a0) a1) a2) a3) a4
  · refine h1.trans ((Cert.ReferenceIdeal.Read.val_main_v61_eq _).trans (Eq.trans ?_ s1.symm))
    exact congr (congr (congr (congr (congrArg _ a0) a1) a2) a3) a4
  · refine h2.trans ((Cert.ReferenceIdeal.Read.val_main_v62_eq _).trans (Eq.trans ?_ s2.symm))
    exact congr (congr (congr (congrArg _ a0) a1) a3) a4
  · refine h3.trans ((Cert.ReferenceIdeal.Read.val_main_v63_eq _).trans (Eq.trans ?_ s3.symm))
    exact congr (congr (congr (congr (congrArg _ a0) a1) a2) a3) a4

end Cert.Same
-- ==== Proof.Prod2.lean ====
/- The gradient of a projection's weight: the product over the tokens, in two halves. -/
module

public import proofs.«01_k».proof.Defs
public import proofs.«01_k».proof.Proof.Gen.Kernel2Ideal.Value
public import proofs.«01_k».proof.Proof.Gen.Kernel2.Frame
public import proofs.«01_k».proof.Proof.Gen.Reference2Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel2Ideal Cert.Kernel2Ideal.Gen

namespace Cert.Prod2

variable (m : (ℓ : Loc nD τ sig) → Buf (Elt Ideal) ℓ) (c : Dev nD)

/-- Where each window's block of point `t` lies. -/
theorem idx : ∀ t : Fin cfg0.N, (win0_0.index t 0 = t.val % 2 ∧ win0_0.index t 1 = t.val / 4) ∧ (win0_1.index t 0 = t.val % 2 ∧ win0_1.index t 1 = t.val / 2 % 2) ∧ (win0_2.index t 0 = t.val / 4 ∧ win0_2.index t 1 = t.val / 2 % 2) :=
  (by decide +kernel : ∀ t : Fin grid0.N, _)

/-- A block is written at the second of its two points. -/
theorem flush : ∀ t : Fin cfg0.N, (cfg0.win 2).flush t = true ↔ t.val % 2 = 1 :=
  (by decide +kernel : ∀ t : Fin grid0.N, win0_2.flush t = true ↔ t.val % 2 = 1)

/-- The reference's result of the launched arrays. -/
def G : FVec Ideal S2048x2048 .bf16 :=
  Cert.Reference2Ideal.Read.val_main_v4 (F := Ideal) (m ((c : Thread nD τ).loc main_arg0)) (m ((c : Thread nD τ).loc main_arg1))

/-- The entry of the first array at token `k`, column `i`. -/
def left (k : Fin 4096) (i : Fin 2048) : Ideal .bf16 := (show FVec Ideal S4096x2048 .bf16 from m ((c : Thread nD τ).loc main_arg0)) (ix2 k i)

/-- The entry of the second array at token `k`, column `j`. -/
def right (k : Fin 4096) (j : Fin 2048) : Ideal .bf16 := (show FVec Ideal S4096x2048 .bf16 from m ((c : Thread nD τ).loc main_arg1)) (ix2 k j)

theorem G_apply (i : S2048x2048.Idx) :
    G m c i = ∑ k : Fin 4096, left m c k (i 0) * right m c k (i 1) := by
  unfold G
  rw [Cert.Reference2Ideal.Read.val_main_v4_apply, Cert.Reference2Ideal.Read.val_main_v3_apply, Cert.Reference2Ideal.Read.val_main_v2_apply]
  refine Finset.sum_congr rfl fun k _ => (mul_comm _ _).trans (congr (congrArg _ ?_) ?_)
  · refine congrArg (m ((c : Thread nD τ).loc main_arg0)) (funext fun a => Fin.ext ?_)
    match a with
    | ⟨0, _⟩ => rfl
    | ⟨1, _⟩ => rfl
  · refine congrArg (m ((c : Thread nD τ).loc main_arg1)) (funext fun a => Fin.ext ?_)
    match a with
    | ⟨0, _⟩ => rfl
    | ⟨1, _⟩ => rfl

/-- The first half's product is kept. -/
theorem first (t : Fin cfg0.N) (h0 h1 h2) (x0 : FVec Ideal S2048x1024 .bf16) (x1 : FVec Ideal S2048x1024 .bf16) :
    @Eq (FVec Ideal S1024x1024 .f32) (sout0_A_0 (F := Ideal) c (grid0.coords t) (ms0_0 t) (hs0_0 t) (ms0_1 t) (hs0_1 t) (ms0_2 t) (hs0_2 t) scM0_0 (Memref.isWhole_whole _) h0 h1 h2 x0 x1)
      (fun y => ∑ k : Fin 2048, x0 (ix2 k (y 0)) * x1 (ix2 k (y 1))) := by
  frame_out
  funext y
  pointwise [k0_pay1, k0_pay2]

/-- The second half's product is added to what was kept. -/
theorem second (t : Fin cfg0.N) (h0 h1 h2) (x0 : FVec Ideal S2048x1024 .bf16) (x1 : FVec Ideal S2048x1024 .bf16) (s : FVec Ideal S1024x1024 .f32) :
    @Eq (FVec Ideal S1024x1024 .bf16) (out0_B_2 (F := Ideal) c (grid0.coords t) (ms0_0 t) (hs0_0 t) (ms0_1 t) (hs0_1 t) (ms0_2 t) (hs0_2 t) scM0_0 (Memref.isWhole_whole _) h0 h1 h2 x0 x1 s)
      (fun y => s y + ∑ k : Fin 2048, x0 (ix2 k (y 0)) * x1 (ix2 k (y 1))) := by
  frame_out
  funext y
  pointwise [k0_pay1, k0_pay3, k0_pay4]
  have e : scM0_0.view.read (Elt Ideal) ((Memref.isWhole_whole cc0_scratch0).unread s) = s := Memref.IsWhole.read_unread (Memref.isWhole_whole cc0_scratch0) (Val := Elt Ideal) s
  exact congrArg (· + _) (congrFun e y)

/-- Blocks of the first array. -/
theorem read0 (t : Fin cfg0.N) (k : Fin 2048) (q : Fin 1024) (K : Fin 4096) (Q : Fin 2048) (hK : K.val = t.val % 2 * 2048 + k.val)
    (hQ : Q.val = t.val / 4 * 1024 + q.val) : (show FVec Ideal S2048x1024 .bf16 from iblk m c 0 t) (ix2 k q) = left m c K Q := by
  obtain ⟨⟨a0, a1⟩, -, -⟩ := idx t
  refine (congrFun (V_main_arg0 m c) _).trans (congrArg (m ((c : Thread nD τ).loc main_arg0)) (funext fun a => Fin.ext ?_))
  match a with
  | ⟨0, _⟩ => show win0_0.index t (0 : Fin 2) * 2048 + 1 * k.val = K.val; rw [a0, hK]; omega
  | ⟨1, _⟩ => show win0_0.index t (1 : Fin 2) * 1024 + 1 * q.val = Q.val; rw [a1, hQ]; omega

/-- Blocks of the second array. -/
theorem read1 (t : Fin cfg0.N) (k : Fin 2048) (q : Fin 1024) (K : Fin 4096) (Q : Fin 2048) (hK : K.val = t.val % 2 * 2048 + k.val)
    (hQ : Q.val = t.val / 2 % 2 * 1024 + q.val) : (show FVec Ideal S2048x1024 .bf16 from iblk m c 1 t) (ix2 k q) = right m c K Q := by
  obtain ⟨-, ⟨a0, a1⟩, -⟩ := idx t
  refine (congrFun (V_main_arg1 m c) _).trans (congrArg (m ((c : Thread nD τ).loc main_arg1)) (funext fun a => Fin.ext ?_))
  match a with
  | ⟨0, _⟩ => show win0_1.index t (0 : Fin 2) * 2048 + 1 * k.val = K.val; rw [a0, hK]; omega
  | ⟨1, _⟩ => show win0_1.index t (1 : Fin 2) * 1024 + 1 * q.val = Q.val; rw [a1, hQ]; omega

/-- What is kept after the first half. -/
theorem kept (t : Fin cfg0.N) (h : t.val % 2 = 0) (x0 : FVec Ideal S2048x1024 .bf16) (x1 : FVec Ideal S2048x1024 .bf16) (e0 : iblk m c 0 t = x0) (e1 : iblk m c 1 t = x1) :
    @Eq (FVec Ideal S1024x1024 .f32) (outsAt0 m c t.val t.isLt).2 (fun y => ∑ k : Fin 2048, x0 (ix2 k (y 0)) * x1 (ix2 k (y 1))) := by
  rw [outsAt0_A m c t h (by omega) (by omega)]
  dsimp only
  rw [← e0, ← e1]
  exact first c t _ _ _ (iblk m c 0 t) (iblk m c 1 t)

/-- What a writing point `t` writes is the reference's block there. -/
theorem point (t : Fin cfg0.N) (ht : t.val % 2 = 1) : (dats m 0 c).flushed 2 t = ((cfg0.win 2).blk t).view.read (Elt Ideal) (G m c) := by
  have hp : (t.val - 1) % 2 = 0 := by omega
  have s1 := kept m c ⟨t.val - 1, Nat.lt_of_le_of_lt (Nat.sub_le _ _) t.isLt⟩ hp _ _ rfl rfl
  refine (Cert.Kernel2Ideal.Value.flushed2_B m c t (by omega) ht ht).trans ?_
  rw [second c t _ _ _ (iblk m c 0 t) (iblk m c 1 t) _, s1]
  funext y
  refine Eq.trans ?_ (G_apply m c (((cfg0.win 2).blk t).view.emb y)).symm
  obtain ⟨-, -, ⟨e0, e1⟩⟩ := idx t
  have r0 : ((((cfg0.win 2).blk t).view.emb y) 0).val = t.val / 4 * 1024 + (y 0).val := by
    show win0_2.index t (0 : Fin 2) * 1024 + 1 * (y 0).val = _
    rw [e0]; omega
  have r1 : ((((cfg0.win 2).blk t).view.emb y) 1).val = t.val / 2 % 2 * 1024 + (y 1).val := by
    show win0_2.index t (1 : Fin 2) * 1024 + 1 * (y 1).val = _
    rw [e1]; omega
  have p2 : (t.val - 1) / 2 = t.val / 2 := by omega
  have p4 : (t.val - 1) / 4 = t.val / 4 := by omega
  rw [Fin.sum_univ_add (a := 2048) (b := 2048) fun k => left m c k ((((cfg0.win 2).blk t).view.emb y) 0) * right m c k ((((cfg0.win 2).blk t).view.emb y) 1)]
  refine congrArg₂ (· + ·) (Finset.sum_congr rfl fun k _ => congrArg₂ (· * ·) (read0 m c _ k (y 0) (Fin.castAdd 2048 k) _ ?_ ?_) (read1 m c _ k (y 1) (Fin.castAdd 2048 k) _ ?_ ?_))
    (Finset.sum_congr rfl fun k _ => congrArg₂ (· * ·) (read0 m c t k (y 0) (Fin.natAdd 2048 k) _ ?_ ?_) (read1 m c t k (y 1) (Fin.natAdd 2048 k) _ ?_ ?_))
  · show k.val = (t.val - 1) % 2 * 2048 + k.val; rw [hp]; omega
  · rw [r0]; show _ = (t.val - 1) / 4 * 1024 + (y 0).val; rw [p4]
  · show k.val = (t.val - 1) % 2 * 2048 + k.val; rw [hp]; omega
  · rw [r1]; show _ = (t.val - 1) / 2 % 2 * 1024 + (y 1).val; rw [p2]
  · show 2048 + k.val = t.val % 2 * 2048 + k.val; rw [ht]
  · exact r0
  · show 2048 + k.val = t.val % 2 * 2048 + k.val; rw [ht]
  · exact r1

/-- Every entry lies in the block of some writing point. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : cfg0.N = 8 := N_0
  let t : Fin cfg0.N := ⟨4 * ((i 0).val / 1024) + 2 * ((i 1).val / 1024) + 1, by omega⟩
  obtain ⟨-, -, e0, e1⟩ := idx t
  refine ⟨t, (flush t).mpr (by dsimp only [t]; omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t hf => point m c t ((flush t).mp hf)) cover

theorem frame : Cert.quiescent_Kernel2 (hKernel2 := Cert.Kernel2.Gen.facts) := fun m ρ _ => Cert.Kernel2.Gen.frame m ρ

theorem frameIdeal : Cert.quiescent_Kernel2Ideal (hKernel2Ideal := Cert.Kernel2Ideal.Gen.facts) := fun m ρ _ =>
  Cert.Kernel2Ideal.Gen.frame m ρ

theorem frameReference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal (hKernel2Ideal := Cert.Kernel2Ideal.Gen.facts)
    (hReference2Ideal := Cert.Reference2Ideal.Gen.facts) := by
  intro m g m' g' hpre hag
  refine ⟨G m, (θ_run Cert.Kernel2Ideal.defs _ _).mono (fun r h c => ?_) (Cert.Kernel2Ideal.Value.run_blocks (F := Ideal) m g), ?_⟩
  · obtain ⟨h0, h1⟩ := h c
    exact ⟨h0.trans (final m c), h1⟩
  · refine (θ_run Cert.Reference2Ideal.defs _ _).mono (fun r h c => ?_) (Cert.Reference2Ideal.Value.run (F := Ideal) m' g')
    obtain ⟨h0, h1⟩ := h c
    obtain ⟨a0, a1⟩ := hag c
    refine ⟨h0.trans ((Cert.Reference2Ideal.Read.val_main_v4_eq _ _).trans ?_), h1⟩
    exact congr (congrArg _ a0) a1

end Cert.Prod2

end
-- ==== Proof.Prod3.lean ====
/- The gradient through a product's left factor. -/
module

public import proofs.«01_k».proof.Defs
public import proofs.«01_k».proof.Proof.Gen.Kernel3Ideal.Value
public import proofs.«01_k».proof.Proof.Gen.Kernel3.Frame
public import proofs.«01_k».proof.Proof.Gen.Reference3Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel3Ideal Cert.Kernel3Ideal.Gen

namespace Cert.Prod3

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2) :=
  (by decide +kernel : ∀ t : Fin grid0.N, _)

theorem flush : ∀ t : Fin cfg0.N, (cfg0.win 2).flush t = true :=
  (by decide +kernel : ∀ t : Fin grid0.N, win0_2.flush t = true)

/-- The rounded gradient is the gradient. -/
theorem rounded : V m c main_v0 = truncf (F := Ideal) .bf16 (m ((c : Thread nD τ).loc main_arg0)) bitsLt_bf16_f32 := by
  unfold V
  after_reads_simp

/-- The rounded weight is the weight. -/
theorem weight : V m c main_v1 = truncf (F := Ideal) .bf16 (m ((c : Thread nD τ).loc main_arg1)) bitsLt_bf16_f32 := by
  unfold V
  after_reads_simp

/-- The reference's result of the launched arrays. -/
def G : FVec Ideal S4096x2048 .f32 :=
  Cert.Reference3Ideal.Read.val_main_v0 (F := Ideal) (m ((c : Thread nD τ).loc main_arg0)) (m ((c : Thread nD τ).loc main_arg1))

theorem G_apply (i : S4096x2048.Idx) :
    G m c i = ∑ k : Fin 2048, (show FVec Ideal S4096x2048 .f32 from m ((c : Thread nD τ).loc main_arg0)) (Cert.Reference3Ideal.Read.lidx_main_v0 i k)
      * (show FVec Ideal S2048x2048 .f32 from m ((c : Thread nD τ).loc main_arg1)) (Cert.Reference3Ideal.Read.ridx_main_v0 i k) := by
  unfold G
  rw [Cert.Reference3Ideal.Read.val_main_v0_apply]

/-- The body's result, entry by entry. -/
theorem body (x0 : FVec Ideal S1024x2048 .bf16) (x1 : FVec Ideal S1024x2048 .bf16) (y : S1024x1024.Idx) :
    (show FVec Ideal S1024x1024 .f32 from out0_2 (F := Ideal) x0 x1) y = (∑ k : Fin 2048, x0 (ix2 (y 0) k) * x1 (ix2 (y 1) k)) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel3Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (rounded m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 1024 + 1 * (y 1).val = win0_2.index t (1 : Fin 2) * 1024 + 1 * (y 1).val; rw [b0, e1]
    | ⟨1, _⟩ => show win0_1.index t (1 : Fin 2) * 2048 + 1 * k.val = k.val; rw [b1]; omega

/-- Every entry lies in the block of some point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, e0, e1⟩ := idx t
  refine ⟨t, flush t, ?_⟩
  show i ∈ ((View.whole main_v2).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel3 (hKernel3 := Cert.Kernel3.Gen.facts) := fun m ρ _ => Cert.Kernel3.Gen.frame m ρ

theorem frameIdeal : Cert.quiescent_Kernel3Ideal (hKernel3Ideal := Cert.Kernel3Ideal.Gen.facts) := fun m ρ _ =>
  Cert.Kernel3Ideal.Gen.frame m ρ

theorem frameReference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal (hKernel3Ideal := Cert.Kernel3Ideal.Gen.facts)
    (hReference3Ideal := Cert.Reference3Ideal.Gen.facts) := by
  intro m g m' g' hpre hag
  refine ⟨G m, (θ_run Cert.Kernel3Ideal.defs _ _).mono (fun r h c => ?_) (Cert.Kernel3Ideal.Value.run_blocks (F := Ideal) m g), ?_⟩
  · obtain ⟨h0, h1⟩ := h c
    exact ⟨h0.trans (final m c), h1⟩
  · refine (θ_run Cert.Reference3Ideal.defs _ _).mono (fun r h c => ?_) (Cert.Reference3Ideal.Value.run (F := Ideal) m' g')
    obtain ⟨h0, h1⟩ := h c
    obtain ⟨a0, a1⟩ := hag c
    refine ⟨h0.trans ((Cert.Reference3Ideal.Read.val_main_v0_eq _ _).trans ?_), h1⟩
    exact congr (congrArg _ a0) a1

end Cert.Prod3

end
-- ==== Proof.Prod4.lean ====
/- The gradient through a projection's input, added to the gradient so far. -/
module

public import proofs.«01_k».proof.Defs
public import proofs.«01_k».proof.Proof.Gen.Kernel4Ideal.Value
public import proofs.«01_k».proof.Proof.Gen.Kernel4.Frame
public import proofs.«01_k».proof.Proof.Gen.Reference4Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel4Ideal Cert.Kernel4Ideal.Gen

namespace Cert.Prod4

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2) ∧ (win0_3.index t 0 = t.val / 2 ∧ win0_3.index t 1 = t.val % 2) :=
  (by decide +kernel : ∀ t : Fin grid0.N, _)

theorem flush : ∀ t : Fin cfg0.N, (cfg0.win 3).flush t = true :=
  (by decide +kernel : ∀ t : Fin grid0.N, win0_3.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference4Ideal.Read.val_main_v2 (F := Ideal) (m ((c : Thread nD τ).loc main_arg0)) (m ((c : Thread nD τ).loc main_arg1)) (m ((c : Thread nD τ).loc main_arg2))

theorem G_apply (i : S4096x2048.Idx) :
    G m c i = (show FVec Ideal S4096x2048 .f32 from m ((c : Thread nD τ).loc main_arg2)) i + ∑ k : Fin 2048, (show FVec Ideal S4096x2048 .bf16 from m ((c : Thread nD τ).loc main_arg0)) (Cert.Reference4Ideal.Read.lidx_main_v1 i k)
      * (show FVec Ideal S2048x2048 .f32 from m ((c : Thread nD τ).loc main_arg1)) (Cert.Reference4Ideal.Read.ridx_main_v1 i k) := by
  unfold G
  rw [Cert.Reference4Ideal.Read.val_main_v2_apply, Cert.Reference4Ideal.Read.val_main_v1_apply]
  rfl

/-- The body's result, entry by entry. -/
theorem body (x0 : FVec Ideal S1024x2048 .bf16) (x1 : FVec Ideal S1024x2048 .bf16) (x2 : FVec Ideal S1024x1024 .f32) (y : S1024x1024.Idx) :
    (show FVec Ideal S1024x1024 .f32 from out0_3 (F := Ideal) x0 x1 x2) y = (∑ k : Fin 2048, x0 (ix2 (y 0) k) * x1 (ix2 (y 1) k)) + x2 y := by
  frame_out
  pointwise [k0_pay1]

/-- What point `t` writes is the reference's block there. -/
theorem point (t : Fin cfg0.N) : (dats m 0 c).flushed 3 t = ((cfg0.win 3).blk t).view.read (Elt Ideal) (G m c) := by
  rw [Cert.Kernel4Ideal.Value.flushed3]
  funext y
  obtain ⟨⟨a0, a1⟩, ⟨b0, b1⟩, ⟨d0, d1⟩, ⟨e0, e1⟩⟩ := idx t
  refine (body (iblk m c 0 t) (iblk m c 1 t) (iblk m c 2 t) y).trans ?_
  refine Eq.trans ?_ (G_apply m c (((cfg0.win 3).blk t).view.emb y)).symm
  rw [add_comm]
  refine congr (congrArg _ ?_) (Finset.sum_congr rfl fun k _ => congr (congrArg _ ?_) ?_)
  · refine (congrFun (V_main_arg2 m c) _).trans (congrArg (m ((c : Thread nD τ).loc main_arg2)) (funext fun a => Fin.ext ?_))
    match a with
    | ⟨0, _⟩ => show win0_2.index t (0 : Fin 2) * 1024 + 1 * (y 0).val = win0_3.index t (0 : Fin 2) * 1024 + 1 * (y 0).val; rw [d0, e0]
    | ⟨1, _⟩ => show win0_2.index t (1 : Fin 2) * 1024 + 1 * (y 1).val = win0_3.index t (1 : Fin 2) * 1024 + 1 * (y 1).val; rw [d1, e1]
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_3.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 1024 + 1 * (y 1).val = win0_3.index t (1 : Fin 2) * 1024 + 1 * (y 1).val; rw [b0, e1]
    | ⟨1, _⟩ => show win0_1.index t (1 : Fin 2) * 2048 + 1 * k.val = k.val; rw [b1]; omega

/-- Every entry lies in the block of some point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, -, e0, e1⟩ := idx t
  refine ⟨t, flush t, ?_⟩
  show i ∈ ((View.whole main_v1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; dsimp only [t]; omega
  | ⟨1, _⟩ => show win0_3.index t (1 : Fin 2) * 1024 ≤ (i 1).val ∧ (i 1).val < win0_3.index t (1 : Fin 2) * 1024 + 1024; rw [e1]; dsimp only [t]; omega

/-- The kernel's array is the reference's. -/
theorem final : (dats m 0 c).arrAt 3 cfg0.N = G m c :=
  (dats m 0 c).arrAt_eq_of_cover 3 _ (fun t _ => point m c t) cover

theorem frame : Cert.quiescent_Kernel4 (hKernel4 := Cert.Kernel4.Gen.facts) := fun m ρ _ => Cert.Kernel4.Gen.frame m ρ

theorem frameIdeal : Cert.quiescent_Kernel4Ideal (hKernel4Ideal := Cert.Kernel4Ideal.Gen.facts) := fun m ρ _ =>
  Cert.Kernel4Ideal.Gen.frame m ρ

theorem frameReference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal (hKernel4Ideal := Cert.Kernel4Ideal.Gen.facts)
    (hReference4Ideal := Cert.Reference4Ideal.Gen.facts) := by
  intro m g m' g' hpre hag
  refine ⟨G m, (θ_run Cert.Kernel4Ideal.defs _ _).mono (fun r h c => ?_) (Cert.Kernel4Ideal.Value.run_blocks (F := Ideal) m g), ?_⟩
  · obtain ⟨h0, h1⟩ := h c
    exact ⟨h0.trans (final m c), h1⟩
  · refine (θ_run Cert.Reference4Ideal.defs _ _).mono (fun r h c => ?_) (Cert.Reference4Ideal.Value.run (F := Ideal) m' g')
    obtain ⟨h0, h1⟩ := h c
    obtain ⟨a0, a1, a2⟩ := hag c
    refine ⟨h0.trans ((Cert.Reference4Ideal.Read.val_main_v2_eq _ _ _).trans ?_), h1⟩
    exact congr (congr (congrArg _ a0) a1) a2

end Cert.Prod4

end
-- ==== Proof.Prod5.lean ====
/- A projection. -/
module

public import proofs.«01_k».proof.Defs
public import proofs.«01_k».proof.Proof.Gen.Kernel5Ideal.Value
public import proofs.«01_k».proof.Proof.Gen.Kernel5.Frame
public import proofs.«01_k».proof.Proof.Gen.Reference5Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel5Ideal Cert.Kernel5Ideal.Gen

namespace Cert.Prod5

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = 0 ∧ win0_1.index t 1 = t.val % 2) ∧ (win0_2.index t 0 = t.val / 2 ∧ win0_2.index t 1 = t.val % 2) :=
  (by decide +kernel : ∀ t : Fin grid0.N, _)

theorem flush : ∀ t : Fin cfg0.N, (cfg0.win 2).flush t = true :=
  (by decide +kernel : ∀ t : Fin grid0.N, win0_2.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference5Ideal.Read.val_main_v1 (F := Ideal) (m ((c : Thread nD τ).loc main_arg0)) (m ((c : Thread nD τ).loc main_arg1))

theorem G_apply (i : S4096x2048.Idx) :
    G m c i = ∑ k : Fin 2048, (show FVec Ideal S4096x2048 .bf16 from m ((c : Thread nD τ).loc main_arg0)) (Cert.Reference5Ideal.Read.lidx_main_v1 i k)
      * (show FVec Ideal S2048x2048 .f32 from m ((c : Thread nD τ).loc main_arg1)) (Cert.Reference5Ideal.Read.ridx_main_v1 i k) := by
  unfold G
  rw [Cert.Reference5Ideal.Read.val_main_v1_apply]
  rfl

/-- The body's result, entry by entry. -/
theorem body (x0 : FVec Ideal S1024x2048 .bf16) (x1 : FVec Ideal S2048x1024 .bf16) (y : S1024x1024.Idx) :
    (show FVec Ideal S1024x1024 .f32 from out0_2 (F := Ideal) x0 x1) y = (∑ k : Fin 2048, x0 (ix2 (y 0) k) * x1 (ix2 k (y 1))) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel5Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 2048 + 1 * k.val = k.val; rw [b0]; omega
    | ⟨1, _⟩ => show win0_1.index t (1 : Fin 2) * 1024 + 1 * (y 1).val = win0_2.index t (1 : Fin 2) * 1024 + 1 * (y 1).val; rw [b1, e1]

/-- Every entry lies in the block of some point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, e0, e1⟩ := idx t
  refine ⟨t, flush t, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel5 (hKernel5 := Cert.Kernel5.Gen.facts) := fun m ρ _ => Cert.Kernel5.Gen.frame m ρ

theorem frameIdeal : Cert.quiescent_Kernel5Ideal (hKernel5Ideal := Cert.Kernel5Ideal.Gen.facts) := fun m ρ _ =>
  Cert.Kernel5Ideal.Gen.frame m ρ

theorem frameReference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal (hKernel5Ideal := Cert.Kernel5Ideal.Gen.facts)
    (hReference5Ideal := Cert.Reference5Ideal.Gen.facts) := by
  intro m g m' g' hpre hag
  refine ⟨G m, (θ_run Cert.Kernel5Ideal.defs _ _).mono (fun r h c => ?_) (Cert.Kernel5Ideal.Value.run_blocks (F := Ideal) m g), ?_⟩
  · obtain ⟨h0, h1⟩ := h c
    exact ⟨h0.trans (final m c), h1⟩
  · refine (θ_run Cert.Reference5Ideal.defs _ _).mono (fun r h c => ?_) (Cert.Reference5Ideal.Value.run (F := Ideal) m' g')
    obtain ⟨h0, h1⟩ := h c
    obtain ⟨a0, a1⟩ := hag c
    refine ⟨h0.trans ((Cert.Reference5Ideal.Read.val_main_v1_eq _ _).trans ?_), h1⟩
    exact congr (congrArg _ a0) a1

end Cert.Prod5

end
-- ==== Proof.Prod6.lean ====
/- A projection, its result rounded. -/
module

public import proofs.«01_k».proof.Defs
public import proofs.«01_k».proof.Proof.Gen.Kernel6Ideal.Value
public import proofs.«01_k».proof.Proof.Gen.Kernel6.Frame
public import proofs.«01_k».proof.Proof.Gen.Reference6Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel6Ideal Cert.Kernel6Ideal.Gen

namespace Cert.Prod6

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = 0 ∧ win0_1.index t 1 = t.val % 2) ∧ (win0_2.index t 0 = t.val / 2 ∧ win0_2.index t 1 = t.val % 2) :=
  (by decide +kernel : ∀ t : Fin grid0.N, _)

theorem flush : ∀ t : Fin cfg0.N, (cfg0.win 2).flush t = true :=
  (by decide +kernel : ∀ t : Fin grid0.N, win0_2.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .bf16 :=
  Cert.Reference6Ideal.Read.val_main_v2 (F := Ideal) (m ((c : Thread nD τ).loc main_arg0)) (m ((c : Thread nD τ).loc main_arg1))

theorem G_apply (i : S4096x2048.Idx) :
    G m c i = ∑ k : Fin 2048, (show FVec Ideal S4096x2048 .bf16 from m ((c : Thread nD τ).loc main_arg0)) (Cert.Reference6Ideal.Read.lidx_main_v1 i k)
      * (show FVec Ideal S2048x2048 .f32 from m ((c : Thread nD τ).loc main_arg1)) (Cert.Reference6Ideal.Read.ridx_main_v1 i k) := by
  unfold G
  rw [Cert.Reference6Ideal.Read.val_main_v2_apply, Cert.Reference6Ideal.Read.val_main_v1_apply]
  rfl

/-- The body's result, entry by entry. -/
theorem body (x0 : FVec Ideal S1024x2048 .bf16) (x1 : FVec Ideal S2048x1024 .bf16) (y : S1024x1024.Idx) :
    (show FVec Ideal S1024x1024 .bf16 from out0_2 (F := Ideal) x0 x1) y = (∑ k : Fin 2048, x0 (ix2 (y 0) k) * x1 (ix2 k (y 1))) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel6Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 2048 + 1 * k.val = k.val; rw [b0]; omega
    | ⟨1, _⟩ => show win0_1.index t (1 : Fin 2) * 1024 + 1 * (y 1).val = win0_2.index t (1 : Fin 2) * 1024 + 1 * (y 1).val; rw [b1, e1]

/-- Every entry lies in the block of some point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, e0, e1⟩ := idx t
  refine ⟨t, flush t, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel6 (hKernel6 := Cert.Kernel6.Gen.facts) := fun m ρ _ => Cert.Kernel6.Gen.frame m ρ

theorem frameIdeal : Cert.quiescent_Kernel6Ideal (hKernel6Ideal := Cert.Kernel6Ideal.Gen.facts) := fun m ρ _ =>
  Cert.Kernel6Ideal.Gen.frame m ρ

theorem frameReference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal (hKernel6Ideal := Cert.Kernel6Ideal.Gen.facts)
    (hReference6Ideal := Cert.Reference6Ideal.Gen.facts) := by
  intro m g m' g' hpre hag
  refine ⟨G m, (θ_run Cert.Kernel6Ideal.defs _ _).mono (fun r h c => ?_) (Cert.Kernel6Ideal.Value.run_blocks (F := Ideal) m g), ?_⟩
  · obtain ⟨h0, h1⟩ := h c
    exact ⟨h0.trans (final m c), h1⟩
  · refine (θ_run Cert.Reference6Ideal.defs _ _).mono (fun r h c => ?_) (Cert.Reference6Ideal.Value.run (F := Ideal) m' g')
    obtain ⟨h0, h1⟩ := h c
    obtain ⟨a0, a1⟩ := hag c
    refine ⟨h0.trans ((Cert.Reference6Ideal.Read.val_main_v2_eq _ _).trans ?_), h1⟩
    exact congr (congrArg _ a0) a1

end Cert.Prod6

end
-- ==== Proof.Prod7.lean ====
/- A product added to the residual. -/
module

public import proofs.«01_k».proof.Defs
public import proofs.«01_k».proof.Proof.Gen.Kernel7Ideal.Value
public import proofs.«01_k».proof.Proof.Gen.Kernel7.Frame
public import proofs.«01_k».proof.Proof.Gen.Reference7Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel7Ideal Cert.Kernel7Ideal.Gen

namespace Cert.Prod7

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = 0 ∧ win0_1.index t 1 = t.val % 2) ∧ (win0_2.index t 0 = t.val / 2 ∧ win0_2.index t 1 = t.val % 2) ∧ (win0_3.index t 0 = t.val / 2 ∧ win0_3.index t 1 = t.val % 2) :=
  (by decide +kernel : ∀ t : Fin grid0.N, _)

theorem flush : ∀ t : Fin cfg0.N, (cfg0.win 3).flush t = true :=
  (by decide +kernel : ∀ t : Fin grid0.N, win0_3.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference7Ideal.Read.val_main_v2 (F := Ideal) (m ((c : Thread nD τ).loc main_arg0)) (m ((c : Thread nD τ).loc main_arg1)) (m ((c : Thread nD τ).loc main_arg2))

theorem G_apply (i : S4096x2048.Idx) :
    G m c i = (show FVec Ideal S4096x2048 .f32 from m ((c : Thread nD τ).loc main_arg2)) i + ∑ k : Fin 2048, (show FVec Ideal S4096x2048 .bf16 from m ((c : Thread nD τ).loc main_arg0)) (Cert.Reference7Ideal.Read.lidx_main_v1 i k)
      * (show FVec Ideal S2048x2048 .f32 from m ((c : Thread nD τ).loc main_arg1)) (Cert.Reference7Ideal.Read.ridx_main_v1 i k) := by
  unfold G
  rw [Cert.Reference7Ideal.Read.val_main_v2_apply, Cert.Reference7Ideal.Read.val_main_v1_apply]
  rfl

/-- The body's result, entry by entry. -/
theorem body (x0 : FVec Ideal S1024x2048 .bf16) (x1 : FVec Ideal S2048x1024 .bf16) (x2 : FVec Ideal S1024x1024 .f32) (y : S1024x1024.Idx) :
    (show FVec Ideal S1024x1024 .f32 from out0_3 (F := Ideal) x0 x1 x2) y = (∑ k : Fin 2048, x0 (ix2 (y 0) k) * x1 (ix2 k (y 1))) + x2 y := by
  frame_out
  pointwise [k0_pay1]

/-- What point `t` writes is the reference's block there. -/
theorem point (t : Fin cfg0.N) : (dats m 0 c).flushed 3 t = ((cfg0.win 3).blk t).view.read (Elt Ideal) (G m c) := by
  rw [Cert.Kernel7Ideal.Value.flushed3]
  funext y
  obtain ⟨⟨a0, a1⟩, ⟨b0, b1⟩, ⟨d0, d1⟩, ⟨e0, e1⟩⟩ := idx t
  refine (body (iblk m c 0 t) (iblk m c 1 t) (iblk m c 2 t) y).trans ?_
  refine Eq.trans ?_ (G_apply m c (((cfg0.win 3).blk t).view.emb y)).symm
  rw [add_comm]
  refine congr (congrArg _ ?_) (Finset.sum_congr rfl fun k _ => congr (congrArg _ ?_) ?_)
  · refine (congrFun (V_main_arg2 m c) _).trans (congrArg (m ((c : Thread nD τ).loc main_arg2)) (funext fun a => Fin.ext ?_))
    match a with
    | ⟨0, _⟩ => show win0_2.index t (0 : Fin 2) * 1024 + 1 * (y 0).val = win0_3.index t (0 : Fin 2) * 1024 + 1 * (y 0).val; rw [d0, e0]
    | ⟨1, _⟩ => show win0_2.index t (1 : Fin 2) * 1024 + 1 * (y 1).val = win0_3.index t (1 : Fin 2) * 1024 + 1 * (y 1).val; rw [d1, e1]
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_3.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 2048 + 1 * k.val = k.val; rw [b0]; omega
    | ⟨1, _⟩ => show win0_1.index t (1 : Fin 2) * 1024 + 1 * (y 1).val = win0_3.index t (1 : Fin 2) * 1024 + 1 * (y 1).val; rw [b1, e1]

/-- Every entry lies in the block of some point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, -, e0, e1⟩ := idx t
  refine ⟨t, flush t, ?_⟩
  show i ∈ ((View.whole main_v1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; dsimp only [t]; omega
  | ⟨1, _⟩ => show win0_3.index t (1 : Fin 2) * 1024 ≤ (i 1).val ∧ (i 1).val < win0_3.index t (1 : Fin 2) * 1024 + 1024; rw [e1]; dsimp only [t]; omega

/-- The kernel's array is the reference's. -/
theorem final : (dats m 0 c).arrAt 3 cfg0.N = G m c :=
  (dats m 0 c).arrAt_eq_of_cover 3 _ (fun t _ => point m c t) cover

theorem frame : Cert.quiescent_Kernel7 (hKernel7 := Cert.Kernel7.Gen.facts) := fun m ρ _ => Cert.Kernel7.Gen.frame m ρ

theorem frameIdeal : Cert.quiescent_Kernel7Ideal (hKernel7Ideal := Cert.Kernel7Ideal.Gen.facts) := fun m ρ _ =>
  Cert.Kernel7Ideal.Gen.frame m ρ

theorem frameReference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

theorem algebraic : Cert.algebraic_Kernel7Ideal_Reference7Ideal (hKernel7Ideal := Cert.Kernel7Ideal.Gen.facts)
    (hReference7Ideal := Cert.Reference7Ideal.Gen.facts) := by
  intro m g m' g' hpre hag
  refine ⟨G m, (θ_run Cert.Kernel7Ideal.defs _ _).mono (fun r h c => ?_) (Cert.Kernel7Ideal.Value.run_blocks (F := Ideal) m g), ?_⟩
  · obtain ⟨h0, h1⟩ := h c
    exact ⟨h0.trans (final m c), h1⟩
  · refine (θ_run Cert.Reference7Ideal.defs _ _).mono (fun r h c => ?_) (Cert.Reference7Ideal.Value.run (F := Ideal) m' g')
    obtain ⟨h0, h1⟩ := h c
    obtain ⟨a0, a1, a2⟩ := hag c
    refine ⟨h0.trans ((Cert.Reference7Ideal.Read.val_main_v2_eq _ _ _).trans ?_), h1⟩
    exact congr (congr (congrArg _ a0) a1) a2

end Cert.Prod7

end
-- ==== Proof.Prod8.lean ====
/- The gradient through a projection's input. -/
module

public import proofs.«01_k».proof.Defs
public import proofs.«01_k».proof.Proof.Gen.Kernel8Ideal.Value
public import proofs.«01_k».proof.Proof.Gen.Kernel8.Frame
public import proofs.«01_k».proof.Proof.Gen.Reference8Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel8Ideal Cert.Kernel8Ideal.Gen

namespace Cert.Prod8

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2) :=
  (by decide +kernel : ∀ t : Fin grid0.N, _)

theorem flush : ∀ t : Fin cfg0.N, (cfg0.win 2).flush t = true :=
  (by decide +kernel : ∀ t : Fin grid0.N, win0_2.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference8Ideal.Read.val_main_v1 (F := Ideal) (m ((c : Thread nD τ).loc main_arg0)) (m ((c : Thread nD τ).loc main_arg1))

theorem G_apply (i : S4096x2048.Idx) :
    G m c i = ∑ k : Fin 2048, (show FVec Ideal S4096x2048 .bf16 from m ((c : Thread nD τ).loc main_arg0)) (Cert.Reference8Ideal.Read.lidx_main_v1 i k)
      * (show FVec Ideal S2048x2048 .f32 from m ((c : Thread nD τ).loc main_arg1)) (Cert.Reference8Ideal.Read.ridx_main_v1 i k) := by
  unfold G
  rw [Cert.Reference8Ideal.Read.val_main_v1_apply]
  rfl

/-- The body's result, entry by entry. -/
theorem body (x0 : FVec Ideal S1024x2048 .bf16) (x1 : FVec Ideal S1024x2048 .bf16) (y : S1024x1024.Idx) :
    (show FVec Ideal S1024x1024 .f32 from out0_2 (F := Ideal) x0 x1) y = (∑ k : Fin 2048, x0 (ix2 (y 0) k) * x1 (ix2 (y 1) k)) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel8Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 1024 + 1 * (y 1).val = win0_2.index t (1 : Fin 2) * 1024 + 1 * (y 1).val; rw [b0, e1]
    | ⟨1, _⟩ => show win0_1.index t (1 : Fin 2) * 2048 + 1 * k.val = k.val; rw [b1]; omega

/-- Every entry lies in the block of some point. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, e0, e1⟩ := idx t
  refine ⟨t, flush t, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel8 (hKernel8 := Cert.Kernel8.Gen.facts) := fun m ρ _ => Cert.Kernel8.Gen.frame m ρ

theorem frameIdeal : Cert.quiescent_Kernel8Ideal (hKernel8Ideal := Cert.Kernel8Ideal.Gen.facts) := fun m ρ _ =>
  Cert.Kernel8Ideal.Gen.frame m ρ

theorem frameReference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves : Cert.preserves_Kernel8_Kernel8Ideal := trivial

theorem algebraic : Cert.algebraic_Kernel8Ideal_Reference8Ideal (hKernel8Ideal := Cert.Kernel8Ideal.Gen.facts)
    (hReference8Ideal := Cert.Reference8Ideal.Gen.facts) := by
  intro m g m' g' hpre hag
  refine ⟨G m, (θ_run Cert.Kernel8Ideal.defs _ _).mono (fun r h c => ?_) (Cert.Kernel8Ideal.Value.run_blocks (F := Ideal) m g), ?_⟩
  · obtain ⟨h0, h1⟩ := h c
    exact ⟨h0.trans (final m c), h1⟩
  · refine (θ_run Cert.Reference8Ideal.defs _ _).mono (fun r h c => ?_) (Cert.Reference8Ideal.Value.run (F := Ideal) m' g')
    obtain ⟨h0, h1⟩ := h c
    obtain ⟨a0, a1⟩ := hag c
    refine ⟨h0.trans ((Cert.Reference8Ideal.Read.val_main_v1_eq _ _).trans ?_), h1⟩
    exact congr (congrArg _ a0) a1

end Cert.Prod8

end
-- ==== Proof.Prod9.lean ====
/- The projection onto the columns of the convolution. -/
module

public import proofs.«01_k».proof.Defs
public import proofs.«01_k».proof.Proof.Gen.Kernel9Ideal.Value
public import proofs.«01_k».proof.Proof.Gen.Kernel9.Frame
public import proofs.«01_k».proof.Proof.Gen.Reference9Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel9Ideal Cert.Kernel9Ideal.Gen

namespace Cert.Prod9

variable (m : (ℓ : Loc nD τ sig) → Buf (Elt Ideal) ℓ) (c : Dev nD)

/-- Where each window's block of point `t` lies. -/
theorem idx : ∀ t : Fin cfg0.N, (win0_0.index t 0 = t.val / 3 ∧ win0_0.index t 1 = 0) ∧ (win0_1.index t 0 = 0 ∧ win0_1.index t 1 = t.val % 3) ∧ (win0_2.index t 0 = t.val / 3 ∧ win0_2.index t 1 = t.val % 3) :=
  (by decide +kernel : ∀ t : Fin grid0.N, _)

theorem flush : ∀ t : Fin cfg0.N, (cfg0.win 2).flush t = true :=
  (by decide +kernel : ∀ t : Fin grid0.N, win0_2.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x3072 .f32 :=
  Cert.Reference9Ideal.Read.val_main_v1 (F := Ideal) (m ((c : Thread nD τ).loc main_arg0)) (m ((c : Thread nD τ).loc main_arg1))

theorem G_apply (i : S4096x3072.Idx) :
    G m c i = ∑ k : Fin 2048, (show FVec Ideal S4096x2048 .bf16 from m ((c : Thread nD τ).loc main_arg0)) (Cert.Reference9Ideal.Read.lidx_main_v1 i k)
      * (show FVec Ideal S2048x3072 .f32 from m ((c : Thread nD τ).loc main_arg1)) (Cert.Reference9Ideal.Read.ridx_main_v1 i k) := by
  unfold G
  rw [Cert.Reference9Ideal.Read.val_main_v1_apply]
  rfl

/-- The body's result, entry by entry. -/
theorem body (x0 : FVec Ideal S1024x2048 .bf16) (x1 : FVec Ideal S2048x1024 .bf16) (y : S1024x1024.Idx) :
    (show FVec Ideal S1024x1024 .f32 from out0_2 (F := Ideal) x0 x1) y = (∑ k : Fin 2048, x0 (ix2 (y 0) k) * x1 (ix2 k (y 1))) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel9Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 2048 + 1 * k.val = k.val; rw [b0]; omega
    | ⟨1, _⟩ => show win0_1.index t (1 : Fin 2) * 1024 + 1 * (y 1).val = win0_2.index t (1 : Fin 2) * 1024 + 1 * (y 1).val; rw [b1, e1]

/-- Every entry lies in the block of some point. -/
theorem cover (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  have hN : cfg0.N = 12 := N_0
  let t : Fin cfg0.N := ⟨3 * ((i 0).val / 1024) + (i 1).val / 1024, by omega⟩
  obtain ⟨-, -, e0, e1⟩ := idx t
  refine ⟨t, flush t, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel9 (hKernel9 := Cert.Kernel9.Gen.facts) := fun m ρ _ => Cert.Kernel9.Gen.frame m ρ

theorem frameIdeal : Cert.quiescent_Kernel9Ideal (hKernel9Ideal := Cert.Kernel9Ideal.Gen.facts) := fun m ρ _ =>
  Cert.Kernel9Ideal.Gen.frame m ρ

theorem frameReference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves : Cert.preserves_Kernel9_Kernel9Ideal := trivial

theorem algebraic : Cert.algebraic_Kernel9Ideal_Reference9Ideal (hKernel9Ideal := Cert.Kernel9Ideal.Gen.facts)
    (hReference9Ideal := Cert.Reference9Ideal.Gen.facts) := by
  intro m g m' g' hpre hag
  refine ⟨G m, (θ_run Cert.Kernel9Ideal.defs _ _).mono (fun r h c => ?_) (Cert.Kernel9Ideal.Value.run_blocks (F := Ideal) m g), ?_⟩
  · obtain ⟨h0, h1⟩ := h c
    exact ⟨h0.trans (final m c), h1⟩
  · refine (θ_run Cert.Reference9Ideal.defs _ _).mono (fun r h c => ?_) (Cert.Reference9Ideal.Value.run (F := Ideal) m' g')
    obtain ⟨h0, h1⟩ := h c
    obtain ⟨a0, a1⟩ := hag c
    refine ⟨h0.trans ((Cert.Reference9Ideal.Read.val_main_v1_eq _ _).trans ?_), h1⟩
    exact congr (congrArg _ a0) a1

end Cert.Prod9

end
-- ==== Proof.Prod10.lean ====
/- The gradient of a projection's weight: the product over the tokens, in two halves. -/
module

public import proofs.«01_k».proof.Defs
public import proofs.«01_k».proof.Proof.Gen.Kernel10Ideal.Value
public import proofs.«01_k».proof.Proof.Gen.Kernel10.Frame
public import proofs.«01_k».proof.Proof.Gen.Reference10Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel10Ideal Cert.Kernel10Ideal.Gen

namespace Cert.Prod10

variable (m : (ℓ : Loc nD τ sig) → Buf (Elt Ideal) ℓ) (c : Dev nD)

/-- Where each window's block of point `t` lies. -/
theorem idx : ∀ t : Fin cfg0.N, (win0_0.index t 0 = t.val % 2 ∧ win0_0.index t 1 = t.val / 6) ∧ (win0_1.index t 0 = t.val % 2 ∧ win0_1.index t 1 = t.val / 2 % 3) ∧ (win0_2.index t 0 = t.val / 6 ∧ win0_2.index t 1 = t.val / 2 % 3) :=
  (by decide +kernel : ∀ t : Fin grid0.N, _)

/-- A block is written at the second of its two points. -/
theorem flush : ∀ t : Fin cfg0.N, (cfg0.win 2).flush t = true ↔ t.val % 2 = 1 :=
  (by decide +kernel : ∀ t : Fin grid0.N, win0_2.flush t = true ↔ t.val % 2 = 1)

/-- The reference's result of the launched arrays. -/
def G : FVec Ideal S2048x3072 .bf16 :=
  Cert.Reference10Ideal.Read.val_main_v4 (F := Ideal) (m ((c : Thread nD τ).loc main_arg0)) (m ((c : Thread nD τ).loc main_arg1))

/-- The entry of the first array at token `k`, column `i`. -/
def left (k : Fin 4096) (i : Fin 2048) : Ideal .bf16 := (show FVec Ideal S4096x2048 .bf16 from m ((c : Thread nD τ).loc main_arg0)) (ix2 k i)

/-- The entry of the second array at token `k`, column `j`. -/
def right (k : Fin 4096) (j : Fin 3072) : Ideal .bf16 := (show FVec Ideal S4096x3072 .bf16 from m ((c : Thread nD τ).loc main_arg1)) (ix2 k j)

theorem G_apply (i : S2048x3072.Idx) :
    G m c i = ∑ k : Fin 4096, left m c k (i 0) * right m c k (i 1) := by
  unfold G
  rw [Cert.Reference10Ideal.Read.val_main_v4_apply, Cert.Reference10Ideal.Read.val_main_v3_apply, Cert.Reference10Ideal.Read.val_main_v2_apply]
  refine Finset.sum_congr rfl fun k _ => (mul_comm _ _).trans (congr (congrArg _ ?_) ?_)
  · refine congrArg (m ((c : Thread nD τ).loc main_arg0)) (funext fun a => Fin.ext ?_)
    match a with
    | ⟨0, _⟩ => rfl
    | ⟨1, _⟩ => rfl
  · refine congrArg (m ((c : Thread nD τ).loc main_arg1)) (funext fun a => Fin.ext ?_)
    match a with
    | ⟨0, _⟩ => rfl
    | ⟨1, _⟩ => rfl

/-- The first half's product is kept. -/
theorem first (t : Fin cfg0.N) (h0 h1 h2) (x0 : FVec Ideal S2048x1024 .bf16) (x1 : FVec Ideal S2048x1024 .bf16) :
    @Eq (FVec Ideal S1024x1024 .f32) (sout0_A_0 (F := Ideal) c (grid0.coords t) (ms0_0 t) (hs0_0 t) (ms0_1 t) (hs0_1 t) (ms0_2 t) (hs0_2 t) scM0_0 (Memref.isWhole_whole _) h0 h1 h2 x0 x1)
      (fun y => ∑ k : Fin 2048, x0 (ix2 k (y 0)) * x1 (ix2 k (y 1))) := by
  frame_out
  funext y
  pointwise [k0_pay1, k0_pay2]

/-- The second half's product is added to what was kept. -/
theorem second (t : Fin cfg0.N) (h0 h1 h2) (x0 : FVec Ideal S2048x1024 .bf16) (x1 : FVec Ideal S2048x1024 .bf16) (s : FVec Ideal S1024x1024 .f32) :
    @Eq (FVec Ideal S1024x1024 .bf16) (out0_B_2 (F := Ideal) c (grid0.coords t) (ms0_0 t) (hs0_0 t) (ms0_1 t) (hs0_1 t) (ms0_2 t) (hs0_2 t) scM0_0 (Memref.isWhole_whole _) h0 h1 h2 x0 x1 s)
      (fun y => s y + ∑ k : Fin 2048, x0 (ix2 k (y 0)) * x1 (ix2 k (y 1))) := by
  frame_out
  funext y
  pointwise [k0_pay1, k0_pay3, k0_pay4]
  have e : scM0_0.view.read (Elt Ideal) ((Memref.isWhole_whole cc0_scratch0).unread s) = s := Memref.IsWhole.read_unread (Memref.isWhole_whole cc0_scratch0) (Val := Elt Ideal) s
  exact congrArg (· + _) (congrFun e y)

/-- Blocks of the first array. -/
theorem read0 (t : Fin cfg0.N) (k : Fin 2048) (q : Fin 1024) (K : Fin 4096) (Q : Fin 2048) (hK : K.val = t.val % 2 * 2048 + k.val)
    (hQ : Q.val = t.val / 6 * 1024 + q.val) : (show FVec Ideal S2048x1024 .bf16 from iblk m c 0 t) (ix2 k q) = left m c K Q := by
  obtain ⟨⟨a0, a1⟩, -, -⟩ := idx t
  refine (congrFun (V_main_arg0 m c) _).trans (congrArg (m ((c : Thread nD τ).loc main_arg0)) (funext fun a => Fin.ext ?_))
  match a with
  | ⟨0, _⟩ => show win0_0.index t (0 : Fin 2) * 2048 + 1 * k.val = K.val; rw [a0, hK]; omega
  | ⟨1, _⟩ => show win0_0.index t (1 : Fin 2) * 1024 + 1 * q.val = Q.val; rw [a1, hQ]; omega

/-- Blocks of the second array. -/
theorem read1 (t : Fin cfg0.N) (k : Fin 2048) (q : Fin 1024) (K : Fin 4096) (Q : Fin 3072) (hK : K.val = t.val % 2 * 2048 + k.val)
    (hQ : Q.val = t.val / 2 % 3 * 1024 + q.val) : (show FVec Ideal S2048x1024 .bf16 from iblk m c 1 t) (ix2 k q) = right m c K Q := by
  obtain ⟨-, ⟨a0, a1⟩, -⟩ := idx t
  refine (congrFun (V_main_arg1 m c) _).trans (congrArg (m ((c : Thread nD τ).loc main_arg1)) (funext fun a => Fin.ext ?_))
  match a with
  | ⟨0, _⟩ => show win0_1.index t (0 : Fin 2) * 2048 + 1 * k.val = K.val; rw [a0, hK]; omega
  | ⟨1, _⟩ => show win0_1.index t (1 : Fin 2) * 1024 + 1 * q.val = Q.val; rw [a1, hQ]; omega

/-- What is kept after the first half. -/
theorem kept (t : Fin cfg0.N) (h : t.val % 2 = 0) (x0 : FVec Ideal S2048x1024 .bf16) (x1 : FVec Ideal S2048x1024 .bf16) (e0 : iblk m c 0 t = x0) (e1 : iblk m c 1 t = x1) :
    @Eq (FVec Ideal S1024x1024 .f32) (outsAt0 m c t.val t.isLt).2 (fun y => ∑ k : Fin 2048, x0 (ix2 k (y 0)) * x1 (ix2 k (y 1))) := by
  rw [outsAt0_A m c t h (by omega) (by omega)]
  dsimp only
  rw [← e0, ← e1]
  exact first c t _ _ _ (iblk m c 0 t) (iblk m c 1 t)

/-- What a writing point `t` writes is the reference's block there. -/
theorem point (t : Fin cfg0.N) (ht : t.val % 2 = 1) : (dats m 0 c).flushed 2 t = ((cfg0.win 2).blk t).view.read (Elt Ideal) (G m c) := by
  have hp : (t.val - 1) % 2 = 0 := by omega
  have s1 := kept m c ⟨t.val - 1, Nat.lt_of_le_of_lt (Nat.sub_le _ _) t.isLt⟩ hp _ _ rfl rfl
  refine (Cert.Kernel10Ideal.Value.flushed2_B m c t (by omega) ht ht).trans ?_
  rw [second c t _ _ _ (iblk m c 0 t) (iblk m c 1 t) _, s1]
  funext y
  refine Eq.trans ?_ (G_apply m c (((cfg0.win 2).blk t).view.emb y)).symm
  obtain ⟨-, -, ⟨e0, e1⟩⟩ := idx t
  have r0 : ((((cfg0.win 2).blk t).view.emb y) 0).val = t.val / 6 * 1024 + (y 0).val := by
    show win0_2.index t (0 : Fin 2) * 1024 + 1 * (y 0).val = _
    rw [e0]; omega
  have r1 : ((((cfg0.win 2).blk t).view.emb y) 1).val = t.val / 2 % 3 * 1024 + (y 1).val := by
    show win0_2.index t (1 : Fin 2) * 1024 + 1 * (y 1).val = _
    rw [e1]; omega
  have p2 : (t.val - 1) / 2 = t.val / 2 := by omega
  have p4 : (t.val - 1) / 6 = t.val / 6 := by omega
  rw [Fin.sum_univ_add (a := 2048) (b := 2048) fun k => left m c k ((((cfg0.win 2).blk t).view.emb y) 0) * right m c k ((((cfg0.win 2).blk t).view.emb y) 1)]
  refine congrArg₂ (· + ·) (Finset.sum_congr rfl fun k _ => congrArg₂ (· * ·) (read0 m c _ k (y 0) (Fin.castAdd 2048 k) _ ?_ ?_) (read1 m c _ k (y 1) (Fin.castAdd 2048 k) _ ?_ ?_))
    (Finset.sum_congr rfl fun k _ => congrArg₂ (· * ·) (read0 m c t k (y 0) (Fin.natAdd 2048 k) _ ?_ ?_) (read1 m c t k (y 1) (Fin.natAdd 2048 k) _ ?_ ?_))
  · show k.val = (t.val - 1) % 2 * 2048 + k.val; rw [hp]; omega
  · rw [r0]; show _ = (t.val - 1) / 6 * 1024 + (y 0).val; rw [p4]
  · show k.val = (t.val - 1) % 2 * 2048 + k.val; rw [hp]; omega
  · rw [r1]; show _ = (t.val - 1) / 2 % 3 * 1024 + (y 1).val; rw [p2]
  · show 2048 + k.val = t.val % 2 * 2048 + k.val; rw [ht]
  · exact r0
  · show 2048 + k.val = t.val % 2 * 2048 + k.val; rw [ht]
  · exact r1

/-- Every entry lies in the block of some writing point. -/
theorem cover (i : S2048x3072.Idx) : ∃ t : Fin cfg0.N, (cfg0.win 2).flush t = true ∧ i ∈ ((cfg0.win 2).blk t).view.set := by
  have h0 : (i 0).val < 2048 := (i 0).isLt
  have h1 : (i 1).val < 3072 := (i 1).isLt
  have hN : cfg0.N = 12 := N_0
  let t : Fin cfg0.N := ⟨6 * ((i 0).val / 1024) + 2 * ((i 1).val / 1024) + 1, by omega⟩
  obtain ⟨-, -, e0, e1⟩ := idx t
  refine ⟨t, (flush t).mpr (by dsimp only [t]; omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 1024 ≤ (i 1).val ∧ (i 1).val < win0_2.index t (1 : Fin 2) * 1024 + 1024; rw [e1]; dsimp only [t]; omega

/-- The kernel's array is the reference's. -/
theorem final : (dats m 0 c).arrAt 2 cfg0.N = G m c :=
  (dats m 0 c).arrAt_eq_of_cover 2 _ (fun t hf => point m c t ((flush t).mp hf)) cover

theorem frame : Cert.quiescent_Kernel10 (hKernel10 := Cert.Kernel10.Gen.facts) := fun m ρ _ => Cert.Kernel10.Gen.frame m ρ

theorem frameIdeal : Cert.quiescent_Kernel10Ideal (hKernel10Ideal := Cert.Kernel10Ideal.Gen.facts) := fun m ρ _ =>
  Cert.Kernel10Ideal.Gen.frame m ρ

theorem frameReference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem preserves : Cert.preserves_Kernel10_Kernel10Ideal := trivial

theorem algebraic : Cert.algebraic_Kernel10Ideal_Reference10Ideal (hKernel10Ideal := Cert.Kernel10Ideal.Gen.facts)
    (hReference10Ideal := Cert.Reference10Ideal.Gen.facts) := by
  intro m g m' g' hpre hag
  refine ⟨G m, (θ_run Cert.Kernel10Ideal.defs _ _).mono (fun r h c => ?_) (Cert.Kernel10Ideal.Value.run_blocks (F := Ideal) m g), ?_⟩
  · obtain ⟨h0, h1⟩ := h c
    exact ⟨h0.trans (final m c), h1⟩
  · refine (θ_run Cert.Reference10Ideal.defs _ _).mono (fun r h c => ?_) (Cert.Reference10Ideal.Value.run (F := Ideal) m' g')
    obtain ⟨h0, h1⟩ := h c
    obtain ⟨a0, a1⟩ := hag c
    refine ⟨h0.trans ((Cert.Reference10Ideal.Read.val_main_v4_eq _ _).trans ?_), h1⟩
    exact congr (congrArg _ a0) a1

end Cert.Prod10

end
-- ==== Proof.Prod11.lean ====
/- The gradient through the widest projection's input, added to the gradient so far: the product in two halves. -/
module

public import proofs.«01_k».proof.Defs
public import proofs.«01_k».proof.Proof.Gen.Kernel11Ideal.Value
public import proofs.«01_k».proof.Proof.Gen.Kernel11.Frame
public import proofs.«01_k».proof.Proof.Gen.Reference11Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel11Ideal Cert.Kernel11Ideal.Gen

namespace Cert.Prod11

variable (m : (ℓ : Loc nD τ sig) → Buf (Elt Ideal) ℓ) (c : Dev nD)

/-- Where each window's block of point `t` lies. -/
theorem idx : ∀ t : Fin cfg0.N, (win0_0.index t 0 = t.val / 4 ∧ win0_0.index t 1 = t.val % 2) ∧ (win0_1.index t 0 = t.val / 2 % 2 ∧ win0_1.index t 1 = t.val % 2) ∧ (win0_2.index t 0 = t.val / 4 ∧ win0_2.index t 1 = t.val / 2 % 2)
    ∧ (win0_3.index t 0 = t.val / 4 ∧ win0_3.index t 1 = t.val / 2 % 2) :=
  (by decide +kernel : ∀ t : Fin grid0.N, _)

/-- A block is written at the second of its two points. -/
theorem flush : ∀ t : Fin cfg0.N, (cfg0.win 3).flush t = true ↔ t.val % 2 = 1 :=
  (by decide +kernel : ∀ t : Fin grid0.N, win0_3.flush t = true ↔ t.val % 2 = 1)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference11Ideal.Read.val_main_v2 (F := Ideal) (m ((c : Thread nD τ).loc main_arg0)) (m ((c : Thread nD τ).loc main_arg1)) (m ((c : Thread nD τ).loc main_arg2))

/-- The entry of the outgoing gradient at token `i`, column `k`. -/
def left (i : Fin 4096) (k : Fin 3072) : Ideal .bf16 := (show FVec Ideal S4096x3072 .bf16 from m ((c : Thread nD τ).loc main_arg0)) (ix2 i k)

/-- The entry of the weight at row `j`, column `k`. -/
def right (j : Fin 2048) (k : Fin 3072) : Ideal .f32 := (show FVec Ideal S2048x3072 .f32 from m ((c : Thread nD τ).loc main_arg1)) (ix2 j k)

theorem G_apply (i : S4096x2048.Idx) :
    G m c i = (show FVec Ideal S4096x2048 .f32 from m ((c : Thread nD τ).loc main_arg2)) i + ∑ k : Fin 3072, left m c (i 0) k * right m c (i 1) k := by
  unfold G
  rw [Cert.Reference11Ideal.Read.val_main_v2_apply, Cert.Reference11Ideal.Read.val_main_v1_apply]
  refine congrArg (fun z : EReal => (show FVec Ideal S4096x2048 .f32 from m ((c : Thread nD τ).loc main_arg2)) i + z) (Finset.sum_congr rfl fun k _ => congr (congrArg _ ?_) ?_)
  · refine congrArg (m ((c : Thread nD τ).loc main_arg0)) (funext fun a => Fin.ext ?_)
    match a with
    | ⟨0, _⟩ => rfl
    | ⟨1, _⟩ => rfl
  · refine congrArg (m ((c : Thread nD τ).loc main_arg1)) (funext fun a => Fin.ext ?_)
    match a with
    | ⟨0, _⟩ => rfl
    | ⟨1, _⟩ => rfl

/-- The first half's product is kept. -/
theorem first (t : Fin cfg0.N) (h0 h1 h2) (x0 : FVec Ideal S1024x1536 .bf16) (x1 : FVec Ideal S1024x1536 .bf16) (x2 : FVec Ideal S1024x1024 .f32) :
    @Eq (FVec Ideal S1024x1024 .f32) (sout0_A_0 (F := Ideal) c (grid0.coords t) (ms0_0 t) (hs0_0 t) (ms0_1 t) (hs0_1 t) (ms0_2 t) (hs0_2 t) (ms0_3 t) (hs0_3 t) scM0_0 (Memref.isWhole_whole _) h0 h1 h2 x0 x1 x2)
      (fun y => ∑ k : Fin 1536, x0 (ix2 (y 0) k) * x1 (ix2 (y 1) k)) := by
  frame_out
  funext y
  pointwise [k0_pay1, k0_pay2]

/-- The second half's product and the gradient so far are added to what was kept. -/
theorem second (t : Fin cfg0.N) (h0 h1 h2) (x0 : FVec Ideal S1024x1536 .bf16) (x1 : FVec Ideal S1024x1536 .bf16) (x2 : FVec Ideal S1024x1024 .f32) (s : FVec Ideal S1024x1024 .f32) :
    @Eq (FVec Ideal S1024x1024 .f32) (out0_B_3 (F := Ideal) c (grid0.coords t) (ms0_0 t) (hs0_0 t) (ms0_1 t) (hs0_1 t) (ms0_2 t) (hs0_2 t) (ms0_3 t) (hs0_3 t) scM0_0 (Memref.isWhole_whole _) h0 h1 h2 x0 x1 x2 s)
      (fun y => (s y + ∑ k : Fin 1536, x0 (ix2 (y 0) k) * x1 (ix2 (y 1) k)) + x2 y) := by
  frame_out
  funext y
  pointwise [k0_pay1, k0_pay3, k0_pay4]
  have e : scM0_0.view.read (Elt Ideal) ((Memref.isWhole_whole cc0_scratch0).unread s) = s := Memref.IsWhole.read_unread (Memref.isWhole_whole cc0_scratch0) (Val := Elt Ideal) s
  exact congrArg (fun z => (z + _) + _) (congrFun e y)

/-- Blocks of the outgoing gradient. -/
theorem read0 (t : Fin cfg0.N) (q : Fin 1024) (k : Fin 1536) (Q : Fin 4096) (K : Fin 3072) (hK : K.val = t.val % 2 * 1536 + k.val)
    (hQ : Q.val = t.val / 4 * 1024 + q.val) : (show FVec Ideal S1024x1536 .bf16 from iblk m c 0 t) (ix2 q k) = left m c Q K := by
  obtain ⟨⟨a0, a1⟩, -, -, -⟩ := idx t
  refine (congrFun (V_main_arg0 m c) _).trans (congrArg (m ((c : Thread nD τ).loc main_arg0)) (funext fun a => Fin.ext ?_))
  match a with
  | ⟨0, _⟩ => show win0_0.index t (0 : Fin 2) * 1024 + 1 * q.val = Q.val; rw [a0, hQ]; omega
  | ⟨1, _⟩ => show win0_0.index t (1 : Fin 2) * 1536 + 1 * k.val = K.val; rw [a1, hK]; omega

/-- Blocks of the weight. -/
theorem read1 (t : Fin cfg0.N) (q : Fin 1024) (k : Fin 1536) (Q : Fin 2048) (K : Fin 3072) (hK : K.val = t.val % 2 * 1536 + k.val)
    (hQ : Q.val = t.val / 2 % 2 * 1024 + q.val) : (show FVec Ideal S1024x1536 .bf16 from iblk m c 1 t) (ix2 q k) = right m c Q K := by
  obtain ⟨-, ⟨a0, a1⟩, -, -⟩ := idx t
  refine (congrFun (weight m c) _).trans (congrArg (m ((c : Thread nD τ).loc main_arg1)) (funext fun a => Fin.ext ?_))
  match a with
  | ⟨0, _⟩ => show win0_1.index t (0 : Fin 2) * 1024 + 1 * q.val = Q.val; rw [a0, hQ]; omega
  | ⟨1, _⟩ => show win0_1.index t (1 : Fin 2) * 1536 + 1 * k.val = K.val; rw [a1, hK]; omega

/-- What is kept after the first half. -/
theorem kept (t : Fin cfg0.N) (h : t.val % 2 = 0) (x0 : FVec Ideal S1024x1536 .bf16) (x1 : FVec Ideal S1024x1536 .bf16) (e0 : iblk m c 0 t = x0) (e1 : iblk m c 1 t = x1) :
    @Eq (FVec Ideal S1024x1024 .f32) (outsAt0 m c t.val t.isLt).2 (fun y => ∑ k : Fin 1536, x0 (ix2 (y 0) k) * x1 (ix2 (y 1) k)) := by
  rw [outsAt0_A m c t h (by omega) (by omega)]
  dsimp only
  rw [← e0, ← e1]
  exact first c t _ _ _ (iblk m c 0 t) (iblk m c 1 t) (iblk m c 2 t)

/-- What a writing point `t` writes is the reference's block there. -/
theorem point (t : Fin cfg0.N) (ht : t.val % 2 = 1) : (dats m 0 c).flushed 3 t = ((cfg0.win 3).blk t).view.read (Elt Ideal) (G m c) := by
  have hp : (t.val - 1) % 2 = 0 := by omega
  have s1 := kept m c ⟨t.val - 1, Nat.lt_of_le_of_lt (Nat.sub_le _ _) t.isLt⟩ hp _ _ rfl rfl
  refine (Cert.Kernel11Ideal.Value.flushed3_B m c t (by omega) ht ht).trans ?_
  rw [second c t _ _ _ (iblk m c 0 t) (iblk m c 1 t) (iblk m c 2 t) _, s1]
  funext y
  refine Eq.trans ?_ (G_apply m c (((cfg0.win 3).blk t).view.emb y)).symm
  obtain ⟨-, -, ⟨d0, d1⟩, ⟨e0, e1⟩⟩ := idx t
  have r0 : ((((cfg0.win 3).blk t).view.emb y) 0).val = t.val / 4 * 1024 + (y 0).val := by
    show win0_3.index t (0 : Fin 2) * 1024 + 1 * (y 0).val = _
    rw [e0]; omega
  have r1 : ((((cfg0.win 3).blk t).view.emb y) 1).val = t.val / 2 % 2 * 1024 + (y 1).val := by
    show win0_3.index t (1 : Fin 2) * 1024 + 1 * (y 1).val = _
    rw [e1]; omega
  have p2 : (t.val - 1) / 2 = t.val / 2 := by omega
  have p4 : (t.val - 1) / 4 = t.val / 4 := by omega
  rw [add_comm]
  refine congrArg₂ (· + ·) ?_ ?_
  swap
  · refine (congrFun (V_main_arg2 m c) _).trans (congrArg (m ((c : Thread nD τ).loc main_arg2)) (funext fun a => Fin.ext ?_))
    match a with
    | ⟨0, _⟩ => show win0_2.index t (0 : Fin 2) * 1024 + 1 * (y 0).val = win0_3.index t (0 : Fin 2) * 1024 + 1 * (y 0).val; rw [d0, e0]
    | ⟨1, _⟩ => show win0_2.index t (1 : Fin 2) * 1024 + 1 * (y 1).val = win0_3.index t (1 : Fin 2) * 1024 + 1 * (y 1).val; rw [d1, e1]
  rw [Fin.sum_univ_add (a := 1536) (b := 1536) fun k => left m c ((((cfg0.win 3).blk t).view.emb y) 0) k * right m c ((((cfg0.win 3).blk t).view.emb y) 1) k]
  refine congrArg₂ (· + ·) (Finset.sum_congr rfl fun k _ => congrArg₂ (· * ·) (read0 m c _ (y 0) k _ (Fin.castAdd 1536 k) ?_ ?_) (read1 m c _ (y 1) k _ (Fin.castAdd 1536 k) ?_ ?_))
    (Finset.sum_congr rfl fun k _ => congrArg₂ (· * ·) (read0 m c t (y 0) k _ (Fin.natAdd 1536 k) ?_ ?_) (read1 m c t (y 1) k _ (Fin.natAdd 1536 k) ?_ ?_))
  · show k.val = (t.val - 1) % 2 * 1536 + k.val; rw [hp]; omega
  · rw [r0]; show _ = (t.val - 1) / 4 * 1024 + (y 0).val; rw [p4]
  · show k.val = (t.val - 1) % 2 * 1536 + k.val; rw [hp]; omega
  · rw [r1]; show _ = (t.val - 1) / 2 % 2 * 1024 + (y 1).val; rw [p2]
  · show 1536 + k.val = t.val % 2 * 1536 + k.val; rw [ht]
  · exact r0
  · show 1536 + k.val = t.val % 2 * 1536 + k.val; rw [ht]
  · exact r1

/-- Every entry lies in the block of some writing point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 16 := N_0
  let t : Fin cfg0.N := ⟨4 * ((i 0).val / 1024) + 2 * ((i 1).val / 1024) + 1, by omega⟩
  obtain ⟨-, -, -, e0, e1⟩ := idx t
  refine ⟨t, (flush t).mpr (by dsimp only [t]; omega), ?_⟩
  show i ∈ ((View.whole main_v1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; dsimp only [t]; omega
  | ⟨1, _⟩ => show win0_3.index t (1 : Fin 2) * 1024 ≤ (i 1).val ∧ (i 1).val < win0_3.index t (1 : Fin 2) * 1024 + 1024; rw [e1]; dsimp only [t]; omega

/-- The kernel's array is the reference's. -/
theorem final : (dats m 0 c).arrAt 3 cfg0.N = G m c :=
  (dats m 0 c).arrAt_eq_of_cover 3 _ (fun t hf => point m c t ((flush t).mp hf)) cover

theorem frame : Cert.quiescent_Kernel11 (hKernel11 := Cert.Kernel11.Gen.facts) := fun m ρ _ => Cert.Kernel11.Gen.frame m ρ

theorem frameIdeal : Cert.quiescent_Kernel11Ideal (hKernel11Ideal := Cert.Kernel11Ideal.Gen.facts) := fun m ρ _ =>
  Cert.Kernel11Ideal.Gen.frame m ρ

theorem frameReference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem preserves : Cert.preserves_Kernel11_Kernel11Ideal := trivial

theorem algebraic : Cert.algebraic_Kernel11Ideal_Reference11Ideal (hKernel11Ideal := Cert.Kernel11Ideal.Gen.facts)
    (hReference11Ideal := Cert.Reference11Ideal.Gen.facts) := by
  intro m g m' g' hpre hag
  refine ⟨G m, (θ_run Cert.Kernel11Ideal.defs _ _).mono (fun r h c => ?_) (Cert.Kernel11Ideal.Value.run_blocks (F := Ideal) m g), ?_⟩
  · obtain ⟨h0, h1⟩ := h c
    exact ⟨h0.trans (final m c), h1⟩
  · refine (θ_run Cert.Reference11Ideal.defs _ _).mono (fun r h c => ?_) (Cert.Reference11Ideal.Value.run (F := Ideal) m' g')
    obtain ⟨h0, h1⟩ := h c
    obtain ⟨a0, a1, a2⟩ := hag c
    refine ⟨h0.trans ((Cert.Reference11Ideal.Read.val_main_v2_eq _ _ _).trans ?_), h1⟩
    exact congr (congr (congrArg _ a0) a1) a2

end Cert.Prod11

end
-- ==== Proof.Prod12.lean ====
/- The projection onto the time steps. -/
module

public import proofs.«01_k».proof.Defs
public import proofs.«01_k».proof.Proof.Gen.Kernel12Ideal.Value
public import proofs.«01_k».proof.Proof.Gen.Kernel12.Frame
public import proofs.«01_k».proof.Proof.Gen.Reference12Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel12Ideal Cert.Kernel12Ideal.Gen

namespace Cert.Prod12

variable (m : (ℓ : Loc nD τ sig) → Buf (Elt Ideal) ℓ) (c : Dev nD)

/-- Where each window's block of point `t` lies. -/
theorem idx : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, _)

theorem flush : ∀ t : Fin cfg0.N, (cfg0.win 2).flush t = true :=
  (by decide +kernel : ∀ t : Fin grid0.N, win0_2.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x128 .f32 :=
  Cert.Reference12Ideal.Read.val_main_v1 (F := Ideal) (m ((c : Thread nD τ).loc main_arg0)) (m ((c : Thread nD τ).loc main_arg1))

theorem G_apply (i : S4096x128.Idx) :
    G m c i = ∑ k : Fin 2048, (show FVec Ideal S4096x2048 .bf16 from m ((c : Thread nD τ).loc main_arg0)) (Cert.Reference12Ideal.Read.lidx_main_v1 i k)
      * (show FVec Ideal S2048x128 .f32 from m ((c : Thread nD τ).loc main_arg1)) (Cert.Reference12Ideal.Read.ridx_main_v1 i k) := by
  unfold G
  rw [Cert.Reference12Ideal.Read.val_main_v1_apply]
  rfl

/-- The body's result, entry by entry. -/
theorem body (x0 : FVec Ideal S1024x2048 .bf16) (x1 : FVec Ideal S2048x128 .bf16) (y : S1024x128.Idx) :
    (show FVec Ideal S1024x128 .f32 from out0_2 (F := Ideal) x0 x1) y = (∑ k : Fin 2048, x0 (ix2 (y 0) k) * x1 (ix2 k (y 1))) := by
  frame_out
  pointwise [k0_pay1]

/-- What point `t` writes is the reference's block there. -/
theorem point (t : Fin cfg0.N) : (dats m 0 c).flushed 2 t = ((cfg0.win 2).blk t).view.read (Elt Ideal) (G m c) := by
  rw [Cert.Kernel12Ideal.Value.flushed2]
  funext y
  obtain ⟨⟨a0, a1⟩, ⟨b0, b1⟩, ⟨e0, e1⟩⟩ := idx t
  refine (body (iblk m c 0 t) (iblk m c 1 t) y).trans ?_
  refine Eq.trans ?_ (G_apply m c (((cfg0.win 2).blk t).view.emb y)).symm
  refine Finset.sum_congr rfl fun k _ => congr (congrArg _ ?_) ?_
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 2048 + 1 * k.val = k.val; rw [b0]; omega
    | ⟨1, _⟩ => show win0_1.index t (1 : Fin 2) * 128 + 1 * (y 1).val = win0_2.index t (1 : Fin 2) * 128 + 1 * (y 1).val; rw [b1, e1]

/-- Every entry lies in the block of some point. -/
theorem cover (i : S4096x128.Idx) : ∃ t : Fin cfg0.N, (cfg0.win 2).flush t = true ∧ i ∈ ((cfg0.win 2).blk t).view.set := by
  have h0 : (i 0).val < 4096 := (i 0).isLt
  have h1 : (i 1).val < 128 := (i 1).isLt
  have hN : cfg0.N = 4 := N_0
  let t : Fin cfg0.N := ⟨(i 0).val / 1024, by omega⟩
  obtain ⟨-, -, e0, e1⟩ := idx t
  refine ⟨t, flush t, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 128 ≤ (i 1).val ∧ (i 1).val < win0_2.index t (1 : Fin 2) * 128 + 128; rw [e1]; dsimp only [t]; omega

/-- The kernel's array is the reference's. -/
theorem final : (dats m 0 c).arrAt 2 cfg0.N = G m c :=
  (dats m 0 c).arrAt_eq_of_cover 2 _ (fun t _ => point m c t) cover

theorem frame : Cert.quiescent_Kernel12 (hKernel12 := Cert.Kernel12.Gen.facts) := fun m ρ _ => Cert.Kernel12.Gen.frame m ρ

theorem frameIdeal : Cert.quiescent_Kernel12Ideal (hKernel12Ideal := Cert.Kernel12Ideal.Gen.facts) := fun m ρ _ =>
  Cert.Kernel12Ideal.Gen.frame m ρ

theorem frameReference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem preserves : Cert.preserves_Kernel12_Kernel12Ideal := trivial

theorem algebraic : Cert.algebraic_Kernel12Ideal_Reference12Ideal (hKernel12Ideal := Cert.Kernel12Ideal.Gen.facts)
    (hReference12Ideal := Cert.Reference12Ideal.Gen.facts) := by
  intro m g m' g' hpre hag
  refine ⟨G m, (θ_run Cert.Kernel12Ideal.defs _ _).mono (fun r h c => ?_) (Cert.Kernel12Ideal.Value.run_blocks (F := Ideal) m g), ?_⟩
  · obtain ⟨h0, h1⟩ := h c
    exact ⟨h0.trans (final m c), h1⟩
  · refine (θ_run Cert.Reference12Ideal.defs _ _).mono (fun r h c => ?_) (Cert.Reference12Ideal.Value.run (F := Ideal) m' g')
    obtain ⟨h0, h1⟩ := h c
    obtain ⟨a0, a1⟩ := hag c
    refine ⟨h0.trans ((Cert.Reference12Ideal.Read.val_main_v1_eq _ _).trans ?_), h1⟩
    exact congr (congrArg _ a0) a1

end Cert.Prod12

end
-- ==== Proof.Prod13.lean ====
/- The gradient of a projection's weight: the product over the tokens, in two halves. -/
module

public import proofs.«01_k».proof.Defs
public import proofs.«01_k».proof.Proof.Gen.Kernel13Ideal.Value
public import proofs.«01_k».proof.Proof.Gen.Kernel13.Frame
public import proofs.«01_k».proof.Proof.Gen.Reference13Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel13Ideal Cert.Kernel13Ideal.Gen

namespace Cert.Prod13

variable (m : (ℓ : Loc nD τ sig) → Buf (Elt Ideal) ℓ) (c : Dev nD)

/-- Where each window's block of point `t` lies. -/
theorem idx : ∀ t : Fin cfg0.N, (win0_0.index t 0 = t.val % 2 ∧ win0_0.index t 1 = t.val / 2) ∧ (win0_1.index t 0 = t.val % 2 ∧ win0_1.index t 1 = t.val / 2 % 1) ∧ (win0_2.index t 0 = t.val / 2 ∧ win0_2.index t 1 = t.val / 2 % 1) :=
  (by decide +kernel : ∀ t : Fin grid0.N, _)

/-- A block is written at the second of its two points. -/
theorem flush : ∀ t : Fin cfg0.N, (cfg0.win 2).flush t = true ↔ t.val % 2 = 1 :=
  (by decide +kernel : ∀ t : Fin grid0.N, win0_2.flush t = true ↔ t.val % 2 = 1)

/-- The reference's result of the launched arrays. -/
def G : FVec Ideal S2048x128 .bf16 :=
  Cert.Reference13Ideal.Read.val_main_v4 (F := Ideal) (m ((c : Thread nD τ).loc main_arg0)) (m ((c : Thread nD τ).loc main_arg1))

/-- The entry of the first array at token `k`, column `i`. -/
def left (k : Fin 4096) (i : Fin 2048) : Ideal .bf16 := (show FVec Ideal S4096x2048 .bf16 from m ((c : Thread nD τ).loc main_arg0)) (ix2 k i)

/-- The entry of the second array at token `k`, column `j`. -/
def right (k : Fin 4096) (j : Fin 128) : Ideal .bf16 := (show FVec Ideal S4096x128 .bf16 from m ((c : Thread nD τ).loc main_arg1)) (ix2 k j)

theorem G_apply (i : S2048x128.Idx) :
    G m c i = ∑ k : Fin 4096, left m c k (i 0) * right m c k (i 1) := by
  unfold G
  rw [Cert.Reference13Ideal.Read.val_main_v4_apply, Cert.Reference13Ideal.Read.val_main_v3_apply, Cert.Reference13Ideal.Read.val_main_v2_apply]
  refine Finset.sum_congr rfl fun k _ => (mul_comm _ _).trans (congr (congrArg _ ?_) ?_)
  · refine congrArg (m ((c : Thread nD τ).loc main_arg0)) (funext fun a => Fin.ext ?_)
    match a with
    | ⟨0, _⟩ => rfl
    | ⟨1, _⟩ => rfl
  · refine congrArg (m ((c : Thread nD τ).loc main_arg1)) (funext fun a => Fin.ext ?_)
    match a with
    | ⟨0, _⟩ => rfl
    | ⟨1, _⟩ => rfl

/-- The first half's product is kept. -/
theorem first (t : Fin cfg0.N) (h0 h1 h2) (x0 : FVec Ideal S2048x1024 .bf16) (x1 : FVec Ideal S2048x128 .bf16) :
    @Eq (FVec Ideal S1024x128 .f32) (sout0_A_0 (F := Ideal) c (grid0.coords t) (ms0_0 t) (hs0_0 t) (ms0_1 t) (hs0_1 t) (ms0_2 t) (hs0_2 t) scM0_0 (Memref.isWhole_whole _) h0 h1 h2 x0 x1)
      (fun y => ∑ k : Fin 2048, x0 (ix2 k (y 0)) * x1 (ix2 k (y 1))) := by
  frame_out
  funext y
  pointwise [k0_pay1, k0_pay2]

/-- The second half's product is added to what was kept. -/
theorem second (t : Fin cfg0.N) (h0 h1 h2) (x0 : FVec Ideal S2048x1024 .bf16) (x1 : FVec Ideal S2048x128 .bf16) (s : FVec Ideal S1024x128 .f32) :
    @Eq (FVec Ideal S1024x128 .bf16) (out0_B_2 (F := Ideal) c (grid0.coords t) (ms0_0 t) (hs0_0 t) (ms0_1 t) (hs0_1 t) (ms0_2 t) (hs0_2 t) scM0_0 (Memref.isWhole_whole _) h0 h1 h2 x0 x1 s)
      (fun y => s y + ∑ k : Fin 2048, x0 (ix2 k (y 0)) * x1 (ix2 k (y 1))) := by
  frame_out
  funext y
  pointwise [k0_pay1, k0_pay3, k0_pay4]
  have e : scM0_0.view.read (Elt Ideal) ((Memref.isWhole_whole cc0_scratch0).unread s) = s := Memref.IsWhole.read_unread (Memref.isWhole_whole cc0_scratch0) (Val := Elt Ideal) s
  exact congrArg (· + _) (congrFun e y)

/-- Blocks of the first array. -/
theorem read0 (t : Fin cfg0.N) (k : Fin 2048) (q : Fin 1024) (K : Fin 4096) (Q : Fin 2048) (hK : K.val = t.val % 2 * 2048 + k.val)
    (hQ : Q.val = t.val / 2 * 1024 + q.val) : (show FVec Ideal S2048x1024 .bf16 from iblk m c 0 t) (ix2 k q) = left m c K Q := by
  obtain ⟨⟨a0, a1⟩, -, -⟩ := idx t
  refine (congrFun (V_main_arg0 m c) _).trans (congrArg (m ((c : Thread nD τ).loc main_arg0)) (funext fun a => Fin.ext ?_))
  match a with
  | ⟨0, _⟩ => show win0_0.index t (0 : Fin 2) * 2048 + 1 * k.val = K.val; rw [a0, hK]; omega
  | ⟨1, _⟩ => show win0_0.index t (1 : Fin 2) * 1024 + 1 * q.val = Q.val; rw [a1, hQ]; omega

/-- Blocks of the second array. -/
theorem read1 (t : Fin cfg0.N) (k : Fin 2048) (q : Fin 128) (K : Fin 4096) (Q : Fin 128) (hK : K.val = t.val % 2 * 2048 + k.val)
    (hQ : Q.val = t.val / 2 % 1 * 128 + q.val) : (show FVec Ideal S2048x128 .bf16 from iblk m c 1 t) (ix2 k q) = right m c K Q := by
  obtain ⟨-, ⟨a0, a1⟩, -⟩ := idx t
  refine (congrFun (V_main_arg1 m c) _).trans (congrArg (m ((c : Thread nD τ).loc main_arg1)) (funext fun a => Fin.ext ?_))
  match a with
  | ⟨0, _⟩ => show win0_1.index t (0 : Fin 2) * 2048 + 1 * k.val = K.val; rw [a0, hK]; omega
  | ⟨1, _⟩ => show win0_1.index t (1 : Fin 2) * 128 + 1 * q.val = Q.val; rw [a1, hQ]; omega

/-- What is kept after the first half. -/
theorem kept (t : Fin cfg0.N) (h : t.val % 2 = 0) (x0 : FVec Ideal S2048x1024 .bf16) (x1 : FVec Ideal S2048x128 .bf16) (e0 : iblk m c 0 t = x0) (e1 : iblk m c 1 t = x1) :
    @Eq (FVec Ideal S1024x128 .f32) (outsAt0 m c t.val t.isLt).2 (fun y => ∑ k : Fin 2048, x0 (ix2 k (y 0)) * x1 (ix2 k (y 1))) := by
  rw [outsAt0_A m c t h (by omega) (by omega)]
  dsimp only
  rw [← e0, ← e1]
  exact first c t _ _ _ (iblk m c 0 t) (iblk m c 1 t)

/-- What a writing point `t` writes is the reference's block there. -/
theorem point (t : Fin cfg0.N) (ht : t.val % 2 = 1) : (dats m 0 c).flushed 2 t = ((cfg0.win 2).blk t).view.read (Elt Ideal) (G m c) := by
  have hp : (t.val - 1) % 2 = 0 := by omega
  have s1 := kept m c ⟨t.val - 1, Nat.lt_of_le_of_lt (Nat.sub_le _ _) t.isLt⟩ hp _ _ rfl rfl
  refine (Cert.Kernel13Ideal.Value.flushed2_B m c t (by omega) ht ht).trans ?_
  rw [second c t _ _ _ (iblk m c 0 t) (iblk m c 1 t) _, s1]
  funext y
  refine Eq.trans ?_ (G_apply m c (((cfg0.win 2).blk t).view.emb y)).symm
  obtain ⟨-, -, ⟨e0, e1⟩⟩ := idx t
  have r0 : ((((cfg0.win 2).blk t).view.emb y) 0).val = t.val / 2 * 1024 + (y 0).val := by
    show win0_2.index t (0 : Fin 2) * 1024 + 1 * (y 0).val = _
    rw [e0]; omega
  have r1 : ((((cfg0.win 2).blk t).view.emb y) 1).val = t.val / 2 % 1 * 128 + (y 1).val := by
    show win0_2.index t (1 : Fin 2) * 128 + 1 * (y 1).val = _
    rw [e1]; omega
  have p2 : (t.val - 1) / 2 = t.val / 2 := by omega
  have p4 : (t.val - 1) / 2 = t.val / 2 := by omega
  rw [Fin.sum_univ_add (a := 2048) (b := 2048) fun k => left m c k ((((cfg0.win 2).blk t).view.emb y) 0) * right m c k ((((cfg0.win 2).blk t).view.emb y) 1)]
  refine congrArg₂ (· + ·) (Finset.sum_congr rfl fun k _ => congrArg₂ (· * ·) (read0 m c _ k (y 0) (Fin.castAdd 2048 k) _ ?_ ?_) (read1 m c _ k (y 1) (Fin.castAdd 2048 k) _ ?_ ?_))
    (Finset.sum_congr rfl fun k _ => congrArg₂ (· * ·) (read0 m c t k (y 0) (Fin.natAdd 2048 k) _ ?_ ?_) (read1 m c t k (y 1) (Fin.natAdd 2048 k) _ ?_ ?_))
  · show k.val = (t.val - 1) % 2 * 2048 + k.val; rw [hp]; omega
  · rw [r0]; show _ = (t.val - 1) / 2 * 1024 + (y 0).val; rw [p4]
  · show k.val = (t.val - 1) % 2 * 2048 + k.val; rw [hp]; omega
  · rw [r1]; show _ = (t.val - 1) / 2 % 1 * 128 + (y 1).val; rw [p2]
  · show 2048 + k.val = t.val % 2 * 2048 + k.val; rw [ht]
  · exact r0
  · show 2048 + k.val = t.val % 2 * 2048 + k.val; rw [ht]
  · exact r1

/-- Every entry lies in the block of some writing point. -/
theorem cover (i : S2048x128.Idx) : ∃ t : Fin cfg0.N, (cfg0.win 2).flush t = true ∧ i ∈ ((cfg0.win 2).blk t).view.set := by
  have h0 : (i 0).val < 2048 := (i 0).isLt
  have h1 : (i 1).val < 128 := (i 1).isLt
  have hN : cfg0.N = 4 := N_0
  let t : Fin cfg0.N := ⟨2 * ((i 0).val / 1024) + 2 * ((i 1).val / 128) + 1, by omega⟩
  obtain ⟨-, -, e0, e1⟩ := idx t
  refine ⟨t, (flush t).mpr (by dsimp only [t]; omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0]; dsimp only [t]; omega
  | ⟨1, _⟩ => show win0_2.index t (1 : Fin 2) * 128 ≤ (i 1).val ∧ (i 1).val < win0_2.index t (1 : Fin 2) * 128 + 128; rw [e1]; dsimp only [t]; omega

/-- The kernel's array is the reference's. -/
theorem final : (dats m 0 c).arrAt 2 cfg0.N = G m c :=
  (dats m 0 c).arrAt_eq_of_cover 2 _ (fun t hf => point m c t ((flush t).mp hf)) cover

theorem frame : Cert.quiescent_Kernel13 (hKernel13 := Cert.Kernel13.Gen.facts) := fun m ρ _ => Cert.Kernel13.Gen.frame m ρ

theorem frameIdeal : Cert.quiescent_Kernel13Ideal (hKernel13Ideal := Cert.Kernel13Ideal.Gen.facts) := fun m ρ _ =>
  Cert.Kernel13Ideal.Gen.frame m ρ

theorem frameReference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem preserves : Cert.preserves_Kernel13_Kernel13Ideal := trivial

theorem algebraic : Cert.algebraic_Kernel13Ideal_Reference13Ideal (hKernel13Ideal := Cert.Kernel13Ideal.Gen.facts)
    (hReference13Ideal := Cert.Reference13Ideal.Gen.facts) := by
  intro m g m' g' hpre hag
  refine ⟨G m, (θ_run Cert.Kernel13Ideal.defs _ _).mono (fun r h c => ?_) (Cert.Kernel13Ideal.Value.run_blocks (F := Ideal) m g), ?_⟩
  · obtain ⟨h0, h1⟩ := h c
    exact ⟨h0.trans (final m c), h1⟩
  · refine (θ_run Cert.Reference13Ideal.defs _ _).mono (fun r h c => ?_) (Cert.Reference13Ideal.Value.run (F := Ideal) m' g')
    obtain ⟨h0, h1⟩ := h c
    obtain ⟨a0, a1⟩ := hag c
    refine ⟨h0.trans ((Cert.Reference13Ideal.Read.val_main_v4_eq _ _).trans ?_), h1⟩
    exact congr (congrArg _ a0) a1

end Cert.Prod13

end
-- ==== Proof.Prod14.lean ====
/- The gradient through the projection onto the time steps, added to the gradient so far. -/
module

public import proofs.«01_k».proof.Defs
public import proofs.«01_k».proof.Proof.Gen.Kernel14Ideal.Value
public import proofs.«01_k».proof.Proof.Gen.Kernel14.Frame
public import proofs.«01_k».proof.Proof.Gen.Reference14Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel14Ideal Cert.Kernel14Ideal.Gen

namespace Cert.Prod14

variable (m : (ℓ : Loc nD τ sig) → Buf (Elt Ideal) ℓ) (c : Dev nD)

/-- Where each window's block of point `t` lies. -/
theorem idx : ∀ t : Fin cfg0.N, (win0_0.index t 0 = t.val / 2 ∧ win0_0.index t 1 = 0) ∧ (win0_1.index t 0 = t.val % 2 ∧ win0_1.index t 1 = 0) ∧ (win0_2.index t 0 = t.val / 2 ∧ win0_2.index t 1 = t.val % 2) ∧ (win0_3.index t 0 = t.val / 2 ∧ win0_3.index t 1 = t.val % 2) :=
  (by decide +kernel : ∀ t : Fin grid0.N, _)

theorem flush : ∀ t : Fin cfg0.N, (cfg0.win 3).flush t = true :=
  (by decide +kernel : ∀ t : Fin grid0.N, win0_3.flush t = true)

/-- The rounded weight is the weight. -/
theorem weight : V m c main_v0 = truncf (F := Ideal) .bf16 (m ((c : Thread nD τ).loc main_arg1)) bitsLt_bf16_f32 := by
  unfold V
  after_reads_simp

/-- The reference's result of the launched arrays. -/
def G : FVec Ideal S4096x2048 .f32 :=
  Cert.Reference14Ideal.Read.val_main_v2 (F := Ideal) (m ((c : Thread nD τ).loc main_arg0)) (m ((c : Thread nD τ).loc main_arg1)) (m ((c : Thread nD τ).loc main_arg2))

theorem G_apply (i : S4096x2048.Idx) :
    G m c i = (show FVec Ideal S4096x2048 .f32 from m ((c : Thread nD τ).loc main_arg2)) i + ∑ k : Fin 128, (show FVec Ideal S4096x128 .bf16 from m ((c : Thread nD τ).loc main_arg0)) (Cert.Reference14Ideal.Read.lidx_main_v1 i k)
      * (show FVec Ideal S2048x128 .f32 from m ((c : Thread nD τ).loc main_arg1)) (Cert.Reference14Ideal.Read.ridx_main_v1 i k) := by
  unfold G
  rw [Cert.Reference14Ideal.Read.val_main_v2_apply, Cert.Reference14Ideal.Read.val_main_v1_apply]
  rfl

/-- The body's result, entry by entry. -/
theorem body (x0 : FVec Ideal S1024x128 .bf16) (x1 : FVec Ideal S1024x128 .bf16) (x2 : FVec Ideal S1024x1024 .f32) (y : S1024x1024.Idx) :
    (show FVec Ideal S1024x1024 .f32 from out0_3 (F := Ideal) x0 x1 x2) y = (∑ k : Fin 128, x0 (ix2 (y 0) k) * x1 (ix2 (y 1) k)) + x2 y := by
  frame_out
  pointwise [k0_pay1]

/-- What point `t` writes is the reference's block there. -/
theorem point (t : Fin cfg0.N) : (dats m 0 c).flushed 3 t = ((cfg0.win 3).blk t).view.read (Elt Ideal) (G m c) := by
  rw [Cert.Kernel14Ideal.Value.flushed3]
  funext y
  obtain ⟨⟨a0, a1⟩, ⟨b0, b1⟩, ⟨d0, d1⟩, ⟨e0, e1⟩⟩ := idx t
  refine (body (iblk m c 0 t) (iblk m c 1 t) (iblk m c 2 t) y).trans ?_
  refine Eq.trans ?_ (G_apply m c (((cfg0.win 3).blk t).view.emb y)).symm
  rw [add_comm]
  refine congr (congrArg _ ?_) (Finset.sum_congr rfl fun k _ => congr (congrArg _ ?_) ?_)
  · refine (congrFun (V_main_arg2 m c) _).trans (congrArg (m ((c : Thread nD τ).loc main_arg2)) (funext fun a => Fin.ext ?_))
    match a with
    | ⟨0, _⟩ => show win0_2.index t (0 : Fin 2) * 1024 + 1 * (y 0).val = win0_3.index t (0 : Fin 2) * 1024 + 1 * (y 0).val; rw [d0, e0]
    | ⟨1, _⟩ => show win0_2.index t (1 : Fin 2) * 1024 + 1 * (y 1).val = win0_3.index t (1 : Fin 2) * 1024 + 1 * (y 1).val; rw [d1, e1]
  · refine (congrFun (V_main_arg0 m c) _).trans (congrArg (m ((c : Thread nD τ).loc main_arg0)) (funext fun a => Fin.ext ?_))
    match a with
    | ⟨0, _⟩ => show win0_0.index t (0 : Fin 2) * 1024 + 1 * (y 0).val = win0_3.index t (0 : Fin 2) * 1024 + 1 * (y 0).val; rw [a0, e0]
    | ⟨1, _⟩ => show win0_0.index t (1 : Fin 2) * 128 + 1 * k.val = k.val; rw [a1]; omega
  · refine (congrFun (weight m c) _).trans (congrArg (m ((c : Thread nD τ).loc main_arg1)) (funext fun a => Fin.ext ?_))
    match a with
    | ⟨0, _⟩ => show win0_1.index t (0 : Fin 2) * 1024 + 1 * (y 1).val = win0_3.index t (1 : Fin 2) * 1024 + 1 * (y 1).val; rw [b0, e1]
    | ⟨1, _⟩ => show win0_1.index t (1 : Fin 2) * 128 + 1 * k.val = k.val; rw [b1]; omega

/-- Every entry lies in the block of some point. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 8 := N_0
  let t : Fin cfg0.N := ⟨2 * ((i 0).val / 1024) + (i 1).val / 1024, by omega⟩
  obtain ⟨-, -, -, e0, e1⟩ := idx t
  refine ⟨t, flush t, ?_⟩
  show i ∈ ((View.whole main_v1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; dsimp only [t]; omega
  | ⟨1, _⟩ => show win0_3.index t (1 : Fin 2) * 1024 ≤ (i 1).val ∧ (i 1).val < win0_3.index t (1 : Fin 2) * 1024 + 1024; rw [e1]; dsimp only [t]; omega

/-- The kernel's array is the reference's. -/
theorem final : (dats m 0 c).arrAt 3 cfg0.N = G m c :=
  (dats m 0 c).arrAt_eq_of_cover 3 _ (fun t _ => point m c t) cover

theorem frame : Cert.quiescent_Kernel14 (hKernel14 := Cert.Kernel14.Gen.facts) := fun m ρ _ => Cert.Kernel14.Gen.frame m ρ

theorem frameIdeal : Cert.quiescent_Kernel14Ideal (hKernel14Ideal := Cert.Kernel14Ideal.Gen.facts) := fun m ρ _ =>
  Cert.Kernel14Ideal.Gen.frame m ρ

theorem frameReference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem preserves : Cert.preserves_Kernel14_Kernel14Ideal := trivial

theorem algebraic : Cert.algebraic_Kernel14Ideal_Reference14Ideal (hKernel14Ideal := Cert.Kernel14Ideal.Gen.facts)
    (hReference14Ideal := Cert.Reference14Ideal.Gen.facts) := by
  intro m g m' g' hpre hag
  refine ⟨G m, (θ_run Cert.Kernel14Ideal.defs _ _).mono (fun r h c => ?_) (Cert.Kernel14Ideal.Value.run_blocks (F := Ideal) m g), ?_⟩
  · obtain ⟨h0, h1⟩ := h c
    exact ⟨h0.trans (final m c), h1⟩
  · refine (θ_run Cert.Reference14Ideal.defs _ _).mono (fun r h c => ?_) (Cert.Reference14Ideal.Value.run (F := Ideal) m' g')
    obtain ⟨h0, h1⟩ := h c
    obtain ⟨a0, a1, a2⟩ := hag c
    refine ⟨h0.trans ((Cert.Reference14Ideal.Read.val_main_v2_eq _ _ _).trans ?_), h1⟩
    exact congr (congr (congrArg _ a0) a1) a2

end Cert.Prod14

end
-- ==== Proof.Adam15.lean ====
/- One step of the optimiser, entry by entry. -/
module

public import proofs.«01_k».proof.Defs
public import proofs.«01_k».proof.Proof.Gen.Kernel15Ideal.Value
public import proofs.«01_k».proof.Proof.Gen.Kernel15.Frame
public import proofs.«01_k».proof.Proof.Gen.Reference15Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel15Ideal Cert.Kernel15Ideal.Gen

namespace Cert.Adam15

open Cert.Reference15Ideal.Read in
/-- The step, the first moment and the second moment are the reference's. -/
theorem same (w g m v : (⟨S2x2048x1412, .f32⟩ : BufTy).Contents (Elt Ideal)) :
    Cert.Kernel15Ideal.Value.G4 (F := Ideal) g m v w = val_main_v23 (F := Ideal) w g m v
      ∧ Cert.Kernel15Ideal.Value.G5 (F := Ideal) g m = val_main_v4 (F := Ideal) g m
      ∧ Cert.Kernel15Ideal.Value.G6 (F := Ideal) g v = val_main_v10 (F := Ideal) g v :=
  ⟨funext fun _ => rfl, funext fun _ => rfl, funext fun _ => rfl⟩

theorem frame : Cert.quiescent_Kernel15 (hKernel15 := Cert.Kernel15.Gen.facts) := fun m ρ _ => Cert.Kernel15.Gen.frame m ρ

theorem frameIdeal : Cert.quiescent_Kernel15Ideal (hKernel15Ideal := Cert.Kernel15Ideal.Gen.facts) := fun m ρ _ =>
  Cert.Kernel15Ideal.Gen.frame m ρ

theorem frameReference : Cert.quiescent_Reference15Ideal (hReference15Ideal := Cert.Reference15Ideal.Gen.facts) := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem preserves : Cert.preserves_Kernel15_Kernel15Ideal := trivial

theorem algebraic : Cert.algebraic_Kernel15Ideal_Reference15Ideal (hKernel15Ideal := Cert.Kernel15Ideal.Gen.facts)
    (hReference15Ideal := Cert.Reference15Ideal.Gen.facts) := by
  intro m g m' g' hpre hag
  refine ⟨_, _, _, Cert.Kernel15Ideal.Value.run (F := Ideal) m g, ?_⟩
  refine (θ_run Cert.Reference15Ideal.defs _ _).mono (fun r h c => ?_) (Cert.Reference15Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference15Ideal.Read.val_main_v23_eq _ _ _ _).trans (Eq.trans ?_ s0.symm)),
    h1.trans ((Cert.Reference15Ideal.Read.val_main_v4_eq _ _).trans (Eq.trans ?_ s1.symm)),
    h2.trans ((Cert.Reference15Ideal.Read.val_main_v10_eq _ _).trans (Eq.trans ?_ s2.symm)), hr⟩
  · exact congr (congr (congr (congrArg _ a0) a1) a2) a3
  · exact congr (congrArg _ a1) a2
  · exact congr (congrArg _ a1) a3

end Cert.Adam15

end
-- ==== Proof.Adam16.lean ====
/- One step of the optimiser, entry by entry. -/
module

public import proofs.«01_k».proof.Defs
public import proofs.«01_k».proof.Proof.Gen.Kernel16Ideal.Value
public import proofs.«01_k».proof.Proof.Gen.Kernel16.Frame
public import proofs.«01_k».proof.Proof.Gen.Reference16Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel16Ideal Cert.Kernel16Ideal.Gen

namespace Cert.Adam16

open Cert.Reference16Ideal.Read in
/-- The step, the first moment and the second moment are the reference's. -/
theorem same (w g m v : (⟨S2x512x2048, .f32⟩ : BufTy).Contents (Elt Ideal)) :
    Cert.Kernel16Ideal.Value.G4 (F := Ideal) g m v w = val_main_v23 (F := Ideal) w g m v
      ∧ Cert.Kernel16Ideal.Value.G5 (F := Ideal) g m = val_main_v4 (F := Ideal) g m
      ∧ Cert.Kernel16Ideal.Value.G6 (F := Ideal) g v = val_main_v10 (F := Ideal) g v :=
  ⟨funext fun _ => rfl, funext fun _ => rfl, funext fun _ => rfl⟩

theorem frame : Cert.quiescent_Kernel16 (hKernel16 := Cert.Kernel16.Gen.facts) := fun m ρ _ => Cert.Kernel16.Gen.frame m ρ

theorem frameIdeal : Cert.quiescent_Kernel16Ideal (hKernel16Ideal := Cert.Kernel16Ideal.Gen.facts) := fun m ρ _ =>
  Cert.Kernel16Ideal.Gen.frame m ρ

theorem frameReference : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem preserves : Cert.preserves_Kernel16_Kernel16Ideal := trivial

theorem algebraic : Cert.algebraic_Kernel16Ideal_Reference16Ideal (hKernel16Ideal := Cert.Kernel16Ideal.Gen.facts)
    (hReference16Ideal := Cert.Reference16Ideal.Gen.facts) := by
  intro m g m' g' hpre hag
  refine ⟨_, _, _, Cert.Kernel16Ideal.Value.run (F := Ideal) m g, ?_⟩
  refine (θ_run Cert.Reference16Ideal.defs _ _).mono (fun r h c => ?_) (Cert.Reference16Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference16Ideal.Read.val_main_v23_eq _ _ _ _).trans (Eq.trans ?_ s0.symm)),
    h1.trans ((Cert.Reference16Ideal.Read.val_main_v4_eq _ _).trans (Eq.trans ?_ s1.symm)),
    h2.trans ((Cert.Reference16Ideal.Read.val_main_v10_eq _ _).trans (Eq.trans ?_ s2.symm)), hr⟩
  · exact congr (congr (congr (congrArg _ a0) a1) a2) a3
  · exact congr (congrArg _ a1) a2
  · exact congr (congrArg _ a1) a3

end Cert.Adam16

end
-- ==== Proof.Adam17.lean ====
/- One step of the optimiser, entry by entry. -/
module

public import proofs.«01_k».proof.Defs
public import proofs.«01_k».proof.Proof.Gen.Kernel17Ideal.Value
public import proofs.«01_k».proof.Proof.Gen.Kernel17.Frame
public import proofs.«01_k».proof.Proof.Gen.Reference17Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel17Ideal Cert.Kernel17Ideal.Gen

namespace Cert.Adam17

open Cert.Reference17Ideal.Read in
/-- The step, the first moment and the second moment are the reference's. -/
theorem same (w g m v : (⟨S2x2048x1024, .f32⟩ : BufTy).Contents (Elt Ideal)) :
    Cert.Kernel17Ideal.Value.G4 (F := Ideal) g m v w = val_main_v23 (F := Ideal) w g m v
      ∧ Cert.Kernel17Ideal.Value.G5 (F := Ideal) g m = val_main_v4 (F := Ideal) g m
      ∧ Cert.Kernel17Ideal.Value.G6 (F := Ideal) g v = val_main_v10 (F := Ideal) g v :=
  ⟨funext fun _ => rfl, funext fun _ => rfl, funext fun _ => rfl⟩

theorem frame : Cert.quiescent_Kernel17 (hKernel17 := Cert.Kernel17.Gen.facts) := fun m ρ _ => Cert.Kernel17.Gen.frame m ρ

theorem frameIdeal : Cert.quiescent_Kernel17Ideal (hKernel17Ideal := Cert.Kernel17Ideal.Gen.facts) := fun m ρ _ =>
  Cert.Kernel17Ideal.Gen.frame m ρ

theorem frameReference : Cert.quiescent_Reference17Ideal (hReference17Ideal := Cert.Reference17Ideal.Gen.facts) := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem preserves : Cert.preserves_Kernel17_Kernel17Ideal := trivial

theorem algebraic : Cert.algebraic_Kernel17Ideal_Reference17Ideal (hKernel17Ideal := Cert.Kernel17Ideal.Gen.facts)
    (hReference17Ideal := Cert.Reference17Ideal.Gen.facts) := by
  intro m g m' g' hpre hag
  refine ⟨_, _, _, Cert.Kernel17Ideal.Value.run (F := Ideal) m g, ?_⟩
  refine (θ_run Cert.Reference17Ideal.defs _ _).mono (fun r h c => ?_) (Cert.Reference17Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference17Ideal.Read.val_main_v23_eq _ _ _ _).trans (Eq.trans ?_ s0.symm)),
    h1.trans ((Cert.Reference17Ideal.Read.val_main_v4_eq _ _).trans (Eq.trans ?_ s1.symm)),
    h2.trans ((Cert.Reference17Ideal.Read.val_main_v10_eq _ _).trans (Eq.trans ?_ s2.symm)), hr⟩
  · exact congr (congr (congr (congrArg _ a0) a1) a2) a3
  · exact congr (congrArg _ a1) a2
  · exact congr (congrArg _ a1) a3

end Cert.Adam17

end
-- ==== Proof.Adam18.lean ====
/- One step of the optimiser, entry by entry. -/
module

public import proofs.«01_k».proof.Defs
public import proofs.«01_k».proof.Proof.Gen.Kernel18Ideal.Value
public import proofs.«01_k».proof.Proof.Gen.Kernel18.Frame
public import proofs.«01_k».proof.Proof.Gen.Reference18Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel18Ideal Cert.Kernel18Ideal.Gen

namespace Cert.Adam18

open Cert.Reference18Ideal.Read in
/-- The step, the first moment and the second moment are the reference's. -/
theorem same (w g m v : (⟨S2x256x2048, .f32⟩ : BufTy).Contents (Elt Ideal)) :
    Cert.Kernel18Ideal.Value.G4 (F := Ideal) g m v w = val_main_v23 (F := Ideal) w g m v
      ∧ Cert.Kernel18Ideal.Value.G5 (F := Ideal) g m = val_main_v4 (F := Ideal) g m
      ∧ Cert.Kernel18Ideal.Value.G6 (F := Ideal) g v = val_main_v10 (F := Ideal) g v :=
  ⟨funext fun _ => rfl, funext fun _ => rfl, funext fun _ => rfl⟩

theorem frame : Cert.quiescent_Kernel18 (hKernel18 := Cert.Kernel18.Gen.facts) := fun m ρ _ => Cert.Kernel18.Gen.frame m ρ

theorem frameIdeal : Cert.quiescent_Kernel18Ideal (hKernel18Ideal := Cert.Kernel18Ideal.Gen.facts) := fun m ρ _ =>
  Cert.Kernel18Ideal.Gen.frame m ρ

theorem frameReference : Cert.quiescent_Reference18Ideal (hReference18Ideal := Cert.Reference18Ideal.Gen.facts) := fun m ρ _ =>
  (θ_run Cert.Reference18Ideal.defs _ _).mono (fun r h => ⟨fun c => (h c).2.2.2, sem_eq_zero_of_no_sems (by decide) r.2⟩)
    (Cert.Reference18Ideal.Value.run (F := Ideal) m ρ)

theorem preserves : Cert.preserves_Kernel18_Kernel18Ideal := trivial

theorem algebraic : Cert.algebraic_Kernel18Ideal_Reference18Ideal (hKernel18Ideal := Cert.Kernel18Ideal.Gen.facts)
    (hReference18Ideal := Cert.Reference18Ideal.Gen.facts) := by
  intro m g m' g' hpre hag
  refine ⟨_, _, _, Cert.Kernel18Ideal.Value.run (F := Ideal) m g, ?_⟩
  refine (θ_run Cert.Reference18Ideal.defs _ _).mono (fun r h c => ?_) (Cert.Reference18Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference18Ideal.Read.val_main_v23_eq _ _ _ _).trans (Eq.trans ?_ s0.symm)),
    h1.trans ((Cert.Reference18Ideal.Read.val_main_v4_eq _ _).trans (Eq.trans ?_ s1.symm)),
    h2.trans ((Cert.Reference18Ideal.Read.val_main_v10_eq _ _).trans (Eq.trans ?_ s2.symm)), hr⟩
  · exact congr (congr (congr (congrArg _ a0) a1) a2) a3
  · exact congr (congrArg _ a1) a2
  · exact congr (congrArg _ a1) a3

end Cert.Adam18

end
-- ==== Proof.Adam19.lean ====
/- One step of the optimiser, entry by entry. -/
module

public import proofs.«01_k».proof.Defs
public import proofs.«01_k».proof.Proof.Gen.Kernel19Ideal.Value
public import proofs.«01_k».proof.Proof.Gen.Kernel19.Frame
public import proofs.«01_k».proof.Proof.Gen.Reference19Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel19Ideal Cert.Kernel19Ideal.Gen

namespace Cert.Adam19

open Cert.Reference19Ideal.Read in
/-- The step, the first moment and the second moment are the reference's. -/
theorem same (w g m v : (⟨S2x4x384, .f32⟩ : BufTy).Contents (Elt Ideal)) :
    Cert.Kernel19Ideal.Value.G4 (F := Ideal) g m v w = val_main_v23 (F := Ideal) w g m v
      ∧ Cert.Kernel19Ideal.Value.G5 (F := Ideal) g m = val_main_v4 (F := Ideal) g m
      ∧ Cert.Kernel19Ideal.Value.G6 (F := Ideal) g v = val_main_v10 (F := Ideal) g v :=
  ⟨funext fun _ => rfl, funext fun _ => rfl, funext fun _ => rfl⟩

theorem frame : Cert.quiescent_Kernel19 (hKernel19 := Cert.Kernel19.Gen.facts) := fun m ρ _ => Cert.Kernel19.Gen.frame m ρ

theorem frameIdeal : Cert.quiescent_Kernel19Ideal (hKernel19Ideal := Cert.Kernel19Ideal.Gen.facts) := fun m ρ _ =>
  Cert.Kernel19Ideal.Gen.frame m ρ

theorem frameReference : Cert.quiescent_Reference19Ideal (hReference19Ideal := Cert.Reference19Ideal.Gen.facts) := fun m ρ _ =>
  (θ_run Cert.Reference19Ideal.defs _ _).mono (fun r h => ⟨fun c => (h c).2.2.2, sem_eq_zero_of_no_sems (by decide) r.2⟩)
    (Cert.Reference19Ideal.Value.run (F := Ideal) m ρ)

theorem preserves : Cert.preserves_Kernel19_Kernel19Ideal := trivial

theorem algebraic : Cert.algebraic_Kernel19Ideal_Reference19Ideal (hKernel19Ideal := Cert.Kernel19Ideal.Gen.facts)
    (hReference19Ideal := Cert.Reference19Ideal.Gen.facts) := by
  intro m g m' g' hpre hag
  refine ⟨_, _, _, Cert.Kernel19Ideal.Value.run (F := Ideal) m g, ?_⟩
  refine (θ_run Cert.Reference19Ideal.defs _ _).mono (fun r h c => ?_) (Cert.Reference19Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference19Ideal.Read.val_main_v23_eq _ _ _ _).trans (Eq.trans ?_ s0.symm)),
    h1.trans ((Cert.Reference19Ideal.Read.val_main_v4_eq _ _).trans (Eq.trans ?_ s1.symm)),
    h2.trans ((Cert.Reference19Ideal.Read.val_main_v10_eq _ _).trans (Eq.trans ?_ s2.symm)), hr⟩
  · exact congr (congr (congr (congrArg _ a0) a1) a2) a3
  · exact congr (congrArg _ a1) a2
  · exact congr (congrArg _ a1) a3

end Cert.Adam19

end
-- ==== Proof.Adam20.lean ====
/- One step of the optimiser, entry by entry. -/
module

public import proofs.«01_k».proof.Defs
public import proofs.«01_k».proof.Proof.Gen.Kernel20Ideal.Value
public import proofs.«01_k».proof.Proof.Gen.Kernel20.Frame
public import proofs.«01_k».proof.Proof.Gen.Reference20Ideal.Read
public import Idealize.ShloMosaic.Lib.StableHlo.RunRead
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Cert.Kernel20Ideal Cert.Kernel20Ideal.Gen

namespace Cert.Adam20

open Cert.Reference20Ideal.Read in
/-- The step, the first moment and the second moment are the reference's. -/
theorem same (w g m v : (⟨S1x4608x128, .f32⟩ : BufTy).Contents (Elt Ideal)) :
    Cert.Kernel20Ideal.Value.G4 (F := Ideal) g m v w = val_main_v23 (F := Ideal) w g m v
      ∧ Cert.Kernel20Ideal.Value.G5 (F := Ideal) g m = val_main_v4 (F := Ideal) g m
      ∧ Cert.Kernel20Ideal.Value.G6 (F := Ideal) g v = val_main_v10 (F := Ideal) g v :=
  ⟨funext fun _ => rfl, funext fun _ => rfl, funext fun _ => rfl⟩

theorem frame : Cert.quiescent_Kernel20 (hKernel20 := Cert.Kernel20.Gen.facts) := fun m ρ _ => Cert.Kernel20.Gen.frame m ρ

theorem frameIdeal : Cert.quiescent_Kernel20Ideal (hKernel20Ideal := Cert.Kernel20Ideal.Gen.facts) := fun m ρ _ =>
  Cert.Kernel20Ideal.Gen.frame m ρ

theorem frameReference : Cert.quiescent_Reference20Ideal (hReference20Ideal := Cert.Reference20Ideal.Gen.facts) := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem preserves : Cert.preserves_Kernel20_Kernel20Ideal := trivial

theorem algebraic : Cert.algebraic_Kernel20Ideal_Reference20Ideal (hKernel20Ideal := Cert.Kernel20Ideal.Gen.facts)
    (hReference20Ideal := Cert.Reference20Ideal.Gen.facts) := by
  intro m g m' g' hpre hag
  refine ⟨_, _, _, Cert.Kernel20Ideal.Value.run (F := Ideal) m g, ?_⟩
  refine (θ_run Cert.Reference20Ideal.defs _ _).mono (fun r h c => ?_) (Cert.Reference20Ideal.Value.run (F := Ideal) m' g')
  obtain ⟨h0, h1, h2, hr⟩ := h c
  obtain ⟨a0, a1, a2, a3⟩ := hag c
  obtain ⟨s0, s1, s2⟩ := same (m ((c : Thread nD τ).loc main_arg0)) (m ((c : Thread nD τ).loc main_arg1)) (m ((c : Thread nD τ).loc main_arg2)) (m ((c : Thread nD τ).loc main_arg3))
  refine ⟨h0.trans ((Cert.Reference20Ideal.Read.val_main_v23_eq _ _ _ _).trans (Eq.trans ?_ s0.symm)),
    h1.trans ((Cert.Reference20Ideal.Read.val_main_v4_eq _ _).trans (Eq.trans ?_ s1.symm)),
    h2.trans ((Cert.Reference20Ideal.Read.val_main_v10_eq _ _).trans (Eq.trans ?_ s2.symm)), hr⟩
  · exact congr (congr (congr (congrArg _ a0) a1) a2) a3
  · exact congr (congrArg _ a1) a2
  · exact congr (congrArg _ a1) a3

end Cert.Adam20

end
-- ==== Proof.FwdTrip.lean ====
module

public import proofs.«01_k».proof.Proof.Ten
public import proofs.«01_k».proof.Proof.Gen.Kernel21Ideal.Loops

@[expose] public section

set_option maxRecDepth 16384

/-! The attention's forward pass, one block of keys at a time: what a block adds to the output and to the sums of the softplus. -/

noncomputable section

namespace Cert.Fwd

open Idealize.ShloMosaic Idealize.ShloMosaic.TcCoe
open Cert.Kernel21Ideal Cert.Kernel21Ideal.Gen Cert.Mat Finset

/-! ## The operations at this program's constants -/

theorem mat_log2_e {a b : ℕ} : broadcast ⟨2, ![a, b]⟩ (Named.named (F := Ideal) κ "log2_e" (φ := .f32) 0x3FB8AA3B#32)
    = mat (φ := .f32) a b (fun _ _ => (Real.log 2)⁻¹) := by
  funext ix; exact rfl

theorem mat_scale_log2_e {a b : ℕ} : broadcast ⟨2, ![a, b]⟩ (Named.named (F := Ideal) κ "scale_log2_e" (φ := .f32) 0x3E0293EE#32)
    = mat (φ := .f32) a b (fun _ _ => (Real.sqrt 128)⁻¹ * (Real.log 2)⁻¹) := by
  funext ix; exact rfl

section dots
variable {φ ψ : FTy}

theorem dot_nt (f g h : ℕ → ℕ → ℝ) (p) :
    matmul (F := Ideal) dot_S512x128_S512x128_S512x512_1_1_0_0_n_n p (mat (φ := φ) 512 128 f) (mat (φ := ψ) 512 128 g) (mat (φ := .f32) 512 512 h)
      = mat 512 512 (fun r c => h r c + ∑ d ∈ range 128, f r d * g c d) := by
  funext ix
  pointwise [mat]
  exact coe_add_sum _ 128 (fun d => f (ix 0).val d) (fun d => g (ix 1).val d)

theorem dot_tri (f g h : ℕ → ℕ → ℝ) (p) :
    matmul (F := Ideal) dot_S2048x256_S256x128_S2048x128_1_0_0_1_n_n p (mat (φ := φ) 2048 256 f) (mat (φ := ψ) 256 128 g) (mat (φ := .f32) 2048 128 h)
      = mat 2048 128 (fun r c => h r c + ∑ d ∈ range 256, f r d * g d c) := by
  funext ix
  pointwise [mat]
  exact coe_add_sum _ 256 (fun d => f (ix 0).val d) (fun d => g d (ix 1).val)

theorem dot_wv (f g h : ℕ → ℕ → ℝ) (p) :
    matmul (F := Ideal) dot_S512x512_S512x128_S512x128_1_0_0_1_n_n p (mat (φ := φ) 512 512 f) (mat (φ := ψ) 512 128 g) (mat (φ := .f32) 512 128 h)
      = mat 512 128 (fun r c => h r c + ∑ d ∈ range 512, f r d * g d c) := by
  funext ix
  pointwise [mat]
  exact coe_add_sum _ 512 (fun d => f (ix 0).val d) (fun d => g d (ix 1).val)

end dots

/-! ## The sums over the later keys of a block -/

/-- A row's entries after column `c`, summed. -/
def gt (f : ℕ → ℕ → ℝ) (r c : ℕ) : ℝ := ∑ d ∈ range 128, if c < d then f r d else 0

theorem gt_eq (f : ℕ → ℕ → ℝ) (r : ℕ) {c : ℕ} (hc : c < 128) : gt f r c = ∑ d ∈ range 128, f r d - ∑ d ∈ range (c + 1), f r d := by
  have h : ∑ d ∈ range (c + 1), f r d = ∑ d ∈ range 128, if c < d then 0 else f r d := by
    rw [← sum_subset (s₁ := range (c + 1)) (s₂ := range 128) (fun x hx => mem_range.2 (by have := mem_range.1 hx; omega))
      (fun x _ hx => if_pos (by have := mt mem_range.2 hx; omega))]
    exact sum_congr rfl fun d hd => (if_neg (by have := mem_range.1 hd; omega)).symm
  rw [h, ← sum_sub_distrib]
  exact sum_congr rfl fun d _ => by split_ifs <;> simp

theorem word_sgt {m n : ℕ} (hm : m < 2 ^ 31) (hn : n < 2 ^ 31) :
    IntOp.cmpi .sgt (BitVec.ofNat 32 m) (BitVec.ofNat 32 n) = BitVec.ofBool (decide (n < m)) := by
  rw [← word_slt hn hm]
  rfl

/-- Ones below the diagonal, twice. -/
abbrev TRI : FVec Ideal S256x128 .bf16 := mat 256 128 (fun r c => if c < r % 128 then 1 else 0)

theorem pay41_eq : k0_pay41 (F := Ideal) = TRI := by
  have h : ∀ (h0 : S128x128.Iotas .tc 32 [0]) (h1 : S128x128.Iotas .tc 32 [1]) (hb : 1 < 32) (hf : FTy.bits .bf16 < FTy.bits .f32),
      truncf (F := Ideal) .bf16 (sitofp .f32 (extui 32 (cmpi .sgt (iota .tc S128x128 32 [0] h0) (iota .tc S128x128 32 [1] h1)) hb)) hf
        = mat (φ := .bf16) 128 128 (fun r c => if c < r then 1 else 0) := by
    intro h0 h1 hb hf
    funext ix
    have hr : (ix 0).val < 128 := (ix 0).isLt
    have hc : (ix 1).val < 128 := (ix 1).isLt
    pointwise [mat]
    rw [word_sgt (by omega) (by omega), flag_real]
    simp only [decide_eq_true_eq]
  unfold k0_pay41 TRI
  dsimp only
  rw [h]
  refine cat_rows_128_128 _ _ _ _ (fun r hr c _ => ?_) (fun r hr c _ => ?_)
  · rw [Nat.zero_add, Nat.mod_eq_of_lt hr]
  · rw [Nat.add_mod_left, Nat.mod_eq_of_lt hr]

theorem tri (f : ℕ → ℕ → ℝ) (p : Option ContractPrecision) :
    matmul (F := Ideal) dot_S2048x256_S256x128_S2048x128_1_0_0_1_n_n p (mat (φ := .bf16) 2048 256 (half f)) TRI
      (constant (F := Ideal) S2048x128 .f32 0x00000000#32) = mat (φ := .f32) 2048 128 (gt f) := by
  rw [mat_const_zero, dot_tri]
  refine mat_congr fun r _ c hc => ?_
  rw [zero_add]
  exact half_dot f r (fun d => c < d)

/-! ## What the blocks hold -/

section
variable (H : Head) (t0 S : ℕ)

/-- The queries of a block of rows. -/
abbrev Q : FVec Ideal S512x128 .bf16 := mat 512 128 (at2 H.q t0 0)

/-- The keys, or the values, of a block. -/
abbrev K (f : ℕ → ℕ → ℝ) : FVec Ideal S512x128 .bf16 := mat 512 128 (at2 f S 0)

/-- The logits in base two. -/
abbrev Z : FVec Ideal S512x512 .f32 := mat 512 512 (at2 H.z t0 S)

/-- The softplus of the logits, at the earlier keys. -/
abbrev KP : FVec Ideal S512x128 .f32 := mat 512 128 (at2 H.keep t0 S)

/-- The logarithm of the gates. -/
abbrev LS : FVec Ideal S512x128 .f32 := mat 512 128 (at2 H.ls t0 S)

/-- The softplus summed over the keys from `S` on. -/
abbrev AF : FVec Ideal S512x1 .f32 := mat 512 1 (fun r _ => H.tot (t0 + r) - H.seen (t0 + r) S)

/-- The softplus summed over the later keys of the same 128. -/
abbrev GT : FVec Ideal S512x128 .f32 := mat 512 128 (gt (at2 H.keep t0 S))

/-- The weights. -/
abbrev W : FVec Ideal S512x128 .bf16 := mat 512 128 (at2 H.w t0 S)

/-- The output of a row from the keys before `n`. -/
def ysum (t n c : ℕ) : ℝ := ∑ s ∈ range n, H.w t s * H.v s c

/-- The output of a block of rows from the keys from `S` on. -/
abbrev Y : FVec Ideal S512x128 .f32 := mat 512 128 (fun r c => ysum H (t0 + r) (t0 + 512) c - ysum H (t0 + r) S c)

theorem af_step {S' : ℕ} (hS : S' = S + 128) (h : S512x128.Reduces [1] S512) (h' : S512.ShapeCasts S512x1) (hφ) (ha) :
    addf (F := Ideal) (AF H t0 S') (shapeCast S512x1 (multiReduction (F := Ideal) (φ := .f32) .add [1] S512 (KP H t0 S) 0x00000000#32 h hφ ha) h')
      = AF H t0 S := by
  subst hS
  rw [mat_rowsum_512, mat_add]
  refine mat_congr fun r _ c _ => ?_
  rw [H.seen_add]
  simp only [at2]
  ring

/-- The exponent of two in the weight. -/
theorem w_pow {r c : ℕ} (hc : c < 128) :
    at2 H.ls t0 S r c - (gt (at2 H.keep t0 S) r c + (H.tot (t0 + r) - H.seen (t0 + r) (S + 128)))
      = H.ls (t0 + r) (S + c) - (H.tot (t0 + r) - H.seen (t0 + r) (S + c + 1)) := by
  rw [gt_eq _ _ hc, H.seen_add, Nat.add_assoc S c 1, H.seen_add]
  simp only [at2]
  ring

theorem weight {S' : ℕ} (hS : S' = S + 128) (hlt : S + 128 ≤ t0) (hb : FTy.bits .bf16 < FTy.bits .f32) (hbr : S512x1.Broadcasts S512x128) :
    truncf (F := Ideal) .bf16 (exp2 (F := Ideal) (φ := .f32) (subf (LS H t0 S) (addf (GT H t0 S) (broadcastTo S512x128 (AF H t0 S') hbr)))) hb = W H t0 S := by
  subst hS
  rw [mat_broadcast_col, mat_add, mat_sub, mat_exp2, mat_truncf]
  refine mat_congr fun r hr c hc => ?_
  rw [w_pow H t0 S hc]
  simp only [at2]
  rw [Head.w, if_pos (by omega)]

theorem weight_masked {S' : ℕ} (hS : S' = S + 128) (hb : FTy.bits .bf16 < FTy.bits .f32) (hbr : S512x1.Broadcasts S512x128)
    (n m : BitVec 32) (x y : ℕ) (hx : n = BitVec.ofNat 32 S) (hy : m = BitVec.ofNat 32 t0) (hS' : S < 2 ^ 20) (ht' : t0 < 2 ^ 20)
    (h0 : S512x128.Iotas .tc 32 [0]) (h1 : S512x128.Iotas .tc 32 [1]) :
    truncf (F := Ideal) .bf16 (select (α := EReal) (cmpi .slt (addi (iota .tc S512x128 32 [1] h1) (broadcast S512x128 n)) (addi (iota .tc S512x128 32 [0] h0) (broadcast S512x128 m)))
      (exp2 (F := Ideal) (φ := .f32) (subf (LS H t0 S) (addf (GT H t0 S) (broadcastTo S512x128 (AF H t0 S') hbr))))
      (broadcast S512x128 (Scalar.ofBits (F := Ideal) .f32 0x00000000#32))) hb = W H t0 S := by
  subst hS
  rw [mat_broadcast_col, mat_add, mat_sub, mat_exp2, mat_zero]
  refine (congrArg (fun z => truncf (F := Ideal) (φ := .f32) .bf16 z hb) (mask_rows_512 n m S t0 hx hy hS' ht' _ h0 h1)).trans ?_
  rw [mat_truncf]
  refine mat_congr fun r hr c hc => ?_
  rw [w_pow H t0 S hc]
  simp only [at2]
  rw [Head.w]

end

/-! ## A block of keys before the diagonal -/

section
variable (H : Head) {t0 s0 : ℕ} (hlt : s0 + 512 ≤ t0)
include hlt

theorem z_eq : k0_pay1 (F := Ideal) (Q H t0) (K s0 H.k) = Z H t0 s0 := by
  unfold k0_pay1
  dsimp only
  rw [mat_const_zero, dot_nt, mat_scale_log2_e, mat_mul]
  refine mat_congr fun r _ c _ => ?_
  simp only [at2, Head.z, zero_add]

theorem keep0 : k0_pay3 (F := Ideal) (Q H t0) (K s0 H.k) = KP H t0 (s0 + 0) := by
  unfold k0_pay3 k0_pay2
  dsimp only
  rw [z_eq H hlt, mat_slice, mat_zero, mat_one, mat_log2_e]
  refine (mat_sp2 _).trans (mat_congr fun r hr c hc => ?_)
  simp only [at2, Nat.zero_add, Nat.add_assoc]
  rw [H.keep_of_lt (by omega)]

theorem keep1 : k0_pay6 (F := Ideal) (Q H t0) (K s0 H.k) = KP H t0 (s0 + 128) := by
  unfold k0_pay6 k0_pay5
  dsimp only
  rw [z_eq H hlt, mat_slice, mat_zero, mat_one, mat_log2_e]
  refine (mat_sp2 _).trans (mat_congr fun r hr c hc => ?_)
  simp only [at2, Nat.zero_add, Nat.add_assoc]
  rw [H.keep_of_lt (by omega)]

theorem keep2 : k0_pay12 (F := Ideal) (k0_pay9 (Q H t0) (K s0 H.k)) (k0_pay10 (Q H t0) (K s0 H.k)) k0_pay11 = KP H t0 (s0 + 256) := by
  unfold k0_pay12 k0_pay9 k0_pay10 k0_pay11 k0_pay8
  dsimp only
  rw [z_eq H hlt, mat_slice, mat_zero, mat_one, mat_log2_e]
  refine (mat_sp2 _).trans (mat_congr fun r hr c hc => ?_)
  simp only [at2, Nat.zero_add, Nat.add_assoc]
  rw [H.keep_of_lt (by omega)]

theorem keep3 : k0_pay15 (F := Ideal) (Z H t0 s0) = KP H t0 (s0 + 384) := by
  unfold k0_pay15 k0_pay14
  dsimp only
  rw [mat_slice, mat_zero, mat_one, mat_log2_e]
  refine (mat_sp2 _).trans (mat_congr fun r hr c hc => ?_)
  simp only [at2, Nat.zero_add, Nat.add_assoc]
  rw [H.keep_of_lt (by omega)]

theorem ls0 : k0_pay4 (F := Ideal) (Q H t0) (K s0 H.k) = LS H t0 (s0 + 0) := by
  unfold k0_pay4 k0_pay3 k0_pay2
  dsimp only
  rw [z_eq H hlt, mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem ls1 : k0_pay7 (F := Ideal) (Q H t0) (K s0 H.k) = LS H t0 (s0 + 128) := by
  unfold k0_pay7 k0_pay6 k0_pay5
  dsimp only
  rw [z_eq H hlt, mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem ls2 : k0_pay13 (F := Ideal) (k0_pay8 (Q H t0) (K s0 H.k)) (k0_pay9 (Q H t0) (K s0 H.k)) (k0_pay10 (Q H t0) (K s0 H.k)) k0_pay11 = LS H t0 (s0 + 256) := by
  unfold k0_pay13 k0_pay12 k0_pay9 k0_pay10 k0_pay11 k0_pay8
  dsimp only
  rw [z_eq H hlt, mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem ls3 : subf (F := Ideal) (k0_pay14 (Z H t0 s0)) (k0_pay15 (Z H t0 s0)) = LS H t0 (s0 + 384) := by
  unfold k0_pay15 k0_pay14
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem tri_eq : k0_pay16 (F := Ideal) TRI (Z H t0 s0) (KP H t0 (s0 + 0)) (KP H t0 (s0 + 128)) (k0_pay9 (Q H t0) (K s0 H.k)) (k0_pay10 (Q H t0) (K s0 H.k)) k0_pay11
    = mat (φ := .f32) 2048 128 (gt (rows4 512 1024 1536 (at2 H.keep t0 (s0 + 0)) (at2 H.keep t0 (s0 + 128)) (at2 H.keep t0 (s0 + 256)) (at2 H.keep t0 (s0 + 384)))) := by
  unfold k0_pay16
  dsimp only
  rw [keep2 H hlt, keep3 H hlt, split_512, split_512, split_512, split_512]
  rw [rows_2048]
  exact tri _ _

theorem gt0 : k0_pay17 (F := Ideal) TRI (Z H t0 s0) (KP H t0 (s0 + 0)) (KP H t0 (s0 + 128)) (k0_pay9 (Q H t0) (K s0 H.k)) (k0_pay10 (Q H t0) (K s0 H.k)) k0_pay11 = GT H t0 (s0 + 0) := by
  unfold k0_pay17
  dsimp only
  rw [tri_eq H hlt, mat_slice]
  refine mat_congr fun r hr c _ => sum_congr rfl fun d _ => ?_
  rw [Nat.zero_add c]
  rw [rows4_0 _ _ _ _ (by omega)]

theorem gt1 : k0_pay18 (F := Ideal) TRI (Z H t0 s0) (KP H t0 (s0 + 0)) (KP H t0 (s0 + 128)) (k0_pay9 (Q H t0) (K s0 H.k)) (k0_pay10 (Q H t0) (K s0 H.k)) k0_pay11 = GT H t0 (s0 + 128) := by
  unfold k0_pay18
  dsimp only
  rw [tri_eq H hlt, mat_slice]
  refine mat_congr fun r hr c _ => sum_congr rfl fun d _ => ?_
  rw [Nat.zero_add c]
  rw [rows4_1 _ _ _ _ (by omega)]

theorem gt2 : k0_pay19 (F := Ideal) TRI (Z H t0 s0) (KP H t0 (s0 + 0)) (KP H t0 (s0 + 128)) (k0_pay9 (Q H t0) (K s0 H.k)) (k0_pay10 (Q H t0) (K s0 H.k)) k0_pay11 = GT H t0 (s0 + 256) := by
  unfold k0_pay19
  dsimp only
  rw [tri_eq H hlt, mat_slice]
  refine mat_congr fun r hr c _ => sum_congr rfl fun d _ => ?_
  rw [Nat.zero_add c]
  rw [rows4_2 _ _ _ _ (by omega) (by omega)]

theorem w3 (hb : FTy.bits .bf16 < FTy.bits .f32) : truncf (F := Ideal) (φ := .f32) .bf16 (k0_pay20 (F := Ideal) TRI (AF H t0 (s0 + 512)) (Z H t0 s0) (KP H t0 (s0 + 0)) (KP H t0 (s0 + 128)) (k0_pay9 (Q H t0) (K s0 H.k)) (k0_pay10 (Q H t0) (K s0 H.k)) k0_pay11) hb = W H t0 (s0 + 384) := by
  unfold k0_pay20
  dsimp only
  rw [tri_eq H hlt, mat_slice, ls3 H hlt]
  refine (congrArg (fun z => truncf (F := Ideal) (φ := .f32) .bf16 (exp2 (F := Ideal) (φ := .f32) (subf (LS H t0 (s0 + 384)) (addf z _))) hb)
    (?_ : _ = GT H t0 (s0 + 384))).trans (weight H t0 (s0 + 384) (by omega) (by omega) hb _)
  refine mat_congr fun r hr c _ => sum_congr rfl fun d _ => ?_
  rw [Nat.zero_add c]
  rw [rows4_3 _ _ _ _ (by omega) (by omega)]

theorem after3 : k0_pay76 (F := Ideal) (AF H t0 (s0 + 512)) (KP H t0 (s0 + 384)) = AF H t0 (s0 + 384) := af_step H t0 _ (by omega) _ _ _ _

theorem after2 : k0_pay77 (F := Ideal) (AF H t0 (s0 + 512)) (KP H t0 (s0 + 256)) (KP H t0 (s0 + 384)) = AF H t0 (s0 + 256) := by
  unfold k0_pay77
  dsimp only
  rw [after3 H hlt]
  exact af_step H t0 _ (by omega) _ _ _ _

theorem after1 : k0_pay78 (F := Ideal) (AF H t0 (s0 + 512)) (KP H t0 (s0 + 128)) (KP H t0 (s0 + 256)) (KP H t0 (s0 + 384)) = AF H t0 (s0 + 128) := by
  unfold k0_pay78
  dsimp only
  rw [after2 H hlt]
  exact af_step H t0 _ (by omega) _ _ _ _

theorem after0 : k0_pay79 (F := Ideal) (AF H t0 (s0 + 512)) (KP H t0 (s0 + 0)) (KP H t0 (s0 + 128)) (KP H t0 (s0 + 256)) (KP H t0 (s0 + 384)) = AF H t0 s0 := by
  unfold k0_pay79
  dsimp only
  rw [after1 H hlt]
  exact af_step H t0 _ (by omega) _ _ _ _

theorem acc_eq : k0_pay80 (F := Ideal) (Y H t0 (s0 + 512)) (AF H t0 (s0 + 512)) (LS H t0 (s0 + 0)) (KP H t0 (s0 + 128)) (LS H t0 (s0 + 128)) (KP H t0 (s0 + 256))
    (LS H t0 (s0 + 256)) (KP H t0 (s0 + 384)) (GT H t0 (s0 + 0)) (GT H t0 (s0 + 128)) (GT H t0 (s0 + 256))
    (k0_pay20 (F := Ideal) TRI (AF H t0 (s0 + 512)) (Z H t0 s0) (KP H t0 (s0 + 0)) (KP H t0 (s0 + 128)) (k0_pay9 (Q H t0) (K s0 H.k)) (k0_pay10 (Q H t0) (K s0 H.k)) k0_pay11) (K s0 H.v) = Y H t0 s0 := by
  unfold k0_pay80
  dsimp only
  rw [w3 H hlt, after3 H hlt, after2 H hlt, after1 H hlt, weight H t0 (s0 + 256) (by omega) (by omega), weight H t0 (s0 + 128) (by omega) (by omega),
    weight H t0 (s0 + 0) (by omega) (by omega)]
  rw [cat_cols_128_128_128_128_512 _ _ _ _ (at2 H.w t0 s0) _ (fun r _ c _ => ?_) (fun r _ c _ => ?_) (fun r _ c _ => ?_) (fun r _ c _ => ?_)]
  · rw [mat_const_zero, dot_wv, mat_add]
    refine mat_congr fun r _ c _ => ?_
    simp only [ysum, zero_add, sum_range_add _ s0 512, at2, Nat.zero_add]
    ring
  all_goals simp only [at2, Nat.add_assoc, Nat.zero_add]

end

end Cert.Fwd
-- ==== Proof.FwdDiag.lean ====
module

public import proofs.«01_k».proof.Proof.FwdTrip

@[expose] public section

set_option maxRecDepth 16384

/-! The block of keys on the diagonal, where the later keys are masked. -/

noncomputable section

namespace Cert.Fwd

open Idealize.ShloMosaic Idealize.ShloMosaic.TcCoe
open Cert.Kernel21Ideal Cert.Kernel21Ideal.Gen Cert.Mat Finset

/-- The factor from the natural logarithm to the one in base two. -/
abbrev C : EReal := (Named.named (F := Ideal) κ "log2_e" (φ := .f32) 0x3FB8AA3B#32)

section
variable (H : Head) {t0 : ℕ} (n m : BitVec 32) (hn : n = BitVec.ofNat 32 t0) (hm : m = BitVec.ofNat 32 t0) (ht : t0 < 2 ^ 19)

theorem word_add {x : BitVec 32} (hx : x = BitVec.ofNat 32 t0) (b : ℕ) : Scalar.addi x (BitVec.ofNat 32 b) = BitVec.ofNat 32 (t0 + b) := by
  subst hx
  exact (BitVec.ofNat_add t0 b).symm

theorem d_z : k0_pay44 (F := Ideal) (Q H t0) (K t0 H.k) = Z H t0 t0 := by
  unfold k0_pay44
  dsimp only
  rw [mat_const_zero, dot_nt, mat_scale_log2_e, mat_mul]
  refine mat_congr fun r _ c _ => ?_
  simp only [at2, Head.z, zero_add]

include hn hm ht

theorem d_keep {S : ℕ} (b : ℕ) (hb : b < 512) (hS : S = t0 + b) (f : ℕ → ℕ → ℝ) (hf : ∀ r c, f r c = H.z (t0 + r) (S + c))
    (h0 : S512x128.Iotas .tc 32 [0]) (h1 : S512x128.Iotas .tc 32 [1]) :
    select (α := EReal) (cmpi .slt (addi (iota .tc S512x128 32 [1] h1) (broadcast S512x128 (Scalar.addi n (BitVec.ofNat 32 b))))
        (addi (iota .tc S512x128 32 [0] h0) (broadcast S512x128 (Scalar.addi m (BitVec.ofNat 32 0)))))
      (mat (φ := .f32) 512 128 (fun r c => sp2 (f r c))) (mat (φ := .f32) 512 128 (fun _ _ => 0)) = KP H t0 S := by
  subst hS
  refine (mask_rows_512 _ _ (t0 + b) t0 (word_add hn b) (word_add hm 0) (by omega) (by omega) _ h0 h1).trans (mat_congr fun r _ c _ => ?_)
  simp only [at2, Head.keep, hf]

theorem d_keep0 : k0_pay48 (F := Ideal) n m (Z H t0 t0) (iota .tc S512x128 32 [1] iota_S512x128_d1_w32) = KP H t0 (t0 + 0) := by
  unfold k0_pay48 k0_pay47 k0_pay46 k0_pay45
  dsimp only
  rw [mat_slice, mat_zero, mat_one, mat_log2_e]
  exact (congrArg (fun z => select (α := EReal) _ z _) (mat_sp2 _)).trans (d_keep H n m hn hm ht 0 (by omega) rfl _ (fun r c => by simp only [at2, Nat.zero_add, Nat.add_assoc]) _ _)

theorem d_keep1 : k0_pay53 (F := Ideal) (k0_pay50 n m) (k0_pay52 (Z H t0 t0)) (Scalar.ofBits (F := Ideal) .f32 0x00000000#32) = KP H t0 (t0 + 128) := by
  unfold k0_pay53 k0_pay52 k0_pay51 k0_pay50
  dsimp only
  rw [mat_slice, mat_zero, mat_one, mat_log2_e]
  exact (congrArg (fun z => select (α := EReal) _ z _) (mat_sp2 _)).trans (d_keep H n m hn hm ht 128 (by omega) rfl _ (fun r c => by simp only [at2, Nat.zero_add, Nat.add_assoc]) _ _)

theorem d_keep2 : k0_pay58 (F := Ideal) n m (Z H t0 t0) = KP H t0 (t0 + 256) := by
  unfold k0_pay58 k0_pay57 k0_pay56 k0_pay55
  dsimp only
  rw [mat_slice, mat_zero, mat_one, mat_log2_e]
  exact (congrArg (fun z => select (α := EReal) _ z _) (mat_sp2 _)).trans (d_keep H n m hn hm ht 256 (by omega) rfl _ (fun r c => by simp only [at2, Nat.zero_add, Nat.add_assoc]) _ _)

theorem d_keep3 : k0_pay65 (F := Ideal) (k0_pay60 n m) (k0_pay62 (Z H t0 t0)) (k0_pay63 (Z H t0 t0)) C = KP H t0 (t0 + 384) := by
  unfold k0_pay65 k0_pay64 k0_pay63 k0_pay62 k0_pay61 k0_pay60
  dsimp only
  rw [mat_slice, mat_zero, mat_one, mat_log2_e]
  exact (congrArg (fun z => select (α := EReal) _ z _) (mat_sp2 _)).trans (d_keep H n m hn hm ht 384 (by omega) rfl _ (fun r c => by simp only [at2, Nat.zero_add, Nat.add_assoc]) _ _)

omit hn hm ht

theorem d_ls0 : k0_pay49 (F := Ideal) (Z H t0 t0) = LS H t0 (t0 + 0) := by
  unfold k0_pay49 k0_pay47 k0_pay46
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem d_ls1 : k0_pay54 (F := Ideal) (k0_pay51 (Z H t0 t0)) (k0_pay52 (Z H t0 t0)) = LS H t0 (t0 + 128) := by
  unfold k0_pay54 k0_pay52 k0_pay51
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem d_ls2 : k0_pay59 (F := Ideal) (Z H t0 t0) = LS H t0 (t0 + 256) := by
  unfold k0_pay59 k0_pay57 k0_pay56
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

theorem d_ls3 : subf (F := Ideal) (k0_pay61 (Z H t0 t0)) (k0_pay64 (k0_pay62 (Z H t0 t0)) (k0_pay63 (Z H t0 t0)) C) = LS H t0 (t0 + 384) := by
  unfold k0_pay64 k0_pay63 k0_pay62 k0_pay61
  dsimp only
  rw [mat_slice, mat_zero, mat_one, mat_log2_e]
  refine (congrArg (subf _) (mat_sp2 _)).trans ?_
  rw [mat_sub]
  refine mat_congr fun r hr c hc => ?_
  simp only [at2, Nat.zero_add, Nat.add_assoc, Head.ls]

include hn hm ht

theorem d_tri : k0_pay66 (F := Ideal) TRI (KP H t0 (t0 + 0)) (KP H t0 (t0 + 128)) (KP H t0 (t0 + 256)) (k0_pay60 n m) (k0_pay62 (Z H t0 t0)) (k0_pay63 (Z H t0 t0)) C
    = mat (φ := .f32) 2048 128 (gt (rows4 512 1024 1536 (at2 H.keep t0 (t0 + 0)) (at2 H.keep t0 (t0 + 128)) (at2 H.keep t0 (t0 + 256)) (at2 H.keep t0 (t0 + 384)))) := by
  unfold k0_pay66
  dsimp only
  rw [d_keep3 H n m hn hm ht, split_512, split_512, split_512, split_512, rows_2048]
  exact tri _ _

theorem d_gt (b : ℕ) (off : Fin 2 → ℕ) (hoff : off = ![512 * b, 0]) (hb : b < 4) (h) : extractStridedSlice S512x128 off (k0_pay66 (F := Ideal) TRI (KP H t0 (t0 + 0)) (KP H t0 (t0 + 128)) (KP H t0 (t0 + 256)) (k0_pay60 n m) (k0_pay62 (Z H t0 t0)) (k0_pay63 (Z H t0 t0)) C) h
    = GT H t0 (t0 + 128 * b) := by
  subst hoff
  rw [d_tri H n m hn hm ht, mat_slice]
  refine mat_congr fun r hr c _ => sum_congr rfl fun d _ => ?_
  rw [Nat.zero_add c]
  congr 1
  interval_cases b
  · simp only [Nat.reduceMul]
    rw [rows4_0 _ _ _ _ (by omega)]
  · simp only [Nat.reduceMul]
    rw [rows4_1 _ _ _ _ (by omega)]
  · simp only [Nat.reduceMul]
    rw [rows4_2 _ _ _ _ (by omega) (by omega)]
  · simp only [Nat.reduceMul]
    rw [rows4_3 _ _ _ _ (by omega) (by omega)]

theorem d_gt0 : k0_pay67 (F := Ideal) TRI (KP H t0 (t0 + 0)) (KP H t0 (t0 + 128)) (KP H t0 (t0 + 256)) (k0_pay60 n m) (k0_pay62 (Z H t0 t0)) (k0_pay63 (Z H t0 t0)) C = GT H t0 (t0 + 0) :=
  d_gt H n m hn hm ht 0 _ rfl (by omega) slices_S2048x128_o0_0_S512x128

theorem d_weight {S S' : ℕ} (b : ℕ) (hb : b < 512) (hS : S = t0 + b) (hS' : S' = S + 128) (hbt : FTy.bits .bf16 < FTy.bits .f32) (hbr : S512x1.Broadcasts S512x128)
    (h0 : S512x128.Iotas .tc 32 [0]) (h1 : S512x128.Iotas .tc 32 [1]) :
    truncf (F := Ideal) .bf16 (select (α := EReal) (cmpi .slt (addi (iota .tc S512x128 32 [1] h1) (broadcast S512x128 (Scalar.addi n (BitVec.ofNat 32 b))))
        (addi (iota .tc S512x128 32 [0] h0) (broadcast S512x128 (Scalar.addi m (BitVec.ofNat 32 0)))))
      (exp2 (F := Ideal) (φ := .f32) (subf (LS H t0 S) (addf (GT H t0 S) (broadcastTo S512x128 (AF H t0 S') hbr))))
      (broadcast S512x128 (Scalar.ofBits (F := Ideal) .f32 0x00000000#32))) hbt = W H t0 S :=
  weight_masked H t0 S hS' hbt hbr _ _ 0 0 ((word_add hn b).trans (by rw [hS])) (word_add hm 0) (by omega) (by omega) h0 h1

theorem d_w3 : k0_pay68 (F := Ideal) TRI (AF H t0 (t0 + 512)) (KP H t0 (t0 + 0)) (KP H t0 (t0 + 128)) (KP H t0 (t0 + 256)) (k0_pay60 n m) (k0_pay61 (Z H t0 t0)) (k0_pay62 (Z H t0 t0)) (k0_pay63 (Z H t0 t0)) C
    = W H t0 (t0 + 384) := by
  unfold k0_pay68
  dsimp only
  rw [d_gt H n m hn hm ht 3 _ rfl (by omega), d_ls3 H]
  exact d_weight H n m hn hm ht 384 (by omega) rfl (by omega) _ _ _ _

theorem d_after3 : k0_pay69 (F := Ideal) (AF H t0 (t0 + 512)) (k0_pay60 n m) (k0_pay62 (Z H t0 t0)) (k0_pay63 (Z H t0 t0)) C = AF H t0 (t0 + 384) := by
  unfold k0_pay69
  dsimp only
  rw [d_keep3 H n m hn hm ht]
  exact af_step H t0 _ (by omega) _ _ _ _

theorem d_w2 : k0_pay70 (F := Ideal) TRI (AF H t0 (t0 + 512)) (KP H t0 (t0 + 0)) (KP H t0 (t0 + 128)) (k0_pay55 n m) (KP H t0 (t0 + 256)) (LS H t0 (t0 + 256)) (k0_pay60 n m) (k0_pay62 (Z H t0 t0)) (k0_pay63 (Z H t0 t0)) C
    = W H t0 (t0 + 256) := by
  unfold k0_pay70
  dsimp only
  rw [d_gt H n m hn hm ht 2 _ rfl (by omega), d_after3 H n m hn hm ht]
  exact d_weight H n m hn hm ht 256 (by omega) rfl (by omega) _ _ _ _

theorem d_after2 : k0_pay71 (F := Ideal) (AF H t0 (t0 + 512)) (KP H t0 (t0 + 256)) (k0_pay60 n m) (k0_pay62 (Z H t0 t0)) (k0_pay63 (Z H t0 t0)) C = AF H t0 (t0 + 256) := by
  unfold k0_pay71
  dsimp only
  rw [d_after3 H n m hn hm ht]
  exact af_step H t0 _ (by omega) _ _ _ _

theorem d_sum1 : k0_pay72 (F := Ideal) TRI (AF H t0 (t0 + 512)) (KP H t0 (t0 + 0)) (KP H t0 (t0 + 128)) (KP H t0 (t0 + 256)) (k0_pay60 n m) (k0_pay62 (Z H t0 t0)) (k0_pay63 (Z H t0 t0)) C
    = addf (F := Ideal) (GT H t0 (t0 + 128)) (broadcastTo S512x128 (AF H t0 (t0 + 256)) broadcasts_S512x1_S512x128) := by
  unfold k0_pay72
  dsimp only
  rw [d_gt H n m hn hm ht 1 _ rfl (by omega), d_after2 H n m hn hm ht]

omit hn hm ht

theorem d_after1 : k0_pay73 (F := Ideal) (KP H t0 (t0 + 128)) (AF H t0 (t0 + 256)) = AF H t0 (t0 + 128) := by
  unfold k0_pay73
  dsimp only
  exact af_step H t0 _ (by omega) _ _ _ _

theorem d_after0 : k0_pay74 (F := Ideal) (KP H t0 (t0 + 0)) (KP H t0 (t0 + 128)) (AF H t0 (t0 + 256)) = AF H t0 t0 := by
  unfold k0_pay74
  dsimp only
  rw [d_after1 H]
  exact af_step H t0 _ (by omega) _ _ _ _

include hn hm ht

theorem d_acc : k0_pay75 (F := Ideal) (Y H t0 (t0 + 512)) (k0_pay45 n m (iota .tc S512x128 32 [1] iota_S512x128_d1_w32)) (LS H t0 (t0 + 0)) (k0_pay50 n m) (KP H t0 (t0 + 128)) (LS H t0 (t0 + 128)) (GT H t0 (t0 + 0))
    (W H t0 (t0 + 384)) (W H t0 (t0 + 256)) (AF H t0 (t0 + 256))
    (addf (F := Ideal) (GT H t0 (t0 + 128)) (broadcastTo S512x128 (AF H t0 (t0 + 256)) broadcasts_S512x1_S512x128)) (K t0 H.v) = Y H t0 t0 := by
  unfold k0_pay75 k0_pay45 k0_pay50
  dsimp only
  rw [d_after1 H, d_weight H n m hn hm ht 128 (by omega) rfl (by omega), d_weight H n m hn hm ht 0 (by omega) rfl (by omega)]
  rw [cat_cols_128_128_128_128_512 _ _ _ _ (at2 H.w t0 t0) _ (fun r _ c _ => ?_) (fun r _ c _ => ?_) (fun r _ c _ => ?_) (fun r _ c _ => ?_)]
  · rw [mat_const_zero, dot_wv, mat_add]
    refine mat_congr fun r _ c _ => ?_
    simp only [ysum, zero_add, sum_range_add _ t0 512, at2, Nat.zero_add]
    ring
  all_goals simp only [at2, Nat.add_assoc, Nat.zero_add]

end

section
variable (H : Head) (t0 : ℕ)

theorem y_start : k0_pay42 (F := Ideal) = Y H t0 (t0 + 512) := by
  unfold k0_pay42
  dsimp only
  rw [mat_zero]
  exact mat_congr fun r _ c _ => (sub_self _).symm

theorem af_start (htot : ∀ r < 512, H.tot (t0 + r) = H.seen (t0 + r) (t0 + 512)) : k0_pay43 (F := Ideal) = AF H t0 (t0 + 512) := by
  unfold k0_pay43
  dsimp only
  rw [mat_zero]
  exact mat_congr fun r hr c _ => by rw [htot r hr, sub_self]

end

end Cert.Fwd
-- ==== Proof.FwdLoop.lean ====
module

public import proofs.«01_k».proof.Proof.FwdDiag
public import proofs.«01_k».proof.Proof.Span
public import proofs.«01_k».proof.Proof.Gen.Kernel21Ideal.Frame

@[expose] public section

set_option maxRecDepth 16384

/-! The counted loop over the blocks of keys before the diagonal, from the nearest to the first, and the three outputs of a grid point. -/

noncomputable section

namespace Cert.Fwd

open Idealize.ShloMosaic Idealize.ShloMosaic.TcCoe
open Cert.Kernel21Ideal Cert.Kernel21Ideal.Gen Cert.Mat Finset

/-! ## Words of a grid point -/

/-- A grid point from its block of rows alone. -/
def row (n : Fin 8) : grid0.Coords := fun a => match a with
  | 0 => (0 : Fin 16)
  | 1 => n

theorem lt8 (i : grid0.Coords) : (i 1).val < 8 := (i 1).isLt

theorem trips1 (i : grid0.Coords) : (k0_t1_loop i).trips = (i 1).val :=
  (by decide +kernel : ∀ n : Fin 8, (k0_t1_loop (row n)).trips = n.val) (i 1)

theorem trips2 (i : grid0.Coords) : (k0_t2_loop i).trips = 0 :=
  (by decide +kernel : ∀ n : Fin 8, (k0_t2_loop (row n)).trips = 0) (i 1)

theorem off1 (i : grid0.Coords) : k0_off1 i = ![512 * (i 1).val, 0] :=
  (by decide +kernel : ∀ n : Fin 8, k0_off1 (row n) = ![512 * n.val, 0]) (i 1)

theorem off2 (i : grid0.Coords) (k : Fin (k0_t1_loop i).trips) : k0_off2 i k = ![512 * ((i 1).val - 1 - k.val), 0] :=
  (by decide +kernel : ∀ (n : Fin 8) (k : Fin 8), k.val < n.val → ( let arg1 : BitVec 32 := BitVec.ofNat 32 n.val;
      let c512_i32 : BitVec 32 := 512#32;
      let v8 : BitVec 32 := Scalar.muli arg1 c512_i32;
      let c512_i32_1 : BitVec 32 := 512#32;
      let v9 : BitVec 32 := Scalar.addi v8 c512_i32_1;
      let c1_i32 : BitVec 32 := 1#32;
      let v10 : BitVec 32 := Scalar.subi v9 c1_i32;
      let c0_i32 : BitVec 32 := 0#32;
      let v12 : BitVec 1 := Scalar.cmpi .sgt v10 c0_i32;
      let v13 : BitVec 32 := Scalar.extui v12;
      let c0_i32_3 : BitVec 32 := 0#32;
      let v14 : BitVec 1 := Scalar.cmpi .slt v10 c0_i32_3;
      let v15 : BitVec 32 := Scalar.extui v14;
      let v16 : BitVec 32 := Scalar.subi v13 v15;
      let c512_i32_2 : BitVec 32 := 512#32;
      let c0_i32_4 : BitVec 32 := 0#32;
      let v17 : BitVec 1 := Scalar.cmpi .sgt c512_i32_2 c0_i32_4;
      let v18 : BitVec 32 := Scalar.extui v17;
      let c0_i32_5 : BitVec 32 := 0#32;
      let v19 : BitVec 1 := Scalar.cmpi .slt c512_i32_2 c0_i32_5;
      let v20 : BitVec 32 := Scalar.extui v19;
      let v21 : BitVec 32 := Scalar.subi v18 v20;
      let v22 : BitVec 1 := Scalar.cmpi .ne v16 v21;
      let v23 : BitVec 32 := Scalar.remsi v10 c512_i32_2;
      let c0_i32_6 : BitVec 32 := 0#32;
      let v24 : BitVec 1 := Scalar.cmpi .ne v23 c0_i32_6;
      let v25 : BitVec 1 := Scalar.andi v22 v24;
      let v11 : BitVec 32 := Scalar.divsi v10 c512_i32_2;
      let c1_i32_7 : BitVec 32 := 1#32;
      let v26 : BitVec 32 := Scalar.subi v11 c1_i32_7;
      let v27 : BitVec 32 := Scalar.select v25 v26 v11;
      let c1_i32_62 : BitVec 32 := 1#32;
      let v226 : BitVec 32 := Scalar.subi v27 c1_i32_62;
      let c0_i32_50 : BitVec 32 := 0#32;
      let c1_i32_52 : BitVec 32 := 1#32;
      let arg9 : BitVec 32 := Scf.iv c0_i32_50 c1_i32_52 k.val;
      let v227 : BitVec 32 := Scalar.subi v226 arg9;
      let c512_i32_63 : BitVec 32 := 512#32;
      let v228 : BitVec 32 := Scalar.muli v227 c512_i32_63;
      let v229 : BitVec 32 := v228;
      let v230 : Index := Scalar.indexCast v229;
      let c0_64 : Index := 0#32;
       ![v230.toNat, 0]
      : Fin 2 → ℕ) = ![512 * (n.val - 1 - k.val), 0])
    (i 1) ⟨k.val, lt_trans (lt_of_lt_of_eq k.isLt (trips1 i)) (lt8 i)⟩ (lt_of_lt_of_eq k.isLt (trips1 i))

theorem v8 (i : grid0.Coords) : kernelRun0_A.sl.v8 i = BitVec.ofNat 32 (512 * (i 1).val) :=
  (by decide +kernel : ∀ n : Fin 8, kernelRun0_A.sl.v8 (row n) = BitVec.ofNat 32 (512 * n.val)) (i 1)

theorem v30 (i : grid0.Coords) : kernelRun0_A.sl.v30 i = BitVec.ofNat 32 (512 * (i 1).val) :=
  (by decide +kernel : ∀ n : Fin 8, kernelRun0_A.sl.v30 (row n) = BitVec.ofNat 32 (512 * n.val)) (i 1)

theorem read_K {sp : Space} {sg : RefSig} {κ : Kind} (v : View sg κ sp S4096x128 .bf16) (X : v.ty.Contents (Elt Ideal)) (f : ℕ → ℕ → ℝ)
    (hX : v.read (Elt Ideal) X = mat (φ := .bf16) 4096 128 f) {off : Fin 2 → ℕ} (inb : ∀ a, off a + S512x128.size a ≤ S4096x128.size a) (n : ℕ)
    (hn : off = ![512 * n, 0]) :
    v.readAt (Elt Ideal) (Rect.unit (s := S4096x128) off S512x128.size inb).toLoadRect X = K (512 * n) f :=
  Cert.Loop.read_kM v X f hX inb n hn

/-! ## The trips -/

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .bf16) (harg8 : arg8.IsWhole) (arg1 v27 v31 : BitVec 32) (v28 v61 v62 v86 v87 v160 v185 : FVec Ideal S512x128 .f32) (v46 v71 : IVec S512x128 1) (v170 v180 : FVec Ideal S512x128 .bf16) (v183 : FVec Ideal S512x1 .f32)
  (X3 : BufTy.Contents (Elt Ideal) arg3.view.ty) (X4 : BufTy.Contents (Elt Ideal) arg4.view.ty) (H : Head)

theorem trip (h3 : arg3.view.read (Elt Ideal) X3 = mat (φ := .bf16) 4096 128 H.k) (h4 : arg4.view.read (Elt Ideal) X4 = mat (φ := .bf16) 4096 128 H.v)
    (k : Fin (k0_t1_loop i).trips) :
    tripR_k0_t1 (F := Ideal) Variants.none c none i arg2 harg2 arg3 harg3 arg4 harg4 arg5 harg5 arg6 harg6 arg7 harg7 arg8 harg8 arg1 (Q H (512 * (i 1).val)) TRI v27 v28 v31 v46 v61 v62 v71 v86 v87 v160 v170 v180 v183 v185 X3 X4 k (Y H (512 * (i 1).val) ((512 * ((i 1).val - 1 - k.val)) + 512), AF H (512 * (i 1).val) ((512 * ((i 1).val - 1 - k.val)) + 512))
      = (Y H (512 * (i 1).val) (512 * ((i 1).val - 1 - k.val)), AF H (512 * (i 1).val) (512 * ((i 1).val - 1 - k.val))) := by
  have hlt : k.val < (i 1).val := lt_of_lt_of_eq k.isLt (trips1 i)
  have hle : (512 * ((i 1).val - 1 - k.val)) + 512 ≤ (512 * (i 1).val) := by omega
  have hK := fun inb => read_K arg3.view X3 H.k h3 (off := k0_off2 i k) inb _ (off2 i k)
  have hV := fun inb => read_K arg4.view X4 H.v h4 (off := k0_off2 i k) inb _ (off2 i k)
  generalize hs : (512 * ((i 1).val - 1 - k.val)) = s0 at hle hK hV ⊢
  unfold tripR_k0_t1 trip_k0_t1
  dsimp only
  unfold trip_k0_t1.sl.r_14 trip_k0_t1.sl.r_13 trip_k0_t1.sl.r_12 trip_k0_t1.sl.r_11 trip_k0_t1.sl.r_10 trip_k0_t1.sl.r_9 trip_k0_t1.sl.r_8
  unfold trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
  dsimp only
  rw [hK, hV, z_eq H hle, keep0 H hle, keep1 H hle, keep2 H hle, keep3 H hle, ls0 H hle, ls1 H hle, ls2 H hle, gt0 H hle, gt1 H hle, gt2 H hle]
  exact Prod.ext (acc_eq H hle) (after0 H hle)

theorem trips (h3 : arg3.view.read (Elt Ideal) X3 = mat (φ := .bf16) 4096 128 H.k) (h4 : arg4.view.read (Elt Ideal) X4 = mat (φ := .bf16) 4096 128 H.v) :
    ∀ n, n ≤ (k0_t1_loop i).trips → st_k0_t1 (F := Ideal) Variants.none c none i arg2 harg2 arg3 harg3 arg4 harg4 arg5 harg5 arg6 harg6 arg7 harg7 arg8 harg8 arg1 (Q H (512 * (i 1).val)) TRI v27 v28 v31 v46 v61 v62 v71 v86 v87 v160 v170 v180 v183 v185 X3 X4 (Y H (512 * (i 1).val) (512 * (i 1).val), AF H (512 * (i 1).val) (512 * (i 1).val)) n
      = (Y H (512 * (i 1).val) (512 * ((i 1).val - n)), AF H (512 * (i 1).val) (512 * ((i 1).val - n)))
  | 0, _ => rfl
  | n + 1, hn => by
    have hlt : n < (i 1).val := lt_of_lt_of_eq hn (trips1 i)
    rw [st_k0_t1_succ Variants.none c none i arg2 harg2 arg3 harg3 arg4 harg4 arg5 harg5 arg6 harg6 arg7 harg7 arg8 harg8 arg1 (Q H (512 * (i 1).val)) TRI v27 v28 v31 v46 v61 v62 v71 v86 v87 v160 v170 v180 v183 v185 X3 X4 _ ⟨n, hn⟩, trips h3 h4 n (Nat.le_of_lt hn),
      show 512 * ((i 1).val - n) = 512 * ((i 1).val - 1 - (⟨n, hn⟩ : Fin (k0_t1_loop i).trips).val) + 512 from by show _ = 512 * ((i 1).val - 1 - n) + 512; omega]
    refine (trip c i arg2 harg2 arg3 harg3 arg4 harg4 arg5 harg5 arg6 harg6 arg7 harg7 arg8 harg8 arg1 v27 v31 v28 v61 v62 v86 v87 v160 v185 v46 v71 v170 v180 v183 X3 X4 H h3 h4 ⟨n, hn⟩).trans ?_
    show (Y H (512 * (i 1).val) (512 * ((i 1).val - 1 - n)), AF H (512 * (i 1).val) (512 * ((i 1).val - 1 - n))) = _
    rw [show (i 1).val - 1 - n = (i 1).val - (n + 1) from by omega]

end

end Cert.Fwd
-- ==== Proof.FwdPoint.lean ====
module

public import proofs.«01_k».proof.Proof.FwdLoop

@[expose] public section

set_option maxRecDepth 16384

/-! A grid point's three outputs: the weighted values, the softplus sums and the gated values. -/

noncomputable section

namespace Cert.Fwd

open Idealize.ShloMosaic Idealize.ShloMosaic.TcCoe
open Cert.Kernel21Ideal Cert.Kernel21Ideal.Gen Cert.Mat Finset

theorem lt19 (i : grid0.Coords) : 512 * (i 1).val < 2 ^ 19 := by
  have := lt8 i
  omega

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .bf16) (harg8 : arg8.IsWhole) (H : Head)

theorem r0 : kernelRun0_A.sl.r (F := Ideal) c arg2 harg2 (Q H (512 * (i 1).val)) = Q H (512 * (i 1).val) := Cert.Span.read_whole _ _ _ (harg2.read_unread _) _

theorem r_1 : kernelRun0_A.sl.r_1 (F := Ideal) c i arg2 harg2 arg3 harg3 (Q H (512 * (i 1).val)) (mat (φ := .bf16) 4096 128 H.k) = Z H (512 * (i 1).val) (512 * (i 1).val) := by
  unfold kernelRun0_A.sl.r_1
  rw [Cert.Span.read_whole arg2.view _ _ (harg2.read_unread _), read_K arg3.view _ H.k (harg3.read_unread _) _ (i 1).val (off1 i)]
  exact d_z H

theorem r_3 : kernelRun0_A.sl.r_3 (F := Ideal) c i arg2 harg2 arg3 harg3 (Q H (512 * (i 1).val)) (mat (φ := .bf16) 4096 128 H.k) = KP H (512 * (i 1).val) ((512 * (i 1).val) + 0) := by
  unfold kernelRun0_A.sl.r_3
  rw [r_1 c i arg2 harg2 arg3 harg3 H]
  exact d_keep0 H _ _ (v30 i) (v8 i) (lt19 i)

theorem r_4 : kernelRun0_A.sl.r_4 (F := Ideal) c i arg2 harg2 arg3 harg3 (Q H (512 * (i 1).val)) (mat (φ := .bf16) 4096 128 H.k) = LS H (512 * (i 1).val) ((512 * (i 1).val) + 0) := by
  unfold kernelRun0_A.sl.r_4
  rw [r_1 c i arg2 harg2 arg3 harg3 H]
  exact d_ls0 H

theorem r_8 : kernelRun0_A.sl.r_8 (F := Ideal) c i arg2 harg2 arg3 harg3 (Q H (512 * (i 1).val)) (mat (φ := .bf16) 4096 128 H.k) = KP H (512 * (i 1).val) ((512 * (i 1).val) + 128) := by
  unfold kernelRun0_A.sl.r_8 kernelRun0_A.sl.r_7 kernelRun0_A.sl.r_5
  rw [r_1 c i arg2 harg2 arg3 harg3 H]
  exact d_keep1 H _ _ (v30 i) (v8 i) (lt19 i)

theorem r_9 : kernelRun0_A.sl.r_9 (F := Ideal) c i arg2 harg2 arg3 harg3 (Q H (512 * (i 1).val)) (mat (φ := .bf16) 4096 128 H.k) = LS H (512 * (i 1).val) ((512 * (i 1).val) + 128) := by
  unfold kernelRun0_A.sl.r_9 kernelRun0_A.sl.r_7 kernelRun0_A.sl.r_6
  rw [r_1 c i arg2 harg2 arg3 harg3 H]
  exact d_ls1 H

theorem r_11 : kernelRun0_A.sl.r_11 (F := Ideal) c i arg2 harg2 arg3 harg3 (Q H (512 * (i 1).val)) (mat (φ := .bf16) 4096 128 H.k) = KP H (512 * (i 1).val) ((512 * (i 1).val) + 256) := by
  unfold kernelRun0_A.sl.r_11
  rw [r_1 c i arg2 harg2 arg3 harg3 H]
  exact d_keep2 H _ _ (v30 i) (v8 i) (lt19 i)

theorem r_12 : kernelRun0_A.sl.r_12 (F := Ideal) c i arg2 harg2 arg3 harg3 (Q H (512 * (i 1).val)) (mat (φ := .bf16) 4096 128 H.k) = LS H (512 * (i 1).val) ((512 * (i 1).val) + 256) := by
  unfold kernelRun0_A.sl.r_12
  rw [r_1 c i arg2 harg2 arg3 harg3 H]
  exact d_ls2 H

theorem r_17 : kernelRun0_A.sl.r_17 (F := Ideal) c i arg2 harg2 arg3 harg3 (Q H (512 * (i 1).val)) (mat (φ := .bf16) 4096 128 H.k) = GT H (512 * (i 1).val) ((512 * (i 1).val) + 0) := by
  unfold kernelRun0_A.sl.r_17 kernelRun0_A.sl.r_13 kernelRun0_A.sl.r_15 kernelRun0_A.sl.r_16
  rw [r_1 c i arg2 harg2 arg3 harg3 H, r_3 c i arg2 harg2 arg3 harg3 H, r_8 c i arg2 harg2 arg3 harg3 H, r_11 c i arg2 harg2 arg3 harg3 H, pay41_eq]
  exact d_gt0 H _ _ (v30 i) (v8 i) (lt19 i)

section
variable (htot : ∀ r < 512, H.tot ((512 * (i 1).val) + r) = H.seen ((512 * (i 1).val) + r) ((512 * (i 1).val) + 512))
include htot

theorem r_18 : kernelRun0_A.sl.r_18 (F := Ideal) c i arg2 harg2 arg3 harg3 (Q H (512 * (i 1).val)) (mat (φ := .bf16) 4096 128 H.k) = W H (512 * (i 1).val) ((512 * (i 1).val) + 384) := by
  unfold kernelRun0_A.sl.r_18 kernelRun0_A.sl.r_13 kernelRun0_A.sl.r_14 kernelRun0_A.sl.r_15 kernelRun0_A.sl.r_16
  rw [r_1 c i arg2 harg2 arg3 harg3 H, r_3 c i arg2 harg2 arg3 harg3 H, r_8 c i arg2 harg2 arg3 harg3 H, r_11 c i arg2 harg2 arg3 harg3 H, pay41_eq, af_start H (512 * (i 1).val) htot]
  exact d_w3 H _ _ (v30 i) (v8 i) (lt19 i)

theorem r_19 : kernelRun0_A.sl.r_19 (F := Ideal) c i arg2 harg2 arg3 harg3 (Q H (512 * (i 1).val)) (mat (φ := .bf16) 4096 128 H.k) = W H (512 * (i 1).val) ((512 * (i 1).val) + 256) := by
  unfold kernelRun0_A.sl.r_19 kernelRun0_A.sl.r_10 kernelRun0_A.sl.r_13 kernelRun0_A.sl.r_15 kernelRun0_A.sl.r_16
  rw [r_1 c i arg2 harg2 arg3 harg3 H, r_3 c i arg2 harg2 arg3 harg3 H, r_8 c i arg2 harg2 arg3 harg3 H, r_11 c i arg2 harg2 arg3 harg3 H, r_12 c i arg2 harg2 arg3 harg3 H, pay41_eq, af_start H (512 * (i 1).val) htot]
  exact d_w2 H _ _ (v30 i) (v8 i) (lt19 i)

theorem r_20 : kernelRun0_A.sl.r_20 (F := Ideal) c i arg2 harg2 arg3 harg3 (Q H (512 * (i 1).val)) (mat (φ := .bf16) 4096 128 H.k) = AF H (512 * (i 1).val) ((512 * (i 1).val) + 256) := by
  unfold kernelRun0_A.sl.r_20 kernelRun0_A.sl.r_13 kernelRun0_A.sl.r_15 kernelRun0_A.sl.r_16
  rw [r_1 c i arg2 harg2 arg3 harg3 H, r_11 c i arg2 harg2 arg3 harg3 H, af_start H (512 * (i 1).val) htot]
  exact d_after2 H _ _ (v30 i) (v8 i) (lt19 i)

theorem r_21 : kernelRun0_A.sl.r_21 (F := Ideal) c i arg2 harg2 arg3 harg3 (Q H (512 * (i 1).val)) (mat (φ := .bf16) 4096 128 H.k) = addf (F := Ideal) (GT H (512 * (i 1).val) ((512 * (i 1).val) + 128)) (broadcastTo S512x128 (AF H (512 * (i 1).val) ((512 * (i 1).val) + 256)) broadcasts_S512x1_S512x128) := by
  unfold kernelRun0_A.sl.r_21 kernelRun0_A.sl.r_13 kernelRun0_A.sl.r_15 kernelRun0_A.sl.r_16
  rw [r_1 c i arg2 harg2 arg3 harg3 H, r_3 c i arg2 harg2 arg3 harg3 H, r_8 c i arg2 harg2 arg3 harg3 H, r_11 c i arg2 harg2 arg3 harg3 H, pay41_eq, af_start H (512 * (i 1).val) htot]
  exact d_sum1 H _ _ (v30 i) (v8 i) (lt19 i)

theorem begin1 : k0_pay75 (F := Ideal) k0_pay42 (kernelRun0_A.sl.r_2 i) (kernelRun0_A.sl.r_4 (F := Ideal) c i arg2 harg2 arg3 harg3 (Q H (512 * (i 1).val)) (mat (φ := .bf16) 4096 128 H.k)) (kernelRun0_A.sl.r_5 i) (kernelRun0_A.sl.r_8 (F := Ideal) c i arg2 harg2 arg3 harg3 (Q H (512 * (i 1).val)) (mat (φ := .bf16) 4096 128 H.k)) (kernelRun0_A.sl.r_9 (F := Ideal) c i arg2 harg2 arg3 harg3 (Q H (512 * (i 1).val)) (mat (φ := .bf16) 4096 128 H.k)) (kernelRun0_A.sl.r_17 (F := Ideal) c i arg2 harg2 arg3 harg3 (Q H (512 * (i 1).val)) (mat (φ := .bf16) 4096 128 H.k)) (kernelRun0_A.sl.r_18 (F := Ideal) c i arg2 harg2 arg3 harg3 (Q H (512 * (i 1).val)) (mat (φ := .bf16) 4096 128 H.k)) (kernelRun0_A.sl.r_19 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k)) (kernelRun0_A.sl.r_21 (F := Ideal) c i arg2 harg2 arg3 harg3 (Q H (512 * (i 1).val)) (mat (φ := .bf16) 4096 128 H.k)) (arg4.view.readAt (Elt Ideal) (Rect.unit (s := S4096x128) (k0_off1 i) S512x128.size (k0_off1_inb i)).toLoadRect (harg4.unread (mat (φ := .bf16) 4096 128 H.v))) = Y H (512 * (i 1).val) (512 * (i 1).val) := by
  unfold kernelRun0_A.sl.r_2 kernelRun0_A.sl.r_5
  rw [r_4 c i arg2 harg2 arg3 harg3 H, r_8 c i arg2 harg2 arg3 harg3 H, r_9 c i arg2 harg2 arg3 harg3 H, r_17 c i arg2 harg2 arg3 harg3 H, r_18 c i arg2 harg2 arg3 harg3 H htot, r_19 c i arg2 harg2 arg3 harg3 H htot, r_20 c i arg2 harg2 arg3 harg3 H htot, r_21 c i arg2 harg2 arg3 harg3 H htot, y_start H (512 * (i 1).val),
    read_K arg4.view _ H.v (harg4.read_unread _) _ (i 1).val (off1 i)]
  exact d_acc H _ _ (v30 i) (v8 i) (lt19 i)

theorem begin2 : k0_pay74 (F := Ideal) (kernelRun0_A.sl.r_3 (F := Ideal) c i arg2 harg2 arg3 harg3 (Q H (512 * (i 1).val)) (mat (φ := .bf16) 4096 128 H.k)) (kernelRun0_A.sl.r_8 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k)) = AF H (512 * (i 1).val) (512 * (i 1).val) := by
  rw [r_3 c i arg2 harg2 arg3 harg3 H, r_8 c i arg2 harg2 arg3 harg3 H, r_20 c i arg2 harg2 arg3 harg3 H htot]
  exact d_after0 H

/-- What the loops over the earlier blocks leave. -/
def carry : FVec Ideal S512x128 .f32 × FVec Ideal S512x1 .f32 :=
  st_k0_t1 Variants.none c none i arg2 harg2 arg3 harg3 arg4 harg4 arg5 harg5 arg6 harg6 arg7 harg7 arg8 harg8 (BitVec.ofNat 32 (i 1).val) (kernelRun0_A.sl.r (F := Ideal) c arg2 harg2 (Q H (512 * (i 1).val))) k0_pay41 (kernelRun0_A.sl.v27 i) k0_pay42 (kernelRun0_A.sl.v30 i) (kernelRun0_A.sl.r_2 i) (kernelRun0_A.sl.r_3 (F := Ideal) c i arg2 harg2 arg3 harg3 (Q H (512 * (i 1).val)) (mat (φ := .bf16) 4096 128 H.k)) (kernelRun0_A.sl.r_4 (F := Ideal) c i arg2 harg2 arg3 harg3 (Q H (512 * (i 1).val)) (mat (φ := .bf16) 4096 128 H.k)) (kernelRun0_A.sl.r_5 i) (kernelRun0_A.sl.r_8 (F := Ideal) c i arg2 harg2 arg3 harg3 (Q H (512 * (i 1).val)) (mat (φ := .bf16) 4096 128 H.k)) (kernelRun0_A.sl.r_9 (F := Ideal) c i arg2 harg2 arg3 harg3 (Q H (512 * (i 1).val)) (mat (φ := .bf16) 4096 128 H.k)) (kernelRun0_A.sl.r_17 (F := Ideal) c i arg2 harg2 arg3 harg3 (Q H (512 * (i 1).val)) (mat (φ := .bf16) 4096 128 H.k)) (kernelRun0_A.sl.r_18 (F := Ideal) c i arg2 harg2 arg3 harg3 (Q H (512 * (i 1).val)) (mat (φ := .bf16) 4096 128 H.k)) (kernelRun0_A.sl.r_19 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k)) (kernelRun0_A.sl.r_21 (F := Ideal) c i arg2 harg2 arg3 harg3 (Q H (512 * (i 1).val)) (mat (φ := .bf16) 4096 128 H.k)) (harg3.unread (mat (φ := .bf16) 4096 128 H.k)) (harg4.unread (mat (φ := .bf16) 4096 128 H.v)) (k0_pay75 (F := Ideal) k0_pay42 (kernelRun0_A.sl.r_2 i) (kernelRun0_A.sl.r_4 (F := Ideal) c i arg2 harg2 arg3 harg3 (Q H (512 * (i 1).val)) (mat (φ := .bf16) 4096 128 H.k)) (kernelRun0_A.sl.r_5 i) (kernelRun0_A.sl.r_8 (F := Ideal) c i arg2 harg2 arg3 harg3 (Q H (512 * (i 1).val)) (mat (φ := .bf16) 4096 128 H.k)) (kernelRun0_A.sl.r_9 (F := Ideal) c i arg2 harg2 arg3 harg3 (Q H (512 * (i 1).val)) (mat (φ := .bf16) 4096 128 H.k)) (kernelRun0_A.sl.r_17 (F := Ideal) c i arg2 harg2 arg3 harg3 (Q H (512 * (i 1).val)) (mat (φ := .bf16) 4096 128 H.k)) (kernelRun0_A.sl.r_18 (F := Ideal) c i arg2 harg2 arg3 harg3 (Q H (512 * (i 1).val)) (mat (φ := .bf16) 4096 128 H.k)) (kernelRun0_A.sl.r_19 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k)) (kernelRun0_A.sl.r_21 (F := Ideal) c i arg2 harg2 arg3 harg3 (Q H (512 * (i 1).val)) (mat (φ := .bf16) 4096 128 H.k)) (arg4.view.readAt (Elt Ideal) (Rect.unit (s := S4096x128) (k0_off1 i) S512x128.size (k0_off1_inb i)).toLoadRect (harg4.unread (mat (φ := .bf16) 4096 128 H.v))), k0_pay74 (F := Ideal) (kernelRun0_A.sl.r_3 (F := Ideal) c i arg2 harg2 arg3 harg3 (Q H (512 * (i 1).val)) (mat (φ := .bf16) 4096 128 H.k)) (kernelRun0_A.sl.r_8 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k))) (Scf.trips (k0_t1_loop i).lb (k0_t1_loop i).ub (k0_t1_loop i).st)

theorem carry_eq : carry c i arg2 harg2 arg3 harg3 arg4 harg4 arg5 harg5 arg6 harg6 arg7 harg7 arg8 harg8 H = (Y H (512 * (i 1).val) 0, AF H (512 * (i 1).val) 0) := by
  unfold carry
  rw [begin1 c i arg2 harg2 arg3 harg3 arg4 harg4 H htot, begin2 c i arg2 harg2 arg3 harg3 H htot, r0, pay41_eq]
  refine (trips c i arg2 harg2 arg3 harg3 arg4 harg4 arg5 harg5 arg6 harg6 arg7 harg7 arg8 harg8 _ _ _ _ _ _ _ _ _ _ _ _ _ _ _ _ _ H (harg3.read_unread _) (harg4.read_unread _) _ (le_refl _)).trans ?_
  rw [trips1, Nat.sub_self]

end

/-- The second loop makes no trip. -/
def ended : FVec Ideal S512x128 .f32 × FVec Ideal S512x1 .f32 :=
  st_k0_t2 Variants.none c none i arg2 harg2 arg3 harg3 arg4 harg4 arg5 harg5 arg6 harg6 arg7 harg7 arg8 harg8 (BitVec.ofNat 32 (i 1).val) (kernelRun0_A.sl.r (F := Ideal) c arg2 harg2 (Q H (512 * (i 1).val))) k0_pay41 (kernelRun0_A.sl.v27 i) k0_pay42 (kernelRun0_A.sl.v30 i) (kernelRun0_A.sl.r_2 i) (kernelRun0_A.sl.r_3 (F := Ideal) c i arg2 harg2 arg3 harg3 (Q H (512 * (i 1).val)) (mat (φ := .bf16) 4096 128 H.k)) (kernelRun0_A.sl.r_4 (F := Ideal) c i arg2 harg2 arg3 harg3 (Q H (512 * (i 1).val)) (mat (φ := .bf16) 4096 128 H.k)) (kernelRun0_A.sl.r_5 i) (kernelRun0_A.sl.r_8 (F := Ideal) c i arg2 harg2 arg3 harg3 (Q H (512 * (i 1).val)) (mat (φ := .bf16) 4096 128 H.k)) (kernelRun0_A.sl.r_9 (F := Ideal) c i arg2 harg2 arg3 harg3 (Q H (512 * (i 1).val)) (mat (φ := .bf16) 4096 128 H.k)) (kernelRun0_A.sl.r_17 (F := Ideal) c i arg2 harg2 arg3 harg3 (Q H (512 * (i 1).val)) (mat (φ := .bf16) 4096 128 H.k)) (kernelRun0_A.sl.r_18 (F := Ideal) c i arg2 harg2 arg3 harg3 (Q H (512 * (i 1).val)) (mat (φ := .bf16) 4096 128 H.k)) (kernelRun0_A.sl.r_19 (F := Ideal) c i arg2 harg2 arg3 harg3 (Q H (512 * (i 1).val)) (mat (φ := .bf16) 4096 128 H.k)) (kernelRun0_A.sl.r_20 (F := Ideal) c i arg2 harg2 arg3 harg3 (Q H (512 * (i 1).val)) (mat (φ := .bf16) 4096 128 H.k)) (kernelRun0_A.sl.r_21 (F := Ideal) c i arg2 harg2 arg3 harg3 (Q H (512 * (i 1).val)) (mat (φ := .bf16) 4096 128 H.k)) (kernelRun0_A.sl.v213 i) (harg3.unread (mat (φ := .bf16) 4096 128 H.k)) (harg4.unread (mat (φ := .bf16) 4096 128 H.v)) ((carry c i arg2 harg2 arg3 harg3 arg4 harg4 arg5 harg5 arg6 harg6 arg7 harg7 arg8 harg8 H).1, (carry c i arg2 harg2 arg3 harg3 arg4 harg4 arg5 harg5 arg6 harg6 arg7 harg7 arg8 harg8 H).2) (Scf.trips (k0_t2_loop i).lb (k0_t2_loop i).ub (k0_t2_loop i).st)

theorem ended_eq (htot : ∀ r < 512, H.tot ((512 * (i 1).val) + r) = H.seen ((512 * (i 1).val) + r) ((512 * (i 1).val) + 512)) : ended c i arg2 harg2 arg3 harg3 arg4 harg4 arg5 harg5 arg6 harg6 arg7 harg7 arg8 harg8 H = (Y H (512 * (i 1).val) 0, AF H (512 * (i 1).val) 0) := by
  unfold ended
  rw [show Scf.trips (k0_t2_loop i).lb (k0_t2_loop i).ub (k0_t2_loop i).st = 0 from trips2 i, carry_eq c i arg2 harg2 arg3 harg3 arg4 harg4 arg5 harg5 arg6 harg6 arg7 harg7 arg8 harg8 H htot]
  unfold st_k0_t2
  rfl

variable (x3 : Vec Ideal S512x128 .f32)

theorem out4 (htot : ∀ r < 512, H.tot ((512 * (i 1).val) + r) = H.seen ((512 * (i 1).val) + r) ((512 * (i 1).val) + 512)) : out0_A_4 (F := Ideal) c i arg2 harg2 arg3 harg3 arg4 harg4 arg5 harg5 arg6 harg6 arg7 harg7 arg8 harg8 (Q H (512 * (i 1).val)) (mat (φ := .bf16) 4096 128 H.k) (mat (φ := .bf16) 4096 128 H.v) x3 = Y H (512 * (i 1).val) 0 := by
  unfold out0_A_4
  refine (View.read_writes_full (Val := Elt Ideal) (e := .f32) (s := S512x128) VO0_4 _ inb_S512x128_S512x128_0_0 (ended c i arg2 harg2 arg3 harg3 arg4 harg4 arg5 harg5 arg6 harg6 arg7 harg7 arg8 harg8 H).1 []).trans ?_
  rw [ended_eq c i arg2 harg2 arg3 harg3 arg4 harg4 arg5 harg5 arg6 harg6 arg7 harg7 arg8 harg8 H htot]

theorem out5 (htot : ∀ r < 512, H.tot ((512 * (i 1).val) + r) = H.seen ((512 * (i 1).val) + r) ((512 * (i 1).val) + 512)) : out0_A_5 (F := Ideal) c i arg2 harg2 arg3 harg3 arg4 harg4 arg5 harg5 arg6 harg6 arg7 harg7 arg8 harg8 (Q H (512 * (i 1).val)) (mat (φ := .bf16) 4096 128 H.k) (mat (φ := .bf16) 4096 128 H.v) x3 = k0_pay86 (AF H (512 * (i 1).val) 0) := by
  unfold out0_A_5
  refine (View.read_writes_full (Val := Elt Ideal) (e := .f32) (s := S512x128) VO0_5 _ inb_S512x128_S512x128_0_0 (k0_pay86 (ended c i arg2 harg2 arg3 harg3 arg4 harg4 arg5 harg5 arg6 harg6 arg7 harg7 arg8 harg8 H).2) []).trans ?_
  rw [ended_eq c i arg2 harg2 arg3 harg3 arg4 harg4 arg5 harg5 arg6 harg6 arg7 harg7 arg8 harg8 H htot]

theorem r_22 : kernelRun0_A.sl.r_22 (F := Ideal) c i arg2 harg2 arg3 harg3 arg4 harg4 arg5 harg5 arg6 harg6 arg7 harg7 arg8 harg8 (Q H (512 * (i 1).val)) (mat (φ := .bf16) 4096 128 H.k) (mat (φ := .bf16) 4096 128 H.v) x3 = k0_pay87 (ended c i arg2 harg2 arg3 harg3 arg4 harg4 arg5 harg5 arg6 harg6 arg7 harg7 arg8 harg8 H).1 (arg5.view.readAt (Elt Ideal) (Rect.unit ![0, 0] S512x128.size inb_S512x128_S512x128_0_0).toLoadRect (harg5.unread x3)) := by
  unfold kernelRun0_A.sl.r_22
  rfl

theorem out6 (htot : ∀ r < 512, H.tot ((512 * (i 1).val) + r) = H.seen ((512 * (i 1).val) + r) ((512 * (i 1).val) + 512)) : out0_A_6 (F := Ideal) c i arg2 harg2 arg3 harg3 arg4 harg4 arg5 harg5 arg6 harg6 arg7 harg7 arg8 harg8 (Q H (512 * (i 1).val)) (mat (φ := .bf16) 4096 128 H.k) (mat (φ := .bf16) 4096 128 H.v) x3 = k0_pay87 (Y H (512 * (i 1).val) 0) x3 := by
  unfold out0_A_6
  refine (View.read_writes_full (Val := Elt Ideal) (e := .bf16) (s := S512x128) VO0_6 _ inb_S512x128_S512x128_0_0 (kernelRun0_A.sl.r_22 (F := Ideal) c i arg2 harg2 arg3 harg3 arg4 harg4 arg5 harg5 arg6 harg6 arg7 harg7 arg8 harg8 (Q H (512 * (i 1).val)) (mat (φ := .bf16) 4096 128 H.k) (mat (φ := .bf16) 4096 128 H.v) x3) []).trans ?_
  rw [r_22 c i arg2 harg2 arg3 harg3 arg4 harg4 arg5 harg5 arg6 harg6 arg7 harg7 arg8 harg8 H x3, ended_eq c i arg2 harg2 arg3 harg3 arg4 harg4 arg5 harg5 arg6 harg6 arg7 harg7 arg8 harg8 H htot, Cert.Span.read_whole arg5.view _ _ (harg5.read_unread _)]

end Cert.Fwd
-- ==== Proof.FwdRef.lean ====
module

public import proofs.«01_k».proof.Proof.Agree
public import proofs.«01_k».proof.Proof.RefB
public import proofs.«01_k».proof.Proof.Gen.Reference21Ideal.Read

@[expose] public section

set_option maxRecDepth 16384

/-! The reference's three results on real matrices: the weighted values, the softplus sums and the gated values. -/

noncomputable section

namespace Cert.FwdRef

open Idealize.ShloMosaic Idealize.ShloMosaic.TcCoe
open Cert.Reference21Ideal Cert.Reference21Ideal.Read Cert.Mat Cert.Ref Finset

variable (q k v : FVec Ideal S4096x2048 .bf16) (g : FVec Ideal S4096x2048 .f32) (Q K V G : ℕ → ℕ → ℝ)

theorem v36_eq : val_main_v36 (F := Ideal) (mat (φ := FTy.bf16) 4096 2048 Q) (mat (φ := FTy.bf16) 4096 2048 K) (mat (φ := FTy.bf16) 4096 2048 V)
    = mat (φ := .f32) 4096 2048 (yy Q K V) :=
  (show val_main_v36 (F := Ideal) _ _ _ = Cert.ReferenceIdeal.Read.val_main_v30 (F := Ideal) _ _ _ from rfl).trans (v30_eq Q K V)

theorem v29_eq : val_main_v29 (F := Ideal) (mat (φ := FTy.bf16) 4096 2048 Q) (mat (φ := FTy.bf16) 4096 2048 K)
    = mat (φ := .f32) 16 4096 (fun h t => ∑ s ∈ range 4096, -lk Q K h t s) :=
  (show val_main_v29 (F := Ideal) _ _ = Cert.ReferenceIdeal.Read.val_main_v29 (F := Ideal) _ _ from rfl).trans (Cert.Ref.v29_eq Q K)

/-- The saved softplus sums of a row and a column's head. -/
def tot (t j : ℕ) : ℝ := (∑ s ∈ range 4096, -lk Q K (j / 128) t s) * (Real.log 2)⁻¹

theorem v37_eq : val_main_v37 (F := Ideal) (mat (φ := FTy.bf16) 4096 2048 Q) (mat (φ := FTy.bf16) 4096 2048 K) = mat (φ := .f32) 4096 2048 (tot Q K) := by
  funext i
  have h0 : (i 0).val < 4096 := (i 0).isLt
  have h1 : (i 1).val < 2048 := (i 1).isLt
  rw [val_main_v37_apply, val_main_v35_apply, val_main_v34_apply, val_main_v33_apply, val_main_v32_apply, v29_eq]
  show Ideal.div ((∑ s ∈ range 4096, -lk Q K (((i 0).val * 2048 + (i 1).val) / 128 % 16) (((i 0).val * 2048 + (i 1).val) / 2048) s : ℝ) : EReal)
    (Ideal.log (Ideal.ofBits .f32 0x40000000#32)) = ((tot Q K (i 0).val (i 1).val : ℝ) : EReal)
  have hl : Ideal.log (Ideal.ofBits .f32 0x40000000#32) = ((Real.log 2 : ℝ) : EReal) := by
    rw [show Ideal.ofBits .f32 0x40000000#32 = ((2 : ℝ) : EReal) from by simp [Ideal.ofBits, Ideal.ieee, -EReal.coe_mul]; norm_num]
    exact (Ideal.log_coe _).trans (if_neg (by norm_num))
  rw [hl, Ideal.div_coe (Real.log_pos (by norm_num)).ne', one_div, show ((i 0).val * 2048 + (i 1).val) / 128 % 16 = (i 1).val / 128 from by omega,
    show ((i 0).val * 2048 + (i 1).val) / 2048 = (i 0).val from by omega]
  exact (EReal.coe_mul _ _).symm

theorem v40_eq : val_main_v40 (F := Ideal) (mat (φ := FTy.bf16) 4096 2048 Q) (mat (φ := FTy.bf16) 4096 2048 K) (mat (φ := FTy.bf16) 4096 2048 V) (mat (φ := FTy.f32) 4096 2048 G)
    = mat (φ := .bf16) 4096 2048 (fun t c => yy Q K V t c * (G t c * sg (G t c))) := by
  have e : val_main_call5_v5 (F := Ideal) (mat (φ := FTy.f32) 4096 2048 G) = mat (φ := .f32) 4096 2048 (fun t c => sg (G t c)) :=
    (show val_main_call5_v5 (F := Ideal) _ = Cert.ReferenceIdeal.Read.val_main_v31_2 (F := Ideal) _ from rfl).trans (v31_2_eq G)
  unfold val_main_v40 val_main_v39 val_main_v38
  rw [v36_eq, e, mat_mul, mat_mul, mat_truncf]

end Cert.FwdRef
-- ==== Proof.FwdSame.lean ====
module

public import proofs.«01_k».proof.Defs
public import proofs.«01_k».proof.Proof.Fin
public import proofs.«01_k».proof.Proof.FwdPoint
public import proofs.«01_k».proof.Proof.FwdRef
public import proofs.«01_k».proof.Proof.Gen.Kernel21Ideal.Value
public import proofs.«01_k».proof.Proof.Gen.Kernel21.Frame
public import proofs.«01_k».proof.Proof.Gen.Reference21Ideal.Run
public import Idealize.ShloMosaic.Lib.StableHlo.RunRead
public import Idealize.ShloMosaic.Lib.Pipeline.ValueKit
public import Idealize.ShloMosaic.Lib.Quiescent

@[expose] public section

set_option maxRecDepth 16384

/-! The forward kernel's three arrays are the reference's. -/

noncomputable section

namespace Cert.Fwd

open Idealize.ShloMosaic Idealize.ShloMosaic.TcCoe Idealize.SL.Sem
open Cert.Kernel21Ideal Cert.Kernel21Ideal.Gen Cert.Mat Finset

/-! ## Finite arguments -/

instance finiteFacts : Cert.Pre_finite.Facts where
  bcast_S_S4096x2048 := by decide
  reducesTo_S4096x2048_S_d0_1 := by decide
  h_S_ := by decide

open Cert.Finite in
theorem all_real (q k v : FVec Ideal SA .bf16) (g : FVec Ideal SA .f32) (h : Cert.Pre_finite.fn (F := Ideal) q k v g = fun _ => 1#1) :
    q = mat 4096 2048 (re q) ∧ k = mat 4096 2048 (re k) ∧ v = mat 4096 2048 (re v) ∧ g = mat 4096 2048 (re g) := by
  unfold Cert.Pre_finite.fn Cert.Pre_finite.fn_part1 at h
  dsimp only at h
  have h' := congrFun h (fun a => a.elim0)
  obtain ⟨h', hg⟩ := and_one h'
  obtain ⟨h', hv⟩ := and_one h'
  obtain ⟨hq, hk⟩ := and_one h'
  exact ⟨finite_bf16 q _ _ _ _ hq, finite_bf16 k _ _ _ _ hk, finite_bf16 v _ _ _ _ hv, finite_f32 g _ _ _ _ hg⟩

/-! ## Blocks -/

/-- Where each window's block of point `t` lies. -/
theorem idx : ∀ t : Fin cfg0.N, (win0_0.index t 0 = t.val % 8 ∧ win0_0.index t 1 = t.val / 8) ∧ (win0_1.index t 0 = 0 ∧ win0_1.index t 1 = t.val / 8) ∧ (win0_2.index t 0 = 0 ∧ win0_2.index t 1 = t.val / 8) ∧ (win0_3.index t 0 = t.val % 8 ∧ win0_3.index t 1 = t.val / 8) ∧ (win0_4.index t 0 = t.val % 8 ∧ win0_4.index t 1 = t.val / 8) ∧ (win0_5.index t 0 = t.val % 8 ∧ win0_5.index t 1 = t.val / 8) ∧ (win0_6.index t 0 = t.val % 8 ∧ win0_6.index t 1 = t.val / 8) :=
  (by decide +kernel : ∀ t : Fin grid0.N, _)

theorem coords_val : ∀ t : Fin cfg0.N, ((grid0.coords t) 1).val = t.val % 8 :=
  (by decide +kernel : ∀ t : Fin grid0.N, ((grid0.coords t) 1).val = t.val % 8)

theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

variable (m : (ℓ : Loc nD τ sig) → Buf (Elt Ideal) ℓ) (c : Dev nD)

theorem blk_0 (f : ℕ → ℕ → ℝ) (h : V m c main_arg0 = mat (φ := .bf16) 4096 2048 f) (t : Fin cfg0.N) :
    (show FVec Ideal S512x128 .bf16 from iblk m c 0 t) = mat 512 128 (at2 f (512 * (t.val % 8)) (128 * (t.val / 8))) := by
  funext x
  show (show FVec Ideal S512x128 .bf16 from iblk m c 0 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

theorem blk_1 (f : ℕ → ℕ → ℝ) (h : V m c main_arg1 = mat (φ := .bf16) 4096 2048 f) (t : Fin cfg0.N) :
    (show FVec Ideal S4096x128 .bf16 from iblk m c 1 t) = mat 4096 128 (fun s d => f s (128 * (t.val / 8) + d)) := by
  funext x
  show (show FVec Ideal S4096x128 .bf16 from iblk m c 1 t) x = ((f ((x 0).val) (128 * (t.val / 8) + (x 1).val) : ℝ) : EReal)
  blk_simp [iblk, idx t]
  rw [h]
  show ((f _ _ : ℝ) : EReal) = _
  blk_simp [idx t]
  rw [mul_comm (t.val / 8)]

theorem blk_2 (f : ℕ → ℕ → ℝ) (h : V m c main_arg2 = mat (φ := .bf16) 4096 2048 f) (t : Fin cfg0.N) :
    (show FVec Ideal S4096x128 .bf16 from iblk m c 2 t) = mat 4096 128 (fun s d => f s (128 * (t.val / 8) + d)) := by
  funext x
  show (show FVec Ideal S4096x128 .bf16 from iblk m c 2 t) x = ((f ((x 0).val) (128 * (t.val / 8) + (x 1).val) : ℝ) : EReal)
  blk_simp [iblk, idx t]
  rw [h]
  show ((f _ _ : ℝ) : EReal) = _
  blk_simp [idx t]
  rw [mul_comm (t.val / 8)]

theorem blk_3 (f : ℕ → ℕ → ℝ) (h : V m c main_arg3 = mat (φ := .f32) 4096 2048 f) (t : Fin cfg0.N) :
    (show FVec Ideal S512x128 .f32 from iblk m c 3 t) = mat 512 128 (at2 f (512 * (t.val % 8)) (128 * (t.val / 8))) := by
  funext x
  show (show FVec Ideal S512x128 .f32 from iblk m c 3 t) x = ((f (512 * (t.val % 8) + (x 0).val) (128 * (t.val / 8) + (x 1).val) : ℝ) : EReal)
  blk_simp [iblk, idx t]
  rw [h]
  show ((f _ _ : ℝ) : EReal) = _
  blk_simp [idx t]
  rw [mul_comm, mul_comm (t.val / 8)]

/-- The point whose block holds an entry. -/
theorem tile (i : S4096x2048.Idx) : ∃ t : Fin cfg0.N, (t.val % 8 * 512 ≤ (i 0).val ∧ (i 0).val < t.val % 8 * 512 + 512)
    ∧ (t.val / 8 * 128 ≤ (i 1).val ∧ (i 1).val < t.val / 8 * 128 + 128) := by
  have h0 : (i 0).val < 4096 := (i 0).isLt
  have h1 : (i 1).val < 2048 := (i 1).isLt
  have hN : cfg0.N = 128 := N_0
  refine ⟨⟨8 * ((i 1).val / 128) + (i 0).val / 512, by omega⟩, ?_, ?_⟩ <;> dsimp only <;> omega

theorem cover4 (i : S4096x2048.Idx) : ∃ t : Fin cfg0.N, (cfg0.win 4).flush t = true ∧ i ∈ ((cfg0.win 4).blk t).view.set := by
  obtain ⟨t, h0, h1⟩ := tile i
  obtain ⟨-, -, -, -, ⟨a0, a1⟩, ⟨b0, b1⟩, ⟨e0, e1⟩⟩ := idx t
  refine ⟨t, (flush t).1, ?_⟩
  show i ∈ ((View.whole main_v0_0).slice (win0_4.rect t)).set
  rw [View.set_slice_whole, Rect.mem_set_unit]
  rw [← a0] at h0
  rw [← a1] at h1
  intro a
  match a with
  | ⟨0, _⟩ => exact h0
  | ⟨1, _⟩ => exact h1

theorem cover5 (i : S4096x2048.Idx) : ∃ t : Fin cfg0.N, (cfg0.win 5).flush t = true ∧ i ∈ ((cfg0.win 5).blk t).view.set := by
  obtain ⟨t, h0, h1⟩ := tile i
  obtain ⟨-, -, -, -, ⟨a0, a1⟩, ⟨b0, b1⟩, ⟨e0, e1⟩⟩ := idx t
  refine ⟨t, (flush t).2.1, ?_⟩
  show i ∈ ((View.whole main_v0_1).slice (win0_5.rect t)).set
  rw [View.set_slice_whole, Rect.mem_set_unit]
  rw [← b0] at h0
  rw [← b1] at h1
  intro a
  match a with
  | ⟨0, _⟩ => exact h0
  | ⟨1, _⟩ => exact h1

theorem cover6 (i : S4096x2048.Idx) : ∃ t : Fin cfg0.N, (cfg0.win 6).flush t = true ∧ i ∈ ((cfg0.win 6).blk t).view.set := by
  obtain ⟨t, h0, h1⟩ := tile i
  obtain ⟨-, -, -, -, ⟨a0, a1⟩, ⟨b0, b1⟩, ⟨e0, e1⟩⟩ := idx t
  refine ⟨t, (flush t).2.2, ?_⟩
  show i ∈ ((View.whole main_v0_2).slice (win0_6.rect t)).set
  rw [View.set_slice_whole, Rect.mem_set_unit]
  rw [← e0] at h0
  rw [← e1] at h1
  intro a
  match a with
  | ⟨0, _⟩ => exact h0
  | ⟨1, _⟩ => exact h1

/-- The gate's block. -/
abbrev gB (t : Fin cfg0.N) : FVec Ideal S512x128 .f32 := iblk m c 3 t

section
variable (Q' K' W' G' : ℕ → ℕ → ℝ)
variable (hq : m ((c : Thread nD τ).loc main_arg0) = mat (φ := .bf16) 4096 2048 Q')
  (hk : m ((c : Thread nD τ).loc main_arg1) = mat (φ := .bf16) 4096 2048 K')
  (hv : m ((c : Thread nD τ).loc main_arg2) = mat (φ := .bf16) 4096 2048 W')
  (hg : m ((c : Thread nD τ).loc main_arg3) = mat (φ := .f32) 4096 2048 G')

/-- The gated output. -/
abbrev GY (t c : ℕ) : ℝ := Ref.yy Q' K' W' t c * (G' t c * Ref.sg (G' t c))

/-- The head of a point. -/
abbrev Hd (t : Fin cfg0.N) : Head := Ref.hd Q' K' W' G' G' (t.val / 8)

theorem htot (t : Fin cfg0.N) : ∀ r < 512, (Hd Q' K' W' G' t).tot ((512 * ((grid0.coords t) 1).val) + r) = (Hd Q' K' W' G' t).seen ((512 * ((grid0.coords t) 1).val) + r) ((512 * ((grid0.coords t) 1).val) + 512) := by
  intro r hr
  have hi := lt8 (grid0.coords t)
  refine (Ref.seen_eq Q' K' W' G' G' (t.val / 8) _ 4096).symm.trans ?_
  refine (sum_subset (range_subset_range.2 (by omega)) fun s _ hs => ?_).symm
  exact Head.keep_of_le _ (by have := mt mem_range.2 hs; omega)

include hq in
theorem q_blk (t : Fin cfg0.N) : (show FVec Ideal S512x128 .bf16 from iblk m c 0 t) = Q (Hd Q' K' W' G' t) (512 * ((grid0.coords t) 1).val) := by
  rw [coords_val]
  exact (blk_0 m c Q' hq t).trans (mat_congr fun r _ d _ => by
    show Q' _ (128 * (t.val / 8) + d) = Q' _ (128 * (t.val / 8) + (0 + d))
    rw [zero_add])

include hk in
theorem k_blk (t : Fin cfg0.N) : (show FVec Ideal S4096x128 .bf16 from iblk m c 1 t) = mat (φ := .bf16) 4096 128 (Hd Q' K' W' G' t).k :=
  (blk_1 m c K' hk t).trans (mat_congr fun r _ d _ => rfl)

include hv in
theorem v_blk (t : Fin cfg0.N) : (show FVec Ideal S4096x128 .bf16 from iblk m c 2 t) = mat (φ := .bf16) 4096 128 (Hd Q' K' W' G' t).v :=
  (blk_2 m c W' hv t).trans (mat_congr fun r _ d _ => rfl)

theorem y_block (t : Fin cfg0.N) : Y (Hd Q' K' W' G' t) (512 * ((grid0.coords t) 1).val) 0 = mat (φ := .f32) 512 128 (at2 (Ref.yy Q' K' W') (512 * (t.val % 8)) (128 * (t.val / 8))) := by
  have hi := lt8 (grid0.coords t)
  rw [← coords_val]
  refine mat_congr fun r hr d hd => ?_
  show ysum _ ((512 * ((grid0.coords t) 1).val) + r) ((512 * ((grid0.coords t) 1).val) + 512) d - 0 = ∑ s ∈ range 4096, W' s (128 * (t.val / 8) + d) * Ref.wt Q' K' ((128 * (t.val / 8) + d) / 128) ((512 * ((grid0.coords t) 1).val) + r) s
  rw [sub_zero, show (128 * (t.val / 8) + d) / 128 = t.val / 8 from by omega]
  refine (sum_subset (range_subset_range.2 (by omega)) fun s _ hs => ?_).trans (sum_congr rfl fun s hs => ?_)
  · rw [Head.w_of_le _ (by have := mt mem_range.2 hs; omega), zero_mul]
  · rw [Ref.w_eq Q' K' W' G' G' (t.val / 8) _ (mem_range.1 hs), mul_comm]
    rfl

theorem tot_block (t : Fin cfg0.N) : k0_pay86 (F := Ideal) (AF (Hd Q' K' W' G' t) (512 * ((grid0.coords t) 1).val) 0) = mat (φ := .f32) 512 128 (at2 (FwdRef.tot Q' K') (512 * (t.val % 8)) (128 * (t.val / 8))) := by
  rw [← coords_val]
  unfold k0_pay86
  dsimp only
  rw [shapeCast_self]
  refine (mat_broadcast_col _ _).trans (mat_congr fun r hr d hd => ?_)
  show _ - (0 : ℝ) = (∑ s ∈ range 4096, -Ref.lk Q' K' ((128 * (t.val / 8) + d) / 128) _ s) * _
  rw [sub_zero, show (128 * (t.val / 8) + d) / 128 = t.val / 8 from by omega]
  rfl

include hg in
theorem gated_block (t : Fin cfg0.N) : k0_pay87 (F := Ideal) (Y (Hd Q' K' W' G' t) (512 * ((grid0.coords t) 1).val) 0) (gB m c t)
    = mat (φ := .bf16) 512 128 (at2 (GY Q' K' W' G') (512 * (t.val % 8)) (128 * (t.val / 8))) := by
  rw [y_block, show gB m c t = _ from blk_3 m c G' hg t]
  unfold k0_pay87
  dsimp only
  rw [mat_logistic, mat_mul, mat_mul, mat_truncf]
  rfl

section
include hq hk hv hg

theorem point4 (t : Fin cfg0.N) : (dats m 0 c).flushed 4 t = ((cfg0.win 4).blk t).view.read (Elt Ideal) (mat (φ := .f32) 4096 2048 (Ref.yy Q' K' W') : FVec Ideal S4096x2048 .f32) := by
  rw [Kernel21Ideal.Value.flushed4_A]
  have e := out4 c (grid0.coords t) _ (hs0_0 t) _ (hs0_1 t) _ (hs0_2 t) _ (hs0_3 t) _ (hs0_4 t) _ (hs0_5 t) _ (hs0_6 t) (Hd Q' K' W' G' t) (gB m c t) (htot Q' K' W' G' t)
  rw [← q_blk m c Q' K' W' G' hq t, ← k_blk m c Q' K' W' G' hk t, ← v_blk m c Q' K' W' G' hv t] at e
  funext y
  obtain ⟨-, -, -, -, ⟨a0, a1⟩, ⟨b0, b1⟩, ⟨e0, e1⟩⟩ := idx t
  have h0 : (y 0).val < 512 := (y 0).isLt
  have h1 : (y 1).val < 128 := (y 1).isLt
  refine (congrFun (e.trans (y_block Q' K' W' G' t)) y).trans ?_
  show ((at2 (Ref.yy Q' K' W') (512 * (t.val % 8)) (128 * (t.val / 8)) (y 0).val (y 1).val : ℝ) : EReal) = ((Ref.yy Q' K' W') (win0_4.index t (0 : Fin 2) * 512 + 1 * (y 0).val) (win0_4.index t (1 : Fin 2) * 128 + 1 * (y 1).val) : ℝ)
  rw [a0, a1, Nat.mul_comm (t.val % 8), Nat.mul_comm (t.val / 8), Nat.one_mul, Nat.one_mul]
  rfl

theorem point5 (t : Fin cfg0.N) : (dats m 0 c).flushed 5 t = ((cfg0.win 5).blk t).view.read (Elt Ideal) (mat (φ := .f32) 4096 2048 (FwdRef.tot Q' K') : FVec Ideal S4096x2048 .f32) := by
  rw [Kernel21Ideal.Value.flushed5_A]
  have e := out5 c (grid0.coords t) _ (hs0_0 t) _ (hs0_1 t) _ (hs0_2 t) _ (hs0_3 t) _ (hs0_4 t) _ (hs0_5 t) _ (hs0_6 t) (Hd Q' K' W' G' t) (gB m c t) (htot Q' K' W' G' t)
  rw [← q_blk m c Q' K' W' G' hq t, ← k_blk m c Q' K' W' G' hk t, ← v_blk m c Q' K' W' G' hv t] at e
  funext y
  obtain ⟨-, -, -, -, ⟨a0, a1⟩, ⟨b0, b1⟩, ⟨e0, e1⟩⟩ := idx t
  have h0 : (y 0).val < 512 := (y 0).isLt
  have h1 : (y 1).val < 128 := (y 1).isLt
  refine (congrFun (e.trans (tot_block Q' K' W' G' t)) y).trans ?_
  show ((at2 (FwdRef.tot Q' K') (512 * (t.val % 8)) (128 * (t.val / 8)) (y 0).val (y 1).val : ℝ) : EReal) = ((FwdRef.tot Q' K') (win0_5.index t (0 : Fin 2) * 512 + 1 * (y 0).val) (win0_5.index t (1 : Fin 2) * 128 + 1 * (y 1).val) : ℝ)
  rw [b0, b1, Nat.mul_comm (t.val % 8), Nat.mul_comm (t.val / 8), Nat.one_mul, Nat.one_mul]
  rfl

theorem point6 (t : Fin cfg0.N) : (dats m 0 c).flushed 6 t = ((cfg0.win 6).blk t).view.read (Elt Ideal) (mat (φ := .bf16) 4096 2048 (GY Q' K' W' G') : FVec Ideal S4096x2048 .bf16) := by
  rw [Kernel21Ideal.Value.flushed6_A]
  have e := out6 c (grid0.coords t) _ (hs0_0 t) _ (hs0_1 t) _ (hs0_2 t) _ (hs0_3 t) _ (hs0_4 t) _ (hs0_5 t) _ (hs0_6 t) (Hd Q' K' W' G' t) (gB m c t) (htot Q' K' W' G' t)
  rw [← q_blk m c Q' K' W' G' hq t, ← k_blk m c Q' K' W' G' hk t, ← v_blk m c Q' K' W' G' hv t] at e
  funext y
  obtain ⟨-, -, -, -, ⟨a0, a1⟩, ⟨b0, b1⟩, ⟨e0, e1⟩⟩ := idx t
  have h0 : (y 0).val < 512 := (y 0).isLt
  have h1 : (y 1).val < 128 := (y 1).isLt
  refine (congrFun (e.trans (gated_block m c Q' K' W' G' hg t)) y).trans ?_
  show ((at2 (GY Q' K' W' G') (512 * (t.val % 8)) (128 * (t.val / 8)) (y 0).val (y 1).val : ℝ) : EReal) = (GY Q' K' W' G' (win0_6.index t (0 : Fin 2) * 512 + 1 * (y 0).val) (win0_6.index t (1 : Fin 2) * 128 + 1 * (y 1).val) : ℝ)
  rw [e0, e1, Nat.mul_comm (t.val % 8), Nat.mul_comm (t.val / 8), Nat.one_mul, Nat.one_mul]
  rfl

end

end

/-- The device's arrays at their types. -/
abbrev aq : FVec Ideal S4096x2048 .bf16 := m ((c : Thread nD τ).loc main_arg0)
abbrev ak : FVec Ideal S4096x2048 .bf16 := m ((c : Thread nD τ).loc main_arg1)
abbrev av : FVec Ideal S4096x2048 .bf16 := m ((c : Thread nD τ).loc main_arg2)
abbrev ag : FVec Ideal S4096x2048 .f32 := m ((c : Thread nD τ).loc main_arg3)

/-- On finite arrays, each of the three is the reference's stage. -/
theorem same (h : Cert.Pre_finite.fn (F := Ideal) (aq m c) (ak m c) (av m c) (ag m c) = fun _ => 1#1) :
    (dats m 0 c).arrAt 4 cfg0.N = Reference21Ideal.Read.val_main_v36 (F := Ideal) (aq m c) (ak m c) (av m c)
    ∧ (dats m 0 c).arrAt 5 cfg0.N = Reference21Ideal.Read.val_main_v37 (F := Ideal) (aq m c) (ak m c)
    ∧ (dats m 0 c).arrAt 6 cfg0.N = Reference21Ideal.Read.val_main_v40 (F := Ideal) (aq m c) (ak m c) (av m c) (ag m c) := by
  obtain ⟨hq, hk, hv, hg⟩ := all_real _ _ _ _ h
  generalize Cert.Finite.re (aq m c) = Q' at hq
  generalize Cert.Finite.re (ak m c) = K' at hk
  generalize Cert.Finite.re (av m c) = W' at hv
  generalize Cert.Finite.re (ag m c) = G' at hg
  refine ⟨?_, ?_, ?_⟩
  · refine ((dats m 0 c).arrAt_eq_of_cover 4 _ (fun t _ => point4 m c Q' K' W' G' hq hk hv hg t) cover4).trans ?_
    rw [hq, hk, hv]
    exact (FwdRef.v36_eq Q' K' W').symm
  · refine ((dats m 0 c).arrAt_eq_of_cover 5 _ (fun t _ => point5 m c Q' K' W' G' hq hk hv hg t) cover5).trans ?_
    rw [hq, hk]
    exact (FwdRef.v37_eq Q' K').symm
  · refine ((dats m 0 c).arrAt_eq_of_cover 6 _ (fun t _ => point6 m c Q' K' W' G' hq hk hv hg t) cover6).trans ?_
    rw [hq, hk, hv, hg]
    exact (FwdRef.v40_eq Q' K' W' G').symm

theorem frame : Cert.quiescent_Kernel21 (hKernel21 := Cert.Kernel21.Gen.facts) := fun m ρ _ => Cert.Kernel21.Gen.frame m ρ

theorem frameIdeal : Cert.quiescent_Kernel21Ideal (hKernel21Ideal := Kernel21Ideal.Gen.facts) := fun m ρ _ =>
  Kernel21Ideal.Gen.frame m ρ

theorem frameReference : Cert.quiescent_Reference21Ideal (hReference21Ideal := Reference21Ideal.Gen.facts) := fun m ρ _ =>
  (θ_run Reference21Ideal.defs _ _).mono (fun r h => ⟨fun c => (h c).2.2.2, sem_eq_zero_of_no_sems (by decide) r.2⟩)
    (Reference21Ideal.Value.run (F := Ideal) m ρ)

theorem preserves : Cert.preserves_Kernel21_Kernel21Ideal :=
  ⟨IdealRules.named_const.statement _ _ _ _ _ rfl, IdealRules.named_const.statement _ _ _ _ _ rfl⟩

theorem algebraic : Cert.algebraic_Kernel21Ideal_Reference21Ideal_pre_finite (hKernel21Ideal := Kernel21Ideal.Gen.facts)
    (hReference21Ideal := Reference21Ideal.Gen.facts) (hPre_finite := finiteFacts) := by
  intro m g m' g' hpre hag
  refine ⟨fun c => (dats m 0 c).arrAt 4 cfg0.N, fun c => (dats m 0 c).arrAt 5 cfg0.N, fun c => (dats m 0 c).arrAt 6 cfg0.N,
    Kernel21Ideal.Value.run_blocks (F := Ideal) m g, ?_⟩
  refine (θ_run Reference21Ideal.defs _ _).mono (fun r h c => ?_) (Reference21Ideal.Value.run (F := Ideal) m' g')
  obtain ⟨h0, h1, h2, h3⟩ := h c
  obtain ⟨a0, a1, a2, a3⟩ := hag c
  obtain ⟨s0, s1, s2⟩ := same m c (hpre c)
  refine ⟨?_, ?_, ?_, h3⟩
  · refine h0.trans ((Reference21Ideal.Read.val_main_v36_eq _ _).trans (Eq.trans ?_ s0.symm))
    exact congr (congr (congrArg _ a0) a1) a2
  · refine h1.trans ((Reference21Ideal.Read.val_main_v37_eq _ _).trans (Eq.trans ?_ s1.symm))
    exact congr (congrArg _ a0) a1
  · refine h2.trans ((Reference21Ideal.Read.val_main_v40_eq _ _).trans (Eq.trans ?_ s2.symm))
    exact congr (congr (congr (congrArg _ a0) a1) a2) a3

end Cert.Fwd
-- ==== Proof.lean ====
/- The proof of the claims of this certificate. -/
module

public import proofs.«01_k».proof.Defs
public import proofs.«01_k».proof.Proof.Frames
public import proofs.«01_k».proof.Proof.Same
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Adam15
public import proofs.«01_k».proof.Proof.Adam16
public import proofs.«01_k».proof.Proof.Adam17
public import proofs.«01_k».proof.Proof.Adam18
public import proofs.«01_k».proof.Proof.Adam19
public import proofs.«01_k».proof.Proof.Adam20
public import proofs.«01_k».proof.Proof.FwdSame

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Finite.facts, Cert.Fwd.finiteFacts,
    Cert.Frames.kernel, Cert.Frames.kernelIdeal, fun m ρ _ => Cert.Frames.kernelIdeal m ρ trivial,
    Cert.Frames.referenceIdeal, fun m ρ _ => Cert.Frames.referenceIdeal m ρ trivial,
    Cert.Prod2.frame, Cert.Prod2.frameIdeal, Cert.Prod2.frameReference,
    Cert.Prod3.frame, Cert.Prod3.frameIdeal, Cert.Prod3.frameReference,
    Cert.Prod4.frame, Cert.Prod4.frameIdeal, Cert.Prod4.frameReference,
    Cert.Prod5.frame, Cert.Prod5.frameIdeal, Cert.Prod5.frameReference,
    Cert.Prod6.frame, Cert.Prod6.frameIdeal, Cert.Prod6.frameReference,
    Cert.Prod7.frame, Cert.Prod7.frameIdeal, Cert.Prod7.frameReference,
    Cert.Prod8.frame, Cert.Prod8.frameIdeal, Cert.Prod8.frameReference,
    Cert.Prod9.frame, Cert.Prod9.frameIdeal, Cert.Prod9.frameReference,
    Cert.Prod10.frame, Cert.Prod10.frameIdeal, Cert.Prod10.frameReference,
    Cert.Prod11.frame, Cert.Prod11.frameIdeal, Cert.Prod11.frameReference,
    Cert.Prod12.frame, Cert.Prod12.frameIdeal, Cert.Prod12.frameReference,
    Cert.Prod13.frame, Cert.Prod13.frameIdeal, Cert.Prod13.frameReference,
    Cert.Prod14.frame, Cert.Prod14.frameIdeal, Cert.Prod14.frameReference,
    Cert.Adam15.frame, Cert.Adam15.frameIdeal, Cert.Adam15.frameReference,
    Cert.Adam16.frame, Cert.Adam16.frameIdeal, Cert.Adam16.frameReference,
    Cert.Adam17.frame, Cert.Adam17.frameIdeal, Cert.Adam17.frameReference,
    Cert.Adam18.frame, Cert.Adam18.frameIdeal, Cert.Adam18.frameReference,
    Cert.Adam19.frame, Cert.Adam19.frameIdeal, Cert.Adam19.frameReference,
    Cert.Adam20.frame, Cert.Adam20.frameIdeal, Cert.Adam20.frameReference,
    Cert.Fwd.frame, Cert.Fwd.frameIdeal, fun m ρ _ => Cert.Fwd.frameIdeal m ρ trivial,
    Cert.Fwd.frameReference, fun m ρ _ => Cert.Fwd.frameReference m ρ trivial,
    Cert.Frames.preserves, Cert.Same.algebraic,
    Cert.Prod2.preserves, Cert.Prod2.algebraic,
    Cert.Prod3.preserves, Cert.Prod3.algebraic,
    Cert.Prod4.preserves, Cert.Prod4.algebraic,
    Cert.Prod5.preserves, Cert.Prod5.algebraic,
    Cert.Prod6.preserves, Cert.Prod6.algebraic,
    Cert.Prod7.preserves, Cert.Prod7.algebraic,
    Cert.Prod8.preserves, Cert.Prod8.algebraic,
    Cert.Prod9.preserves, Cert.Prod9.algebraic,
    Cert.Prod10.preserves, Cert.Prod10.algebraic,
    Cert.Prod11.preserves, Cert.Prod11.algebraic,
    Cert.Prod12.preserves, Cert.Prod12.algebraic,
    Cert.Prod13.preserves, Cert.Prod13.algebraic,
    Cert.Prod14.preserves, Cert.Prod14.algebraic,
    Cert.Adam15.preserves, Cert.Adam15.algebraic,
    Cert.Adam16.preserves, Cert.Adam16.algebraic,
    Cert.Adam17.preserves, Cert.Adam17.algebraic,
    Cert.Adam18.preserves, Cert.Adam18.algebraic,
    Cert.Adam19.preserves, Cert.Adam19.algebraic,
    Cert.Adam20.preserves, Cert.Adam20.algebraic,
    Cert.Fwd.preserves, Cert.Fwd.algebraic⟩

end Cert.Proof

end
